-- ==== Defs.lean ====
def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2 = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojKernelIdeal_finite_inproj [hPre_finite_inproj : Cert.Pre_finite_inproj.Facts] (m : (ℓ : Loc Cert.InprojKernelIdeal.nD Cert.InprojKernelIdeal.τ Cert.InprojKernelIdeal.sig) → Buf (Elt Ideal) ℓ) : Prop :=
  ∀ c : Dev Cert.InprojKernelIdeal.nD,
    (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).2.2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).2.2.2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).2.2.2.2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).2.2.2.2.2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).2.2.2.2.2.2.1 = (fun _ => 1#1)
    ∧ (Cert.Pre_finite_inproj.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8))).2.2.2.2.2.2.2 = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite_inproj [hPre_finite_inproj : Cert.Pre_finite_inproj.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).1 = (fun _ => 1#1)
    ∧ (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).2.1 = (fun _ => 1#1)
    ∧ (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).2.2.1 = (fun _ => 1#1)
    ∧ (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).2.2.2.1 = (fun _ => 1#1)
    ∧ (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).2.2.2.2.1 = (fun _ => 1#1)
    ∧ (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).2.2.2.2.2.1 = (fun _ => 1#1)
    ∧ (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).2.2.2.2.2.2.1 = (fun _ => 1#1)
    ∧ (Cert.Pre_finite_inproj.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8))).2.2.2.2.2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_finite_pool [hPre_finite_pool : Cert.Pre_finite_pool.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).1 = (fun _ => 1#1)
    ∧ (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.1 = (fun _ => 1#1)
    ∧ (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.1 = (fun _ => 1#1)
    ∧ (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.2 = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_pool [hPre_finite_pool : Cert.Pre_finite_pool.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).1 = (fun _ => 1#1)
    ∧ (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.1 = (fun _ => 1#1)
    ∧ (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.1 = (fun _ => 1#1)
    ∧ (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.2 = (fun _ => 1#1)

def Pre_PoolfwdKernel (m : (ℓ : Loc Cert.PoolfwdKernel.nD Cert.PoolfwdKernel.τ Cert.PoolfwdKernel.sig) → Buf (Elt Bits) ℓ) : Prop :=
  True

def Pre_PoolfwdKernelIdeal (m : (ℓ : Loc Cert.PoolfwdKernelIdeal.nD Cert.PoolfwdKernelIdeal.τ Cert.PoolfwdKernelIdeal.sig) → Buf (Elt Ideal) ℓ) : Prop :=
  True

def Pre_PoolfwdKernelIdeal_finite_poolfwd [hPre_finite_poolfwd : Cert.Pre_finite_poolfwd.Facts] (m : (ℓ : Loc Cert.PoolfwdKernelIdeal.nD Cert.PoolfwdKernelIdeal.τ Cert.PoolfwdKernelIdeal.sig) → Buf (Elt Ideal) ℓ) : Prop :=
  ∀ c : Dev Cert.PoolfwdKernelIdeal.nD,
    (Cert.Pre_finite_poolfwd.fn (F := Ideal) (m ((c.tc : Thread Cert.PoolfwdKernelIdeal.nD Cert.PoolfwdKernelIdeal.τ).loc Cert.PoolfwdKernelIdeal.main_arg0)) (m ((c.tc : Thread Cert.PoolfwdKernelIdeal.nD Cert.PoolfwdKernelIdeal.τ).loc Cert.PoolfwdKernelIdeal.main_arg1)) (m ((c.tc : Thread Cert.PoolfwdKernelIdeal.nD Cert.PoolfwdKernelIdeal.τ).loc Cert.PoolfwdKernelIdeal.main_arg2))) = (fun _ => 1#1)

def Pre_PoolfwdReferenceIdeal (m : (ℓ : Loc Cert.PoolfwdReferenceIdeal.nD Cert.PoolfwdReferenceIdeal.τ Cert.PoolfwdReferenceIdeal.sig) → Buf (Elt Ideal) ℓ) : Prop :=
  True

def Pre_PoolfwdReferenceIdeal_finite_poolfwd [hPre_finite_poolfwd : Cert.Pre_finite_poolfwd.Facts] (m : (ℓ : Loc Cert.PoolfwdReferenceIdeal.nD Cert.PoolfwdReferenceIdeal.τ Cert.PoolfwdReferenceIdeal.sig) → Buf (Elt Ideal) ℓ) : Prop :=
  ∀ c : Dev Cert.PoolfwdReferenceIdeal.nD,
    (Cert.Pre_finite_poolfwd.fn (F := Ideal) (m ((c.tc : Thread Cert.PoolfwdReferenceIdeal.nD Cert.PoolfwdReferenceIdeal.τ).loc Cert.PoolfwdReferenceIdeal.main_arg0)) (m ((c.tc : Thread Cert.PoolfwdReferenceIdeal.nD Cert.PoolfwdReferenceIdeal.τ).loc Cert.PoolfwdReferenceIdeal.main_arg1)) (m ((c.tc : Thread Cert.PoolfwdReferenceIdeal.nD Cert.PoolfwdReferenceIdeal.τ).loc Cert.PoolfwdReferenceIdeal.main_arg2))) = (fun _ => 1#1)

def Pre_MixfwdKernel (m : (ℓ : Loc Cert.MixfwdKernel.nD Cert.MixfwdKernel.τ Cert.MixfwdKernel.sig) → Buf (Elt Bits) ℓ) : Prop :=
  True

def Pre_MixfwdKernelIdeal (m : (ℓ : Loc Cert.MixfwdKernelIdeal.nD Cert.MixfwdKernelIdeal.τ Cert.MixfwdKernelIdeal.sig) → Buf (Elt Ideal) ℓ) : Prop :=
  True

def Pre_MixfwdReferenceIdeal (m : (ℓ : Loc Cert.MixfwdReferenceIdeal.nD Cert.MixfwdReferenceIdeal.τ Cert.MixfwdReferenceIdeal.sig) → Buf (Elt Ideal) ℓ) : Prop :=
  True

def Pre_FfnupKernel (m : (ℓ : Loc Cert.FfnupKernel.nD Cert.FfnupKernel.τ Cert.FfnupKernel.sig) → Buf (Elt Bits) ℓ) : Prop :=
  True

def Pre_FfnupKernelIdeal (m : (ℓ : Loc Cert.FfnupKernelIdeal.nD Cert.FfnupKernelIdeal.τ Cert.FfnupKernelIdeal.sig) → Buf (Elt Ideal) ℓ) : Prop :=
  True

def Pre_FfnupReferenceIdeal (m : (ℓ : Loc Cert.FfnupReferenceIdeal.nD Cert.FfnupReferenceIdeal.τ Cert.FfnupReferenceIdeal.sig) → Buf (Elt Ideal) ℓ) : Prop :=
  True

def Pre_FfndownKernel (m : (ℓ : Loc Cert.FfndownKernel.nD Cert.FfndownKernel.τ Cert.FfndownKernel.sig) → Buf (Elt Bits) ℓ) : Prop :=
  True

def Pre_FfndownKernelIdeal (m : (ℓ : Loc Cert.FfndownKernelIdeal.nD Cert.FfndownKernelIdeal.τ Cert.FfndownKernelIdeal.sig) → Buf (Elt Ideal) ℓ) : Prop :=
  True

def Pre_FfndownReferenceIdeal (m : (ℓ : Loc Cert.FfndownReferenceIdeal.nD Cert.FfndownReferenceIdeal.τ Cert.FfndownReferenceIdeal.sig) → Buf (Elt Ideal) ℓ) : Prop :=
  True

def Pre_WgradfullKernel (m : (ℓ : Loc Cert.WgradfullKernel.nD Cert.WgradfullKernel.τ Cert.WgradfullKernel.sig) → Buf (Elt Bits) ℓ) : Prop :=
  True

def Pre_WgradfullKernelIdeal (m : (ℓ : Loc Cert.WgradfullKernelIdeal.nD Cert.WgradfullKernelIdeal.τ Cert.WgradfullKernelIdeal.sig) → Buf (Elt Ideal) ℓ) : Prop :=
  True

def Pre_WgradfullReferenceIdeal (m : (ℓ : Loc Cert.WgradfullReferenceIdeal.nD Cert.WgradfullReferenceIdeal.τ Cert.WgradfullReferenceIdeal.sig) → Buf (Elt Ideal) ℓ) : Prop :=
  True

def Pre_WgraddownKernel (m : (ℓ : Loc Cert.WgraddownKernel.nD Cert.WgraddownKernel.τ Cert.WgraddownKernel.sig) → Buf (Elt Bits) ℓ) : Prop :=
  True

def Pre_WgraddownKernelIdeal (m : (ℓ : Loc Cert.WgraddownKernelIdeal.nD Cert.WgraddownKernelIdeal.τ Cert.WgraddownKernelIdeal.sig) → Buf (Elt Ideal) ℓ) : Prop :=
  True

def Pre_WgraddownReferenceIdeal (m : (ℓ : Loc Cert.WgraddownReferenceIdeal.nD Cert.WgraddownReferenceIdeal.τ Cert.WgraddownReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_WgradinKernel (m : (ℓ : Loc Cert.WgradinKernel.nD Cert.WgradinKernel.τ Cert.WgradinKernel.sig) → Buf (Elt Bits) ℓ) : Prop :=
  True

def Pre_WgradinKernelIdeal (m : (ℓ : Loc Cert.WgradinKernelIdeal.nD Cert.WgradinKernelIdeal.τ Cert.WgradinKernelIdeal.sig) → Buf (Elt Ideal) ℓ) : Prop :=
  True

def Pre_WgradinReferenceIdeal (m : (ℓ : Loc Cert.WgradinReferenceIdeal.nD Cert.WgradinReferenceIdeal.τ Cert.WgradinReferenceIdeal.sig) → Buf (Elt Ideal) ℓ) : Prop :=
  True

def Pre_WgradguKernel (m : (ℓ : Loc Cert.WgradguKernel.nD Cert.WgradguKernel.τ Cert.WgradguKernel.sig) → Buf (Elt Bits) ℓ) : Prop :=
  True

def Pre_WgradguKernelIdeal (m : (ℓ : Loc Cert.WgradguKernelIdeal.nD Cert.WgradguKernelIdeal.τ Cert.WgradguKernelIdeal.sig) → Buf (Elt Ideal) ℓ) : Prop :=
  True

def Pre_WgradguReferenceIdeal (m : (ℓ : Loc Cert.WgradguReferenceIdeal.nD Cert.WgradguReferenceIdeal.τ Cert.WgradguReferenceIdeal.sig) → Buf (Elt Ideal) ℓ) : Prop :=
  True

def Pre_SumdevKernel (m : (ℓ : Loc Cert.SumdevKernel.nD Cert.SumdevKernel.τ Cert.SumdevKernel.sig) → Buf (Elt Bits) ℓ) : Prop :=
  True

def Pre_SumdevKernelIdeal (m : (ℓ : Loc Cert.SumdevKernelIdeal.nD Cert.SumdevKernelIdeal.τ Cert.SumdevKernelIdeal.sig) → Buf (Elt Ideal) ℓ) : Prop :=
  True

def Pre_SumdevReferenceIdeal (m : (ℓ : Loc Cert.SumdevReferenceIdeal.nD Cert.SumdevReferenceIdeal.τ Cert.SumdevReferenceIdeal.sig) → Buf (Elt Ideal) ℓ) : Prop :=
  True

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5)
      ∧ r.2.mem ((c.tc : Thread Cert.InprojKernel.nD Cert.InprojKernel.τ).loc Cert.InprojKernel.main_arg6) = m ((c.tc : Thread Cert.InprojKernel.nD Cert.InprojKernel.τ).loc Cert.InprojKernel.main_arg6)
      ∧ r.2.mem ((c.tc : Thread Cert.InprojKernel.nD Cert.InprojKernel.τ).loc Cert.InprojKernel.main_arg7) = m ((c.tc : Thread Cert.InprojKernel.nD Cert.InprojKernel.τ).loc Cert.InprojKernel.main_arg7)
      ∧ r.2.mem ((c.tc : Thread Cert.InprojKernel.nD Cert.InprojKernel.τ).loc Cert.InprojKernel.main_arg8) = m ((c.tc : Thread Cert.InprojKernel.nD Cert.InprojKernel.τ).loc Cert.InprojKernel.main_arg8))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
      ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
      ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8))
      ∧ r.2.sem = fun _ => 0)

def quiescent_InprojKernelIdeal_pre_finite_inproj [hInprojKernelIdeal : Cert.InprojKernelIdeal.Facts] [hPre_finite_inproj : Cert.Pre_finite_inproj.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal_finite_inproj m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
      ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
      ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8))
      ∧ r.2.sem = fun _ => 0)

def quiescent_InprojReferenceIdeal_pre_finite_inproj [hInprojReferenceIdeal : Cert.InprojReferenceIdeal.Facts] [hPre_finite_inproj : Cert.Pre_finite_inproj.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite_inproj m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolKernelIdeal_pre_finite_pool [hPoolKernelIdeal : Cert.PoolKernelIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_finite_pool m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolReferenceIdeal_pre_finite_pool [hPoolReferenceIdeal : Cert.PoolReferenceIdeal.Facts] [hPre_finite_pool : Cert.Pre_finite_pool.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_pool m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolfwdKernel [hPoolfwdKernel : Cert.PoolfwdKernel.Facts] : Prop :=
  ∀ (m : (ℓ : Loc Cert.PoolfwdKernel.nD Cert.PoolfwdKernel.τ Cert.PoolfwdKernel.sig) → Buf (Elt Bits) ℓ) (g : Dev Cert.PoolfwdKernel.nD → PrngReg), Pre_PoolfwdKernel m →
    θ_run (Cert.PoolfwdKernel.defs (F := Bits)) (onTc (τ := Cert.PoolfwdKernel.τ) (Cert.PoolfwdKernel.main (F := Bits))) ⟨m, fun _ => 0, g⟩ (fun r => (∀ c : Dev Cert.PoolfwdKernel.nD,
      r.2.mem ((c.tc : Thread Cert.PoolfwdKernel.nD Cert.PoolfwdKernel.τ).loc Cert.PoolfwdKernel.main_arg0) = m ((c.tc : Thread Cert.PoolfwdKernel.nD Cert.PoolfwdKernel.τ).loc Cert.PoolfwdKernel.main_arg0)
      ∧ r.2.mem ((c.tc : Thread Cert.PoolfwdKernel.nD Cert.PoolfwdKernel.τ).loc Cert.PoolfwdKernel.main_arg1) = m ((c.tc : Thread Cert.PoolfwdKernel.nD Cert.PoolfwdKernel.τ).loc Cert.PoolfwdKernel.main_arg1)
      ∧ r.2.mem ((c.tc : Thread Cert.PoolfwdKernel.nD Cert.PoolfwdKernel.τ).loc Cert.PoolfwdKernel.main_arg2) = m ((c.tc : Thread Cert.PoolfwdKernel.nD Cert.PoolfwdKernel.τ).loc Cert.PoolfwdKernel.main_arg2))
      ∧ r.2.sem = fun _ => 0)

def quiescent_PoolfwdKernelIdeal [hPoolfwdKernelIdeal : Cert.PoolfwdKernelIdeal.Facts] : Prop :=
  ∀ (m : (ℓ : Loc Cert.PoolfwdKernelIdeal.nD Cert.PoolfwdKernelIdeal.τ Cert.PoolfwdKernelIdeal.sig) → Buf (Elt Ideal) ℓ) (g : Dev Cert.PoolfwdKernelIdeal.nD → PrngReg), Pre_PoolfwdKernelIdeal m →
    θ_run (Cert.PoolfwdKernelIdeal.defs (F := Ideal)) (onTc (τ := Cert.PoolfwdKernelIdeal.τ) (Cert.PoolfwdKernelIdeal.main (F := Ideal))) ⟨m, fun _ => 0, g⟩ (fun r => (∀ c : Dev Cert.PoolfwdKernelIdeal.nD,
      r.2.mem ((c.tc : Thread Cert.PoolfwdKernelIdeal.nD Cert.PoolfwdKernelIdeal.τ).loc Cert.PoolfwdKernelIdeal.main_arg0) = m ((c.tc : Thread Cert.PoolfwdKernelIdeal.nD Cert.PoolfwdKernelIdeal.τ).loc Cert.PoolfwdKernelIdeal.main_arg0)
      ∧ r.2.mem ((c.tc : Thread Cert.PoolfwdKernelIdeal.nD Cert.PoolfwdKernelIdeal.τ).loc Cert.PoolfwdKernelIdeal.main_arg1) = m ((c.tc : Thread Cert.PoolfwdKernelIdeal.nD Cert.PoolfwdKernelIdeal.τ).loc Cert.PoolfwdKernelIdeal.main_arg1)
      ∧ r.2.mem ((c.tc : Thread Cert.PoolfwdKernelIdeal.nD Cert.PoolfwdKernelIdeal.τ).loc Cert.PoolfwdKernelIdeal.main_arg2) = m ((c.tc : Thread Cert.PoolfwdKernelIdeal.nD Cert.PoolfwdKernelIdeal.τ).loc Cert.PoolfwdKernelIdeal.main_arg2))
      ∧ r.2.sem = fun _ => 0)

def quiescent_PoolfwdKernelIdeal_pre_finite_poolfwd [hPoolfwdKernelIdeal : Cert.PoolfwdKernelIdeal.Facts] [hPre_finite_poolfwd : Cert.Pre_finite_poolfwd.Facts] : Prop :=
  ∀ (m : (ℓ : Loc Cert.PoolfwdKernelIdeal.nD Cert.PoolfwdKernelIdeal.τ Cert.PoolfwdKernelIdeal.sig) → Buf (Elt Ideal) ℓ) (g : Dev Cert.PoolfwdKernelIdeal.nD → PrngReg), Pre_PoolfwdKernelIdeal_finite_poolfwd m →
    θ_run (Cert.PoolfwdKernelIdeal.defs (F := Ideal)) (onTc (τ := Cert.PoolfwdKernelIdeal.τ) (Cert.PoolfwdKernelIdeal.main (F := Ideal))) ⟨m, fun _ => 0, g⟩ (fun r => (∀ c : Dev Cert.PoolfwdKernelIdeal.nD,
      r.2.mem ((c.tc : Thread Cert.PoolfwdKernelIdeal.nD Cert.PoolfwdKernelIdeal.τ).loc Cert.PoolfwdKernelIdeal.main_arg0) = m ((c.tc : Thread Cert.PoolfwdKernelIdeal.nD Cert.PoolfwdKernelIdeal.τ).loc Cert.PoolfwdKernelIdeal.main_arg0)
      ∧ r.2.mem ((c.tc : Thread Cert.PoolfwdKernelIdeal.nD Cert.PoolfwdKernelIdeal.τ).loc Cert.PoolfwdKernelIdeal.main_arg1) = m ((c.tc : Thread Cert.PoolfwdKernelIdeal.nD Cert.PoolfwdKernelIdeal.τ).loc Cert.PoolfwdKernelIdeal.main_arg1)
      ∧ r.2.mem ((c.tc : Thread Cert.PoolfwdKernelIdeal.nD Cert.PoolfwdKernelIdeal.τ).loc Cert.PoolfwdKernelIdeal.main_arg2) = m ((c.tc : Thread Cert.PoolfwdKernelIdeal.nD Cert.PoolfwdKernelIdeal.τ).loc Cert.PoolfwdKernelIdeal.main_arg2))
      ∧ r.2.sem = fun _ => 0)

def quiescent_PoolfwdReferenceIdeal [hPoolfwdReferenceIdeal : Cert.PoolfwdReferenceIdeal.Facts] : Prop :=
  ∀ (m : (ℓ : Loc Cert.PoolfwdReferenceIdeal.nD Cert.PoolfwdReferenceIdeal.τ Cert.PoolfwdReferenceIdeal.sig) → Buf (Elt Ideal) ℓ) (g : Dev Cert.PoolfwdReferenceIdeal.nD → PrngReg), Pre_PoolfwdReferenceIdeal m →
    θ_run (Cert.PoolfwdReferenceIdeal.defs (F := Ideal)) (onTc (τ := Cert.PoolfwdReferenceIdeal.τ) (Cert.PoolfwdReferenceIdeal.main (F := Ideal))) ⟨m, fun _ => 0, g⟩ (fun r => (∀ c : Dev Cert.PoolfwdReferenceIdeal.nD,
      r.2.mem ((c.tc : Thread Cert.PoolfwdReferenceIdeal.nD Cert.PoolfwdReferenceIdeal.τ).loc Cert.PoolfwdReferenceIdeal.main_arg0) = m ((c.tc : Thread Cert.PoolfwdReferenceIdeal.nD Cert.PoolfwdReferenceIdeal.τ).loc Cert.PoolfwdReferenceIdeal.main_arg0)
      ∧ r.2.mem ((c.tc : Thread Cert.PoolfwdReferenceIdeal.nD Cert.PoolfwdReferenceIdeal.τ).loc Cert.PoolfwdReferenceIdeal.main_arg1) = m ((c.tc : Thread Cert.PoolfwdReferenceIdeal.nD Cert.PoolfwdReferenceIdeal.τ).loc Cert.PoolfwdReferenceIdeal.main_arg1)
      ∧ r.2.mem ((c.tc : Thread Cert.PoolfwdReferenceIdeal.nD Cert.PoolfwdReferenceIdeal.τ).loc Cert.PoolfwdReferenceIdeal.main_arg2) = m ((c.tc : Thread Cert.PoolfwdReferenceIdeal.nD Cert.PoolfwdReferenceIdeal.τ).loc Cert.PoolfwdReferenceIdeal.main_arg2))
      ∧ r.2.sem = fun _ => 0)

def quiescent_PoolfwdReferenceIdeal_pre_finite_poolfwd [hPoolfwdReferenceIdeal : Cert.PoolfwdReferenceIdeal.Facts] [hPre_finite_poolfwd : Cert.Pre_finite_poolfwd.Facts] : Prop :=
  ∀ (m : (ℓ : Loc Cert.PoolfwdReferenceIdeal.nD Cert.PoolfwdReferenceIdeal.τ Cert.PoolfwdReferenceIdeal.sig) → Buf (Elt Ideal) ℓ) (g : Dev Cert.PoolfwdReferenceIdeal.nD → PrngReg), Pre_PoolfwdReferenceIdeal_finite_poolfwd m →
    θ_run (Cert.PoolfwdReferenceIdeal.defs (F := Ideal)) (onTc (τ := Cert.PoolfwdReferenceIdeal.τ) (Cert.PoolfwdReferenceIdeal.main (F := Ideal))) ⟨m, fun _ => 0, g⟩ (fun r => (∀ c : Dev Cert.PoolfwdReferenceIdeal.nD,
      r.2.mem ((c.tc : Thread Cert.PoolfwdReferenceIdeal.nD Cert.PoolfwdReferenceIdeal.τ).loc Cert.PoolfwdReferenceIdeal.main_arg0) = m ((c.tc : Thread Cert.PoolfwdReferenceIdeal.nD Cert.PoolfwdReferenceIdeal.τ).loc Cert.PoolfwdReferenceIdeal.main_arg0)
      ∧ r.2.mem ((c.tc : Thread Cert.PoolfwdReferenceIdeal.nD Cert.PoolfwdReferenceIdeal.τ).loc Cert.PoolfwdReferenceIdeal.main_arg1) = m ((c.tc : Thread Cert.PoolfwdReferenceIdeal.nD Cert.PoolfwdReferenceIdeal.τ).loc Cert.PoolfwdReferenceIdeal.main_arg1)
      ∧ r.2.mem ((c.tc : Thread Cert.PoolfwdReferenceIdeal.nD Cert.PoolfwdReferenceIdeal.τ).loc Cert.PoolfwdReferenceIdeal.main_arg2) = m ((c.tc : Thread Cert.PoolfwdReferenceIdeal.nD Cert.PoolfwdReferenceIdeal.τ).loc Cert.PoolfwdReferenceIdeal.main_arg2))
      ∧ r.2.sem = fun _ => 0)

def quiescent_MixfwdKernel [hMixfwdKernel : Cert.MixfwdKernel.Facts] : Prop :=
  ∀ (m : (ℓ : Loc Cert.MixfwdKernel.nD Cert.MixfwdKernel.τ Cert.MixfwdKernel.sig) → Buf (Elt Bits) ℓ) (g : Dev Cert.MixfwdKernel.nD → PrngReg), Pre_MixfwdKernel m →
    θ_run (Cert.MixfwdKernel.defs (F := Bits)) (onTc (τ := Cert.MixfwdKernel.τ) (Cert.MixfwdKernel.main (F := Bits))) ⟨m, fun _ => 0, g⟩ (fun r => (∀ c : Dev Cert.MixfwdKernel.nD,
      r.2.mem ((c.tc : Thread Cert.MixfwdKernel.nD Cert.MixfwdKernel.τ).loc Cert.MixfwdKernel.main_arg0) = m ((c.tc : Thread Cert.MixfwdKernel.nD Cert.MixfwdKernel.τ).loc Cert.MixfwdKernel.main_arg0)
      ∧ r.2.mem ((c.tc : Thread Cert.MixfwdKernel.nD Cert.MixfwdKernel.τ).loc Cert.MixfwdKernel.main_arg1) = m ((c.tc : Thread Cert.MixfwdKernel.nD Cert.MixfwdKernel.τ).loc Cert.MixfwdKernel.main_arg1)
      ∧ r.2.mem ((c.tc : Thread Cert.MixfwdKernel.nD Cert.MixfwdKernel.τ).loc Cert.MixfwdKernel.main_arg2) = m ((c.tc : Thread Cert.MixfwdKernel.nD Cert.MixfwdKernel.τ).loc Cert.MixfwdKernel.main_arg2)
      ∧ r.2.mem ((c.tc : Thread Cert.MixfwdKernel.nD Cert.MixfwdKernel.τ).loc Cert.MixfwdKernel.main_arg3) = m ((c.tc : Thread Cert.MixfwdKernel.nD Cert.MixfwdKernel.τ).loc Cert.MixfwdKernel.main_arg3)
      ∧ r.2.mem ((c.tc : Thread Cert.MixfwdKernel.nD Cert.MixfwdKernel.τ).loc Cert.MixfwdKernel.main_arg4) = m ((c.tc : Thread Cert.MixfwdKernel.nD Cert.MixfwdKernel.τ).loc Cert.MixfwdKernel.main_arg4)
      ∧ r.2.mem ((c.tc : Thread Cert.MixfwdKernel.nD Cert.MixfwdKernel.τ).loc Cert.MixfwdKernel.main_arg5) = m ((c.tc : Thread Cert.MixfwdKernel.nD Cert.MixfwdKernel.τ).loc Cert.MixfwdKernel.main_arg5)
      ∧ r.2.mem ((c.tc : Thread Cert.MixfwdKernel.nD Cert.MixfwdKernel.τ).loc Cert.MixfwdKernel.main_arg6) = m ((c.tc : Thread Cert.MixfwdKernel.nD Cert.MixfwdKernel.τ).loc Cert.MixfwdKernel.main_arg6))
      ∧ r.2.sem = fun _ => 0)

def quiescent_MixfwdKernelIdeal [hMixfwdKernelIdeal : Cert.MixfwdKernelIdeal.Facts] : Prop :=
  ∀ (m : (ℓ : Loc Cert.MixfwdKernelIdeal.nD Cert.MixfwdKernelIdeal.τ Cert.MixfwdKernelIdeal.sig) → Buf (Elt Ideal) ℓ) (g : Dev Cert.MixfwdKernelIdeal.nD → PrngReg), Pre_MixfwdKernelIdeal m →
    θ_run (Cert.MixfwdKernelIdeal.defs (F := Ideal)) (onTc (τ := Cert.MixfwdKernelIdeal.τ) (Cert.MixfwdKernelIdeal.main (F := Ideal))) ⟨m, fun _ => 0, g⟩ (fun r => (∀ c : Dev Cert.MixfwdKernelIdeal.nD,
      r.2.mem ((c.tc : Thread Cert.MixfwdKernelIdeal.nD Cert.MixfwdKernelIdeal.τ).loc Cert.MixfwdKernelIdeal.main_arg0) = m ((c.tc : Thread Cert.MixfwdKernelIdeal.nD Cert.MixfwdKernelIdeal.τ).loc Cert.MixfwdKernelIdeal.main_arg0)
      ∧ r.2.mem ((c.tc : Thread Cert.MixfwdKernelIdeal.nD Cert.MixfwdKernelIdeal.τ).loc Cert.MixfwdKernelIdeal.main_arg1) = m ((c.tc : Thread Cert.MixfwdKernelIdeal.nD Cert.MixfwdKernelIdeal.τ).loc Cert.MixfwdKernelIdeal.main_arg1)
      ∧ r.2.mem ((c.tc : Thread Cert.MixfwdKernelIdeal.nD Cert.MixfwdKernelIdeal.τ).loc Cert.MixfwdKernelIdeal.main_arg2) = m ((c.tc : Thread Cert.MixfwdKernelIdeal.nD Cert.MixfwdKernelIdeal.τ).loc Cert.MixfwdKernelIdeal.main_arg2)
      ∧ r.2.mem ((c.tc : Thread Cert.MixfwdKernelIdeal.nD Cert.MixfwdKernelIdeal.τ).loc Cert.MixfwdKernelIdeal.main_arg3) = m ((c.tc : Thread Cert.MixfwdKernelIdeal.nD Cert.MixfwdKernelIdeal.τ).loc Cert.MixfwdKernelIdeal.main_arg3)
      ∧ r.2.mem ((c.tc : Thread Cert.MixfwdKernelIdeal.nD Cert.MixfwdKernelIdeal.τ).loc Cert.MixfwdKernelIdeal.main_arg4) = m ((c.tc : Thread Cert.MixfwdKernelIdeal.nD Cert.MixfwdKernelIdeal.τ).loc Cert.MixfwdKernelIdeal.main_arg4)
      ∧ r.2.mem ((c.tc : Thread Cert.MixfwdKernelIdeal.nD Cert.MixfwdKernelIdeal.τ).loc Cert.MixfwdKernelIdeal.main_arg5) = m ((c.tc : Thread Cert.MixfwdKernelIdeal.nD Cert.MixfwdKernelIdeal.τ).loc Cert.MixfwdKernelIdeal.main_arg5)
      ∧ r.2.mem ((c.tc : Thread Cert.MixfwdKernelIdeal.nD Cert.MixfwdKernelIdeal.τ).loc Cert.MixfwdKernelIdeal.main_arg6) = m ((c.tc : Thread Cert.MixfwdKernelIdeal.nD Cert.MixfwdKernelIdeal.τ).loc Cert.MixfwdKernelIdeal.main_arg6))
      ∧ r.2.sem = fun _ => 0)

def quiescent_MixfwdReferenceIdeal [hMixfwdReferenceIdeal : Cert.MixfwdReferenceIdeal.Facts] : Prop :=
  ∀ (m : (ℓ : Loc Cert.MixfwdReferenceIdeal.nD Cert.MixfwdReferenceIdeal.τ Cert.MixfwdReferenceIdeal.sig) → Buf (Elt Ideal) ℓ) (g : Dev Cert.MixfwdReferenceIdeal.nD → PrngReg), Pre_MixfwdReferenceIdeal m →
    θ_run (Cert.MixfwdReferenceIdeal.defs (F := Ideal)) (onTc (τ := Cert.MixfwdReferenceIdeal.τ) (Cert.MixfwdReferenceIdeal.main (F := Ideal))) ⟨m, fun _ => 0, g⟩ (fun r => (∀ c : Dev Cert.MixfwdReferenceIdeal.nD,
      r.2.mem ((c.tc : Thread Cert.MixfwdReferenceIdeal.nD Cert.MixfwdReferenceIdeal.τ).loc Cert.MixfwdReferenceIdeal.main_arg0) = m ((c.tc : Thread Cert.MixfwdReferenceIdeal.nD Cert.MixfwdReferenceIdeal.τ).loc Cert.MixfwdReferenceIdeal.main_arg0)
      ∧ r.2.mem ((c.tc : Thread Cert.MixfwdReferenceIdeal.nD Cert.MixfwdReferenceIdeal.τ).loc Cert.MixfwdReferenceIdeal.main_arg1) = m ((c.tc : Thread Cert.MixfwdReferenceIdeal.nD Cert.MixfwdReferenceIdeal.τ).loc Cert.MixfwdReferenceIdeal.main_arg1)
      ∧ r.2.mem ((c.tc : Thread Cert.MixfwdReferenceIdeal.nD Cert.MixfwdReferenceIdeal.τ).loc Cert.MixfwdReferenceIdeal.main_arg2) = m ((c.tc : Thread Cert.MixfwdReferenceIdeal.nD Cert.MixfwdReferenceIdeal.τ).loc Cert.MixfwdReferenceIdeal.main_arg2)
      ∧ r.2.mem ((c.tc : Thread Cert.MixfwdReferenceIdeal.nD Cert.MixfwdReferenceIdeal.τ).loc Cert.MixfwdReferenceIdeal.main_arg3) = m ((c.tc : Thread Cert.MixfwdReferenceIdeal.nD Cert.MixfwdReferenceIdeal.τ).loc Cert.MixfwdReferenceIdeal.main_arg3)
      ∧ r.2.mem ((c.tc : Thread Cert.MixfwdReferenceIdeal.nD Cert.MixfwdReferenceIdeal.τ).loc Cert.MixfwdReferenceIdeal.main_arg4) = m ((c.tc : Thread Cert.MixfwdReferenceIdeal.nD Cert.MixfwdReferenceIdeal.τ).loc Cert.MixfwdReferenceIdeal.main_arg4)
      ∧ r.2.mem ((c.tc : Thread Cert.MixfwdReferenceIdeal.nD Cert.MixfwdReferenceIdeal.τ).loc Cert.MixfwdReferenceIdeal.main_arg5) = m ((c.tc : Thread Cert.MixfwdReferenceIdeal.nD Cert.MixfwdReferenceIdeal.τ).loc Cert.MixfwdReferenceIdeal.main_arg5)
      ∧ r.2.mem ((c.tc : Thread Cert.MixfwdReferenceIdeal.nD Cert.MixfwdReferenceIdeal.τ).loc Cert.MixfwdReferenceIdeal.main_arg6) = m ((c.tc : Thread Cert.MixfwdReferenceIdeal.nD Cert.MixfwdReferenceIdeal.τ).loc Cert.MixfwdReferenceIdeal.main_arg6))
      ∧ r.2.sem = fun _ => 0)

def quiescent_FfnupKernel [hFfnupKernel : Cert.FfnupKernel.Facts] : Prop :=
  ∀ (m : (ℓ : Loc Cert.FfnupKernel.nD Cert.FfnupKernel.τ Cert.FfnupKernel.sig) → Buf (Elt Bits) ℓ) (g : Dev Cert.FfnupKernel.nD → PrngReg), Pre_FfnupKernel m →
    θ_run (Cert.FfnupKernel.defs (F := Bits)) (onTc (τ := Cert.FfnupKernel.τ) (Cert.FfnupKernel.main (F := Bits))) ⟨m, fun _ => 0, g⟩ (fun r => (∀ c : Dev Cert.FfnupKernel.nD,
      r.2.mem ((c.tc : Thread Cert.FfnupKernel.nD Cert.FfnupKernel.τ).loc Cert.FfnupKernel.main_arg0) = m ((c.tc : Thread Cert.FfnupKernel.nD Cert.FfnupKernel.τ).loc Cert.FfnupKernel.main_arg0)
      ∧ r.2.mem ((c.tc : Thread Cert.FfnupKernel.nD Cert.FfnupKernel.τ).loc Cert.FfnupKernel.main_arg1) = m ((c.tc : Thread Cert.FfnupKernel.nD Cert.FfnupKernel.τ).loc Cert.FfnupKernel.main_arg1)
      ∧ r.2.mem ((c.tc : Thread Cert.FfnupKernel.nD Cert.FfnupKernel.τ).loc Cert.FfnupKernel.main_arg2) = m ((c.tc : Thread Cert.FfnupKernel.nD Cert.FfnupKernel.τ).loc Cert.FfnupKernel.main_arg2))
      ∧ r.2.sem = fun _ => 0)

def quiescent_FfnupKernelIdeal [hFfnupKernelIdeal : Cert.FfnupKernelIdeal.Facts] : Prop :=
  ∀ (m : (ℓ : Loc Cert.FfnupKernelIdeal.nD Cert.FfnupKernelIdeal.τ Cert.FfnupKernelIdeal.sig) → Buf (Elt Ideal) ℓ) (g : Dev Cert.FfnupKernelIdeal.nD → PrngReg), Pre_FfnupKernelIdeal m →
    θ_run (Cert.FfnupKernelIdeal.defs (F := Ideal)) (onTc (τ := Cert.FfnupKernelIdeal.τ) (Cert.FfnupKernelIdeal.main (F := Ideal))) ⟨m, fun _ => 0, g⟩ (fun r => (∀ c : Dev Cert.FfnupKernelIdeal.nD,
      r.2.mem ((c.tc : Thread Cert.FfnupKernelIdeal.nD Cert.FfnupKernelIdeal.τ).loc Cert.FfnupKernelIdeal.main_arg0) = m ((c.tc : Thread Cert.FfnupKernelIdeal.nD Cert.FfnupKernelIdeal.τ).loc Cert.FfnupKernelIdeal.main_arg0)
      ∧ r.2.mem ((c.tc : Thread Cert.FfnupKernelIdeal.nD Cert.FfnupKernelIdeal.τ).loc Cert.FfnupKernelIdeal.main_arg1) = m ((c.tc : Thread Cert.FfnupKernelIdeal.nD Cert.FfnupKernelIdeal.τ).loc Cert.FfnupKernelIdeal.main_arg1)
      ∧ r.2.mem ((c.tc : Thread Cert.FfnupKernelIdeal.nD Cert.FfnupKernelIdeal.τ).loc Cert.FfnupKernelIdeal.main_arg2) = m ((c.tc : Thread Cert.FfnupKernelIdeal.nD Cert.FfnupKernelIdeal.τ).loc Cert.FfnupKernelIdeal.main_arg2))
      ∧ r.2.sem = fun _ => 0)

def quiescent_FfnupReferenceIdeal [hFfnupReferenceIdeal : Cert.FfnupReferenceIdeal.Facts] : Prop :=
  ∀ (m : (ℓ : Loc Cert.FfnupReferenceIdeal.nD Cert.FfnupReferenceIdeal.τ Cert.FfnupReferenceIdeal.sig) → Buf (Elt Ideal) ℓ) (g : Dev Cert.FfnupReferenceIdeal.nD → PrngReg), Pre_FfnupReferenceIdeal m →
    θ_run (Cert.FfnupReferenceIdeal.defs (F := Ideal)) (onTc (τ := Cert.FfnupReferenceIdeal.τ) (Cert.FfnupReferenceIdeal.main (F := Ideal))) ⟨m, fun _ => 0, g⟩ (fun r => (∀ c : Dev Cert.FfnupReferenceIdeal.nD,
      r.2.mem ((c.tc : Thread Cert.FfnupReferenceIdeal.nD Cert.FfnupReferenceIdeal.τ).loc Cert.FfnupReferenceIdeal.main_arg0) = m ((c.tc : Thread Cert.FfnupReferenceIdeal.nD Cert.FfnupReferenceIdeal.τ).loc Cert.FfnupReferenceIdeal.main_arg0)
      ∧ r.2.mem ((c.tc : Thread Cert.FfnupReferenceIdeal.nD Cert.FfnupReferenceIdeal.τ).loc Cert.FfnupReferenceIdeal.main_arg1) = m ((c.tc : Thread Cert.FfnupReferenceIdeal.nD Cert.FfnupReferenceIdeal.τ).loc Cert.FfnupReferenceIdeal.main_arg1)
      ∧ r.2.mem ((c.tc : Thread Cert.FfnupReferenceIdeal.nD Cert.FfnupReferenceIdeal.τ).loc Cert.FfnupReferenceIdeal.main_arg2) = m ((c.tc : Thread Cert.FfnupReferenceIdeal.nD Cert.FfnupReferenceIdeal.τ).loc Cert.FfnupReferenceIdeal.main_arg2))
      ∧ r.2.sem = fun _ => 0)

def quiescent_FfndownKernel [hFfndownKernel : Cert.FfndownKernel.Facts] : Prop :=
  ∀ (m : (ℓ : Loc Cert.FfndownKernel.nD Cert.FfndownKernel.τ Cert.FfndownKernel.sig) → Buf (Elt Bits) ℓ) (g : Dev Cert.FfndownKernel.nD → PrngReg), Pre_FfndownKernel m →
    θ_run (Cert.FfndownKernel.defs (F := Bits)) (onTc (τ := Cert.FfndownKernel.τ) (Cert.FfndownKernel.main (F := Bits))) ⟨m, fun _ => 0, g⟩ (fun r => (∀ c : Dev Cert.FfndownKernel.nD,
      r.2.mem ((c.tc : Thread Cert.FfndownKernel.nD Cert.FfndownKernel.τ).loc Cert.FfndownKernel.main_arg0) = m ((c.tc : Thread Cert.FfndownKernel.nD Cert.FfndownKernel.τ).loc Cert.FfndownKernel.main_arg0)
      ∧ r.2.mem ((c.tc : Thread Cert.FfndownKernel.nD Cert.FfndownKernel.τ).loc Cert.FfndownKernel.main_arg1) = m ((c.tc : Thread Cert.FfndownKernel.nD Cert.FfndownKernel.τ).loc Cert.FfndownKernel.main_arg1)
      ∧ r.2.mem ((c.tc : Thread Cert.FfndownKernel.nD Cert.FfndownKernel.τ).loc Cert.FfndownKernel.main_arg2) = m ((c.tc : Thread Cert.FfndownKernel.nD Cert.FfndownKernel.τ).loc Cert.FfndownKernel.main_arg2))
      ∧ r.2.sem = fun _ => 0)

def quiescent_FfndownKernelIdeal [hFfndownKernelIdeal : Cert.FfndownKernelIdeal.Facts] : Prop :=
  ∀ (m : (ℓ : Loc Cert.FfndownKernelIdeal.nD Cert.FfndownKernelIdeal.τ Cert.FfndownKernelIdeal.sig) → Buf (Elt Ideal) ℓ) (g : Dev Cert.FfndownKernelIdeal.nD → PrngReg), Pre_FfndownKernelIdeal m →
    θ_run (Cert.FfndownKernelIdeal.defs (F := Ideal)) (onTc (τ := Cert.FfndownKernelIdeal.τ) (Cert.FfndownKernelIdeal.main (F := Ideal))) ⟨m, fun _ => 0, g⟩ (fun r => (∀ c : Dev Cert.FfndownKernelIdeal.nD,
      r.2.mem ((c.tc : Thread Cert.FfndownKernelIdeal.nD Cert.FfndownKernelIdeal.τ).loc Cert.FfndownKernelIdeal.main_arg0) = m ((c.tc : Thread Cert.FfndownKernelIdeal.nD Cert.FfndownKernelIdeal.τ).loc Cert.FfndownKernelIdeal.main_arg0)
      ∧ r.2.mem ((c.tc : Thread Cert.FfndownKernelIdeal.nD Cert.FfndownKernelIdeal.τ).loc Cert.FfndownKernelIdeal.main_arg1) = m ((c.tc : Thread Cert.FfndownKernelIdeal.nD Cert.FfndownKernelIdeal.τ).loc Cert.FfndownKernelIdeal.main_arg1)
      ∧ r.2.mem ((c.tc : Thread Cert.FfndownKernelIdeal.nD Cert.FfndownKernelIdeal.τ).loc Cert.FfndownKernelIdeal.main_arg2) = m ((c.tc : Thread Cert.FfndownKernelIdeal.nD Cert.FfndownKernelIdeal.τ).loc Cert.FfndownKernelIdeal.main_arg2))
      ∧ r.2.sem = fun _ => 0)

def quiescent_FfndownReferenceIdeal [hFfndownReferenceIdeal : Cert.FfndownReferenceIdeal.Facts] : Prop :=
  ∀ (m : (ℓ : Loc Cert.FfndownReferenceIdeal.nD Cert.FfndownReferenceIdeal.τ Cert.FfndownReferenceIdeal.sig) → Buf (Elt Ideal) ℓ) (g : Dev Cert.FfndownReferenceIdeal.nD → PrngReg), Pre_FfndownReferenceIdeal m →
    θ_run (Cert.FfndownReferenceIdeal.defs (F := Ideal)) (onTc (τ := Cert.FfndownReferenceIdeal.τ) (Cert.FfndownReferenceIdeal.main (F := Ideal))) ⟨m, fun _ => 0, g⟩ (fun r => (∀ c : Dev Cert.FfndownReferenceIdeal.nD,
      r.2.mem ((c.tc : Thread Cert.FfndownReferenceIdeal.nD Cert.FfndownReferenceIdeal.τ).loc Cert.FfndownReferenceIdeal.main_arg0) = m ((c.tc : Thread Cert.FfndownReferenceIdeal.nD Cert.FfndownReferenceIdeal.τ).loc Cert.FfndownReferenceIdeal.main_arg0)
      ∧ r.2.mem ((c.tc : Thread Cert.FfndownReferenceIdeal.nD Cert.FfndownReferenceIdeal.τ).loc Cert.FfndownReferenceIdeal.main_arg1) = m ((c.tc : Thread Cert.FfndownReferenceIdeal.nD Cert.FfndownReferenceIdeal.τ).loc Cert.FfndownReferenceIdeal.main_arg1)
      ∧ r.2.mem ((c.tc : Thread Cert.FfndownReferenceIdeal.nD Cert.FfndownReferenceIdeal.τ).loc Cert.FfndownReferenceIdeal.main_arg2) = m ((c.tc : Thread Cert.FfndownReferenceIdeal.nD Cert.FfndownReferenceIdeal.τ).loc Cert.FfndownReferenceIdeal.main_arg2))
      ∧ r.2.sem = fun _ => 0)

def quiescent_WgradfullKernel [hWgradfullKernel : Cert.WgradfullKernel.Facts] : Prop :=
  ∀ (m : (ℓ : Loc Cert.WgradfullKernel.nD Cert.WgradfullKernel.τ Cert.WgradfullKernel.sig) → Buf (Elt Bits) ℓ) (g : Dev Cert.WgradfullKernel.nD → PrngReg), Pre_WgradfullKernel m →
    θ_run (Cert.WgradfullKernel.defs (F := Bits)) (onTc (τ := Cert.WgradfullKernel.τ) (Cert.WgradfullKernel.main (F := Bits))) ⟨m, fun _ => 0, g⟩ (fun r => (∀ c : Dev Cert.WgradfullKernel.nD,
      r.2.mem ((c.tc : Thread Cert.WgradfullKernel.nD Cert.WgradfullKernel.τ).loc Cert.WgradfullKernel.main_arg0) = m ((c.tc : Thread Cert.WgradfullKernel.nD Cert.WgradfullKernel.τ).loc Cert.WgradfullKernel.main_arg0)
      ∧ r.2.mem ((c.tc : Thread Cert.WgradfullKernel.nD Cert.WgradfullKernel.τ).loc Cert.WgradfullKernel.main_arg1) = m ((c.tc : Thread Cert.WgradfullKernel.nD Cert.WgradfullKernel.τ).loc Cert.WgradfullKernel.main_arg1))
      ∧ r.2.sem = fun _ => 0)

def quiescent_WgradfullKernelIdeal [hWgradfullKernelIdeal : Cert.WgradfullKernelIdeal.Facts] : Prop :=
  ∀ (m : (ℓ : Loc Cert.WgradfullKernelIdeal.nD Cert.WgradfullKernelIdeal.τ Cert.WgradfullKernelIdeal.sig) → Buf (Elt Ideal) ℓ) (g : Dev Cert.WgradfullKernelIdeal.nD → PrngReg), Pre_WgradfullKernelIdeal m →
    θ_run (Cert.WgradfullKernelIdeal.defs (F := Ideal)) (onTc (τ := Cert.WgradfullKernelIdeal.τ) (Cert.WgradfullKernelIdeal.main (F := Ideal))) ⟨m, fun _ => 0, g⟩ (fun r => (∀ c : Dev Cert.WgradfullKernelIdeal.nD,
      r.2.mem ((c.tc : Thread Cert.WgradfullKernelIdeal.nD Cert.WgradfullKernelIdeal.τ).loc Cert.WgradfullKernelIdeal.main_arg0) = m ((c.tc : Thread Cert.WgradfullKernelIdeal.nD Cert.WgradfullKernelIdeal.τ).loc Cert.WgradfullKernelIdeal.main_arg0)
      ∧ r.2.mem ((c.tc : Thread Cert.WgradfullKernelIdeal.nD Cert.WgradfullKernelIdeal.τ).loc Cert.WgradfullKernelIdeal.main_arg1) = m ((c.tc : Thread Cert.WgradfullKernelIdeal.nD Cert.WgradfullKernelIdeal.τ).loc Cert.WgradfullKernelIdeal.main_arg1))
      ∧ r.2.sem = fun _ => 0)

def quiescent_WgradfullReferenceIdeal [hWgradfullReferenceIdeal : Cert.WgradfullReferenceIdeal.Facts] : Prop :=
  ∀ (m : (ℓ : Loc Cert.WgradfullReferenceIdeal.nD Cert.WgradfullReferenceIdeal.τ Cert.WgradfullReferenceIdeal.sig) → Buf (Elt Ideal) ℓ) (g : Dev Cert.WgradfullReferenceIdeal.nD → PrngReg), Pre_WgradfullReferenceIdeal m →
    θ_run (Cert.WgradfullReferenceIdeal.defs (F := Ideal)) (onTc (τ := Cert.WgradfullReferenceIdeal.τ) (Cert.WgradfullReferenceIdeal.main (F := Ideal))) ⟨m, fun _ => 0, g⟩ (fun r => (∀ c : Dev Cert.WgradfullReferenceIdeal.nD,
      r.2.mem ((c.tc : Thread Cert.WgradfullReferenceIdeal.nD Cert.WgradfullReferenceIdeal.τ).loc Cert.WgradfullReferenceIdeal.main_arg0) = m ((c.tc : Thread Cert.WgradfullReferenceIdeal.nD Cert.WgradfullReferenceIdeal.τ).loc Cert.WgradfullReferenceIdeal.main_arg0)
      ∧ r.2.mem ((c.tc : Thread Cert.WgradfullReferenceIdeal.nD Cert.WgradfullReferenceIdeal.τ).loc Cert.WgradfullReferenceIdeal.main_arg1) = m ((c.tc : Thread Cert.WgradfullReferenceIdeal.nD Cert.WgradfullReferenceIdeal.τ).loc Cert.WgradfullReferenceIdeal.main_arg1))
      ∧ r.2.sem = fun _ => 0)

def quiescent_WgraddownKernel [hWgraddownKernel : Cert.WgraddownKernel.Facts] : Prop :=
  ∀ (m : (ℓ : Loc Cert.WgraddownKernel.nD Cert.WgraddownKernel.τ Cert.WgraddownKernel.sig) → Buf (Elt Bits) ℓ) (g : Dev Cert.WgraddownKernel.nD → PrngReg), Pre_WgraddownKernel m →
    θ_run (Cert.WgraddownKernel.defs (F := Bits)) (onTc (τ := Cert.WgraddownKernel.τ) (Cert.WgraddownKernel.main (F := Bits))) ⟨m, fun _ => 0, g⟩ (fun r => (∀ c : Dev Cert.WgraddownKernel.nD,
      r.2.mem ((c.tc : Thread Cert.WgraddownKernel.nD Cert.WgraddownKernel.τ).loc Cert.WgraddownKernel.main_arg0) = m ((c.tc : Thread Cert.WgraddownKernel.nD Cert.WgraddownKernel.τ).loc Cert.WgraddownKernel.main_arg0)
      ∧ r.2.mem ((c.tc : Thread Cert.WgraddownKernel.nD Cert.WgraddownKernel.τ).loc Cert.WgraddownKernel.main_arg1) = m ((c.tc : Thread Cert.WgraddownKernel.nD Cert.WgraddownKernel.τ).loc Cert.WgraddownKernel.main_arg1))
      ∧ r.2.sem = fun _ => 0)

def quiescent_WgraddownKernelIdeal [hWgraddownKernelIdeal : Cert.WgraddownKernelIdeal.Facts] : Prop :=
  ∀ (m : (ℓ : Loc Cert.WgraddownKernelIdeal.nD Cert.WgraddownKernelIdeal.τ Cert.WgraddownKernelIdeal.sig) → Buf (Elt Ideal) ℓ) (g : Dev Cert.WgraddownKernelIdeal.nD → PrngReg), Pre_WgraddownKernelIdeal m →
    θ_run (Cert.WgraddownKernelIdeal.defs (F := Ideal)) (onTc (τ := Cert.WgraddownKernelIdeal.τ) (Cert.WgraddownKernelIdeal.main (F := Ideal))) ⟨m, fun _ => 0, g⟩ (fun r => (∀ c : Dev Cert.WgraddownKernelIdeal.nD,
      r.2.mem ((c.tc : Thread Cert.WgraddownKernelIdeal.nD Cert.WgraddownKernelIdeal.τ).loc Cert.WgraddownKernelIdeal.main_arg0) = m ((c.tc : Thread Cert.WgraddownKernelIdeal.nD Cert.WgraddownKernelIdeal.τ).loc Cert.WgraddownKernelIdeal.main_arg0)
      ∧ r.2.mem ((c.tc : Thread Cert.WgraddownKernelIdeal.nD Cert.WgraddownKernelIdeal.τ).loc Cert.WgraddownKernelIdeal.main_arg1) = m ((c.tc : Thread Cert.WgraddownKernelIdeal.nD Cert.WgraddownKernelIdeal.τ).loc Cert.WgraddownKernelIdeal.main_arg1))
      ∧ r.2.sem = fun _ => 0)

def quiescent_WgraddownReferenceIdeal [hWgraddownReferenceIdeal : Cert.WgraddownReferenceIdeal.Facts] : Prop :=
  ∀ (m : (ℓ : Loc Cert.WgraddownReferenceIdeal.nD Cert.WgraddownReferenceIdeal.τ Cert.WgraddownReferenceIdeal.sig) → Buf (Elt Ideal) ℓ) (g : Dev Cert.WgraddownReferenceIdeal.nD → PrngReg), Pre_WgraddownReferenceIdeal m →
    θ_run (Cert.WgraddownReferenceIdeal.defs (F := Ideal)) (onTc (τ := Cert.WgraddownReferenceIdeal.τ) (Cert.WgraddownReferenceIdeal.main (F := Ideal))) ⟨m, fun _ => 0, g⟩ (fun r => (∀ c : Dev Cert.WgraddownReferenceIdeal.nD,
      r.2.mem ((c.tc : Thread Cert.WgraddownReferenceIdeal.nD Cert.WgraddownReferenceIdeal.τ).loc Cert.WgraddownReferenceIdeal.main_arg0) = m ((c.tc : Thread Cert.WgraddownReferenceIdeal.nD Cert.WgraddownReferenceIdeal.τ).loc Cert.WgraddownReferenceIdeal.main_arg0)
      ∧ r.2.mem ((c.tc : Thread Cert.WgraddownReferenceIdeal.nD Cert.WgraddownReferenceIdeal.τ).loc Cert.WgraddownReferenceIdeal.main_arg1) = m ((c.tc : Thread Cert.WgraddownReferenceIdeal.nD Cert.WgraddownReferenceIdeal.τ).loc Cert.WgraddownReferenceIdeal.main_arg1))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def quiescent_WgradinKernel [hWgradinKernel : Cert.WgradinKernel.Facts] : Prop :=
  ∀ (m : (ℓ : Loc Cert.WgradinKernel.nD Cert.WgradinKernel.τ Cert.WgradinKernel.sig) → Buf (Elt Bits) ℓ) (g : Dev Cert.WgradinKernel.nD → PrngReg), Pre_WgradinKernel m →
    θ_run (Cert.WgradinKernel.defs (F := Bits)) (onTc (τ := Cert.WgradinKernel.τ) (Cert.WgradinKernel.main (F := Bits))) ⟨m, fun _ => 0, g⟩ (fun r => (∀ c : Dev Cert.WgradinKernel.nD,
      r.2.mem ((c.tc : Thread Cert.WgradinKernel.nD Cert.WgradinKernel.τ).loc Cert.WgradinKernel.main_arg0) = m ((c.tc : Thread Cert.WgradinKernel.nD Cert.WgradinKernel.τ).loc Cert.WgradinKernel.main_arg0)
      ∧ r.2.mem ((c.tc : Thread Cert.WgradinKernel.nD Cert.WgradinKernel.τ).loc Cert.WgradinKernel.main_arg1) = m ((c.tc : Thread Cert.WgradinKernel.nD Cert.WgradinKernel.τ).loc Cert.WgradinKernel.main_arg1)
      ∧ r.2.mem ((c.tc : Thread Cert.WgradinKernel.nD Cert.WgradinKernel.τ).loc Cert.WgradinKernel.main_arg2) = m ((c.tc : Thread Cert.WgradinKernel.nD Cert.WgradinKernel.τ).loc Cert.WgradinKernel.main_arg2)
      ∧ r.2.mem ((c.tc : Thread Cert.WgradinKernel.nD Cert.WgradinKernel.τ).loc Cert.WgradinKernel.main_arg3) = m ((c.tc : Thread Cert.WgradinKernel.nD Cert.WgradinKernel.τ).loc Cert.WgradinKernel.main_arg3)
      ∧ r.2.mem ((c.tc : Thread Cert.WgradinKernel.nD Cert.WgradinKernel.τ).loc Cert.WgradinKernel.main_arg4) = m ((c.tc : Thread Cert.WgradinKernel.nD Cert.WgradinKernel.τ).loc Cert.WgradinKernel.main_arg4)
      ∧ r.2.mem ((c.tc : Thread Cert.WgradinKernel.nD Cert.WgradinKernel.τ).loc Cert.WgradinKernel.main_arg5) = m ((c.tc : Thread Cert.WgradinKernel.nD Cert.WgradinKernel.τ).loc Cert.WgradinKernel.main_arg5))
      ∧ r.2.sem = fun _ => 0)

def quiescent_WgradinKernelIdeal [hWgradinKernelIdeal : Cert.WgradinKernelIdeal.Facts] : Prop :=
  ∀ (m : (ℓ : Loc Cert.WgradinKernelIdeal.nD Cert.WgradinKernelIdeal.τ Cert.WgradinKernelIdeal.sig) → Buf (Elt Ideal) ℓ) (g : Dev Cert.WgradinKernelIdeal.nD → PrngReg), Pre_WgradinKernelIdeal m →
    θ_run (Cert.WgradinKernelIdeal.defs (F := Ideal)) (onTc (τ := Cert.WgradinKernelIdeal.τ) (Cert.WgradinKernelIdeal.main (F := Ideal))) ⟨m, fun _ => 0, g⟩ (fun r => (∀ c : Dev Cert.WgradinKernelIdeal.nD,
      r.2.mem ((c.tc : Thread Cert.WgradinKernelIdeal.nD Cert.WgradinKernelIdeal.τ).loc Cert.WgradinKernelIdeal.main_arg0) = m ((c.tc : Thread Cert.WgradinKernelIdeal.nD Cert.WgradinKernelIdeal.τ).loc Cert.WgradinKernelIdeal.main_arg0)
      ∧ r.2.mem ((c.tc : Thread Cert.WgradinKernelIdeal.nD Cert.WgradinKernelIdeal.τ).loc Cert.WgradinKernelIdeal.main_arg1) = m ((c.tc : Thread Cert.WgradinKernelIdeal.nD Cert.WgradinKernelIdeal.τ).loc Cert.WgradinKernelIdeal.main_arg1)
      ∧ r.2.mem ((c.tc : Thread Cert.WgradinKernelIdeal.nD Cert.WgradinKernelIdeal.τ).loc Cert.WgradinKernelIdeal.main_arg2) = m ((c.tc : Thread Cert.WgradinKernelIdeal.nD Cert.WgradinKernelIdeal.τ).loc Cert.WgradinKernelIdeal.main_arg2)
      ∧ r.2.mem ((c.tc : Thread Cert.WgradinKernelIdeal.nD Cert.WgradinKernelIdeal.τ).loc Cert.WgradinKernelIdeal.main_arg3) = m ((c.tc : Thread Cert.WgradinKernelIdeal.nD Cert.WgradinKernelIdeal.τ).loc Cert.WgradinKernelIdeal.main_arg3)
      ∧ r.2.mem ((c.tc : Thread Cert.WgradinKernelIdeal.nD Cert.WgradinKernelIdeal.τ).loc Cert.WgradinKernelIdeal.main_arg4) = m ((c.tc : Thread Cert.WgradinKernelIdeal.nD Cert.WgradinKernelIdeal.τ).loc Cert.WgradinKernelIdeal.main_arg4)
      ∧ r.2.mem ((c.tc : Thread Cert.WgradinKernelIdeal.nD Cert.WgradinKernelIdeal.τ).loc Cert.WgradinKernelIdeal.main_arg5) = m ((c.tc : Thread Cert.WgradinKernelIdeal.nD Cert.WgradinKernelIdeal.τ).loc Cert.WgradinKernelIdeal.main_arg5))
      ∧ r.2.sem = fun _ => 0)

def quiescent_WgradinReferenceIdeal [hWgradinReferenceIdeal : Cert.WgradinReferenceIdeal.Facts] : Prop :=
  ∀ (m : (ℓ : Loc Cert.WgradinReferenceIdeal.nD Cert.WgradinReferenceIdeal.τ Cert.WgradinReferenceIdeal.sig) → Buf (Elt Ideal) ℓ) (g : Dev Cert.WgradinReferenceIdeal.nD → PrngReg), Pre_WgradinReferenceIdeal m →
    θ_run (Cert.WgradinReferenceIdeal.defs (F := Ideal)) (onTc (τ := Cert.WgradinReferenceIdeal.τ) (Cert.WgradinReferenceIdeal.main (F := Ideal))) ⟨m, fun _ => 0, g⟩ (fun r => (∀ c : Dev Cert.WgradinReferenceIdeal.nD,
      r.2.mem ((c.tc : Thread Cert.WgradinReferenceIdeal.nD Cert.WgradinReferenceIdeal.τ).loc Cert.WgradinReferenceIdeal.main_arg0) = m ((c.tc : Thread Cert.WgradinReferenceIdeal.nD Cert.WgradinReferenceIdeal.τ).loc Cert.WgradinReferenceIdeal.main_arg0)
      ∧ r.2.mem ((c.tc : Thread Cert.WgradinReferenceIdeal.nD Cert.WgradinReferenceIdeal.τ).loc Cert.WgradinReferenceIdeal.main_arg1) = m ((c.tc : Thread Cert.WgradinReferenceIdeal.nD Cert.WgradinReferenceIdeal.τ).loc Cert.WgradinReferenceIdeal.main_arg1)
      ∧ r.2.mem ((c.tc : Thread Cert.WgradinReferenceIdeal.nD Cert.WgradinReferenceIdeal.τ).loc Cert.WgradinReferenceIdeal.main_arg2) = m ((c.tc : Thread Cert.WgradinReferenceIdeal.nD Cert.WgradinReferenceIdeal.τ).loc Cert.WgradinReferenceIdeal.main_arg2)
      ∧ r.2.mem ((c.tc : Thread Cert.WgradinReferenceIdeal.nD Cert.WgradinReferenceIdeal.τ).loc Cert.WgradinReferenceIdeal.main_arg3) = m ((c.tc : Thread Cert.WgradinReferenceIdeal.nD Cert.WgradinReferenceIdeal.τ).loc Cert.WgradinReferenceIdeal.main_arg3)
      ∧ r.2.mem ((c.tc : Thread Cert.WgradinReferenceIdeal.nD Cert.WgradinReferenceIdeal.τ).loc Cert.WgradinReferenceIdeal.main_arg4) = m ((c.tc : Thread Cert.WgradinReferenceIdeal.nD Cert.WgradinReferenceIdeal.τ).loc Cert.WgradinReferenceIdeal.main_arg4)
      ∧ r.2.mem ((c.tc : Thread Cert.WgradinReferenceIdeal.nD Cert.WgradinReferenceIdeal.τ).loc Cert.WgradinReferenceIdeal.main_arg5) = m ((c.tc : Thread Cert.WgradinReferenceIdeal.nD Cert.WgradinReferenceIdeal.τ).loc Cert.WgradinReferenceIdeal.main_arg5))
      ∧ r.2.sem = fun _ => 0)

def quiescent_WgradguKernel [hWgradguKernel : Cert.WgradguKernel.Facts] : Prop :=
  ∀ (m : (ℓ : Loc Cert.WgradguKernel.nD Cert.WgradguKernel.τ Cert.WgradguKernel.sig) → Buf (Elt Bits) ℓ) (g : Dev Cert.WgradguKernel.nD → PrngReg), Pre_WgradguKernel m →
    θ_run (Cert.WgradguKernel.defs (F := Bits)) (onTc (τ := Cert.WgradguKernel.τ) (Cert.WgradguKernel.main (F := Bits))) ⟨m, fun _ => 0, g⟩ (fun r => (∀ c : Dev Cert.WgradguKernel.nD,
      r.2.mem ((c.tc : Thread Cert.WgradguKernel.nD Cert.WgradguKernel.τ).loc Cert.WgradguKernel.main_arg0) = m ((c.tc : Thread Cert.WgradguKernel.nD Cert.WgradguKernel.τ).loc Cert.WgradguKernel.main_arg0)
      ∧ r.2.mem ((c.tc : Thread Cert.WgradguKernel.nD Cert.WgradguKernel.τ).loc Cert.WgradguKernel.main_arg1) = m ((c.tc : Thread Cert.WgradguKernel.nD Cert.WgradguKernel.τ).loc Cert.WgradguKernel.main_arg1))
      ∧ r.2.sem = fun _ => 0)

def quiescent_WgradguKernelIdeal [hWgradguKernelIdeal : Cert.WgradguKernelIdeal.Facts] : Prop :=
  ∀ (m : (ℓ : Loc Cert.WgradguKernelIdeal.nD Cert.WgradguKernelIdeal.τ Cert.WgradguKernelIdeal.sig) → Buf (Elt Ideal) ℓ) (g : Dev Cert.WgradguKernelIdeal.nD → PrngReg), Pre_WgradguKernelIdeal m →
    θ_run (Cert.WgradguKernelIdeal.defs (F := Ideal)) (onTc (τ := Cert.WgradguKernelIdeal.τ) (Cert.WgradguKernelIdeal.main (F := Ideal))) ⟨m, fun _ => 0, g⟩ (fun r => (∀ c : Dev Cert.WgradguKernelIdeal.nD,
      r.2.mem ((c.tc : Thread Cert.WgradguKernelIdeal.nD Cert.WgradguKernelIdeal.τ).loc Cert.WgradguKernelIdeal.main_arg0) = m ((c.tc : Thread Cert.WgradguKernelIdeal.nD Cert.WgradguKernelIdeal.τ).loc Cert.WgradguKernelIdeal.main_arg0)
      ∧ r.2.mem ((c.tc : Thread Cert.WgradguKernelIdeal.nD Cert.WgradguKernelIdeal.τ).loc Cert.WgradguKernelIdeal.main_arg1) = m ((c.tc : Thread Cert.WgradguKernelIdeal.nD Cert.WgradguKernelIdeal.τ).loc Cert.WgradguKernelIdeal.main_arg1))
      ∧ r.2.sem = fun _ => 0)

def quiescent_WgradguReferenceIdeal [hWgradguReferenceIdeal : Cert.WgradguReferenceIdeal.Facts] : Prop :=
  ∀ (m : (ℓ : Loc Cert.WgradguReferenceIdeal.nD Cert.WgradguReferenceIdeal.τ Cert.WgradguReferenceIdeal.sig) → Buf (Elt Ideal) ℓ) (g : Dev Cert.WgradguReferenceIdeal.nD → PrngReg), Pre_WgradguReferenceIdeal m →
    θ_run (Cert.WgradguReferenceIdeal.defs (F := Ideal)) (onTc (τ := Cert.WgradguReferenceIdeal.τ) (Cert.WgradguReferenceIdeal.main (F := Ideal))) ⟨m, fun _ => 0, g⟩ (fun r => (∀ c : Dev Cert.WgradguReferenceIdeal.nD,
      r.2.mem ((c.tc : Thread Cert.WgradguReferenceIdeal.nD Cert.WgradguReferenceIdeal.τ).loc Cert.WgradguReferenceIdeal.main_arg0) = m ((c.tc : Thread Cert.WgradguReferenceIdeal.nD Cert.WgradguReferenceIdeal.τ).loc Cert.WgradguReferenceIdeal.main_arg0)
      ∧ r.2.mem ((c.tc : Thread Cert.WgradguReferenceIdeal.nD Cert.WgradguReferenceIdeal.τ).loc Cert.WgradguReferenceIdeal.main_arg1) = m ((c.tc : Thread Cert.WgradguReferenceIdeal.nD Cert.WgradguReferenceIdeal.τ).loc Cert.WgradguReferenceIdeal.main_arg1))
      ∧ r.2.sem = fun _ => 0)

def quiescent_SumdevKernel [hSumdevKernel : Cert.SumdevKernel.Facts] : Prop :=
  ∀ (m : (ℓ : Loc Cert.SumdevKernel.nD Cert.SumdevKernel.τ Cert.SumdevKernel.sig) → Buf (Elt Bits) ℓ) (g : Dev Cert.SumdevKernel.nD → PrngReg), Pre_SumdevKernel m →
    θ_run (Cert.SumdevKernel.defs (F := Bits)) (onTc (τ := Cert.SumdevKernel.τ) (Cert.SumdevKernel.main (F := Bits))) ⟨m, fun _ => 0, g⟩ (fun r => (∀ c : Dev Cert.SumdevKernel.nD,
      r.2.mem ((c.tc : Thread Cert.SumdevKernel.nD Cert.SumdevKernel.τ).loc Cert.SumdevKernel.main_arg0) = m ((c.tc : Thread Cert.SumdevKernel.nD Cert.SumdevKernel.τ).loc Cert.SumdevKernel.main_arg0)
      ∧ r.2.mem ((c.tc : Thread Cert.SumdevKernel.nD Cert.SumdevKernel.τ).loc Cert.SumdevKernel.main_arg1) = m ((c.tc : Thread Cert.SumdevKernel.nD Cert.SumdevKernel.τ).loc Cert.SumdevKernel.main_arg1))
      ∧ r.2.sem = fun _ => 0)

def quiescent_SumdevKernelIdeal [hSumdevKernelIdeal : Cert.SumdevKernelIdeal.Facts] : Prop :=
  ∀ (m : (ℓ : Loc Cert.SumdevKernelIdeal.nD Cert.SumdevKernelIdeal.τ Cert.SumdevKernelIdeal.sig) → Buf (Elt Ideal) ℓ) (g : Dev Cert.SumdevKernelIdeal.nD → PrngReg), Pre_SumdevKernelIdeal m →
    θ_run (Cert.SumdevKernelIdeal.defs (F := Ideal)) (onTc (τ := Cert.SumdevKernelIdeal.τ) (Cert.SumdevKernelIdeal.main (F := Ideal))) ⟨m, fun _ => 0, g⟩ (fun r => (∀ c : Dev Cert.SumdevKernelIdeal.nD,
      r.2.mem ((c.tc : Thread Cert.SumdevKernelIdeal.nD Cert.SumdevKernelIdeal.τ).loc Cert.SumdevKernelIdeal.main_arg0) = m ((c.tc : Thread Cert.SumdevKernelIdeal.nD Cert.SumdevKernelIdeal.τ).loc Cert.SumdevKernelIdeal.main_arg0)
      ∧ r.2.mem ((c.tc : Thread Cert.SumdevKernelIdeal.nD Cert.SumdevKernelIdeal.τ).loc Cert.SumdevKernelIdeal.main_arg1) = m ((c.tc : Thread Cert.SumdevKernelIdeal.nD Cert.SumdevKernelIdeal.τ).loc Cert.SumdevKernelIdeal.main_arg1))
      ∧ r.2.sem = fun _ => 0)

def quiescent_SumdevReferenceIdeal [hSumdevReferenceIdeal : Cert.SumdevReferenceIdeal.Facts] : Prop :=
  ∀ (m : (ℓ : Loc Cert.SumdevReferenceIdeal.nD Cert.SumdevReferenceIdeal.τ Cert.SumdevReferenceIdeal.sig) → Buf (Elt Ideal) ℓ) (g : Dev Cert.SumdevReferenceIdeal.nD → PrngReg), Pre_SumdevReferenceIdeal m →
    θ_run (Cert.SumdevReferenceIdeal.defs (F := Ideal)) (onTc (τ := Cert.SumdevReferenceIdeal.τ) (Cert.SumdevReferenceIdeal.main (F := Ideal))) ⟨m, fun _ => 0, g⟩ (fun r => (∀ c : Dev Cert.SumdevReferenceIdeal.nD,
      r.2.mem ((c.tc : Thread Cert.SumdevReferenceIdeal.nD Cert.SumdevReferenceIdeal.τ).loc Cert.SumdevReferenceIdeal.main_arg0) = m ((c.tc : Thread Cert.SumdevReferenceIdeal.nD Cert.SumdevReferenceIdeal.τ).loc Cert.SumdevReferenceIdeal.main_arg0)
      ∧ r.2.mem ((c.tc : Thread Cert.SumdevReferenceIdeal.nD Cert.SumdevReferenceIdeal.τ).loc Cert.SumdevReferenceIdeal.main_arg1) = m ((c.tc : Thread Cert.SumdevReferenceIdeal.nD Cert.SumdevReferenceIdeal.τ).loc Cert.SumdevReferenceIdeal.main_arg1))
      ∧ r.2.sem = fun _ => 0)

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v12_0)) (v1 : (c : Dev Cert.MixKernelIdeal.nD) → Buf (Elt Ideal) ((c.tc : Thread Cert.MixKernelIdeal.nD Cert.MixKernelIdeal.τ).loc Cert.MixKernelIdeal.main_v12_1)) (v2 : (c : Dev Cert.MixKernelIdeal.nD) → Buf (Elt Ideal) ((c.tc : Thread Cert.MixKernelIdeal.nD Cert.MixKernelIdeal.τ).loc Cert.MixKernelIdeal.main_v12_2)) (v3 : (c : Dev Cert.MixKernelIdeal.nD) → Buf (Elt Ideal) ((c.tc : Thread Cert.MixKernelIdeal.nD Cert.MixKernelIdeal.τ).loc Cert.MixKernelIdeal.main_v12_3)) (v4 : (c : Dev Cert.MixKernelIdeal.nD) → Buf (Elt Ideal) ((c.tc : Thread Cert.MixKernelIdeal.nD Cert.MixKernelIdeal.τ).loc Cert.MixKernelIdeal.main_v12_4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v12_0) = v0 c
          ∧ r.2.mem ((c.tc : Thread Cert.MixKernelIdeal.nD Cert.MixKernelIdeal.τ).loc Cert.MixKernelIdeal.main_v12_1) = v1 c
          ∧ r.2.mem ((c.tc : Thread Cert.MixKernelIdeal.nD Cert.MixKernelIdeal.τ).loc Cert.MixKernelIdeal.main_v12_2) = v2 c
          ∧ r.2.mem ((c.tc : Thread Cert.MixKernelIdeal.nD Cert.MixKernelIdeal.τ).loc Cert.MixKernelIdeal.main_v12_3) = v3 c
          ∧ r.2.mem ((c.tc : Thread Cert.MixKernelIdeal.nD Cert.MixKernelIdeal.τ).loc Cert.MixKernelIdeal.main_v12_4) = v4 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v31) = v0 c
          ∧ r.2.mem ((c.tc : Thread Cert.MixReferenceIdeal.nD Cert.MixReferenceIdeal.τ).loc Cert.MixReferenceIdeal.main_v33) = v1 c
          ∧ r.2.mem ((c.tc : Thread Cert.MixReferenceIdeal.nD Cert.MixReferenceIdeal.τ).loc Cert.MixReferenceIdeal.main_v34) = v2 c
          ∧ r.2.mem ((c.tc : Thread Cert.MixReferenceIdeal.nD Cert.MixReferenceIdeal.τ).loc Cert.MixReferenceIdeal.main_v35) = v3 c
          ∧ r.2.mem ((c.tc : Thread Cert.MixReferenceIdeal.nD Cert.MixReferenceIdeal.τ).loc Cert.MixReferenceIdeal.main_v37) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v27_0)) (v1 : (c : Dev Cert.AttnKernelIdeal.nD) → Buf (Elt Ideal) ((c.tc : Thread Cert.AttnKernelIdeal.nD Cert.AttnKernelIdeal.τ).loc Cert.AttnKernelIdeal.main_v27_1)) (v2 : (c : Dev Cert.AttnKernelIdeal.nD) → Buf (Elt Ideal) ((c.tc : Thread Cert.AttnKernelIdeal.nD Cert.AttnKernelIdeal.τ).loc Cert.AttnKernelIdeal.main_v27_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v27_0) = v0 c
          ∧ r.2.mem ((c.tc : Thread Cert.AttnKernelIdeal.nD Cert.AttnKernelIdeal.τ).loc Cert.AttnKernelIdeal.main_v27_1) = v1 c
          ∧ r.2.mem ((c.tc : Thread Cert.AttnKernelIdeal.nD Cert.AttnKernelIdeal.τ).loc Cert.AttnKernelIdeal.main_v27_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v57) = v0 c
          ∧ r.2.mem ((c.tc : Thread Cert.AttnReferenceIdeal.nD Cert.AttnReferenceIdeal.τ).loc Cert.AttnReferenceIdeal.main_v59) = v1 c
          ∧ r.2.mem ((c.tc : Thread Cert.AttnReferenceIdeal.nD Cert.AttnReferenceIdeal.τ).loc Cert.AttnReferenceIdeal.main_v61) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_InprojKernel_InprojKernelIdeal : Prop :=
  True

def algebraic_InprojKernelIdeal_InprojReferenceIdeal_pre_finite_inproj [hInprojKernelIdeal : Cert.InprojKernelIdeal.Facts] [hInprojReferenceIdeal : Cert.InprojReferenceIdeal.Facts] [hPre_finite_inproj : Cert.Pre_finite_inproj.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal_finite_inproj m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)
      ∧ m' ((c.tc : Thread Cert.InprojReferenceIdeal.nD Cert.InprojReferenceIdeal.τ).loc Cert.InprojReferenceIdeal.main_arg6) = m ((c.tc : Thread Cert.InprojKernelIdeal.nD Cert.InprojKernelIdeal.τ).loc Cert.InprojKernelIdeal.main_arg6)
      ∧ m' ((c.tc : Thread Cert.InprojReferenceIdeal.nD Cert.InprojReferenceIdeal.τ).loc Cert.InprojReferenceIdeal.main_arg7) = m ((c.tc : Thread Cert.InprojKernelIdeal.nD Cert.InprojKernelIdeal.τ).loc Cert.InprojKernelIdeal.main_arg7)
      ∧ m' ((c.tc : Thread Cert.InprojReferenceIdeal.nD Cert.InprojReferenceIdeal.τ).loc Cert.InprojReferenceIdeal.main_arg8) = m ((c.tc : Thread Cert.InprojKernelIdeal.nD Cert.InprojKernelIdeal.τ).loc Cert.InprojKernelIdeal.main_arg8)) →
    ∃ (v0 : (c : Dev Cert.InprojKernelIdeal.nD) → Buf (Elt Ideal) ((c.tc : Thread Cert.InprojKernelIdeal.nD Cert.InprojKernelIdeal.τ).loc Cert.InprojKernelIdeal.main_v15_0)) (v1 : (c : Dev Cert.InprojKernelIdeal.nD) → Buf (Elt Ideal) ((c.tc : Thread Cert.InprojKernelIdeal.nD Cert.InprojKernelIdeal.τ).loc Cert.InprojKernelIdeal.main_v15_1)) (v2 : (c : Dev Cert.InprojKernelIdeal.nD) → Buf (Elt Ideal) ((c.tc : Thread Cert.InprojKernelIdeal.nD Cert.InprojKernelIdeal.τ).loc Cert.InprojKernelIdeal.main_v15_2)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v15_0) = v0 c
          ∧ r.2.mem ((c.tc : Thread Cert.InprojKernelIdeal.nD Cert.InprojKernelIdeal.τ).loc Cert.InprojKernelIdeal.main_v15_1) = v1 c
          ∧ r.2.mem ((c.tc : Thread Cert.InprojKernelIdeal.nD Cert.InprojKernelIdeal.τ).loc Cert.InprojKernelIdeal.main_v15_2) = v2 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
          ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
          ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
          ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v57) = v0 c
          ∧ r.2.mem ((c.tc : Thread Cert.InprojReferenceIdeal.nD Cert.InprojReferenceIdeal.τ).loc Cert.InprojReferenceIdeal.main_v61) = v1 c
          ∧ r.2.mem ((c.tc : Thread Cert.InprojReferenceIdeal.nD Cert.InprojReferenceIdeal.τ).loc Cert.InprojReferenceIdeal.main_v56) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)) (v3 : (c : Dev Cert.LossKernelIdeal.nD) → Buf (Elt Ideal) ((c.tc : Thread Cert.LossKernelIdeal.nD Cert.LossKernelIdeal.τ).loc Cert.LossKernelIdeal.main_v3_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_v3_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v56) = v1 c
          ∧ r.2.mem ((c.tc : Thread Cert.LossReferenceIdeal.nD Cert.LossReferenceIdeal.τ).loc Cert.LossReferenceIdeal.main_v57) = v2 c
          ∧ r.2.mem ((c.tc : Thread Cert.LossReferenceIdeal.nD Cert.LossReferenceIdeal.τ).loc Cert.LossReferenceIdeal.main_v58) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_PoolKernel_PoolKernelIdeal : Prop :=
  True

def algebraic_PoolKernelIdeal_PoolReferenceIdeal_pre_finite_pool [hPoolKernelIdeal : Cert.PoolKernelIdeal.Facts] [hPoolReferenceIdeal : Cert.PoolReferenceIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_finite_pool m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v3_0)) (v1 : (c : Dev Cert.PoolKernelIdeal.nD) → Buf (Elt Ideal) ((c.tc : Thread Cert.PoolKernelIdeal.nD Cert.PoolKernelIdeal.τ).loc Cert.PoolKernelIdeal.main_v3_1)) (v2 : (c : Dev Cert.PoolKernelIdeal.nD) → Buf (Elt Ideal) ((c.tc : Thread Cert.PoolKernelIdeal.nD Cert.PoolKernelIdeal.τ).loc Cert.PoolKernelIdeal.main_v3_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v3_0) = v0 c
          ∧ r.2.mem ((c.tc : Thread Cert.PoolKernelIdeal.nD Cert.PoolKernelIdeal.τ).loc Cert.PoolKernelIdeal.main_v3_1) = v1 c
          ∧ r.2.mem ((c.tc : Thread Cert.PoolKernelIdeal.nD Cert.PoolKernelIdeal.τ).loc Cert.PoolKernelIdeal.main_v3_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v157) = v0 c
          ∧ r.2.mem ((c.tc : Thread Cert.PoolReferenceIdeal.nD Cert.PoolReferenceIdeal.τ).loc Cert.PoolReferenceIdeal.main_v95) = v1 c
          ∧ r.2.mem ((c.tc : Thread Cert.PoolReferenceIdeal.nD Cert.PoolReferenceIdeal.τ).loc Cert.PoolReferenceIdeal.main_v158) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_PoolfwdKernel_PoolfwdKernelIdeal : Prop :=
  True

def algebraic_PoolfwdKernelIdeal_PoolfwdReferenceIdeal_pre_finite_poolfwd [hPoolfwdKernelIdeal : Cert.PoolfwdKernelIdeal.Facts] [hPoolfwdReferenceIdeal : Cert.PoolfwdReferenceIdeal.Facts] [hPre_finite_poolfwd : Cert.Pre_finite_poolfwd.Facts] : Prop :=
  ∀ (m : (ℓ : Loc Cert.PoolfwdKernelIdeal.nD Cert.PoolfwdKernelIdeal.τ Cert.PoolfwdKernelIdeal.sig) → Buf (Elt Ideal) ℓ) (g : Dev Cert.PoolfwdKernelIdeal.nD → PrngReg)
    (m' : (ℓ : Loc Cert.PoolfwdReferenceIdeal.nD Cert.PoolfwdReferenceIdeal.τ Cert.PoolfwdReferenceIdeal.sig) → Buf (Elt Ideal) ℓ) (g' : Dev Cert.PoolfwdReferenceIdeal.nD → PrngReg), Pre_PoolfwdKernelIdeal_finite_poolfwd m →
    (∀ c : Dev Cert.PoolfwdKernelIdeal.nD,
      m' ((c.tc : Thread Cert.PoolfwdReferenceIdeal.nD Cert.PoolfwdReferenceIdeal.τ).loc Cert.PoolfwdReferenceIdeal.main_arg0) = m ((c.tc : Thread Cert.PoolfwdKernelIdeal.nD Cert.PoolfwdKernelIdeal.τ).loc Cert.PoolfwdKernelIdeal.main_arg0)
      ∧ m' ((c.tc : Thread Cert.PoolfwdReferenceIdeal.nD Cert.PoolfwdReferenceIdeal.τ).loc Cert.PoolfwdReferenceIdeal.main_arg1) = m ((c.tc : Thread Cert.PoolfwdKernelIdeal.nD Cert.PoolfwdKernelIdeal.τ).loc Cert.PoolfwdKernelIdeal.main_arg1)
      ∧ m' ((c.tc : Thread Cert.PoolfwdReferenceIdeal.nD Cert.PoolfwdReferenceIdeal.τ).loc Cert.PoolfwdReferenceIdeal.main_arg2) = m ((c.tc : Thread Cert.PoolfwdKernelIdeal.nD Cert.PoolfwdKernelIdeal.τ).loc Cert.PoolfwdKernelIdeal.main_arg2)) →
    ∃ (v0 : (c : Dev Cert.PoolfwdKernelIdeal.nD) → Buf (Elt Ideal) ((c.tc : Thread Cert.PoolfwdKernelIdeal.nD Cert.PoolfwdKernelIdeal.τ).loc Cert.PoolfwdKernelIdeal.main_v2)),
      θ_run (Cert.PoolfwdKernelIdeal.defs (F := Ideal)) (onTc (τ := Cert.PoolfwdKernelIdeal.τ) (Cert.PoolfwdKernelIdeal.main (F := Ideal))) ⟨m, fun _ => 0, g⟩ (fun r => ∀ c : Dev Cert.PoolfwdKernelIdeal.nD,
          r.2.mem ((c.tc : Thread Cert.PoolfwdKernelIdeal.nD Cert.PoolfwdKernelIdeal.τ).loc Cert.PoolfwdKernelIdeal.main_v2) = v0 c
          ∧ r.2.mem ((c.tc : Thread Cert.PoolfwdKernelIdeal.nD Cert.PoolfwdKernelIdeal.τ).loc Cert.PoolfwdKernelIdeal.main_arg0) = m ((c.tc : Thread Cert.PoolfwdKernelIdeal.nD Cert.PoolfwdKernelIdeal.τ).loc Cert.PoolfwdKernelIdeal.main_arg0)
          ∧ r.2.mem ((c.tc : Thread Cert.PoolfwdKernelIdeal.nD Cert.PoolfwdKernelIdeal.τ).loc Cert.PoolfwdKernelIdeal.main_arg1) = m ((c.tc : Thread Cert.PoolfwdKernelIdeal.nD Cert.PoolfwdKernelIdeal.τ).loc Cert.PoolfwdKernelIdeal.main_arg1)
          ∧ r.2.mem ((c.tc : Thread Cert.PoolfwdKernelIdeal.nD Cert.PoolfwdKernelIdeal.τ).loc Cert.PoolfwdKernelIdeal.main_arg2) = m ((c.tc : Thread Cert.PoolfwdKernelIdeal.nD Cert.PoolfwdKernelIdeal.τ).loc Cert.PoolfwdKernelIdeal.main_arg2))
      ∧ θ_run (Cert.PoolfwdReferenceIdeal.defs (F := Ideal)) (onTc (τ := Cert.PoolfwdReferenceIdeal.τ) (Cert.PoolfwdReferenceIdeal.main (F := Ideal))) ⟨m', fun _ => 0, g'⟩ (fun r => ∀ c : Dev Cert.PoolfwdReferenceIdeal.nD,
          r.2.mem ((c.tc : Thread Cert.PoolfwdReferenceIdeal.nD Cert.PoolfwdReferenceIdeal.τ).loc Cert.PoolfwdReferenceIdeal.main_v80) = v0 c
          ∧ r.2.mem ((c.tc : Thread Cert.PoolfwdReferenceIdeal.nD Cert.PoolfwdReferenceIdeal.τ).loc Cert.PoolfwdReferenceIdeal.main_arg0) = m' ((c.tc : Thread Cert.PoolfwdReferenceIdeal.nD Cert.PoolfwdReferenceIdeal.τ).loc Cert.PoolfwdReferenceIdeal.main_arg0)
          ∧ r.2.mem ((c.tc : Thread Cert.PoolfwdReferenceIdeal.nD Cert.PoolfwdReferenceIdeal.τ).loc Cert.PoolfwdReferenceIdeal.main_arg1) = m' ((c.tc : Thread Cert.PoolfwdReferenceIdeal.nD Cert.PoolfwdReferenceIdeal.τ).loc Cert.PoolfwdReferenceIdeal.main_arg1)
          ∧ r.2.mem ((c.tc : Thread Cert.PoolfwdReferenceIdeal.nD Cert.PoolfwdReferenceIdeal.τ).loc Cert.PoolfwdReferenceIdeal.main_arg2) = m' ((c.tc : Thread Cert.PoolfwdReferenceIdeal.nD Cert.PoolfwdReferenceIdeal.τ).loc Cert.PoolfwdReferenceIdeal.main_arg2))

def preserves_MixfwdKernel_MixfwdKernelIdeal : Prop :=
  True

def algebraic_MixfwdKernelIdeal_MixfwdReferenceIdeal [hMixfwdKernelIdeal : Cert.MixfwdKernelIdeal.Facts] [hMixfwdReferenceIdeal : Cert.MixfwdReferenceIdeal.Facts] : Prop :=
  ∀ (m : (ℓ : Loc Cert.MixfwdKernelIdeal.nD Cert.MixfwdKernelIdeal.τ Cert.MixfwdKernelIdeal.sig) → Buf (Elt Ideal) ℓ) (g : Dev Cert.MixfwdKernelIdeal.nD → PrngReg)
    (m' : (ℓ : Loc Cert.MixfwdReferenceIdeal.nD Cert.MixfwdReferenceIdeal.τ Cert.MixfwdReferenceIdeal.sig) → Buf (Elt Ideal) ℓ) (g' : Dev Cert.MixfwdReferenceIdeal.nD → PrngReg), Pre_MixfwdKernelIdeal m →
    (∀ c : Dev Cert.MixfwdKernelIdeal.nD,
      m' ((c.tc : Thread Cert.MixfwdReferenceIdeal.nD Cert.MixfwdReferenceIdeal.τ).loc Cert.MixfwdReferenceIdeal.main_arg0) = m ((c.tc : Thread Cert.MixfwdKernelIdeal.nD Cert.MixfwdKernelIdeal.τ).loc Cert.MixfwdKernelIdeal.main_arg0)
      ∧ m' ((c.tc : Thread Cert.MixfwdReferenceIdeal.nD Cert.MixfwdReferenceIdeal.τ).loc Cert.MixfwdReferenceIdeal.main_arg1) = m ((c.tc : Thread Cert.MixfwdKernelIdeal.nD Cert.MixfwdKernelIdeal.τ).loc Cert.MixfwdKernelIdeal.main_arg1)
      ∧ m' ((c.tc : Thread Cert.MixfwdReferenceIdeal.nD Cert.MixfwdReferenceIdeal.τ).loc Cert.MixfwdReferenceIdeal.main_arg2) = m ((c.tc : Thread Cert.MixfwdKernelIdeal.nD Cert.MixfwdKernelIdeal.τ).loc Cert.MixfwdKernelIdeal.main_arg2)
      ∧ m' ((c.tc : Thread Cert.MixfwdReferenceIdeal.nD Cert.MixfwdReferenceIdeal.τ).loc Cert.MixfwdReferenceIdeal.main_arg3) = m ((c.tc : Thread Cert.MixfwdKernelIdeal.nD Cert.MixfwdKernelIdeal.τ).loc Cert.MixfwdKernelIdeal.main_arg3)
      ∧ m' ((c.tc : Thread Cert.MixfwdReferenceIdeal.nD Cert.MixfwdReferenceIdeal.τ).loc Cert.MixfwdReferenceIdeal.main_arg4) = m ((c.tc : Thread Cert.MixfwdKernelIdeal.nD Cert.MixfwdKernelIdeal.τ).loc Cert.MixfwdKernelIdeal.main_arg4)
      ∧ m' ((c.tc : Thread Cert.MixfwdReferenceIdeal.nD Cert.MixfwdReferenceIdeal.τ).loc Cert.MixfwdReferenceIdeal.main_arg5) = m ((c.tc : Thread Cert.MixfwdKernelIdeal.nD Cert.MixfwdKernelIdeal.τ).loc Cert.MixfwdKernelIdeal.main_arg5)
      ∧ m' ((c.tc : Thread Cert.MixfwdReferenceIdeal.nD Cert.MixfwdReferenceIdeal.τ).loc Cert.MixfwdReferenceIdeal.main_arg6) = m ((c.tc : Thread Cert.MixfwdKernelIdeal.nD Cert.MixfwdKernelIdeal.τ).loc Cert.MixfwdKernelIdeal.main_arg6)) →
    ∃ (v0 : (c : Dev Cert.MixfwdKernelIdeal.nD) → Buf (Elt Ideal) ((c.tc : Thread Cert.MixfwdKernelIdeal.nD Cert.MixfwdKernelIdeal.τ).loc Cert.MixfwdKernelIdeal.main_v12_0)) (v1 : (c : Dev Cert.MixfwdKernelIdeal.nD) → Buf (Elt Ideal) ((c.tc : Thread Cert.MixfwdKernelIdeal.nD Cert.MixfwdKernelIdeal.τ).loc Cert.MixfwdKernelIdeal.main_v12_1)),
      θ_run (Cert.MixfwdKernelIdeal.defs (F := Ideal)) (onTc (τ := Cert.MixfwdKernelIdeal.τ) (Cert.MixfwdKernelIdeal.main (F := Ideal))) ⟨m, fun _ => 0, g⟩ (fun r => ∀ c : Dev Cert.MixfwdKernelIdeal.nD,
          r.2.mem ((c.tc : Thread Cert.MixfwdKernelIdeal.nD Cert.MixfwdKernelIdeal.τ).loc Cert.MixfwdKernelIdeal.main_v12_0) = v0 c
          ∧ r.2.mem ((c.tc : Thread Cert.MixfwdKernelIdeal.nD Cert.MixfwdKernelIdeal.τ).loc Cert.MixfwdKernelIdeal.main_v12_1) = v1 c
          ∧ r.2.mem ((c.tc : Thread Cert.MixfwdKernelIdeal.nD Cert.MixfwdKernelIdeal.τ).loc Cert.MixfwdKernelIdeal.main_arg0) = m ((c.tc : Thread Cert.MixfwdKernelIdeal.nD Cert.MixfwdKernelIdeal.τ).loc Cert.MixfwdKernelIdeal.main_arg0)
          ∧ r.2.mem ((c.tc : Thread Cert.MixfwdKernelIdeal.nD Cert.MixfwdKernelIdeal.τ).loc Cert.MixfwdKernelIdeal.main_arg1) = m ((c.tc : Thread Cert.MixfwdKernelIdeal.nD Cert.MixfwdKernelIdeal.τ).loc Cert.MixfwdKernelIdeal.main_arg1)
          ∧ r.2.mem ((c.tc : Thread Cert.MixfwdKernelIdeal.nD Cert.MixfwdKernelIdeal.τ).loc Cert.MixfwdKernelIdeal.main_arg2) = m ((c.tc : Thread Cert.MixfwdKernelIdeal.nD Cert.MixfwdKernelIdeal.τ).loc Cert.MixfwdKernelIdeal.main_arg2)
          ∧ r.2.mem ((c.tc : Thread Cert.MixfwdKernelIdeal.nD Cert.MixfwdKernelIdeal.τ).loc Cert.MixfwdKernelIdeal.main_arg3) = m ((c.tc : Thread Cert.MixfwdKernelIdeal.nD Cert.MixfwdKernelIdeal.τ).loc Cert.MixfwdKernelIdeal.main_arg3)
          ∧ r.2.mem ((c.tc : Thread Cert.MixfwdKernelIdeal.nD Cert.MixfwdKernelIdeal.τ).loc Cert.MixfwdKernelIdeal.main_arg4) = m ((c.tc : Thread Cert.MixfwdKernelIdeal.nD Cert.MixfwdKernelIdeal.τ).loc Cert.MixfwdKernelIdeal.main_arg4)
          ∧ r.2.mem ((c.tc : Thread Cert.MixfwdKernelIdeal.nD Cert.MixfwdKernelIdeal.τ).loc Cert.MixfwdKernelIdeal.main_arg5) = m ((c.tc : Thread Cert.MixfwdKernelIdeal.nD Cert.MixfwdKernelIdeal.τ).loc Cert.MixfwdKernelIdeal.main_arg5)
          ∧ r.2.mem ((c.tc : Thread Cert.MixfwdKernelIdeal.nD Cert.MixfwdKernelIdeal.τ).loc Cert.MixfwdKernelIdeal.main_arg6) = m ((c.tc : Thread Cert.MixfwdKernelIdeal.nD Cert.MixfwdKernelIdeal.τ).loc Cert.MixfwdKernelIdeal.main_arg6))
      ∧ θ_run (Cert.MixfwdReferenceIdeal.defs (F := Ideal)) (onTc (τ := Cert.MixfwdReferenceIdeal.τ) (Cert.MixfwdReferenceIdeal.main (F := Ideal))) ⟨m', fun _ => 0, g'⟩ (fun r => ∀ c : Dev Cert.MixfwdReferenceIdeal.nD,
          r.2.mem ((c.tc : Thread Cert.MixfwdReferenceIdeal.nD Cert.MixfwdReferenceIdeal.τ).loc Cert.MixfwdReferenceIdeal.main_v19) = v0 c
          ∧ r.2.mem ((c.tc : Thread Cert.MixfwdReferenceIdeal.nD Cert.MixfwdReferenceIdeal.τ).loc Cert.MixfwdReferenceIdeal.main_v21) = v1 c
          ∧ r.2.mem ((c.tc : Thread Cert.MixfwdReferenceIdeal.nD Cert.MixfwdReferenceIdeal.τ).loc Cert.MixfwdReferenceIdeal.main_arg0) = m' ((c.tc : Thread Cert.MixfwdReferenceIdeal.nD Cert.MixfwdReferenceIdeal.τ).loc Cert.MixfwdReferenceIdeal.main_arg0)
          ∧ r.2.mem ((c.tc : Thread Cert.MixfwdReferenceIdeal.nD Cert.MixfwdReferenceIdeal.τ).loc Cert.MixfwdReferenceIdeal.main_arg1) = m' ((c.tc : Thread Cert.MixfwdReferenceIdeal.nD Cert.MixfwdReferenceIdeal.τ).loc Cert.MixfwdReferenceIdeal.main_arg1)
          ∧ r.2.mem ((c.tc : Thread Cert.MixfwdReferenceIdeal.nD Cert.MixfwdReferenceIdeal.τ).loc Cert.MixfwdReferenceIdeal.main_arg2) = m' ((c.tc : Thread Cert.MixfwdReferenceIdeal.nD Cert.MixfwdReferenceIdeal.τ).loc Cert.MixfwdReferenceIdeal.main_arg2)
          ∧ r.2.mem ((c.tc : Thread Cert.MixfwdReferenceIdeal.nD Cert.MixfwdReferenceIdeal.τ).loc Cert.MixfwdReferenceIdeal.main_arg3) = m' ((c.tc : Thread Cert.MixfwdReferenceIdeal.nD Cert.MixfwdReferenceIdeal.τ).loc Cert.MixfwdReferenceIdeal.main_arg3)
          ∧ r.2.mem ((c.tc : Thread Cert.MixfwdReferenceIdeal.nD Cert.MixfwdReferenceIdeal.τ).loc Cert.MixfwdReferenceIdeal.main_arg4) = m' ((c.tc : Thread Cert.MixfwdReferenceIdeal.nD Cert.MixfwdReferenceIdeal.τ).loc Cert.MixfwdReferenceIdeal.main_arg4)
          ∧ r.2.mem ((c.tc : Thread Cert.MixfwdReferenceIdeal.nD Cert.MixfwdReferenceIdeal.τ).loc Cert.MixfwdReferenceIdeal.main_arg5) = m' ((c.tc : Thread Cert.MixfwdReferenceIdeal.nD Cert.MixfwdReferenceIdeal.τ).loc Cert.MixfwdReferenceIdeal.main_arg5)
          ∧ r.2.mem ((c.tc : Thread Cert.MixfwdReferenceIdeal.nD Cert.MixfwdReferenceIdeal.τ).loc Cert.MixfwdReferenceIdeal.main_arg6) = m' ((c.tc : Thread Cert.MixfwdReferenceIdeal.nD Cert.MixfwdReferenceIdeal.τ).loc Cert.MixfwdReferenceIdeal.main_arg6))

def preserves_FfnupKernel_FfnupKernelIdeal : Prop :=
  True

def algebraic_FfnupKernelIdeal_FfnupReferenceIdeal [hFfnupKernelIdeal : Cert.FfnupKernelIdeal.Facts] [hFfnupReferenceIdeal : Cert.FfnupReferenceIdeal.Facts] : Prop :=
  ∀ (m : (ℓ : Loc Cert.FfnupKernelIdeal.nD Cert.FfnupKernelIdeal.τ Cert.FfnupKernelIdeal.sig) → Buf (Elt Ideal) ℓ) (g : Dev Cert.FfnupKernelIdeal.nD → PrngReg)
    (m' : (ℓ : Loc Cert.FfnupReferenceIdeal.nD Cert.FfnupReferenceIdeal.τ Cert.FfnupReferenceIdeal.sig) → Buf (Elt Ideal) ℓ) (g' : Dev Cert.FfnupReferenceIdeal.nD → PrngReg), Pre_FfnupKernelIdeal m →
    (∀ c : Dev Cert.FfnupKernelIdeal.nD,
      m' ((c.tc : Thread Cert.FfnupReferenceIdeal.nD Cert.FfnupReferenceIdeal.τ).loc Cert.FfnupReferenceIdeal.main_arg0) = m ((c.tc : Thread Cert.FfnupKernelIdeal.nD Cert.FfnupKernelIdeal.τ).loc Cert.FfnupKernelIdeal.main_arg0)
      ∧ m' ((c.tc : Thread Cert.FfnupReferenceIdeal.nD Cert.FfnupReferenceIdeal.τ).loc Cert.FfnupReferenceIdeal.main_arg1) = m ((c.tc : Thread Cert.FfnupKernelIdeal.nD Cert.FfnupKernelIdeal.τ).loc Cert.FfnupKernelIdeal.main_arg1)
      ∧ m' ((c.tc : Thread Cert.FfnupReferenceIdeal.nD Cert.FfnupReferenceIdeal.τ).loc Cert.FfnupReferenceIdeal.main_arg2) = m ((c.tc : Thread Cert.FfnupKernelIdeal.nD Cert.FfnupKernelIdeal.τ).loc Cert.FfnupKernelIdeal.main_arg2)) →
    ∃ (v0 : (c : Dev Cert.FfnupKernelIdeal.nD) → Buf (Elt Ideal) ((c.tc : Thread Cert.FfnupKernelIdeal.nD Cert.FfnupKernelIdeal.τ).loc Cert.FfnupKernelIdeal.main_v7_0)) (v1 : (c : Dev Cert.FfnupKernelIdeal.nD) → Buf (Elt Ideal) ((c.tc : Thread Cert.FfnupKernelIdeal.nD Cert.FfnupKernelIdeal.τ).loc Cert.FfnupKernelIdeal.main_v7_1)),
      θ_run (Cert.FfnupKernelIdeal.defs (F := Ideal)) (onTc (τ := Cert.FfnupKernelIdeal.τ) (Cert.FfnupKernelIdeal.main (F := Ideal))) ⟨m, fun _ => 0, g⟩ (fun r => ∀ c : Dev Cert.FfnupKernelIdeal.nD,
          r.2.mem ((c.tc : Thread Cert.FfnupKernelIdeal.nD Cert.FfnupKernelIdeal.τ).loc Cert.FfnupKernelIdeal.main_v7_0) = v0 c
          ∧ r.2.mem ((c.tc : Thread Cert.FfnupKernelIdeal.nD Cert.FfnupKernelIdeal.τ).loc Cert.FfnupKernelIdeal.main_v7_1) = v1 c
          ∧ r.2.mem ((c.tc : Thread Cert.FfnupKernelIdeal.nD Cert.FfnupKernelIdeal.τ).loc Cert.FfnupKernelIdeal.main_arg0) = m ((c.tc : Thread Cert.FfnupKernelIdeal.nD Cert.FfnupKernelIdeal.τ).loc Cert.FfnupKernelIdeal.main_arg0)
          ∧ r.2.mem ((c.tc : Thread Cert.FfnupKernelIdeal.nD Cert.FfnupKernelIdeal.τ).loc Cert.FfnupKernelIdeal.main_arg1) = m ((c.tc : Thread Cert.FfnupKernelIdeal.nD Cert.FfnupKernelIdeal.τ).loc Cert.FfnupKernelIdeal.main_arg1)
          ∧ r.2.mem ((c.tc : Thread Cert.FfnupKernelIdeal.nD Cert.FfnupKernelIdeal.τ).loc Cert.FfnupKernelIdeal.main_arg2) = m ((c.tc : Thread Cert.FfnupKernelIdeal.nD Cert.FfnupKernelIdeal.τ).loc Cert.FfnupKernelIdeal.main_arg2))
      ∧ θ_run (Cert.FfnupReferenceIdeal.defs (F := Ideal)) (onTc (τ := Cert.FfnupReferenceIdeal.τ) (Cert.FfnupReferenceIdeal.main (F := Ideal))) ⟨m', fun _ => 0, g'⟩ (fun r => ∀ c : Dev Cert.FfnupReferenceIdeal.nD,
          r.2.mem ((c.tc : Thread Cert.FfnupReferenceIdeal.nD Cert.FfnupReferenceIdeal.τ).loc Cert.FfnupReferenceIdeal.main_v27) = v0 c
          ∧ r.2.mem ((c.tc : Thread Cert.FfnupReferenceIdeal.nD Cert.FfnupReferenceIdeal.τ).loc Cert.FfnupReferenceIdeal.main_v28) = v1 c
          ∧ r.2.mem ((c.tc : Thread Cert.FfnupReferenceIdeal.nD Cert.FfnupReferenceIdeal.τ).loc Cert.FfnupReferenceIdeal.main_arg0) = m' ((c.tc : Thread Cert.FfnupReferenceIdeal.nD Cert.FfnupReferenceIdeal.τ).loc Cert.FfnupReferenceIdeal.main_arg0)
          ∧ r.2.mem ((c.tc : Thread Cert.FfnupReferenceIdeal.nD Cert.FfnupReferenceIdeal.τ).loc Cert.FfnupReferenceIdeal.main_arg1) = m' ((c.tc : Thread Cert.FfnupReferenceIdeal.nD Cert.FfnupReferenceIdeal.τ).loc Cert.FfnupReferenceIdeal.main_arg1)
          ∧ r.2.mem ((c.tc : Thread Cert.FfnupReferenceIdeal.nD Cert.FfnupReferenceIdeal.τ).loc Cert.FfnupReferenceIdeal.main_arg2) = m' ((c.tc : Thread Cert.FfnupReferenceIdeal.nD Cert.FfnupReferenceIdeal.τ).loc Cert.FfnupReferenceIdeal.main_arg2))

def preserves_FfndownKernel_FfndownKernelIdeal : Prop :=
  True

def algebraic_FfndownKernelIdeal_FfndownReferenceIdeal [hFfndownKernelIdeal : Cert.FfndownKernelIdeal.Facts] [hFfndownReferenceIdeal : Cert.FfndownReferenceIdeal.Facts] : Prop :=
  ∀ (m : (ℓ : Loc Cert.FfndownKernelIdeal.nD Cert.FfndownKernelIdeal.τ Cert.FfndownKernelIdeal.sig) → Buf (Elt Ideal) ℓ) (g : Dev Cert.FfndownKernelIdeal.nD → PrngReg)
    (m' : (ℓ : Loc Cert.FfndownReferenceIdeal.nD Cert.FfndownReferenceIdeal.τ Cert.FfndownReferenceIdeal.sig) → Buf (Elt Ideal) ℓ) (g' : Dev Cert.FfndownReferenceIdeal.nD → PrngReg), Pre_FfndownKernelIdeal m →
    (∀ c : Dev Cert.FfndownKernelIdeal.nD,
      m' ((c.tc : Thread Cert.FfndownReferenceIdeal.nD Cert.FfndownReferenceIdeal.τ).loc Cert.FfndownReferenceIdeal.main_arg0) = m ((c.tc : Thread Cert.FfndownKernelIdeal.nD Cert.FfndownKernelIdeal.τ).loc Cert.FfndownKernelIdeal.main_arg0)
      ∧ m' ((c.tc : Thread Cert.FfndownReferenceIdeal.nD Cert.FfndownReferenceIdeal.τ).loc Cert.FfndownReferenceIdeal.main_arg1) = m ((c.tc : Thread Cert.FfndownKernelIdeal.nD Cert.FfndownKernelIdeal.τ).loc Cert.FfndownKernelIdeal.main_arg1)
      ∧ m' ((c.tc : Thread Cert.FfndownReferenceIdeal.nD Cert.FfndownReferenceIdeal.τ).loc Cert.FfndownReferenceIdeal.main_arg2) = m ((c.tc : Thread Cert.FfndownKernelIdeal.nD Cert.FfndownKernelIdeal.τ).loc Cert.FfndownKernelIdeal.main_arg2)) →
    ∃ (v0 : (c : Dev Cert.FfndownKernelIdeal.nD) → Buf (Elt Ideal) ((c.tc : Thread Cert.FfndownKernelIdeal.nD Cert.FfndownKernelIdeal.τ).loc Cert.FfndownKernelIdeal.main_v11)),
      θ_run (Cert.FfndownKernelIdeal.defs (F := Ideal)) (onTc (τ := Cert.FfndownKernelIdeal.τ) (Cert.FfndownKernelIdeal.main (F := Ideal))) ⟨m, fun _ => 0, g⟩ (fun r => ∀ c : Dev Cert.FfndownKernelIdeal.nD,
          r.2.mem ((c.tc : Thread Cert.FfndownKernelIdeal.nD Cert.FfndownKernelIdeal.τ).loc Cert.FfndownKernelIdeal.main_v11) = v0 c
          ∧ r.2.mem ((c.tc : Thread Cert.FfndownKernelIdeal.nD Cert.FfndownKernelIdeal.τ).loc Cert.FfndownKernelIdeal.main_arg0) = m ((c.tc : Thread Cert.FfndownKernelIdeal.nD Cert.FfndownKernelIdeal.τ).loc Cert.FfndownKernelIdeal.main_arg0)
          ∧ r.2.mem ((c.tc : Thread Cert.FfndownKernelIdeal.nD Cert.FfndownKernelIdeal.τ).loc Cert.FfndownKernelIdeal.main_arg1) = m ((c.tc : Thread Cert.FfndownKernelIdeal.nD Cert.FfndownKernelIdeal.τ).loc Cert.FfndownKernelIdeal.main_arg1)
          ∧ r.2.mem ((c.tc : Thread Cert.FfndownKernelIdeal.nD Cert.FfndownKernelIdeal.τ).loc Cert.FfndownKernelIdeal.main_arg2) = m ((c.tc : Thread Cert.FfndownKernelIdeal.nD Cert.FfndownKernelIdeal.τ).loc Cert.FfndownKernelIdeal.main_arg2))
      ∧ θ_run (Cert.FfndownReferenceIdeal.defs (F := Ideal)) (onTc (τ := Cert.FfndownReferenceIdeal.τ) (Cert.FfndownReferenceIdeal.main (F := Ideal))) ⟨m', fun _ => 0, g'⟩ (fun r => ∀ c : Dev Cert.FfndownReferenceIdeal.nD,
          r.2.mem ((c.tc : Thread Cert.FfndownReferenceIdeal.nD Cert.FfndownReferenceIdeal.τ).loc Cert.FfndownReferenceIdeal.main_v5) = v0 c
          ∧ r.2.mem ((c.tc : Thread Cert.FfndownReferenceIdeal.nD Cert.FfndownReferenceIdeal.τ).loc Cert.FfndownReferenceIdeal.main_arg0) = m' ((c.tc : Thread Cert.FfndownReferenceIdeal.nD Cert.FfndownReferenceIdeal.τ).loc Cert.FfndownReferenceIdeal.main_arg0)
          ∧ r.2.mem ((c.tc : Thread Cert.FfndownReferenceIdeal.nD Cert.FfndownReferenceIdeal.τ).loc Cert.FfndownReferenceIdeal.main_arg1) = m' ((c.tc : Thread Cert.FfndownReferenceIdeal.nD Cert.FfndownReferenceIdeal.τ).loc Cert.FfndownReferenceIdeal.main_arg1)
          ∧ r.2.mem ((c.tc : Thread Cert.FfndownReferenceIdeal.nD Cert.FfndownReferenceIdeal.τ).loc Cert.FfndownReferenceIdeal.main_arg2) = m' ((c.tc : Thread Cert.FfndownReferenceIdeal.nD Cert.FfndownReferenceIdeal.τ).loc Cert.FfndownReferenceIdeal.main_arg2))

def preserves_WgradfullKernel_WgradfullKernelIdeal : Prop :=
  True

def algebraic_WgradfullKernelIdeal_WgradfullReferenceIdeal [hWgradfullKernelIdeal : Cert.WgradfullKernelIdeal.Facts] [hWgradfullReferenceIdeal : Cert.WgradfullReferenceIdeal.Facts] : Prop :=
  ∀ (m : (ℓ : Loc Cert.WgradfullKernelIdeal.nD Cert.WgradfullKernelIdeal.τ Cert.WgradfullKernelIdeal.sig) → Buf (Elt Ideal) ℓ) (g : Dev Cert.WgradfullKernelIdeal.nD → PrngReg)
    (m' : (ℓ : Loc Cert.WgradfullReferenceIdeal.nD Cert.WgradfullReferenceIdeal.τ Cert.WgradfullReferenceIdeal.sig) → Buf (Elt Ideal) ℓ) (g' : Dev Cert.WgradfullReferenceIdeal.nD → PrngReg), Pre_WgradfullKernelIdeal m →
    (∀ c : Dev Cert.WgradfullKernelIdeal.nD,
      m' ((c.tc : Thread Cert.WgradfullReferenceIdeal.nD Cert.WgradfullReferenceIdeal.τ).loc Cert.WgradfullReferenceIdeal.main_arg0) = m ((c.tc : Thread Cert.WgradfullKernelIdeal.nD Cert.WgradfullKernelIdeal.τ).loc Cert.WgradfullKernelIdeal.main_arg0)
      ∧ m' ((c.tc : Thread Cert.WgradfullReferenceIdeal.nD Cert.WgradfullReferenceIdeal.τ).loc Cert.WgradfullReferenceIdeal.main_arg1) = m ((c.tc : Thread Cert.WgradfullKernelIdeal.nD Cert.WgradfullKernelIdeal.τ).loc Cert.WgradfullKernelIdeal.main_arg1)) →
    ∃ (v0 : (c : Dev Cert.WgradfullKernelIdeal.nD) → Buf (Elt Ideal) ((c.tc : Thread Cert.WgradfullKernelIdeal.nD Cert.WgradfullKernelIdeal.τ).loc Cert.WgradfullKernelIdeal.main_v3)),
      θ_run (Cert.WgradfullKernelIdeal.defs (F := Ideal)) (onTc (τ := Cert.WgradfullKernelIdeal.τ) (Cert.WgradfullKernelIdeal.main (F := Ideal))) ⟨m, fun _ => 0, g⟩ (fun r => ∀ c : Dev Cert.WgradfullKernelIdeal.nD,
          r.2.mem ((c.tc : Thread Cert.WgradfullKernelIdeal.nD Cert.WgradfullKernelIdeal.τ).loc Cert.WgradfullKernelIdeal.main_v3) = v0 c
          ∧ r.2.mem ((c.tc : Thread Cert.WgradfullKernelIdeal.nD Cert.WgradfullKernelIdeal.τ).loc Cert.WgradfullKernelIdeal.main_arg0) = m ((c.tc : Thread Cert.WgradfullKernelIdeal.nD Cert.WgradfullKernelIdeal.τ).loc Cert.WgradfullKernelIdeal.main_arg0)
          ∧ r.2.mem ((c.tc : Thread Cert.WgradfullKernelIdeal.nD Cert.WgradfullKernelIdeal.τ).loc Cert.WgradfullKernelIdeal.main_arg1) = m ((c.tc : Thread Cert.WgradfullKernelIdeal.nD Cert.WgradfullKernelIdeal.τ).loc Cert.WgradfullKernelIdeal.main_arg1))
      ∧ θ_run (Cert.WgradfullReferenceIdeal.defs (F := Ideal)) (onTc (τ := Cert.WgradfullReferenceIdeal.τ) (Cert.WgradfullReferenceIdeal.main (F := Ideal))) ⟨m', fun _ => 0, g'⟩ (fun r => ∀ c : Dev Cert.WgradfullReferenceIdeal.nD,
          r.2.mem ((c.tc : Thread Cert.WgradfullReferenceIdeal.nD Cert.WgradfullReferenceIdeal.τ).loc Cert.WgradfullReferenceIdeal.main_v4) = v0 c
          ∧ r.2.mem ((c.tc : Thread Cert.WgradfullReferenceIdeal.nD Cert.WgradfullReferenceIdeal.τ).loc Cert.WgradfullReferenceIdeal.main_arg0) = m' ((c.tc : Thread Cert.WgradfullReferenceIdeal.nD Cert.WgradfullReferenceIdeal.τ).loc Cert.WgradfullReferenceIdeal.main_arg0)
          ∧ r.2.mem ((c.tc : Thread Cert.WgradfullReferenceIdeal.nD Cert.WgradfullReferenceIdeal.τ).loc Cert.WgradfullReferenceIdeal.main_arg1) = m' ((c.tc : Thread Cert.WgradfullReferenceIdeal.nD Cert.WgradfullReferenceIdeal.τ).loc Cert.WgradfullReferenceIdeal.main_arg1))

def preserves_WgraddownKernel_WgraddownKernelIdeal : Prop :=
  True

def algebraic_WgraddownKernelIdeal_WgraddownReferenceIdeal [hWgraddownKernelIdeal : Cert.WgraddownKernelIdeal.Facts] [hWgraddownReferenceIdeal : Cert.WgraddownReferenceIdeal.Facts] : Prop :=
  ∀ (m : (ℓ : Loc Cert.WgraddownKernelIdeal.nD Cert.WgraddownKernelIdeal.τ Cert.WgraddownKernelIdeal.sig) → Buf (Elt Ideal) ℓ) (g : Dev Cert.WgraddownKernelIdeal.nD → PrngReg)
    (m' : (ℓ : Loc Cert.WgraddownReferenceIdeal.nD Cert.WgraddownReferenceIdeal.τ Cert.WgraddownReferenceIdeal.sig) → Buf (Elt Ideal) ℓ) (g' : Dev Cert.WgraddownReferenceIdeal.nD → PrngReg), Pre_WgraddownKernelIdeal m →
    (∀ c : Dev Cert.WgraddownKernelIdeal.nD,
      m' ((c.tc : Thread Cert.WgraddownReferenceIdeal.nD Cert.WgraddownReferenceIdeal.τ).loc Cert.WgraddownReferenceIdeal.main_arg0) = m ((c.tc : Thread Cert.WgraddownKernelIdeal.nD Cert.WgraddownKernelIdeal.τ).loc Cert.WgraddownKernelIdeal.main_arg0)
      ∧ m' ((c.tc : Thread Cert.WgraddownReferenceIdeal.nD Cert.WgraddownReferenceIdeal.τ).loc Cert.WgraddownReferenceIdeal.main_arg1) = m ((c.tc : Thread Cert.WgraddownKernelIdeal.nD Cert.WgraddownKernelIdeal.τ).loc Cert.WgraddownKernelIdeal.main_arg1)) →
    ∃ (v0 : (c : Dev Cert.WgraddownKernelIdeal.nD) → Buf (Elt Ideal) ((c.tc : Thread Cert.WgraddownKernelIdeal.nD Cert.WgraddownKernelIdeal.τ).loc Cert.WgraddownKernelIdeal.main_v7)),
      θ_run (Cert.WgraddownKernelIdeal.defs (F := Ideal)) (onTc (τ := Cert.WgraddownKernelIdeal.τ) (Cert.WgraddownKernelIdeal.main (F := Ideal))) ⟨m, fun _ => 0, g⟩ (fun r => ∀ c : Dev Cert.WgraddownKernelIdeal.nD,
          r.2.mem ((c.tc : Thread Cert.WgraddownKernelIdeal.nD Cert.WgraddownKernelIdeal.τ).loc Cert.WgraddownKernelIdeal.main_v7) = v0 c
          ∧ r.2.mem ((c.tc : Thread Cert.WgraddownKernelIdeal.nD Cert.WgraddownKernelIdeal.τ).loc Cert.WgraddownKernelIdeal.main_arg0) = m ((c.tc : Thread Cert.WgraddownKernelIdeal.nD Cert.WgraddownKernelIdeal.τ).loc Cert.WgraddownKernelIdeal.main_arg0)
          ∧ r.2.mem ((c.tc : Thread Cert.WgraddownKernelIdeal.nD Cert.WgraddownKernelIdeal.τ).loc Cert.WgraddownKernelIdeal.main_arg1) = m ((c.tc : Thread Cert.WgraddownKernelIdeal.nD Cert.WgraddownKernelIdeal.τ).loc Cert.WgraddownKernelIdeal.main_arg1))
      ∧ θ_run (Cert.WgraddownReferenceIdeal.defs (F := Ideal)) (onTc (τ := Cert.WgraddownReferenceIdeal.τ) (Cert.WgraddownReferenceIdeal.main (F := Ideal))) ⟨m', fun _ => 0, g'⟩ (fun r => ∀ c : Dev Cert.WgraddownReferenceIdeal.nD,
          r.2.mem ((c.tc : Thread Cert.WgraddownReferenceIdeal.nD Cert.WgraddownReferenceIdeal.τ).loc Cert.WgraddownReferenceIdeal.main_v7) = v0 c
          ∧ r.2.mem ((c.tc : Thread Cert.WgraddownReferenceIdeal.nD Cert.WgraddownReferenceIdeal.τ).loc Cert.WgraddownReferenceIdeal.main_arg0) = m' ((c.tc : Thread Cert.WgraddownReferenceIdeal.nD Cert.WgraddownReferenceIdeal.τ).loc Cert.WgraddownReferenceIdeal.main_arg0)
          ∧ r.2.mem ((c.tc : Thread Cert.WgraddownReferenceIdeal.nD Cert.WgraddownReferenceIdeal.τ).loc Cert.WgraddownReferenceIdeal.main_arg1) = m' ((c.tc : Thread Cert.WgraddownReferenceIdeal.nD Cert.WgraddownReferenceIdeal.τ).loc Cert.WgraddownReferenceIdeal.main_arg1))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v0_0)) (v1 : (c : Dev Cert.AdamwKernelIdeal.nD) → Buf (Elt Ideal) ((c.tc : Thread Cert.AdamwKernelIdeal.nD Cert.AdamwKernelIdeal.τ).loc Cert.AdamwKernelIdeal.main_v0_1)) (v2 : (c : Dev Cert.AdamwKernelIdeal.nD) → Buf (Elt Ideal) ((c.tc : Thread Cert.AdamwKernelIdeal.nD Cert.AdamwKernelIdeal.τ).loc Cert.AdamwKernelIdeal.main_v0_2)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v0_0) = v0 c
          ∧ r.2.mem ((c.tc : Thread Cert.AdamwKernelIdeal.nD Cert.AdamwKernelIdeal.τ).loc Cert.AdamwKernelIdeal.main_v0_1) = v1 c
          ∧ r.2.mem ((c.tc : Thread Cert.AdamwKernelIdeal.nD Cert.AdamwKernelIdeal.τ).loc Cert.AdamwKernelIdeal.main_v0_2) = v2 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def preserves_WgradinKernel_WgradinKernelIdeal : Prop :=
  True

def algebraic_WgradinKernelIdeal_WgradinReferenceIdeal [hWgradinKernelIdeal : Cert.WgradinKernelIdeal.Facts] [hWgradinReferenceIdeal : Cert.WgradinReferenceIdeal.Facts] : Prop :=
  ∀ (m : (ℓ : Loc Cert.WgradinKernelIdeal.nD Cert.WgradinKernelIdeal.τ Cert.WgradinKernelIdeal.sig) → Buf (Elt Ideal) ℓ) (g : Dev Cert.WgradinKernelIdeal.nD → PrngReg)
    (m' : (ℓ : Loc Cert.WgradinReferenceIdeal.nD Cert.WgradinReferenceIdeal.τ Cert.WgradinReferenceIdeal.sig) → Buf (Elt Ideal) ℓ) (g' : Dev Cert.WgradinReferenceIdeal.nD → PrngReg), Pre_WgradinKernelIdeal m →
    (∀ c : Dev Cert.WgradinKernelIdeal.nD,
      m' ((c.tc : Thread Cert.WgradinReferenceIdeal.nD Cert.WgradinReferenceIdeal.τ).loc Cert.WgradinReferenceIdeal.main_arg0) = m ((c.tc : Thread Cert.WgradinKernelIdeal.nD Cert.WgradinKernelIdeal.τ).loc Cert.WgradinKernelIdeal.main_arg0)
      ∧ m' ((c.tc : Thread Cert.WgradinReferenceIdeal.nD Cert.WgradinReferenceIdeal.τ).loc Cert.WgradinReferenceIdeal.main_arg1) = m ((c.tc : Thread Cert.WgradinKernelIdeal.nD Cert.WgradinKernelIdeal.τ).loc Cert.WgradinKernelIdeal.main_arg1)
      ∧ m' ((c.tc : Thread Cert.WgradinReferenceIdeal.nD Cert.WgradinReferenceIdeal.τ).loc Cert.WgradinReferenceIdeal.main_arg2) = m ((c.tc : Thread Cert.WgradinKernelIdeal.nD Cert.WgradinKernelIdeal.τ).loc Cert.WgradinKernelIdeal.main_arg2)
      ∧ m' ((c.tc : Thread Cert.WgradinReferenceIdeal.nD Cert.WgradinReferenceIdeal.τ).loc Cert.WgradinReferenceIdeal.main_arg3) = m ((c.tc : Thread Cert.WgradinKernelIdeal.nD Cert.WgradinKernelIdeal.τ).loc Cert.WgradinKernelIdeal.main_arg3)
      ∧ m' ((c.tc : Thread Cert.WgradinReferenceIdeal.nD Cert.WgradinReferenceIdeal.τ).loc Cert.WgradinReferenceIdeal.main_arg4) = m ((c.tc : Thread Cert.WgradinKernelIdeal.nD Cert.WgradinKernelIdeal.τ).loc Cert.WgradinKernelIdeal.main_arg4)
      ∧ m' ((c.tc : Thread Cert.WgradinReferenceIdeal.nD Cert.WgradinReferenceIdeal.τ).loc Cert.WgradinReferenceIdeal.main_arg5) = m ((c.tc : Thread Cert.WgradinKernelIdeal.nD Cert.WgradinKernelIdeal.τ).loc Cert.WgradinKernelIdeal.main_arg5)) →
    ∃ (v0 : (c : Dev Cert.WgradinKernelIdeal.nD) → Buf (Elt Ideal) ((c.tc : Thread Cert.WgradinKernelIdeal.nD Cert.WgradinKernelIdeal.τ).loc Cert.WgradinKernelIdeal.main_v12)),
      θ_run (Cert.WgradinKernelIdeal.defs (F := Ideal)) (onTc (τ := Cert.WgradinKernelIdeal.τ) (Cert.WgradinKernelIdeal.main (F := Ideal))) ⟨m, fun _ => 0, g⟩ (fun r => ∀ c : Dev Cert.WgradinKernelIdeal.nD,
          r.2.mem ((c.tc : Thread Cert.WgradinKernelIdeal.nD Cert.WgradinKernelIdeal.τ).loc Cert.WgradinKernelIdeal.main_v12) = v0 c
          ∧ r.2.mem ((c.tc : Thread Cert.WgradinKernelIdeal.nD Cert.WgradinKernelIdeal.τ).loc Cert.WgradinKernelIdeal.main_arg0) = m ((c.tc : Thread Cert.WgradinKernelIdeal.nD Cert.WgradinKernelIdeal.τ).loc Cert.WgradinKernelIdeal.main_arg0)
          ∧ r.2.mem ((c.tc : Thread Cert.WgradinKernelIdeal.nD Cert.WgradinKernelIdeal.τ).loc Cert.WgradinKernelIdeal.main_arg1) = m ((c.tc : Thread Cert.WgradinKernelIdeal.nD Cert.WgradinKernelIdeal.τ).loc Cert.WgradinKernelIdeal.main_arg1)
          ∧ r.2.mem ((c.tc : Thread Cert.WgradinKernelIdeal.nD Cert.WgradinKernelIdeal.τ).loc Cert.WgradinKernelIdeal.main_arg2) = m ((c.tc : Thread Cert.WgradinKernelIdeal.nD Cert.WgradinKernelIdeal.τ).loc Cert.WgradinKernelIdeal.main_arg2)
          ∧ r.2.mem ((c.tc : Thread Cert.WgradinKernelIdeal.nD Cert.WgradinKernelIdeal.τ).loc Cert.WgradinKernelIdeal.main_arg3) = m ((c.tc : Thread Cert.WgradinKernelIdeal.nD Cert.WgradinKernelIdeal.τ).loc Cert.WgradinKernelIdeal.main_arg3)
          ∧ r.2.mem ((c.tc : Thread Cert.WgradinKernelIdeal.nD Cert.WgradinKernelIdeal.τ).loc Cert.WgradinKernelIdeal.main_arg4) = m ((c.tc : Thread Cert.WgradinKernelIdeal.nD Cert.WgradinKernelIdeal.τ).loc Cert.WgradinKernelIdeal.main_arg4)
          ∧ r.2.mem ((c.tc : Thread Cert.WgradinKernelIdeal.nD Cert.WgradinKernelIdeal.τ).loc Cert.WgradinKernelIdeal.main_arg5) = m ((c.tc : Thread Cert.WgradinKernelIdeal.nD Cert.WgradinKernelIdeal.τ).loc Cert.WgradinKernelIdeal.main_arg5))
      ∧ θ_run (Cert.WgradinReferenceIdeal.defs (F := Ideal)) (onTc (τ := Cert.WgradinReferenceIdeal.τ) (Cert.WgradinReferenceIdeal.main (F := Ideal))) ⟨m', fun _ => 0, g'⟩ (fun r => ∀ c : Dev Cert.WgradinReferenceIdeal.nD,
          r.2.mem ((c.tc : Thread Cert.WgradinReferenceIdeal.nD Cert.WgradinReferenceIdeal.τ).loc Cert.WgradinReferenceIdeal.main_v7) = v0 c
          ∧ r.2.mem ((c.tc : Thread Cert.WgradinReferenceIdeal.nD Cert.WgradinReferenceIdeal.τ).loc Cert.WgradinReferenceIdeal.main_arg0) = m' ((c.tc : Thread Cert.WgradinReferenceIdeal.nD Cert.WgradinReferenceIdeal.τ).loc Cert.WgradinReferenceIdeal.main_arg0)
          ∧ r.2.mem ((c.tc : Thread Cert.WgradinReferenceIdeal.nD Cert.WgradinReferenceIdeal.τ).loc Cert.WgradinReferenceIdeal.main_arg1) = m' ((c.tc : Thread Cert.WgradinReferenceIdeal.nD Cert.WgradinReferenceIdeal.τ).loc Cert.WgradinReferenceIdeal.main_arg1)
          ∧ r.2.mem ((c.tc : Thread Cert.WgradinReferenceIdeal.nD Cert.WgradinReferenceIdeal.τ).loc Cert.WgradinReferenceIdeal.main_arg2) = m' ((c.tc : Thread Cert.WgradinReferenceIdeal.nD Cert.WgradinReferenceIdeal.τ).loc Cert.WgradinReferenceIdeal.main_arg2)
          ∧ r.2.mem ((c.tc : Thread Cert.WgradinReferenceIdeal.nD Cert.WgradinReferenceIdeal.τ).loc Cert.WgradinReferenceIdeal.main_arg3) = m' ((c.tc : Thread Cert.WgradinReferenceIdeal.nD Cert.WgradinReferenceIdeal.τ).loc Cert.WgradinReferenceIdeal.main_arg3)
          ∧ r.2.mem ((c.tc : Thread Cert.WgradinReferenceIdeal.nD Cert.WgradinReferenceIdeal.τ).loc Cert.WgradinReferenceIdeal.main_arg4) = m' ((c.tc : Thread Cert.WgradinReferenceIdeal.nD Cert.WgradinReferenceIdeal.τ).loc Cert.WgradinReferenceIdeal.main_arg4)
          ∧ r.2.mem ((c.tc : Thread Cert.WgradinReferenceIdeal.nD Cert.WgradinReferenceIdeal.τ).loc Cert.WgradinReferenceIdeal.main_arg5) = m' ((c.tc : Thread Cert.WgradinReferenceIdeal.nD Cert.WgradinReferenceIdeal.τ).loc Cert.WgradinReferenceIdeal.main_arg5))

def preserves_WgradguKernel_WgradguKernelIdeal : Prop :=
  True

def algebraic_WgradguKernelIdeal_WgradguReferenceIdeal [hWgradguKernelIdeal : Cert.WgradguKernelIdeal.Facts] [hWgradguReferenceIdeal : Cert.WgradguReferenceIdeal.Facts] : Prop :=
  ∀ (m : (ℓ : Loc Cert.WgradguKernelIdeal.nD Cert.WgradguKernelIdeal.τ Cert.WgradguKernelIdeal.sig) → Buf (Elt Ideal) ℓ) (g : Dev Cert.WgradguKernelIdeal.nD → PrngReg)
    (m' : (ℓ : Loc Cert.WgradguReferenceIdeal.nD Cert.WgradguReferenceIdeal.τ Cert.WgradguReferenceIdeal.sig) → Buf (Elt Ideal) ℓ) (g' : Dev Cert.WgradguReferenceIdeal.nD → PrngReg), Pre_WgradguKernelIdeal m →
    (∀ c : Dev Cert.WgradguKernelIdeal.nD,
      m' ((c.tc : Thread Cert.WgradguReferenceIdeal.nD Cert.WgradguReferenceIdeal.τ).loc Cert.WgradguReferenceIdeal.main_arg0) = m ((c.tc : Thread Cert.WgradguKernelIdeal.nD Cert.WgradguKernelIdeal.τ).loc Cert.WgradguKernelIdeal.main_arg0)
      ∧ m' ((c.tc : Thread Cert.WgradguReferenceIdeal.nD Cert.WgradguReferenceIdeal.τ).loc Cert.WgradguReferenceIdeal.main_arg1) = m ((c.tc : Thread Cert.WgradguKernelIdeal.nD Cert.WgradguKernelIdeal.τ).loc Cert.WgradguKernelIdeal.main_arg1)) →
    ∃ (v0 : (c : Dev Cert.WgradguKernelIdeal.nD) → Buf (Elt Ideal) ((c.tc : Thread Cert.WgradguKernelIdeal.nD Cert.WgradguKernelIdeal.τ).loc Cert.WgradguKernelIdeal.main_v8)),
      θ_run (Cert.WgradguKernelIdeal.defs (F := Ideal)) (onTc (τ := Cert.WgradguKernelIdeal.τ) (Cert.WgradguKernelIdeal.main (F := Ideal))) ⟨m, fun _ => 0, g⟩ (fun r => ∀ c : Dev Cert.WgradguKernelIdeal.nD,
          r.2.mem ((c.tc : Thread Cert.WgradguKernelIdeal.nD Cert.WgradguKernelIdeal.τ).loc Cert.WgradguKernelIdeal.main_v8) = v0 c
          ∧ r.2.mem ((c.tc : Thread Cert.WgradguKernelIdeal.nD Cert.WgradguKernelIdeal.τ).loc Cert.WgradguKernelIdeal.main_arg0) = m ((c.tc : Thread Cert.WgradguKernelIdeal.nD Cert.WgradguKernelIdeal.τ).loc Cert.WgradguKernelIdeal.main_arg0)
          ∧ r.2.mem ((c.tc : Thread Cert.WgradguKernelIdeal.nD Cert.WgradguKernelIdeal.τ).loc Cert.WgradguKernelIdeal.main_arg1) = m ((c.tc : Thread Cert.WgradguKernelIdeal.nD Cert.WgradguKernelIdeal.τ).loc Cert.WgradguKernelIdeal.main_arg1))
      ∧ θ_run (Cert.WgradguReferenceIdeal.defs (F := Ideal)) (onTc (τ := Cert.WgradguReferenceIdeal.τ) (Cert.WgradguReferenceIdeal.main (F := Ideal))) ⟨m', fun _ => 0, g'⟩ (fun r => ∀ c : Dev Cert.WgradguReferenceIdeal.nD,
          r.2.mem ((c.tc : Thread Cert.WgradguReferenceIdeal.nD Cert.WgradguReferenceIdeal.τ).loc Cert.WgradguReferenceIdeal.main_v8) = v0 c
          ∧ r.2.mem ((c.tc : Thread Cert.WgradguReferenceIdeal.nD Cert.WgradguReferenceIdeal.τ).loc Cert.WgradguReferenceIdeal.main_arg0) = m' ((c.tc : Thread Cert.WgradguReferenceIdeal.nD Cert.WgradguReferenceIdeal.τ).loc Cert.WgradguReferenceIdeal.main_arg0)
          ∧ r.2.mem ((c.tc : Thread Cert.WgradguReferenceIdeal.nD Cert.WgradguReferenceIdeal.τ).loc Cert.WgradguReferenceIdeal.main_arg1) = m' ((c.tc : Thread Cert.WgradguReferenceIdeal.nD Cert.WgradguReferenceIdeal.τ).loc Cert.WgradguReferenceIdeal.main_arg1))

def preserves_SumdevKernel_SumdevKernelIdeal : Prop :=
  True

def algebraic_SumdevKernelIdeal_SumdevReferenceIdeal [hSumdevKernelIdeal : Cert.SumdevKernelIdeal.Facts] [hSumdevReferenceIdeal : Cert.SumdevReferenceIdeal.Facts] : Prop :=
  ∀ (m : (ℓ : Loc Cert.SumdevKernelIdeal.nD Cert.SumdevKernelIdeal.τ Cert.SumdevKernelIdeal.sig) → Buf (Elt Ideal) ℓ) (g : Dev Cert.SumdevKernelIdeal.nD → PrngReg)
    (m' : (ℓ : Loc Cert.SumdevReferenceIdeal.nD Cert.SumdevReferenceIdeal.τ Cert.SumdevReferenceIdeal.sig) → Buf (Elt Ideal) ℓ) (g' : Dev Cert.SumdevReferenceIdeal.nD → PrngReg), Pre_SumdevKernelIdeal m →
    (∀ c : Dev Cert.SumdevKernelIdeal.nD,
      m' ((c.tc : Thread Cert.SumdevReferenceIdeal.nD Cert.SumdevReferenceIdeal.τ).loc Cert.SumdevReferenceIdeal.main_arg0) = m ((c.tc : Thread Cert.SumdevKernelIdeal.nD Cert.SumdevKernelIdeal.τ).loc Cert.SumdevKernelIdeal.main_arg0)
      ∧ m' ((c.tc : Thread Cert.SumdevReferenceIdeal.nD Cert.SumdevReferenceIdeal.τ).loc Cert.SumdevReferenceIdeal.main_arg1) = m ((c.tc : Thread Cert.SumdevKernelIdeal.nD Cert.SumdevKernelIdeal.τ).loc Cert.SumdevKernelIdeal.main_arg1)) →
    ∃ (v0 : (c : Dev Cert.SumdevKernelIdeal.nD) → Buf (Elt Ideal) ((c.tc : Thread Cert.SumdevKernelIdeal.nD Cert.SumdevKernelIdeal.τ).loc Cert.SumdevKernelIdeal.main_v0)),
      θ_run (Cert.SumdevKernelIdeal.defs (F := Ideal)) (onTc (τ := Cert.SumdevKernelIdeal.τ) (Cert.SumdevKernelIdeal.main (F := Ideal))) ⟨m, fun _ => 0, g⟩ (fun r => ∀ c : Dev Cert.SumdevKernelIdeal.nD,
          r.2.mem ((c.tc : Thread Cert.SumdevKernelIdeal.nD Cert.SumdevKernelIdeal.τ).loc Cert.SumdevKernelIdeal.main_v0) = v0 c
          ∧ r.2.mem ((c.tc : Thread Cert.SumdevKernelIdeal.nD Cert.SumdevKernelIdeal.τ).loc Cert.SumdevKernelIdeal.main_arg0) = m ((c.tc : Thread Cert.SumdevKernelIdeal.nD Cert.SumdevKernelIdeal.τ).loc Cert.SumdevKernelIdeal.main_arg0)
          ∧ r.2.mem ((c.tc : Thread Cert.SumdevKernelIdeal.nD Cert.SumdevKernelIdeal.τ).loc Cert.SumdevKernelIdeal.main_arg1) = m ((c.tc : Thread Cert.SumdevKernelIdeal.nD Cert.SumdevKernelIdeal.τ).loc Cert.SumdevKernelIdeal.main_arg1))
      ∧ θ_run (Cert.SumdevReferenceIdeal.defs (F := Ideal)) (onTc (τ := Cert.SumdevReferenceIdeal.τ) (Cert.SumdevReferenceIdeal.main (F := Ideal))) ⟨m', fun _ => 0, g'⟩ (fun r => ∀ c : Dev Cert.SumdevReferenceIdeal.nD,
          r.2.mem ((c.tc : Thread Cert.SumdevReferenceIdeal.nD Cert.SumdevReferenceIdeal.τ).loc Cert.SumdevReferenceIdeal.main_v0) = v0 c
          ∧ r.2.mem ((c.tc : Thread Cert.SumdevReferenceIdeal.nD Cert.SumdevReferenceIdeal.τ).loc Cert.SumdevReferenceIdeal.main_arg0) = m' ((c.tc : Thread Cert.SumdevReferenceIdeal.nD Cert.SumdevReferenceIdeal.τ).loc Cert.SumdevReferenceIdeal.main_arg0)
          ∧ r.2.mem ((c.tc : Thread Cert.SumdevReferenceIdeal.nD Cert.SumdevReferenceIdeal.τ).loc Cert.SumdevReferenceIdeal.main_arg1) = m' ((c.tc : Thread Cert.SumdevReferenceIdeal.nD Cert.SumdevReferenceIdeal.τ).loc Cert.SumdevReferenceIdeal.main_arg1))

def Claim : Prop :=
  ∃ (hMixKernel : Cert.MixKernel.Facts) (hMixKernelIdeal : Cert.MixKernelIdeal.Facts) (hMixReferenceIdeal : Cert.MixReferenceIdeal.Facts) (hAttnKernel : Cert.AttnKernel.Facts) (hAttnKernelIdeal : Cert.AttnKernelIdeal.Facts) (hAttnReferenceIdeal : Cert.AttnReferenceIdeal.Facts) (hInprojKernel : Cert.InprojKernel.Facts) (hInprojKernelIdeal : Cert.InprojKernelIdeal.Facts) (hInprojReferenceIdeal : Cert.InprojReferenceIdeal.Facts) (hLossKernel : Cert.LossKernel.Facts) (hLossKernelIdeal : Cert.LossKernelIdeal.Facts) (hLossReferenceIdeal : Cert.LossReferenceIdeal.Facts) (hPoolKernel : Cert.PoolKernel.Facts) (hPoolKernelIdeal : Cert.PoolKernelIdeal.Facts) (hPoolReferenceIdeal : Cert.PoolReferenceIdeal.Facts) (hPoolfwdKernel : Cert.PoolfwdKernel.Facts) (hPoolfwdKernelIdeal : Cert.PoolfwdKernelIdeal.Facts) (hPoolfwdReferenceIdeal : Cert.PoolfwdReferenceIdeal.Facts) (hMixfwdKernel : Cert.MixfwdKernel.Facts) (hMixfwdKernelIdeal : Cert.MixfwdKernelIdeal.Facts) (hMixfwdReferenceIdeal : Cert.MixfwdReferenceIdeal.Facts) (hFfnupKernel : Cert.FfnupKernel.Facts) (hFfnupKernelIdeal : Cert.FfnupKernelIdeal.Facts) (hFfnupReferenceIdeal : Cert.FfnupReferenceIdeal.Facts) (hFfndownKernel : Cert.FfndownKernel.Facts) (hFfndownKernelIdeal : Cert.FfndownKernelIdeal.Facts) (hFfndownReferenceIdeal : Cert.FfndownReferenceIdeal.Facts) (hWgradfullKernel : Cert.WgradfullKernel.Facts) (hWgradfullKernelIdeal : Cert.WgradfullKernelIdeal.Facts) (hWgradfullReferenceIdeal : Cert.WgradfullReferenceIdeal.Facts) (hWgraddownKernel : Cert.WgraddownKernel.Facts) (hWgraddownKernelIdeal : Cert.WgraddownKernelIdeal.Facts) (hWgraddownReferenceIdeal : Cert.WgraddownReferenceIdeal.Facts) (hAdamwKernel : Cert.AdamwKernel.Facts) (hAdamwKernelIdeal : Cert.AdamwKernelIdeal.Facts) (hAdamwReferenceIdeal : Cert.AdamwReferenceIdeal.Facts) (hWgradinKernel : Cert.WgradinKernel.Facts) (hWgradinKernelIdeal : Cert.WgradinKernelIdeal.Facts) (hWgradinReferenceIdeal : Cert.WgradinReferenceIdeal.Facts) (hWgradguKernel : Cert.WgradguKernel.Facts) (hWgradguKernelIdeal : Cert.WgradguKernelIdeal.Facts) (hWgradguReferenceIdeal : Cert.WgradguReferenceIdeal.Facts) (hSumdevKernel : Cert.SumdevKernel.Facts) (hSumdevKernelIdeal : Cert.SumdevKernelIdeal.Facts) (hSumdevReferenceIdeal : Cert.SumdevReferenceIdeal.Facts) (hPre_finite_attn : Cert.Pre_finite_attn.Facts) (hPre_finite_inproj : Cert.Pre_finite_inproj.Facts) (hPre_finite_loss : Cert.Pre_finite_loss.Facts) (hPre_finite_pool : Cert.Pre_finite_pool.Facts) (hPre_finite_poolfwd : Cert.Pre_finite_poolfwd.Facts),
    quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_InprojKernel (hInprojKernel := hInprojKernel)
    ∧ quiescent_InprojKernelIdeal (hInprojKernelIdeal := hInprojKernelIdeal)
    ∧ quiescent_InprojKernelIdeal_pre_finite_inproj (hInprojKernelIdeal := hInprojKernelIdeal) (hPre_finite_inproj := hPre_finite_inproj)
    ∧ quiescent_InprojReferenceIdeal (hInprojReferenceIdeal := hInprojReferenceIdeal)
    ∧ quiescent_InprojReferenceIdeal_pre_finite_inproj (hInprojReferenceIdeal := hInprojReferenceIdeal) (hPre_finite_inproj := hPre_finite_inproj)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_PoolKernel (hPoolKernel := hPoolKernel)
    ∧ quiescent_PoolKernelIdeal (hPoolKernelIdeal := hPoolKernelIdeal)
    ∧ quiescent_PoolKernelIdeal_pre_finite_pool (hPoolKernelIdeal := hPoolKernelIdeal) (hPre_finite_pool := hPre_finite_pool)
    ∧ quiescent_PoolReferenceIdeal (hPoolReferenceIdeal := hPoolReferenceIdeal)
    ∧ quiescent_PoolReferenceIdeal_pre_finite_pool (hPoolReferenceIdeal := hPoolReferenceIdeal) (hPre_finite_pool := hPre_finite_pool)
    ∧ quiescent_PoolfwdKernel (hPoolfwdKernel := hPoolfwdKernel)
    ∧ quiescent_PoolfwdKernelIdeal (hPoolfwdKernelIdeal := hPoolfwdKernelIdeal)
    ∧ quiescent_PoolfwdKernelIdeal_pre_finite_poolfwd (hPoolfwdKernelIdeal := hPoolfwdKernelIdeal) (hPre_finite_poolfwd := hPre_finite_poolfwd)
    ∧ quiescent_PoolfwdReferenceIdeal (hPoolfwdReferenceIdeal := hPoolfwdReferenceIdeal)
    ∧ quiescent_PoolfwdReferenceIdeal_pre_finite_poolfwd (hPoolfwdReferenceIdeal := hPoolfwdReferenceIdeal) (hPre_finite_poolfwd := hPre_finite_poolfwd)
    ∧ quiescent_MixfwdKernel (hMixfwdKernel := hMixfwdKernel)
    ∧ quiescent_MixfwdKernelIdeal (hMixfwdKernelIdeal := hMixfwdKernelIdeal)
    ∧ quiescent_MixfwdReferenceIdeal (hMixfwdReferenceIdeal := hMixfwdReferenceIdeal)
    ∧ quiescent_FfnupKernel (hFfnupKernel := hFfnupKernel)
    ∧ quiescent_FfnupKernelIdeal (hFfnupKernelIdeal := hFfnupKernelIdeal)
    ∧ quiescent_FfnupReferenceIdeal (hFfnupReferenceIdeal := hFfnupReferenceIdeal)
    ∧ quiescent_FfndownKernel (hFfndownKernel := hFfndownKernel)
    ∧ quiescent_FfndownKernelIdeal (hFfndownKernelIdeal := hFfndownKernelIdeal)
    ∧ quiescent_FfndownReferenceIdeal (hFfndownReferenceIdeal := hFfndownReferenceIdeal)
    ∧ quiescent_WgradfullKernel (hWgradfullKernel := hWgradfullKernel)
    ∧ quiescent_WgradfullKernelIdeal (hWgradfullKernelIdeal := hWgradfullKernelIdeal)
    ∧ quiescent_WgradfullReferenceIdeal (hWgradfullReferenceIdeal := hWgradfullReferenceIdeal)
    ∧ quiescent_WgraddownKernel (hWgraddownKernel := hWgraddownKernel)
    ∧ quiescent_WgraddownKernelIdeal (hWgraddownKernelIdeal := hWgraddownKernelIdeal)
    ∧ quiescent_WgraddownReferenceIdeal (hWgraddownReferenceIdeal := hWgraddownReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_WgradinKernel (hWgradinKernel := hWgradinKernel)
    ∧ quiescent_WgradinKernelIdeal (hWgradinKernelIdeal := hWgradinKernelIdeal)
    ∧ quiescent_WgradinReferenceIdeal (hWgradinReferenceIdeal := hWgradinReferenceIdeal)
    ∧ quiescent_WgradguKernel (hWgradguKernel := hWgradguKernel)
    ∧ quiescent_WgradguKernelIdeal (hWgradguKernelIdeal := hWgradguKernelIdeal)
    ∧ quiescent_WgradguReferenceIdeal (hWgradguReferenceIdeal := hWgradguReferenceIdeal)
    ∧ quiescent_SumdevKernel (hSumdevKernel := hSumdevKernel)
    ∧ quiescent_SumdevKernelIdeal (hSumdevKernelIdeal := hSumdevKernelIdeal)
    ∧ quiescent_SumdevReferenceIdeal (hSumdevReferenceIdeal := hSumdevReferenceIdeal)
    ∧ preserves_MixKernel_MixKernelIdeal
    ∧ algebraic_MixKernelIdeal_MixReferenceIdeal (hMixKernelIdeal := hMixKernelIdeal) (hMixReferenceIdeal := hMixReferenceIdeal)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_InprojKernel_InprojKernelIdeal
    ∧ algebraic_InprojKernelIdeal_InprojReferenceIdeal_pre_finite_inproj (hInprojKernelIdeal := hInprojKernelIdeal) (hInprojReferenceIdeal := hInprojReferenceIdeal) (hPre_finite_inproj := hPre_finite_inproj)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_PoolKernel_PoolKernelIdeal
    ∧ algebraic_PoolKernelIdeal_PoolReferenceIdeal_pre_finite_pool (hPoolKernelIdeal := hPoolKernelIdeal) (hPoolReferenceIdeal := hPoolReferenceIdeal) (hPre_finite_pool := hPre_finite_pool)
    ∧ preserves_PoolfwdKernel_PoolfwdKernelIdeal
    ∧ algebraic_PoolfwdKernelIdeal_PoolfwdReferenceIdeal_pre_finite_poolfwd (hPoolfwdKernelIdeal := hPoolfwdKernelIdeal) (hPoolfwdReferenceIdeal := hPoolfwdReferenceIdeal) (hPre_finite_poolfwd := hPre_finite_poolfwd)
    ∧ preserves_MixfwdKernel_MixfwdKernelIdeal
    ∧ algebraic_MixfwdKernelIdeal_MixfwdReferenceIdeal (hMixfwdKernelIdeal := hMixfwdKernelIdeal) (hMixfwdReferenceIdeal := hMixfwdReferenceIdeal)
    ∧ preserves_FfnupKernel_FfnupKernelIdeal
    ∧ algebraic_FfnupKernelIdeal_FfnupReferenceIdeal (hFfnupKernelIdeal := hFfnupKernelIdeal) (hFfnupReferenceIdeal := hFfnupReferenceIdeal)
    ∧ preserves_FfndownKernel_FfndownKernelIdeal
    ∧ algebraic_FfndownKernelIdeal_FfndownReferenceIdeal (hFfndownKernelIdeal := hFfndownKernelIdeal) (hFfndownReferenceIdeal := hFfndownReferenceIdeal)
    ∧ preserves_WgradfullKernel_WgradfullKernelIdeal
    ∧ algebraic_WgradfullKernelIdeal_WgradfullReferenceIdeal (hWgradfullKernelIdeal := hWgradfullKernelIdeal) (hWgradfullReferenceIdeal := hWgradfullReferenceIdeal)
    ∧ preserves_WgraddownKernel_WgraddownKernelIdeal
    ∧ algebraic_WgraddownKernelIdeal_WgraddownReferenceIdeal (hWgraddownKernelIdeal := hWgraddownKernelIdeal) (hWgraddownReferenceIdeal := hWgraddownReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_WgradinKernel_WgradinKernelIdeal
    ∧ algebraic_WgradinKernelIdeal_WgradinReferenceIdeal (hWgradinKernelIdeal := hWgradinKernelIdeal) (hWgradinReferenceIdeal := hWgradinReferenceIdeal)
    ∧ preserves_WgradguKernel_WgradguKernelIdeal
    ∧ algebraic_WgradguKernelIdeal_WgradguReferenceIdeal (hWgradguKernelIdeal := hWgradguKernelIdeal) (hWgradguReferenceIdeal := hWgradguReferenceIdeal)
    ∧ preserves_SumdevKernel_SumdevKernelIdeal
    ∧ algebraic_SumdevKernelIdeal_SumdevReferenceIdeal (hSumdevKernelIdeal := hSumdevKernelIdeal) (hSumdevReferenceIdeal := hSumdevReferenceIdeal)
-- ==== Pre_finite_attn.lean ====
abbrev S1x2048x4096 : Shape := ⟨3, ![1, 2048, 4096]⟩
abbrev S1x2048x512 : Shape := ⟨3, ![1, 2048, 512]⟩
abbrev S128x1024 : Shape := ⟨2, ![128, 1024]⟩
abbrev S1x2048x1536 : Shape := ⟨3, ![1, 2048, 1536]⟩
abbrev S_ : Shape := ⟨0, ![]⟩

class Facts : Prop where
  slices_S1x2048x4096_S1x2048x1536_0_0_512 : S1x2048x4096.Slices ![0, 0, 512] S1x2048x1536
  bcast_S_S1x2048x1536 : S_.BroadcastsInDim S1x2048x1536 (![] : Fin 0 → Fin S1x2048x1536.rank)
  bcast_S_S1x2048x512 : S_.BroadcastsInDim S1x2048x512 (![] : Fin 0 → Fin S1x2048x512.rank)

variable [Facts]

def fn {F : FTy → Type} [FloatOps F] (main_arg0 : FVec F S1x2048x4096 .f32) (main_arg1 : FVec F S1x2048x512 .f32) (main_arg2 : FVec F S128x1024 .f32) : IVec S1x2048x1536 1 × IVec S1x2048x512 1 :=
  let main_v0 : FVec F S1x2048x1536 .f32 := (extractStridedSlice S1x2048x1536 ![0, 0, 512] · slices_S1x2048x4096_S1x2048x1536_0_0_512) main_arg0
  let main_v1 : FVec F S1x2048x1536 .f32 := Host.absf main_v0
  let main_cst : FVec F S_ .f32 := constant S_ .f32 0x7F800000#32
  let main_v2 : FVec F S1x2048x1536 .f32 := broadcastInDim S1x2048x1536 ![] bcast_S_S1x2048x1536 main_cst
  let main_v3 : IVec S1x2048x1536 1 := cmpf .olt main_v1 main_v2
  let main_v4 : FVec F S1x2048x512 .f32 := Host.absf main_arg1
  let main_cst_0 : FVec F S_ .f32 := constant S_ .f32 0x7F800000#32
  let main_v5 : FVec F S1x2048x512 .f32 := broadcastInDim S1x2048x512 ![] bcast_S_S1x2048x512 main_cst_0
  let main_v6 : IVec S1x2048x512 1 := cmpf .olt main_v4 main_v5
  (main_v3, main_v6)
-- ==== Pre_finite_inproj.lean ====
abbrev S1x2048x512 : Shape := ⟨3, ![1, 2048, 512]⟩
abbrev S1x2048x2048 : Shape := ⟨3, ![1, 2048, 2048]⟩
abbrev S1x2048x1024 : Shape := ⟨3, ![1, 2048, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S1x2048x512 : S_.BroadcastsInDim S1x2048x512 (![] : Fin 0 → Fin S1x2048x512.rank)
  bcast_S_S1x2048x2048 : S_.BroadcastsInDim S1x2048x2048 (![] : Fin 0 → Fin S1x2048x2048.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)

variable [Facts]

def fn_part1 {F : FTy → Type} [FloatOps F] (main_arg7 : FVec F S1x1024 .f32) (main_arg8 : FVec F S1x1024x4096 .f32) (main_v2 : IVec S1x2048x512 1) (main_v5 : IVec S1x2048x512 1) (main_v8 : IVec S1x2048x512 1) (main_v11 : IVec S1x2048x512 1) (main_v14 : IVec S1x2048x2048 1) (main_v17 : IVec S1x2048x1024 1) : IVec S1x2048x512 1 × IVec S1x2048x512 1 × IVec S1x2048x512 1 × IVec S1x2048x512 1 × IVec S1x2048x2048 1 × IVec S1x2048x1024 1 × IVec S1x1024 1 × IVec S1x1024x4096 1 :=
  let main_v18 : FVec F S1x1024 .f32 := Host.absf main_arg7
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024x4096 .f32 := Host.absf main_arg8
  let main_cst_6 : FVec F S_ .f32 := constant S_ .f32 0x7F800000#32
  let main_v22 : FVec F S1x1024x4096 .f32 := broadcastInDim S1x1024x4096 ![] bcast_S_S1x1024x4096 main_cst_6
  let main_v23 : IVec S1x1024x4096 1 := cmpf .olt main_v21 main_v22
  (main_v2, main_v5, main_v8, main_v11, main_v14, main_v17, main_v20, main_v23)

def fn {F : FTy → Type} [FloatOps F] (main_arg0 : FVec F S1x2048x512 .f32) (main_arg1 : FVec F S1x2048x512 .f32) (main_arg2 : FVec F S1x2048x512 .f32) (main_arg3 : FVec F S1x2048x512 .f32) (main_arg4 : FVec F S1x2048x2048 .f32) (main_arg5 : FVec F S1x2048x1024 .f32) (main_arg6 : FVec F S1x2048x1024 .f32) (main_arg7 : FVec F S1x1024 .f32) (main_arg8 : FVec F S1x1024x4096 .f32) : IVec S1x2048x512 1 × IVec S1x2048x512 1 × IVec S1x2048x512 1 × IVec S1x2048x512 1 × IVec S1x2048x2048 1 × IVec S1x2048x1024 1 × IVec S1x1024 1 × IVec S1x1024x4096 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_v3 : FVec F S1x2048x512 .f32 := Host.absf main_arg1
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S1x2048x512 .f32 := Host.absf main_arg2
  let main_cst_1 : FVec F S_ .f32 := constant S_ .f32 0x7F800000#32
  let main_v7 : FVec F S1x2048x512 .f32 := broadcastInDim S1x2048x512 ![] bcast_S_S1x2048x512 main_cst_1
  let main_v8 : IVec S1x2048x512 1 := cmpf .olt main_v6 main_v7
  let main_v9 : FVec F S1x2048x512 .f32 := Host.absf main_arg3
  let main_cst_2 : FVec F S_ .f32 := constant S_ .f32 0x7F800000#32
  let main_v10 : FVec F S1x2048x512 .f32 := broadcastInDim S1x2048x512 ![] bcast_S_S1x2048x512 main_cst_2
  let main_v11 : IVec S1x2048x512 1 := cmpf .olt main_v9 main_v10
  let main_v12 : FVec F S1x2048x2048 .f32 := Host.absf main_arg4
  let main_cst_3 : FVec F S_ .f32 := constant S_ .f32 0x7F800000#32
  let main_v13 : FVec F S1x2048x2048 .f32 := broadcastInDim S1x2048x2048 ![] bcast_S_S1x2048x2048 main_cst_3
  let main_v14 : IVec S1x2048x2048 1 := cmpf .olt main_v12 main_v13
  let main_v15 : FVec F S1x2048x1024 .f32 := Host.absf main_arg6
  let main_cst_4 : FVec F S_ .f32 := constant S_ .f32 0x7F800000#32
  let main_v16 : FVec F S1x2048x1024 .f32 := broadcastInDim S1x2048x1024 ![] bcast_S_S1x2048x1024 main_cst_4
  let main_v17 : IVec S1x2048x1024 1 := cmpf .olt main_v15 main_v16
  fn_part1 (F := F) main_arg7 main_arg8 main_v2 main_v5 main_v8 main_v11 main_v14 main_v17
-- ==== Pre_finite_loss.lean ====
abbrev S1x2048x1024 : Shape := ⟨3, ![1, 2048, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1024 : S_.BroadcastsInDim S1024 (![] : Fin 0 → Fin S1024.rank)

variable [Facts]

def fn {F : FTy → Type} [FloatOps F] (main_arg0 : FVec F S1x2048x1024 .f32) (main_arg1 : FVec F S1x2048x1024 .f32) (main_arg2 : FVec F S1024 .f32) : IVec S1x2048x1024 1 × IVec S1x2048x1024 1 × IVec S1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_pool.lean ====
abbrev S1x2048x512 : Shape := ⟨3, ![1, 2048, 512]⟩
abbrev S1x2048x4096 : Shape := ⟨3, ![1, 2048, 4096]⟩
abbrev S1x4x128x128 : Shape := ⟨4, ![1, 4, 128, 128]⟩
abbrev S1x512 : Shape := ⟨2, ![1, 512]⟩
abbrev S_ : Shape := ⟨0, ![]⟩

class Facts : Prop where
  slices_S1x2048x4096_S1x2048x512_0_0_0 : S1x2048x4096.Slices ![0, 0, 0] S1x2048x512
  bcast_S_S1x2048x512 : S_.BroadcastsInDim S1x2048x512 (![] : Fin 0 → Fin S1x2048x512.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S1x2048x512 .f32) (main_arg1 : FVec F S1x2048x4096 .f32) (main_arg2 : FVec F S1x4x128x128 .f32) (main_arg3 : FVec F S1x512 .f32) : IVec S1x2048x512 1 × IVec S1x2048x512 1 × IVec S1x4x128x128 1 × IVec S1x512 1 :=
  let main_v0 : FVec F S1x2048x512 .f32 := (extractStridedSlice S1x2048x512 ![0, 0, 0] · slices_S1x2048x4096_S1x2048x512_0_0_0) main_arg1
  let main_v1 : FVec F S1x2048x512 .f32 := Host.absf main_arg0
  let main_cst : FVec F S_ .f32 := constant S_ .f32 0x7F800000#32
  let main_v2 : FVec F S1x2048x512 .f32 := broadcastInDim S1x2048x512 ![] bcast_S_S1x2048x512 main_cst
  let main_v3 : IVec S1x2048x512 1 := cmpf .olt main_v1 main_v2
  let main_v4 : FVec F S1x2048x512 .f32 := Host.absf main_v0
  let main_cst_0 : FVec F S_ .f32 := constant S_ .f32 0x7F800000#32
  let main_v5 : FVec F S1x2048x512 .f32 := broadcastInDim S1x2048x512 ![] bcast_S_S1x2048x512 main_cst_0
  let main_v6 : IVec S1x2048x512 1 := cmpf .olt main_v4 main_v5
  let main_v7 : FVec F S1x4x128x128 .f32 := Host.absf main_arg2
  let main_cst_1 : FVec F S_ .f32 := constant S_ .f32 0x7F800000#32
  let main_v8 : FVec F S1x4x128x128 .f32 := broadcastInDim S1x4x128x128 ![] bcast_S_S1x4x128x128 main_cst_1
  let main_v9 : IVec S1x4x128x128 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  (main_v3, main_v6, main_v9, main_v12)
-- ==== Pre_finite_poolfwd.lean ====
abbrev S1x2048x4096 : Shape := ⟨3, ![1, 2048, 4096]⟩
abbrev S1x4x128x128 : Shape := ⟨4, ![1, 4, 128, 128]⟩
abbrev S1x512 : Shape := ⟨2, ![1, 512]⟩
abbrev S1x2048x512 : Shape := ⟨3, ![1, 2048, 512]⟩
abbrev S_ : Shape := ⟨0, ![]⟩

class Facts : Prop where
  slices_S1x2048x4096_S1x2048x512_0_0_0 : S1x2048x4096.Slices ![0, 0, 0] S1x2048x512
  bcast_S_S1x2048x512 : S_.BroadcastsInDim S1x2048x512 (![] : Fin 0 → Fin S1x2048x512.rank)

variable [Facts]

def fn {F : FTy → Type} [FloatOps F] (main_arg0 : FVec F S1x2048x4096 .f32) (main_arg1 : FVec F S1x4x128x128 .f32) (main_arg2 : FVec F S1x512 .f32) : IVec S1x2048x512 1 :=
  let main_v0 : FVec F S1x2048x512 .f32 := (extractStridedSlice S1x2048x512 ![0, 0, 0] · slices_S1x2048x4096_S1x2048x512_0_0_0) main_arg0
  let main_v1 : FVec F S1x2048x512 .f32 := Host.absf main_v0
  let main_cst : FVec F S_ .f32 := constant S_ .f32 0x7F800000#32
  let main_v2 : FVec F S1x2048x512 .f32 := broadcastInDim S1x2048x512 ![] bcast_S_S1x2048x512 main_cst
  let main_v3 : IVec S1x2048x512 1 := cmpf .olt main_v1 main_v2
  main_v3
-- ==== MixKernel.lean ====
abbrev S1x2048x1024 : Shape := ⟨3, ![1, 2048, 1024]⟩
abbrev S1x2048x512 : Shape := ⟨3, ![1, 2048, 512]⟩
abbrev S1x2048x4096 : Shape := ⟨3, ![1, 2048, 4096]⟩
abbrev S1x512x1024 : Shape := ⟨3, ![1, 512, 1024]⟩
abbrev S1x1024x1024 : Shape := ⟨3, ![1, 1024, 1024]⟩
abbrev S768x1024 : Shape := ⟨2, ![768, 1024]⟩
abbrev S2048x1024 : Shape := ⟨2, ![2048, 1024]⟩
abbrev S2048x512 : Shape := ⟨2, ![2048, 512]⟩
abbrev S2048x4096 : Shape := ⟨2, ![2048, 4096]⟩
abbrev S512x1024 : Shape := ⟨2, ![512, 1024]⟩
abbrev S1024x512 : Shape := ⟨2, ![1024, 512]⟩
abbrev S1024x1024 : Shape := ⟨2, ![1024, 1024]⟩
abbrev S2048x2048 : Shape := ⟨2, ![2048, 2048]⟩
abbrev S512x512 : Shape := ⟨2, ![512, 512]⟩
abbrev S512x2048 : Shape := ⟨2, ![512, 2048]⟩
abbrev S256x1024 : Shape := ⟨2, ![256, 1024]⟩
abbrev S256x512 : Shape := ⟨2, ![256, 512]⟩

abbrev nBuf : Space → Nat
  | .hbm => 25
  | .vmem => 23
  | .smem => 0
  | _ => 0

abbrev bufTy : (tb : Table) → Fin (tcTables nBuf tb) → BufTy
  | .hbm, ⟨0, _⟩ => ⟨S1x2048x1024, .f32⟩
  | .hbm, ⟨1, _⟩ => ⟨S1x2048x512, .f32⟩
  | .hbm, ⟨2, _⟩ => ⟨S1x2048x512, .f32⟩
  | .hbm, ⟨3, _⟩ => ⟨S1x2048x4096, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S768x1024, .f32⟩
  | .hbm, ⟨8, _⟩ => ⟨S2048x1024, .f32⟩
  | .hbm, ⟨9, _⟩ => ⟨S2048x512, .f32⟩
  | .hbm, ⟨10, _⟩ => ⟨S2048x512, .f32⟩
  | .hbm, ⟨11, _⟩ => ⟨S2048x4096, .f32⟩
  | .hbm, ⟨12, _⟩ => ⟨S512x1024, .f32⟩
  | .hbm, ⟨13, _⟩ => ⟨S1024x512, .f32⟩
  | .hbm, ⟨14, _⟩ => ⟨S1024x512, .bf16⟩
  | .hbm, ⟨15, _⟩ => ⟨S512x1024, .f32⟩
  | .hbm, ⟨16, _⟩ => ⟨S1024x512, .f32⟩
  | .hbm, ⟨17, _⟩ => ⟨S1024x512, .bf16⟩
  | .hbm, ⟨18, _⟩ => ⟨S1024x1024, .f32⟩
  | .hbm, ⟨19, _⟩ => ⟨S1024x1024, .bf16⟩
  | .hbm, ⟨20, _⟩ => ⟨S2048x1024, .bf16⟩
  | .hbm, ⟨21, _⟩ => ⟨S2048x1024, .bf16⟩
  | .hbm, ⟨22, _⟩ => ⟨S2048x512, .f32⟩
  | .hbm, ⟨23, _⟩ => ⟨S2048x512, .f32⟩
  | .hbm, ⟨24, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x2048, .bf16⟩
  | .local _ .vmem, ⟨22, _⟩ => ⟨S512x2048, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixReferenceIdeal.lean ====
abbrev S1x2048x1024 : Shape := ⟨3, ![1, 2048, 1024]⟩
abbrev S1x2048x512 : Shape := ⟨3, ![1, 2048, 512]⟩
abbrev S1x2048x4096 : Shape := ⟨3, ![1, 2048, 4096]⟩
abbrev S1x512x1024 : Shape := ⟨3, ![1, 512, 1024]⟩
abbrev S1x1024x1024 : Shape := ⟨3, ![1, 1024, 1024]⟩
abbrev S768x1024 : Shape := ⟨2, ![768, 1024]⟩
abbrev S1x2048x2048 : Shape := ⟨3, ![1, 2048, 2048]⟩
abbrev S512x1024 : Shape := ⟨2, ![512, 1024]⟩
abbrev S_ : Shape := ⟨0, ![]⟩
abbrev S1024x1024 : Shape := ⟨2, ![1024, 1024]⟩
abbrev S2048x1024 : Shape := ⟨2, ![2048, 1024]⟩
abbrev S2048x512 : Shape := ⟨2, ![2048, 512]⟩
abbrev S2048x2048 : Shape := ⟨2, ![2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x512, .f32⟩
  | .hbm, ⟨2, _⟩ => ⟨S1x2048x512, .f32⟩
  | .hbm, ⟨3, _⟩ => ⟨S1x2048x4096, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S768x1024, .f32⟩
  | .hbm, ⟨8, _⟩ => ⟨S1x2048x2048, .f32⟩
  | .hbm, ⟨9, _⟩ => ⟨S512x1024, .f32⟩
  | .hbm, ⟨10, _⟩ => ⟨S1x2048x1024, .f32⟩
  | .hbm, ⟨11, _⟩ => ⟨S512x1024, .f32⟩
  | .hbm, ⟨12, _⟩ => ⟨S1x2048x1024, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1024x1024, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S1x2048x2048, .f32⟩
  | .hbm, ⟨38, _⟩ => ⟨S1x2048x2048, .f32⟩
  | .hbm, ⟨39, _⟩ => ⟨S1x2048x512, .f32⟩
  | .hbm, ⟨40, _⟩ => ⟨S1x2048x512, .f32⟩
  | .hbm, ⟨41, _⟩ => ⟨S2048x1024, .f32⟩
  | .hbm, ⟨42, _⟩ => ⟨S2048x1024, .bf16⟩
  | .hbm, ⟨43, _⟩ => ⟨S2048x1024, .f32⟩
  | .hbm, ⟨44, _⟩ => ⟨S2048x1024, .bf16⟩
  | .hbm, ⟨45, _⟩ => ⟨S2048x512, .f32⟩
  | .hbm, ⟨46, _⟩ => ⟨S2048x512, .f32⟩
  | .hbm, ⟨47, _⟩ => ⟨S2048x2048, .f32⟩
  | .hbm, ⟨48, _⟩ => ⟨S2048x2048, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== AttnKernel.lean ====
abbrev S1x2048x4096 : Shape := ⟨3, ![1, 2048, 4096]⟩
abbrev S1x2048x512 : Shape := ⟨3, ![1, 2048, 512]⟩
abbrev S128x1024 : Shape := ⟨2, ![128, 1024]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S8x2048 : Shape := ⟨2, ![8, 2048]⟩
abbrev S2048x8 : Shape := ⟨2, ![2048, 8]⟩
abbrev S2048x8x1 : Shape := ⟨3, ![2048, 8, 1]⟩
abbrev S2048x8x64 : Shape := ⟨3, ![2048, 8, 64]⟩
abbrev S2048x512 : Shape := ⟨2, ![2048, 512]⟩
abbrev S2048x4096 : Shape := ⟨2, ![2048, 4096]⟩
abbrev S256x128 : Shape := ⟨2, ![256, 128]⟩
abbrev S2048x128 : Shape := ⟨2, ![2048, 128]⟩
abbrev S8x128x256 : Shape := ⟨3, ![8, 128, 256]⟩
abbrev S128x256 : Shape := ⟨2, ![128, 256]⟩
abbrev S1x128x256 : Shape := ⟨3, ![1, 128, 256]⟩
abbrev S256 : Shape := ⟨1, ![256]⟩
abbrev S256x1 : Shape := ⟨2, ![256, 1]⟩
abbrev S256x256 : Shape := ⟨2, ![256, 256]⟩
abbrev S512x256 : Shape := ⟨2, ![512, 256]⟩
abbrev S32x256 : Shape := ⟨2, ![32, 256]⟩
abbrev S32 : Shape := ⟨1, ![32]⟩
abbrev S32x1 : Shape := ⟨2, ![32, 1]⟩
abbrev S256x512 : Shape := ⟨2, ![256, 512]⟩

abbrev nBuf : Space → Nat
  | .hbm => 54
  | .vmem => 21
  | .smem => 0
  | _ => 0

abbrev bufTy : (tb : Table) → Fin (tcTables nBuf tb) → BufTy
  | .hbm, ⟨0, _⟩ => ⟨S1x2048x4096, .f32⟩
  | .hbm, ⟨1, _⟩ => ⟨S1x2048x512, .f32⟩
  | .hbm, ⟨2, _⟩ => ⟨S128x1024, .f32⟩
  | .hbm, ⟨3, _⟩ => ⟨S1x2048x512, .f32⟩
  | .hbm, ⟨4, _⟩ => ⟨S1x2048x512, .f32⟩
  | .hbm, ⟨5, _⟩ => ⟨S1x2048x8x64, .f32⟩
  | .hbm, ⟨6, _⟩ => ⟨S1x8x2048x64, .f32⟩
  | .hbm, ⟨7, _⟩ => ⟨S1x2048x8x64, .f32⟩
  | .hbm, ⟨8, _⟩ => ⟨S1x8x2048x64, .f32⟩
  | .hbm, ⟨9, _⟩ => ⟨S1x8x2048x2048, .f32⟩
  | .hbm, ⟨10, _⟩ => ⟨S_, .f32⟩
  | .hbm, ⟨11, _⟩ => ⟨S1x8x2048x2048, .f32⟩
  | .hbm, ⟨12, _⟩ => ⟨S1x8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S1x8x2048x2048, .f32⟩
  | .hbm, ⟨21, _⟩ => ⟨S1x8x2048x2048, .f32⟩
  | .hbm, ⟨22, _⟩ => ⟨S_, .f32⟩
  | .hbm, ⟨23, _⟩ => ⟨S1x8x2048x2048, .f32⟩
  | .hbm, ⟨24, _⟩ => ⟨S1x8x2048x2048, .f32⟩
  | .hbm, ⟨25, _⟩ => ⟨S1x8x2048x2048, .f32⟩
  | .hbm, ⟨26, _⟩ => ⟨S1x8x2048x2048, .f32⟩
  | .hbm, ⟨27, _⟩ => ⟨S1x8x2048x2048, .i1⟩
  | .hbm, ⟨28, _⟩ => ⟨S1x8x2048x2048, .f32⟩
  | .hbm, ⟨29, _⟩ => ⟨S1x8x2048x2048, .f32⟩
  | .hbm, ⟨30, _⟩ => ⟨S1x8x2048x2048, .f32⟩
  | .hbm, ⟨31, _⟩ => ⟨S1x8x2048x2048, .f32⟩
  | .hbm, ⟨32, _⟩ => ⟨S1x8x2048x2048, .f32⟩
  | .hbm, ⟨33, _⟩ => ⟨S1x8x2048x2048, .f32⟩
  | .hbm, ⟨34, _⟩ => ⟨S1x8x2048x2048, .f32⟩
  | .hbm, ⟨35, _⟩ => ⟨S1x8x2048x2048, .f32⟩
  | .hbm, ⟨36, _⟩ => ⟨S1x8x2048x2048, .f32⟩
  | .hbm, ⟨37, _⟩ => ⟨S_, .f32⟩
  | .hbm, ⟨38, _⟩ => ⟨S_, .f32⟩
  | .hbm, ⟨39, _⟩ => ⟨S1x8x2048x2048, .i1⟩
  | .hbm, ⟨40, _⟩ => ⟨S1x8x2048x2048, .f32⟩
  | .hbm, ⟨41, _⟩ => ⟨S1x8x2048x2048, .f32⟩
  | .hbm, ⟨42, _⟩ => ⟨S_, .f32⟩
  | .hbm, ⟨43, _⟩ => ⟨S1x8x2048, .f32⟩
  | .hbm, ⟨44, _⟩ => ⟨S8x2048, .f32⟩
  | .hbm, ⟨45, _⟩ => ⟨S2048x8, .f32⟩
  | .hbm, ⟨46, _⟩ => ⟨S2048x8x1, .f32⟩
  | .hbm, ⟨47, _⟩ => ⟨S2048x8x64, .f32⟩
  | .hbm, ⟨48, _⟩ => ⟨S2048x512, .f32⟩
  | .hbm, ⟨49, _⟩ => ⟨S2048x4096, .f32⟩
  | .hbm, ⟨50, _⟩ => ⟨S2048x512, .f32⟩
  | .hbm, ⟨51, _⟩ => ⟨S2048x512, .bf16⟩
  | .hbm, ⟨52, _⟩ => ⟨S2048x512, .bf16⟩
  | .hbm, ⟨53, _⟩ => ⟨S2048x512, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S8x128x256, .bf16⟩
  | .local _ .vmem, ⟨18, _⟩ => ⟨S8x128x256, .bf16⟩
  | .local _ .vmem, ⟨19, _⟩ => ⟨S8x128x256, .f32⟩
  | .local _ .vmem, ⟨20, _⟩ => ⟨S8x128x256, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_19 : BitVec 32 := 0#32
  let c1_i32 : BitVec 32 := 1#32
  let arg1 : BitVec 32 := BitVec.ofNat 32 (i 1).val
  let v61 : BitVec 32 := Scalar.muli c1_i32 arg1
  let v62 : BitVec 32 := Scalar.subi v61 c0_i32_19
  let c1_i32_20 : BitVec 32 := 1#32
  let v64 : BitVec 32 := Scalar.divsi v62 c1_i32_20
  let v65 : BitVec 32 := Scalar.muli v64 c1_i32_20
  let v66 : BitVec 32 := Scalar.addi c0_i32_19 v65
  let c1_i32_21 : BitVec 32 := 1#32
  ⟨c0_i32_19, v66, c1_i32_21⟩
def k0_mult1 (i : grid0.Coords) (k0_t1 : Fin (k0_t1_loop i).trips) : BitVec 32 :=
  let c0_i32_19 : BitVec 32 := 0#32
  let c1_i32_21 : BitVec 32 := 1#32
  let arg16 : BitVec 32 := Scf.iv c0_i32_19 c1_i32_21 k0_t1
  let c256_i32_215 : BitVec 32 := 256#32
  let v1116 : BitVec 32 := Scalar.muli arg16 c256_i32_215
  v1116
def k0_off1 (i : grid0.Coords) (k0_t1 : Fin (k0_t1_loop i).trips) : Fin 2 → Nat :=
  let c0_i32_19 : BitVec 32 := 0#32
  let c1_i32_21 : BitVec 32 := 1#32
  let arg16 : BitVec 32 := Scf.iv c0_i32_19 c1_i32_21 k0_t1
  let c256_i32_215 : BitVec 32 := 256#32
  let v1116 : BitVec 32 := Scalar.muli arg16 c256_i32_215
  let v1117 : BitVec 32 := v1116
  let v1118 : Index := Scalar.indexCast v1117
  let c0_216 : Index := 0#32
  ![v1118.toNat, 0]
def k0_off2 (i : grid0.Coords) (k0_t1 : Fin (k0_t1_loop i).trips) : Fin 3 → Nat :=
  let c0_i32_19 : BitVec 32 := 0#32
  let c1_i32_21 : BitVec 32 := 1#32
  let arg16 : BitVec 32 := Scf.iv c0_i32_19 c1_i32_21 k0_t1
  let v1120 : Index := Scalar.indexCast arg16
  let c0_217 : Index := 0#32
  let c0_218 : Index := 0#32
  ![v1120.toNat, 0, 0]
@[reducible] def k0_t2_loop (i : grid0.Coords) : Scf.Loop 32 :=
  let c0_i32_19 : BitVec 32 := 0#32
  let c1_i32 : BitVec 32 := 1#32
  let arg1 : BitVec 32 := BitVec.ofNat 32 (i 1).val
  let v61 : BitVec 32 := Scalar.muli c1_i32 arg1
  let v62 : BitVec 32 := Scalar.subi v61 c0_i32_19
  let c1_i32_20 : BitVec 32 := 1#32
  let v64 : BitVec 32 := Scalar.divsi v62 c1_i32_20
  let v65 : BitVec 32 := Scalar.muli v64 c1_i32_20
  let v66 : BitVec 32 := Scalar.addi c0_i32_19 v65
  let v63 : BitVec 32 := Scalar.addi c0_i32_19 v62
  let c1_i32_22 : BitVec 32 := 1#32
  ⟨v66, v63, c1_i32_22⟩
def k0_mult2 (i : grid0.Coords) (k0_t2 : Fin (k0_t2_loop i).trips) : BitVec 32 :=
  let c0_i32_19 : BitVec 32 := 0#32
  let c1_i32 : BitVec 32 := 1#32
  let arg1 : BitVec 32 := BitVec.ofNat 32 (i 1).val
  let v61 : BitVec 32 := Scalar.muli c1_i32 arg1
  let v62 : BitVec 32 := Scalar.subi v61 c0_i32_19
  let c1_i32_20 : BitVec 32 := 1#32
  let v64 : BitVec 32 := Scalar.divsi v62 c1_i32_20
  let v65 : BitVec 32 := Scalar.muli v64 c1_i32_20
  let v66 : BitVec 32 := Scalar.addi c0_i32_19 v65
  let c1_i32_22 : BitVec 32 := 1#32
  let arg16 : BitVec 32 := Scf.iv v66 c1_i32_22 k0_t2
  let c256_i32_215 : BitVec 32 := 256#32
  let v1116 : BitVec 32 := Scalar.muli arg16 c256_i32_215
  v1116
def k0_off3 (i : grid0.Coords) (k0_t2 : Fin (k0_t2_loop i).trips) : Fin 2 → Nat :=
  let c0_i32_19 : BitVec 32 := 0#32
  let c1_i32 : BitVec 32 := 1#32
  let arg1 : BitVec 32 := BitVec.ofNat 32 (i 1).val
  let v61 : BitVec 32 := Scalar.muli c1_i32 arg1
  let v62 : BitVec 32 := Scalar.subi v61 c0_i32_19
  let c1_i32_20 : BitVec 32 := 1#32
  let v64 : BitVec 32 := Scalar.divsi v62 c1_i32_20
  let v65 : BitVec 32 := Scalar.muli v64 c1_i32_20
  let v66 : BitVec 32 := Scalar.addi c0_i32_19 v65
  let c1_i32_22 : BitVec 32 := 1#32
  let arg16 : BitVec 32 := Scf.iv v66 c1_i32_22 k0_t2
  let c256_i32_215 : BitVec 32 := 256#32
  let v1116 : BitVec 32 := Scalar.muli arg16 c256_i32_215
  let v1117 : BitVec 32 := v1116
  let v1118 : Index := Scalar.indexCast v1117
  let c0_216 : Index := 0#32
  ![v1118.toNat, 0]
def k0_off4 (i : grid0.Coords) (k0_t2 : Fin (k0_t2_loop i).trips) : Fin 3 → Nat :=
  let c0_i32_19 : BitVec 32 := 0#32
  let c1_i32 : BitVec 32 := 1#32
  let arg1 : BitVec 32 := BitVec.ofNat 32 (i 1).val
  let v61 : BitVec 32 := Scalar.muli c1_i32 arg1
  let v62 : BitVec 32 := Scalar.subi v61 c0_i32_19
  let c1_i32_20 : BitVec 32 := 1#32
  let v64 : BitVec 32 := Scalar.divsi v62 c1_i32_20
  let v65 : BitVec 32 := Scalar.muli v64 c1_i32_20
  let v66 : BitVec 32 := Scalar.addi c0_i32_19 v65
  let c1_i32_22 : BitVec 32 := 1#32
  let arg16 : BitVec 32 := Scf.iv v66 c1_i32_22 k0_t2
  let v1120 : Index := Scalar.indexCast arg16
  let c0_217 : Index := 0#32
  let c0_218 : Index := 0#32
  ![v1120.toNat, 0, 0]
def k0_mult3 (i : grid0.Coords) : BitVec 32 :=
  let c1_i32 : BitVec 32 := 1#32
  let arg1 : BitVec 32 := BitVec.ofNat 32 (i 1).val
  let v61 : BitVec 32 := Scalar.muli c1_i32 arg1
  let c0_i32_23 : BitVec 32 := 0#32
  let v69 : BitVec 32 := Scalar.addi v61 c0_i32_23
  let c256_i32 : BitVec 32 := 256#32
  let v70 : BitVec 32 := Scalar.muli v69 c256_i32
  v70
def k0_off5 (i : grid0.Coords) : Fin 2 → Nat :=
  let c1_i32 : BitVec 32 := 1#32
  let arg1 : BitVec 32 := BitVec.ofNat 32 (i 1).val
  let v61 : BitVec 32 := Scalar.muli c1_i32 arg1
  let c0_i32_23 : BitVec 32 := 0#32
  let v69 : BitVec 32 := Scalar.addi v61 c0_i32_23
  let c256_i32 : BitVec 32 := 256#32
  let v70 : BitVec 32 := Scalar.muli v69 c256_i32
  let v71 : BitVec 32 := v70
  let v72 : Index := Scalar.indexCast v71
  let c0_24 : Index := 0#32
  ![v72.toNat, 0]
def k0_off6 (i : grid0.Coords) : Fin 3 → Nat :=
  let c1_i32 : BitVec 32 := 1#32
  let arg1 : BitVec 32 := BitVec.ofNat 32 (i 1).val
  let v61 : BitVec 32 := Scalar.muli c1_i32 arg1
  let c0_i32_23 : BitVec 32 := 0#32
  let v69 : BitVec 32 := Scalar.addi v61 c0_i32_23
  let v74 : Index := Scalar.indexCast v69
  let c0_25 : Index := 0#32
  let c0_26 : Index := 0#32
  ![v74.toNat, 0, 0]
def k0_cond2 (i : grid0.Coords) : BitVec 1 :=
  let arg1 : BitVec 32 := BitVec.ofNat 32 (i 1).val
  let c7_i32 : BitVec 32 := 7#32
  let v1113 : BitVec 1 := Scalar.cmpi .eq arg1 c7_i32
  let v1114 : BitVec 32 := Scalar.extui v1113
  let c0_i32_214 : BitVec 32 := 0#32
  let v1115 : BitVec 1 := Scalar.cmpi .ne v1114 c0_i32_214
  v1115

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttnReferenceIdeal.lean ====
abbrev S1x2048x4096 : Shape := ⟨3, ![1, 2048, 4096]⟩
abbrev S1x2048x512 : Shape := ⟨3, ![1, 2048, 512]⟩
abbrev S128x1024 : Shape := ⟨2, ![128, 1024]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x64x2048 : Shape := ⟨4, ![1, 8, 64, 2048]⟩
abbrev S2048x512 : Shape := ⟨2, ![2048, 512]⟩

abbrev nBuf : Space → Nat
  | .hbm => 185
  | .vmem => 0
  | .smem => 0
  | _ => 0

abbrev hbmTy0_0 (i : Nat) : BufTy := match i % 128 with
  | 0 => ⟨S1x2048x4096, .f32⟩
  | 1 => ⟨S1x2048x512, .f32⟩
  | 2 => ⟨S128x1024, .f32⟩
  | 3 => ⟨S1x2048x512, .f32⟩
  | 4 => ⟨S1x2048x512, .f32⟩
  | 5 => ⟨S1x2048x512, .f32⟩
  | 6 => ⟨S1x2048x8x64, .f32⟩
  | 7 => ⟨S1x8x2048x64, .f32⟩
  | 8 => ⟨S1x2048x8x64, .f32⟩
  | 9 => ⟨S1x8x2048x64, .f32⟩
  | 10 => ⟨S1x2048x8x64, .f32⟩
  | 11 => ⟨S1x8x2048x64, .f32⟩
  | 12 => ⟨S1x8x2048x2048, .f32⟩
  | 13 => ⟨S_, .f32⟩
  | 14 => ⟨S1x8x2048x2048, .f32⟩
  | 15 => ⟨S1x8x2048x2048, .f32⟩
  | 16 => ⟨S2048, .i32⟩
  | 17 => ⟨S1x2048, .i32⟩
  | 18 => ⟨S2048, .i32⟩
  | 19 => ⟨S2048x1, .i32⟩
  | 20 => ⟨S2048x2048, .i32⟩
  | 21 => ⟨S2048x2048, .i32⟩
  | 22 => ⟨S2048x2048, .i1⟩
  | 23 => ⟨S1x8x2048x2048, .f32⟩
  | 24 => ⟨S_, .f32⟩
  | 25 => ⟨S1x8x2048x2048, .f32⟩
  | 26 => ⟨S1x8x2048x2048, .f32⟩
  | 27 => ⟨S1x8x2048x2048, .f32⟩
  | 28 => ⟨S1x8x2048x2048, .f32⟩
  | 29 => ⟨S1x8x2048x2048, .i1⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S1x8x2048x2048, .f32⟩
  | 37 => ⟨S1x8x2048x2048, .f32⟩
  | 38 => ⟨S_, .f32⟩
  | 39 => ⟨S1x8x2048x2048, .f32⟩
  | 40 => ⟨S1x8x2048x2048, .i1⟩
  | 41 => ⟨S_, .f32⟩
  | 42 => ⟨S1x8x2048x2048, .f32⟩
  | 43 => ⟨S1x8x2048x2048, .f32⟩
  | 44 => ⟨S_, .f32⟩
  | 45 => ⟨S1x8x2048x2048, .f32⟩
  | 46 => ⟨S1x8x2048x2048, .i1⟩
  | 47 => ⟨S_, .f32⟩
  | 48 => ⟨S1x8x2048x2048, .f32⟩
  | 49 => ⟨S1x8x2048x2048, .f32⟩
  | 50 => ⟨S1x8x2048x2048, .f32⟩
  | 51 => ⟨S1x8x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S1x8x2048x2048, .f32⟩
  | 60 => ⟨S1x8x2048x2048, .i1⟩
  | 61 => ⟨S_, .f32⟩
  | 62 => ⟨S1x8x2048x2048, .f32⟩
  | 63 => ⟨S1x8x2048x2048, .f32⟩
  | 64 => ⟨S1x8x2048x2048, .f32⟩
  | 65 => ⟨S1x8x2048x2048, .f32⟩
  | 66 => ⟨S1x8x2048x2048, .f32⟩
  | 67 => ⟨S_, .f32⟩
  | 68 => ⟨S1x8x2048x2048, .f32⟩
  | 69 => ⟨S1x8x2048x2048, .f32⟩
  | 70 => ⟨S1x8x2048x2048, .f32⟩
  | 71 => ⟨S1x8x2048x2048, .f32⟩
  | 72 => ⟨S1x8x2048x2048, .f32⟩
  | 73 => ⟨S_, .f32⟩
  | 74 => ⟨S1x8x2048x2048, .f32⟩
  | 75 => ⟨S1x8x2048x2048, .f32⟩
  | 76 => ⟨S1x8x2048x2048, .f32⟩
  | 77 => ⟨S1x8x2048x2048, .f32⟩
  | 78 => ⟨S1x8x2048x2048, .i1⟩
  | 79 => ⟨S1x8x2048x2048, .f32⟩
  | 80 => ⟨S1x8x2048x2048, .f32⟩
  | 81 => ⟨S1x8x2048x2048, .f32⟩
  | 82 => ⟨S1x8x2048x2048, .f32⟩
  | 83 => ⟨S1x8x2048x2048, .f32⟩
  | 84 => ⟨S1x8x2048x2048, .f32⟩
  | 85 => ⟨S1x8x2048x2048, .f32⟩
  | 86 => ⟨S1x8x2048x2048, .f32⟩
  | 87 => ⟨S_, .f32⟩
  | 88 => ⟨S1x8x2048x2048, .f32⟩
  | 89 => ⟨S1x8x2048x2048, .i1⟩
  | 90 => ⟨S_, .f32⟩
  | 91 => ⟨S1x8x2048x2048, .f32⟩
  | 92 => ⟨S1x8x2048x2048, .f32⟩
  | 93 => ⟨S_, .f32⟩
  | 94 => ⟨S1x8x2048x2048, .f32⟩
  | 95 => ⟨S1x8x2048x2048, .i1⟩
  | 96 => ⟨S_, .f32⟩
  | 97 => ⟨S1x8x2048x2048, .f32⟩
  | 98 => ⟨S1x8x2048x2048, .f32⟩
  | 99 => ⟨S1x8x2048x2048, .f32⟩
  | 100 => ⟨S1x8x2048x2048, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S1x8x2048x2048, .f32⟩
  | 109 => ⟨S1x8x2048x2048, .i1⟩
  | 110 => ⟨S_, .f32⟩
  | 111 => ⟨S1x8x2048x2048, .f32⟩
  | 112 => ⟨S1x8x2048x2048, .f32⟩
  | 113 => ⟨S1x8x2048x2048, .f32⟩
  | 114 => ⟨S1x8x2048x2048, .f32⟩
  | 115 => ⟨S1x8x2048x2048, .f32⟩
  | 116 => ⟨S_, .f32⟩
  | 117 => ⟨S1x8x2048x2048, .f32⟩
  | 118 => ⟨S1x8x2048x2048, .f32⟩
  | 119 => ⟨S1x8x2048x2048, .f32⟩
  | 120 => ⟨S_, .f32⟩
  | 121 => ⟨S_, .f32⟩
  | 122 => ⟨S1x8x2048x2048, .i1⟩
  | 123 => ⟨S1x8x2048x2048, .f32⟩
  | 124 => ⟨S1x8x2048x2048, .f32⟩
  | 125 => ⟨S_, .f32⟩
  | 126 => ⟨S1x8x2048x2048, .f32⟩
  | 127 => ⟨S_, .f32⟩
  | _ => ⟨S1x2048x4096, .f32⟩

abbrev hbmTy0_1 (i : Nat) : BufTy := match i % 128 with
  | 0 => ⟨S_, .f32⟩
  | 1 => ⟨S1x8x2048x2048, .f32⟩
  | 2 => ⟨S1x8x2048x2048, .f32⟩
  | 3 => ⟨S1x8x2048x2048, .f32⟩
  | 4 => ⟨S1x8x2048x2048, .f32⟩
  | 5 => ⟨S_, .f32⟩
  | 6 => ⟨S_, .f32⟩
  | 7 => ⟨S1x8x2048x2048, .i1⟩
  | 8 => ⟨S1x8x2048x2048, .f32⟩
  | 9 => ⟨S1x8x2048x2048, .f32⟩
  | 10 => ⟨S_, .f32⟩
  | 11 => ⟨S1x8x2048x2048, .f32⟩
  | 12 => ⟨S1x8x2048x64, .f32⟩
  | 13 => ⟨S1x2048x8x64, .f32⟩
  | 14 => ⟨S1x2048x512, .f32⟩
  | 15 => ⟨S1x2048x8x64, .f32⟩
  | 16 => ⟨S1x8x2048x64, .f32⟩
  | 17 => ⟨S1x8x64x2048, .f32⟩
  | 18 => ⟨S1x8x2048x64, .f32⟩
  | 19 => ⟨S1x8x2048x2048, .f32⟩
  | 20 => ⟨S_, .f32⟩
  | 21 => ⟨S1x8x2048x2048, .f32⟩
  | 22 => ⟨S1x8x2048x2048, .f32⟩
  | 23 => ⟨S1x8x2048x2048, .f32⟩
  | 24 => ⟨S1x8x2048x2048, .f32⟩
  | 25 => ⟨S_, .f32⟩
  | 26 => ⟨S_, .f32⟩
  | 27 => ⟨S1x8x2048x2048, .f32⟩
  | 28 => ⟨S1x8x2048x2048, .f32⟩
  | 29 => ⟨S_, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S1x8x2048x2048, .f32⟩
  | 37 => ⟨S1x8x2048x2048, .f32⟩
  | 38 => ⟨S1x8x2048x2048, .f32⟩
  | 39 => ⟨S1x8x2048x2048, .f32⟩
  | 40 => ⟨S_, .f32⟩
  | 41 => ⟨S1x8x2048x2048, .f32⟩
  | 42 => ⟨S1x8x2048x2048, .f32⟩
  | 43 => ⟨S1x8x2048x64, .f32⟩
  | 44 => ⟨S1x8x2048x64, .f32⟩
  | 45 => ⟨S1x2048x8x64, .f32⟩
  | 46 => ⟨S1x2048x512, .f32⟩
  | 47 => ⟨S1x2048x8x64, .f32⟩
  | 48 => ⟨S1x2048x512, .f32⟩
  | 49 => ⟨S1x2048x8x64, .f32⟩
  | 50 => ⟨S1x2048x512, .f32⟩
  | 51 => ⟨S2048x512, .f32⟩
  | 52 => ⟨S2048x512, .bf16⟩
  | 53 => ⟨S2048x512, .f32⟩
  | 54 => ⟨S2048x512, .bf16⟩
  | 55 => ⟨S2048x512, .f32⟩
  | 56 => ⟨S2048x512, .bf16⟩
  | _ => ⟨S1x2048x4096, .f32⟩

abbrev hbmTy (i : Nat) : BufTy := match i / 128 with
  | 0 => hbmTy0_0 i
  | 1 => hbmTy0_1 i
  | _ => ⟨S1x2048x4096, .f32⟩

abbrev bufTy : (tb : Table) → Fin (tcTables nBuf tb) → BufTy
  | .hbm, ⟨i, _⟩ => hbmTy i
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v19_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v19_2 : Ref sig .tc := ⟨.hbm, 69, rfl⟩
abbrev main_v19_0 : Ref sig .tc := ⟨.hbm, 70, rfl⟩
abbrev main_v20 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1_0 : Ref sig .tc := ⟨.hbm, 86, rfl⟩
abbrev main_call1_call0_cst_0 : Ref sig .tc := ⟨.hbm, 87, rfl⟩
abbrev main_call1_call0_v13 : Ref sig .tc := ⟨.hbm, 88, rfl⟩
abbrev main_call1_call0_v14 : Ref sig .tc := ⟨.hbm, 89, rfl⟩
abbrev main_call1_call0_cst_1 : Ref sig .tc := ⟨.hbm, 90, rfl⟩
abbrev main_call1_call0_v15 : Ref sig .tc := ⟨.hbm, 91, rfl⟩
abbrev main_call1_call0_v16 : Ref sig .tc := ⟨.hbm, 92, rfl⟩
abbrev main_call1_call0_cst_2 : Ref sig .tc := ⟨.hbm, 93, rfl⟩
abbrev main_call1_call0_v17 : Ref sig .tc := ⟨.hbm, 94, rfl⟩
abbrev main_call1_call0_v18 : Ref sig .tc := ⟨.hbm, 95, rfl⟩
abbrev main_call1_call0_cst_3 : Ref sig .tc := ⟨.hbm, 96, rfl⟩
abbrev main_call1_call0_v19 : Ref sig .tc := ⟨.hbm, 97, rfl⟩
abbrev main_call1_call0_v20 : Ref sig .tc := ⟨.hbm, 98, rfl⟩
abbrev main_call1_call0_v21 : Ref sig .tc := ⟨.hbm, 99, rfl⟩
abbrev main_v21_1 : Ref sig .tc := ⟨.hbm, 100, rfl⟩
abbrev main_call1_call0_cst_4 : Ref sig .tc := ⟨.hbm, 101, rfl⟩
abbrev main_call1_call0_cst_5 : Ref sig .tc := ⟨.hbm, 102, rfl⟩
abbrev main_call1_call0_v23 : Ref sig .tc := ⟨.hbm, 103, rfl⟩
abbrev main_call1_call0_cst_6 : Ref sig .tc := ⟨.hbm, 104, rfl⟩
abbrev main_call1_call0_cst_7 : Ref sig .tc := ⟨.hbm, 105, rfl⟩
abbrev main_call1_call0_v24 : Ref sig .tc := ⟨.hbm, 106, rfl⟩
abbrev main_call1_call0_cst_8 : Ref sig .tc := ⟨.hbm, 107, rfl⟩
abbrev main_call1_call0_v25 : Ref sig .tc := ⟨.hbm, 108, rfl⟩
abbrev main_call1_call0_v26 : Ref sig .tc := ⟨.hbm, 109, rfl⟩
abbrev main_call1_call0_cst_9 : Ref sig .tc := ⟨.hbm, 110, rfl⟩
abbrev main_call1_call0_v27 : Ref sig .tc := ⟨.hbm, 111, rfl⟩
abbrev main_call1_call0_v28 : Ref sig .tc := ⟨.hbm, 112, rfl⟩
abbrev main_call1_call0_v29 : Ref sig .tc := ⟨.hbm, 113, rfl⟩
abbrev main_call1_call0_v30 : Ref sig .tc := ⟨.hbm, 114, rfl⟩
abbrev main_call1_call0_v31 : Ref sig .tc := ⟨.hbm, 115, rfl⟩
abbrev main_call1_call0_cst_10 : Ref sig .tc := ⟨.hbm, 116, rfl⟩
abbrev main_call1_call0_v32 : Ref sig .tc := ⟨.hbm, 117, rfl⟩
abbrev main_v21_2 : Ref sig .tc := ⟨.hbm, 118, rfl⟩
abbrev main_v21_0 : Ref sig .tc := ⟨.hbm, 119, rfl⟩
abbrev main_cst_0 : Ref sig .tc := ⟨.hbm, 120, rfl⟩
abbrev main_call2_v0 : Ref sig .tc := ⟨.hbm, 121, rfl⟩
abbrev main_v22_1 : Ref sig .tc := ⟨.hbm, 122, rfl⟩
abbrev main_call2_v2 : Ref sig .tc := ⟨.hbm, 123, rfl⟩
abbrev main_v22_0 : Ref sig .tc := ⟨.hbm, 124, rfl⟩
abbrev main_call2_cst : Ref sig .tc := ⟨.hbm, 125, rfl⟩
abbrev main_v22_2 : Ref sig .tc := ⟨.hbm, 126, rfl⟩
abbrev main_call3_cst : Ref sig .tc := ⟨.hbm, 127, rfl⟩
abbrev main_call3_v0 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_cst_1 : Ref sig .tc := ⟨.hbm, 133, rfl⟩
abbrev main_call4_v0 : Ref sig .tc := ⟨.hbm, 134, rfl⟩
abbrev main_v27_1 : Ref sig .tc := ⟨.hbm, 135, rfl⟩
abbrev main_call4_v2 : Ref sig .tc := ⟨.hbm, 136, rfl⟩
abbrev main_v27_0 : Ref sig .tc := ⟨.hbm, 137, rfl⟩
abbrev main_call4_cst : Ref sig .tc := ⟨.hbm, 138, rfl⟩
abbrev main_v27_2 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_call5_cst : Ref sig .tc := ⟨.hbm, 148, rfl⟩
abbrev main_call5_v0 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_call6_cst : Ref sig .tc := ⟨.hbm, 153, rfl⟩
abbrev main_call6_v0 : Ref sig .tc := ⟨.hbm, 154, rfl⟩
abbrev main_v39 : Ref sig .tc := ⟨.hbm, 155, rfl⟩
abbrev main_v40 : Ref sig .tc := ⟨.hbm, 156, rfl⟩
abbrev main_call7_cst : Ref sig .tc := ⟨.hbm, 157, rfl⟩
abbrev main_call7_v0 : Ref sig .tc := ⟨.hbm, 158, rfl⟩
abbrev main_v41 : Ref sig .tc := ⟨.hbm, 159, rfl⟩
abbrev main_call8_v0 : Ref sig .tc := ⟨.hbm, 160, rfl⟩
abbrev main_call8_v1 : Ref sig .tc := ⟨.hbm, 161, rfl⟩
abbrev main_v42 : Ref sig .tc := ⟨.hbm, 162, rfl⟩
abbrev main_v43 : Ref sig .tc := ⟨.hbm, 163, rfl⟩
abbrev main_call9_v0 : Ref sig .tc := ⟨.hbm, 164, rfl⟩
abbrev main_call9_v1 : Ref sig .tc := ⟨.hbm, 165, rfl⟩
abbrev main_v44 : Ref sig .tc := ⟨.hbm, 166, rfl⟩
abbrev main_v45 : Ref sig .tc := ⟨.hbm, 167, rfl⟩
abbrev main_cst_2 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩

abbrev nD : Nat := 1
abbrev τ : Topo := Topo.v7x

variable {F : FTy → Type} [FloatOps F]
-- ==== InprojKernel.lean ====
abbrev S1x2048x512 : Shape := ⟨3, ![1, 2048, 512]⟩
abbrev S1x2048x2048 : Shape := ⟨3, ![1, 2048, 2048]⟩
abbrev S1x2048x1024 : Shape := ⟨3, ![1, 2048, 1024]⟩
abbrev S1x1024 : Shape := ⟨2, ![1, 1024]⟩
abbrev S1x1024x4096 : Shape := ⟨3, ![1, 1024, 4096]⟩
abbrev S1024x4096 : Shape := ⟨2, ![1024, 4096]⟩
abbrev S4096x1024 : Shape := ⟨2, ![4096, 1024]⟩
abbrev S2048x512 : Shape := ⟨2, ![2048, 512]⟩
abbrev S2048x2048 : Shape := ⟨2, ![2048, 2048]⟩
abbrev S2048x1024 : Shape := ⟨2, ![2048, 1024]⟩
abbrev S512x512 : Shape := ⟨2, ![512, 512]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 27
  | .vmem => 21
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x2048, .f32⟩
  | .hbm, ⟨5, _⟩ => ⟨S1x2048x1024, .f32⟩
  | .hbm, ⟨6, _⟩ => ⟨S1x2048x1024, .f32⟩
  | .hbm, ⟨7, _⟩ => ⟨S1x1024, .f32⟩
  | .hbm, ⟨8, _⟩ => ⟨S1x1024x4096, .f32⟩
  | .hbm, ⟨9, _⟩ => ⟨S1024x4096, .f32⟩
  | .hbm, ⟨10, _⟩ => ⟨S4096x1024, .f32⟩
  | .hbm, ⟨11, _⟩ => ⟨S4096x1024, .bf16⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x2048, .f32⟩
  | .hbm, ⟨17, _⟩ => ⟨S2048x512, .bf16⟩
  | .hbm, ⟨18, _⟩ => ⟨S2048x512, .bf16⟩
  | .hbm, ⟨19, _⟩ => ⟨S2048x512, .bf16⟩
  | .hbm, ⟨20, _⟩ => ⟨S2048x512, .bf16⟩
  | .hbm, ⟨21, _⟩ => ⟨S2048x2048, .bf16⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | .hbm, ⟨26, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InprojReferenceIdeal.lean ====
abbrev S1x2048x512 : Shape := ⟨3, ![1, 2048, 512]⟩
abbrev S1x2048x2048 : Shape := ⟨3, ![1, 2048, 2048]⟩
abbrev S1x2048x1024 : Shape := ⟨3, ![1, 2048, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x4096 : Shape := ⟨2, ![1024, 4096]⟩
abbrev S1x2048x4096 : Shape := ⟨3, ![1, 2048, 4096]⟩
abbrev S2048 : Shape := ⟨1, ![2048]⟩
abbrev S2048x1024 : Shape := ⟨2, ![2048, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x2048, .f32⟩
  | .hbm, ⟨5, _⟩ => ⟨S1x2048x1024, .f32⟩
  | .hbm, ⟨6, _⟩ => ⟨S1x2048x1024, .f32⟩
  | .hbm, ⟨7, _⟩ => ⟨S1x1024, .f32⟩
  | .hbm, ⟨8, _⟩ => ⟨S1x1024x4096, .f32⟩
  | .hbm, ⟨9, _⟩ => ⟨S1024, .f32⟩
  | .hbm, ⟨10, _⟩ => ⟨S1x2048x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1024, .f32⟩
  | .hbm, ⟨26, _⟩ => ⟨S1x2048x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1024x4096, .f32⟩
  | .hbm, ⟨31, _⟩ => ⟨S1x2048x4096, .f32⟩
  | .hbm, ⟨32, _⟩ => ⟨S1x2048x512, .f32⟩
  | .hbm, ⟨33, _⟩ => ⟨S1x2048x512, .f32⟩
  | .hbm, ⟨34, _⟩ => ⟨S1x2048x512, .f32⟩
  | .hbm, ⟨35, _⟩ => ⟨S1x2048x512, .f32⟩
  | .hbm, ⟨36, _⟩ => ⟨S1x2048x2048, .f32⟩
  | .hbm, ⟨37, _⟩ => ⟨S_, .f32⟩
  | .hbm, ⟨38, _⟩ => ⟨S1x2048x4096, .f32⟩
  | .hbm, ⟨39, _⟩ => ⟨S_, .f32⟩
  | .hbm, ⟨40, _⟩ => ⟨S1x2048x4096, .f32⟩
  | .hbm, ⟨41, _⟩ => ⟨S1x2048x4096, .f32⟩
  | .hbm, ⟨42, _⟩ => ⟨S_, .f32⟩
  | .hbm, ⟨43, _⟩ => ⟨S1x2048x4096, .f32⟩
  | .hbm, ⟨44, _⟩ => ⟨S1x2048x4096, .f32⟩
  | .hbm, ⟨45, _⟩ => ⟨S_, .f32⟩
  | .hbm, ⟨46, _⟩ => ⟨S1x2048x4096, .f32⟩
  | .hbm, ⟨47, _⟩ => ⟨S1x2048x4096, .f32⟩
  | .hbm, ⟨48, _⟩ => ⟨S_, .f32⟩
  | .hbm, ⟨49, _⟩ => ⟨S1x2048x4096, .f32⟩
  | .hbm, ⟨50, _⟩ => ⟨S1x2048x4096, .f32⟩
  | .hbm, ⟨51, _⟩ => ⟨S1x2048x1024, .f32⟩
  | .hbm, ⟨52, _⟩ => ⟨S1x2048x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x2048x1024, .f32⟩
  | .hbm, ⟨57, _⟩ => ⟨S1x2048x1024, .f32⟩
  | .hbm, ⟨58, _⟩ => ⟨S_, .f32⟩
  | .hbm, ⟨59, _⟩ => ⟨S1024, .f32⟩
  | .hbm, ⟨60, _⟩ => ⟨S1x2048x1024, .f32⟩
  | .hbm, ⟨61, _⟩ => ⟨S_, .f32⟩
  | .hbm, ⟨62, _⟩ => ⟨S1x2048, .f32⟩
  | .hbm, ⟨63, _⟩ => ⟨S1x2048x1, .f32⟩
  | .hbm, ⟨64, _⟩ => ⟨S1x2048x1024, .f32⟩
  | .hbm, ⟨65, _⟩ => ⟨S1x2048x1024, .f32⟩
  | .hbm, ⟨66, _⟩ => ⟨S1x2048x1024, .f32⟩
  | .hbm, ⟨67, _⟩ => ⟨S1x2048x1, .f32⟩
  | .hbm, ⟨68, _⟩ => ⟨S_, .f32⟩
  | .hbm, ⟨69, _⟩ => ⟨S1x2048x1, .f32⟩
  | .hbm, ⟨70, _⟩ => ⟨S1x2048x1, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S2048x1024, .bf16⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== LossKernel.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x128, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x128, .f32⟩
  | .local _ .vmem, ⟨10, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S1x2048x1024 : Shape := ⟨3, ![1, 2048, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S2048x1024 : Shape := ⟨2, ![2048, 1024]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1024, .f32⟩
  | .hbm, ⟨54, _⟩ => ⟨S1x2048x1024, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x2048x1, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S2048x1024, .f32⟩
  | .hbm, ⟨76, _⟩ => ⟨S2048x1024, .f32⟩
  | .hbm, ⟨77, _⟩ => ⟨S2048x1024, .bf16⟩
  | .hbm, ⟨78, _⟩ => ⟨S1x128, .f32⟩
  | .hbm, ⟨79, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== PoolKernel.lean ====
abbrev S1x2048x512 : Shape := ⟨3, ![1, 2048, 512]⟩
abbrev S1x2048x4096 : Shape := ⟨3, ![1, 2048, 4096]⟩
abbrev S1x4x128x128 : Shape := ⟨4, ![1, 4, 128, 128]⟩
abbrev S1x512 : Shape := ⟨2, ![1, 512]⟩
abbrev S2048x512 : Shape := ⟨2, ![2048, 512]⟩
abbrev S2048x4096 : Shape := ⟨2, ![2048, 4096]⟩
abbrev S4x128x128 : Shape := ⟨3, ![4, 128, 128]⟩
abbrev S2048x128 : Shape := ⟨2, ![2048, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 7
  | .smem => 0
  | _ => 0

abbrev bufTy : (tb : Table) → Fin (tcTables nBuf tb) → BufTy
  | .hbm, ⟨0, _⟩ => ⟨S1x2048x512, .f32⟩
  | .hbm, ⟨1, _⟩ => ⟨S1x2048x4096, .f32⟩
  | .hbm, ⟨2, _⟩ => ⟨S1x4x128x128, .f32⟩
  | .hbm, ⟨3, _⟩ => ⟨S1x512, .f32⟩
  | .hbm, ⟨4, _⟩ => ⟨S2048x512, .f32⟩
  | .hbm, ⟨5, _⟩ => ⟨S2048x4096, .f32⟩
  | .hbm, ⟨6, _⟩ => ⟨S4x128x128, .f32⟩
  | .hbm, ⟨7, _⟩ => ⟨S2048x512, .bf16⟩
  | .hbm, ⟨8, _⟩ => ⟨S4x128x128, .f32⟩
  | .hbm, ⟨9, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S4x128x128, .f32⟩
  | .local _ .vmem, ⟨3, _⟩ => ⟨S1x512, .f32⟩
  | .local _ .vmem, ⟨4, _⟩ => ⟨S2048x512, .bf16⟩
  | .local _ .vmem, ⟨5, _⟩ => ⟨S4x128x128, .f32⟩
  | .local _ .vmem, ⟨6, _⟩ => ⟨S1x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolReferenceIdeal.lean ====
abbrev S1x2048x512 : Shape := ⟨3, ![1, 2048, 512]⟩
abbrev S1x2048x4096 : Shape := ⟨3, ![1, 2048, 4096]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S1x2048x4x128 : Shape := ⟨4, ![1, 2048, 4, 128]⟩
abbrev S2048 : Shape := ⟨1, ![2048]⟩
abbrev S1x2048x1x128 : Shape := ⟨4, ![1, 2048, 1, 128]⟩
abbrev S1x2048x128 : Shape := ⟨3, ![1, 2048, 128]⟩
abbrev S_ : Shape := ⟨0, ![]⟩
abbrev S1x2x128 : Shape := ⟨3, ![1, 2, 128]⟩
abbrev S1x2046x128 : Shape := ⟨3, ![1, 2046, 128]⟩
abbrev S1x2048x1 : Shape := ⟨3, ![1, 2048, 1]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S4x128x1x2048 : Shape := ⟨4, ![4, 128, 1, 2048]⟩
abbrev S1x1x512 : Shape := ⟨3, ![1, 1, 512]⟩
abbrev S4x1x2048x128 : Shape := ⟨4, ![4, 1, 2048, 128]⟩
abbrev S2048x512 : Shape := ⟨2, ![2048, 512]⟩

abbrev nBuf : Space → Nat
  | .hbm => 205
  | .vmem => 0
  | .smem => 0
  | _ => 0

abbrev hbmTy0_0 (i : Nat) : BufTy := match i % 128 with
  | 0 => ⟨S1x2048x512, .f32⟩
  | 1 => ⟨S1x2048x4096, .f32⟩
  | 2 => ⟨S1x4x128x128, .f32⟩
  | 3 => ⟨S1x512, .f32⟩
  | 4 => ⟨S1x2048x512, .f32⟩
  | 5 => ⟨S4x128x128, .f32⟩
  | 6 => ⟨S512, .f32⟩
  | 7 => ⟨S1x2048x4x128, .f32⟩
  | 8 => ⟨S2048, .i32⟩
  | 9 => ⟨S1x2048x1x128, .f32⟩
  | 10 => ⟨S1x2048x128, .f32⟩
  | 11 => ⟨S_, .f32⟩
  | 12 => ⟨S_, .f32⟩
  | 13 => ⟨S1x2048x128, .f32⟩
  | 14 => ⟨S_, .f32⟩
  | 15 => ⟨S1x2x128, .f32⟩
  | 16 => ⟨S1x2046x128, .f32⟩
  | 17 => ⟨S1x2048x128, .f32⟩
  | 18 => ⟨S_, .f32⟩
  | 19 => ⟨S1x2x128, .f32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S1x2048x1, .f32⟩
  | 28 => ⟨S1x2048x128, .f32⟩
  | 29 => ⟨S1x2048x128, .f32⟩
  | 30 => ⟨S1x2048x128, .f32⟩
  | 31 => ⟨S1x2048x128, .f32⟩
  | 32 => ⟨S1x2048x1x128, .f32⟩
  | 33 => ⟨S1x2048x128, .f32⟩
  | 34 => ⟨S_, .f32⟩
  | 35 => ⟨S_, .f32⟩
  | 36 => ⟨S1x2048x128, .f32⟩
  | 37 => ⟨S_, .f32⟩
  | 38 => ⟨S1x4x128, .f32⟩
  | 39 => ⟨S1x2044x128, .f32⟩
  | 40 => ⟨S1x2048x128, .f32⟩
  | 41 => ⟨S_, .f32⟩
  | 42 => ⟨S1x4x128, .f32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S2048, .f32⟩
  | 50 => ⟨S1x2048x1, .f32⟩
  | 51 => ⟨S1x2048x128, .f32⟩
  | 52 => ⟨S1x2048x128, .f32⟩
  | 53 => ⟨S1x2048x128, .f32⟩
  | 54 => ⟨S1x2048x128, .f32⟩
  | 55 => ⟨S1x2048x1x128, .f32⟩
  | 56 => ⟨S1x2048x128, .f32⟩
  | 57 => ⟨S_, .f32⟩
  | 58 => ⟨S_, .f32⟩
  | 59 => ⟨S1x2048x128, .f32⟩
  | 60 => ⟨S_, .f32⟩
  | 61 => ⟨S1x8x128, .f32⟩
  | 62 => ⟨S1x2040x128, .f32⟩
  | 63 => ⟨S1x2048x128, .f32⟩
  | 64 => ⟨S_, .f32⟩
  | 65 => ⟨S1x8x128, .f32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S2048, .f32⟩
  | 73 => ⟨S1x2048x1, .f32⟩
  | 74 => ⟨S1x2048x128, .f32⟩
  | 75 => ⟨S1x2048x128, .f32⟩
  | 76 => ⟨S1x2048x128, .f32⟩
  | 77 => ⟨S1x2048x128, .f32⟩
  | 78 => ⟨S1x2048x1x128, .f32⟩
  | 79 => ⟨S1x2048x128, .f32⟩
  | 80 => ⟨S_, .f32⟩
  | 81 => ⟨S_, .f32⟩
  | 82 => ⟨S1x2048x128, .f32⟩
  | 83 => ⟨S_, .f32⟩
  | 84 => ⟨S1x16x128, .f32⟩
  | 85 => ⟨S1x2032x128, .f32⟩
  | 86 => ⟨S1x2048x128, .f32⟩
  | 87 => ⟨S_, .f32⟩
  | 88 => ⟨S1x16x128, .f32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S2048, .f32⟩
  | 96 => ⟨S1x2048x1, .f32⟩
  | 97 => ⟨S1x2048x128, .f32⟩
  | 98 => ⟨S1x2048x128, .f32⟩
  | 99 => ⟨S1x2048x128, .f32⟩
  | 100 => ⟨S1x2048x128, .f32⟩
  | 101 => ⟨S1x2048x1x128, .f32⟩
  | 102 => ⟨S1x2048x1x128, .f32⟩
  | 103 => ⟨S1x2048x1x128, .f32⟩
  | 104 => ⟨S1x2048x1x128, .f32⟩
  | 105 => ⟨S1x2048x4x128, .f32⟩
  | 106 => ⟨S4x128x1x2048, .f32⟩
  | 107 => ⟨S1x2048x4x128, .f32⟩
  | 108 => ⟨S1x2048x512, .f32⟩
  | 109 => ⟨S1x1x512, .f32⟩
  | 110 => ⟨S1x2048x512, .f32⟩
  | 111 => ⟨S1x2048x512, .f32⟩
  | 112 => ⟨S1x2048x512, .f32⟩
  | 113 => ⟨S_, .f32⟩
  | 114 => ⟨S1x512, .f32⟩
  | 115 => ⟨S1x1x512, .f32⟩
  | 116 => ⟨S1x2048x512, .f32⟩
  | 117 => ⟨S1x2048x512, .f32⟩
  | 118 => ⟨S_, .f32⟩
  | 119 => ⟨S512, .f32⟩
  | 120 => ⟨S1x2048x4x128, .f32⟩
  | 121 => ⟨S4x128x1x2048, .f32⟩
  | 122 => ⟨S4x1x2048x128, .f32⟩
  | 123 => ⟨S1x2048x4x128, .f32⟩
  | 124 => ⟨S4x128x128, .f32⟩
  | 125 => ⟨S4x128x128, .f32⟩
  | 126 => ⟨S1x2048x1x128, .f32⟩
  | 127 => ⟨S1x2048x128, .f32⟩
  | _ => ⟨S1x2048x512, .f32⟩

abbrev hbmTy0_1 (i : Nat) : BufTy := match i % 128 with
  | 0 => ⟨S1x2048x1x128, .f32⟩
  | 1 => ⟨S1x2048x128, .f32⟩
  | 2 => ⟨S1x2048x1x128, .f32⟩
  | 3 => ⟨S1x2048x128, .f32⟩
  | 4 => ⟨S1x2048x1x128, .f32⟩
  | 5 => ⟨S1x2048x128, .f32⟩
  | 6 => ⟨S1x2048x128, .f32⟩
  | 7 => ⟨S1x2048x128, .f32⟩
  | 8 => ⟨S1x2048x128, .f32⟩
  | 9 => ⟨S1x2048x128, .f32⟩
  | 10 => ⟨S1x16x128, .f32⟩
  | 11 => ⟨S1x2032x128, .f32⟩
  | 12 => ⟨S_, .f32⟩
  | 13 => ⟨S1x2048x128, .f32⟩
  | 14 => ⟨S1x2048x128, .f32⟩
  | 15 => ⟨S_, .f32⟩
  | 16 => ⟨S_, .f32⟩
  | 17 => ⟨S1x2048x128, .f32⟩
  | 18 => ⟨S1x2048x128, .f32⟩
  | 19 => ⟨S1x2048x1x128, .f32⟩
  | 20 => ⟨S_, .f32⟩
  | 21 => ⟨S1x2048x4x128, .f32⟩
  | 22 => ⟨S1x2048x128, .f32⟩
  | 23 => ⟨S1x2048x128, .f32⟩
  | 24 => ⟨S1x2048x128, .f32⟩
  | 25 => ⟨S1x2048x128, .f32⟩
  | 26 => ⟨S1x8x128, .f32⟩
  | 27 => ⟨S1x2040x128, .f32⟩
  | 28 => ⟨S_, .f32⟩
  | 29 => ⟨S1x2048x128, .f32⟩
  | 30 => ⟨S1x2048x128, .f32⟩
  | 31 => ⟨S_, .f32⟩
  | 32 => ⟨S_, .f32⟩
  | 33 => ⟨S1x2048x128, .f32⟩
  | 34 => ⟨S1x2048x128, .f32⟩
  | 35 => ⟨S1x2048x1x128, .f32⟩
  | 36 => ⟨S_, .f32⟩
  | 37 => ⟨S1x2048x4x128, .f32⟩
  | 38 => ⟨S1x2048x4x128, .f32⟩
  | 39 => ⟨S1x2048x128, .f32⟩
  | 40 => ⟨S1x2048x128, .f32⟩
  | 41 => ⟨S1x2048x128, .f32⟩
  | 42 => ⟨S1x2048x128, .f32⟩
  | 43 => ⟨S1x4x128, .f32⟩
  | 44 => ⟨S1x2044x128, .f32⟩
  | 45 => ⟨S_, .f32⟩
  | 46 => ⟨S1x2048x128, .f32⟩
  | 47 => ⟨S1x2048x128, .f32⟩
  | 48 => ⟨S_, .f32⟩
  | 49 => ⟨S_, .f32⟩
  | 50 => ⟨S1x2048x128, .f32⟩
  | 51 => ⟨S1x2048x128, .f32⟩
  | 52 => ⟨S1x2048x1x128, .f32⟩
  | 53 => ⟨S_, .f32⟩
  | 54 => ⟨S1x2048x4x128, .f32⟩
  | 55 => ⟨S1x2048x4x128, .f32⟩
  | 56 => ⟨S1x2048x128, .f32⟩
  | 57 => ⟨S1x2048x128, .f32⟩
  | 58 => ⟨S1x2048x128, .f32⟩
  | 59 => ⟨S1x2048x128, .f32⟩
  | 60 => ⟨S1x2x128, .f32⟩
  | 61 => ⟨S1x2046x128, .f32⟩
  | 62 => ⟨S_, .f32⟩
  | 63 => ⟨S1x2048x128, .f32⟩
  | 64 => ⟨S1x2048x128, .f32⟩
  | 65 => ⟨S_, .f32⟩
  | 66 => ⟨S_, .f32⟩
  | 67 => ⟨S1x2048x128, .f32⟩
  | 68 => ⟨S1x2048x128, .f32⟩
  | 69 => ⟨S1x2048x1x128, .f32⟩
  | 70 => ⟨S_, .f32⟩
  | 71 => ⟨S1x2048x4x128, .f32⟩
  | 72 => ⟨S1x2048x4x128, .f32⟩
  | 73 => ⟨S1x2048x512, .f32⟩
  | 74 => ⟨S2048x512, .f32⟩
  | 75 => ⟨S2048x512, .bf16⟩
  | 76 => ⟨S1x512, .f32⟩
  | _ => ⟨S1x2048x512, .f32⟩

abbrev hbmTy (i : Nat) : BufTy := match i / 128 with
  | 0 => hbmTy0_0 i
  | 1 => hbmTy0_1 i
  | _ => ⟨S1x2048x512, .f32⟩

abbrev bufTy : (tb : Table) → Fin (tcTables nBuf tb) → BufTy
  | .hbm, ⟨i, _⟩ => hbmTy i
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_call0_cst : Ref sig .tc := ⟨.hbm, 34, rfl⟩
abbrev main_call1_call0_v0 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call2_call0_cst : Ref sig .tc := ⟨.hbm, 57, rfl⟩
abbrev main_call2_call0_v0 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call3_call0_cst : Ref sig .tc := ⟨.hbm, 80, rfl⟩
abbrev main_call3_call0_v0 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_16 : Ref sig .tc := ⟨.hbm, 140, rfl⟩
abbrev main_v110 : Ref sig .tc := ⟨.hbm, 141, rfl⟩
abbrev main_v111 : Ref sig .tc := ⟨.hbm, 142, rfl⟩
abbrev main_call4_call0_cst : Ref sig .tc := ⟨.hbm, 143, rfl⟩
abbrev main_call4_call0_v0 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_17 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_18 : Ref sig .tc := ⟨.hbm, 156, rfl⟩
abbrev main_v122 : Ref sig .tc := ⟨.hbm, 157, rfl⟩
abbrev main_v123 : Ref sig .tc := ⟨.hbm, 158, rfl⟩
abbrev main_call5_call0_cst : Ref sig .tc := ⟨.hbm, 159, rfl⟩
abbrev main_call5_call0_v0 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_19 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_20 : Ref sig .tc := ⟨.hbm, 173, rfl⟩
abbrev main_v135 : Ref sig .tc := ⟨.hbm, 174, rfl⟩
abbrev main_v136 : Ref sig .tc := ⟨.hbm, 175, rfl⟩
abbrev main_call6_call0_cst : Ref sig .tc := ⟨.hbm, 176, rfl⟩
abbrev main_call6_call0_v0 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_21 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_22 : Ref sig .tc := ⟨.hbm, 190, rfl⟩
abbrev main_v148 : Ref sig .tc := ⟨.hbm, 191, rfl⟩
abbrev main_v149 : Ref sig .tc := ⟨.hbm, 192, rfl⟩
abbrev main_call7_call0_cst : Ref sig .tc := ⟨.hbm, 193, rfl⟩
abbrev main_call7_call0_v0 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_23 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩

abbrev nD : Nat := 1
abbrev τ : Topo := Topo.v7x

variable {F : FTy → Type} [FloatOps F]
-- ==== PoolfwdKernel.lean ====
abbrev S1x2048x4096 : Shape := ⟨3, ![1, 2048, 4096]⟩
abbrev S1x4x128x128 : Shape := ⟨4, ![1, 4, 128, 128]⟩
abbrev S1x512 : Shape := ⟨2, ![1, 512]⟩
abbrev S2048x4096 : Shape := ⟨2, ![2048, 4096]⟩
abbrev S4x128x128 : Shape := ⟨3, ![4, 128, 128]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 4
  | .smem => 0
  | _ => 0

abbrev bufTy : (tb : Table) → Fin (tcTables nBuf tb) → BufTy
  | .hbm, ⟨0, _⟩ => ⟨S1x2048x4096, .f32⟩
  | .hbm, ⟨1, _⟩ => ⟨S1x4x128x128, .f32⟩
  | .hbm, ⟨2, _⟩ => ⟨S1x512, .f32⟩
  | .hbm, ⟨3, _⟩ => ⟨S2048x4096, .f32⟩
  | .hbm, ⟨4, _⟩ => ⟨S4x128x128, .f32⟩
  | .hbm, ⟨5, _⟩ => ⟨S2048x512, .f32⟩
  | .local _ .vmem, ⟨0, _⟩ => ⟨S2048x512, .f32⟩
  | .local _ .vmem, ⟨1, _⟩ => ⟨S4x128x128, .f32⟩
  | .local _ .vmem, ⟨2, _⟩ => ⟨S1x512, .f32⟩
  | .local _ .vmem, ⟨3, _⟩ => ⟨S2048x512, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== PoolfwdReferenceIdeal.lean ====
abbrev S1x2048x4096 : Shape := ⟨3, ![1, 2048, 4096]⟩
abbrev S1x4x128x128 : Shape := ⟨4, ![1, 4, 128, 128]⟩
abbrev S1x512 : Shape := ⟨2, ![1, 512]⟩
abbrev S1x2048x512 : Shape := ⟨3, ![1, 2048, 512]⟩
abbrev S4x128x128 : Shape := ⟨3, ![4, 128, 128]⟩
abbrev S512 : Shape := ⟨1, ![512]⟩
abbrev S1x2048x4x128 : Shape := ⟨4, ![1, 2048, 4, 128]⟩
abbrev S2048 : Shape := ⟨1, ![2048]⟩
abbrev S1x2048x1x128 : Shape := ⟨4, ![1, 2048, 1, 128]⟩
abbrev S1x2048x128 : Shape := ⟨3, ![1, 2048, 128]⟩
abbrev S_ : Shape := ⟨0, ![]⟩
abbrev S1x2x128 : Shape := ⟨3, ![1, 2, 128]⟩
abbrev S1x2046x128 : Shape := ⟨3, ![1, 2046, 128]⟩
abbrev S1x2048x1 : Shape := ⟨3, ![1, 2048, 1]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S4x128x1x2048 : Shape := ⟨4, ![4, 128, 1, 2048]⟩
abbrev S1x1x512 : Shape := ⟨3, ![1, 1, 512]⟩
abbrev S2048x512 : Shape := ⟨2, ![2048, 512]⟩

abbrev nBuf : Space → Nat
  | .hbm => 104
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S1x4x128x128, .f32⟩
  | .hbm, ⟨2, _⟩ => ⟨S1x512, .f32⟩
  | .hbm, ⟨3, _⟩ => ⟨S1x2048x512, .f32⟩
  | .hbm, ⟨4, _⟩ => ⟨S4x128x128, .f32⟩
  | .hbm, ⟨5, _⟩ => ⟨S512, .f32⟩
  | .hbm, ⟨6, _⟩ => ⟨S1x2048x4x128, .f32⟩
  | .hbm, ⟨7, _⟩ => ⟨S2048, .i32⟩
  | .hbm, ⟨8, _⟩ => ⟨S1x2048x1x128, .f32⟩
  | .hbm, ⟨9, _⟩ => ⟨S1x2048x128, .f32⟩
  | .hbm, ⟨10, _⟩ => ⟨S_, .f32⟩
  | .hbm, ⟨11, _⟩ => ⟨S_, .f32⟩
  | .hbm, ⟨12, _⟩ => ⟨S1x2048x128, .f32⟩
  | .hbm, ⟨13, _⟩ => ⟨S_, .f32⟩
  | .hbm, ⟨14, _⟩ => ⟨S1x2x128, .f32⟩
  | .hbm, ⟨15, _⟩ => ⟨S1x2046x128, .f32⟩
  | .hbm, ⟨16, _⟩ => ⟨S1x2048x128, .f32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S1x2048x1, .f32⟩
  | .hbm, ⟨25, _⟩ => ⟨S1x2048x128, .f32⟩
  | .hbm, ⟨26, _⟩ => ⟨S1x2048x128, .f32⟩
  | .hbm, ⟨27, _⟩ => ⟨S1x2048x128, .f32⟩
  | .hbm, ⟨28, _⟩ => ⟨S1x2048x128, .f32⟩
  | .hbm, ⟨29, _⟩ => ⟨S1x2048x1x128, .f32⟩
  | .hbm, ⟨30, _⟩ => ⟨S1x2048x128, .f32⟩
  | .hbm, ⟨31, _⟩ => ⟨S_, .f32⟩
  | .hbm, ⟨32, _⟩ => ⟨S_, .f32⟩
  | .hbm, ⟨33, _⟩ => ⟨S1x2048x128, .f32⟩
  | .hbm, ⟨34, _⟩ => ⟨S_, .f32⟩
  | .hbm, ⟨35, _⟩ => ⟨S1x4x128, .f32⟩
  | .hbm, ⟨36, _⟩ => ⟨S1x2044x128, .f32⟩
  | .hbm, ⟨37, _⟩ => ⟨S1x2048x128, .f32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S1x2048x1, .f32⟩
  | .hbm, ⟨46, _⟩ => ⟨S1x2048x128, .f32⟩
  | .hbm, ⟨47, _⟩ => ⟨S1x2048x128, .f32⟩
  | .hbm, ⟨48, _⟩ => ⟨S1x2048x128, .f32⟩
  | .hbm, ⟨49, _⟩ => ⟨S1x2048x128, .f32⟩
  | .hbm, ⟨50, _⟩ => ⟨S1x2048x1x128, .f32⟩
  | .hbm, ⟨51, _⟩ => ⟨S1x2048x128, .f32⟩
  | .hbm, ⟨52, _⟩ => ⟨S_, .f32⟩
  | .hbm, ⟨53, _⟩ => ⟨S_, .f32⟩
  | .hbm, ⟨54, _⟩ => ⟨S1x2048x128, .f32⟩
  | .hbm, ⟨55, _⟩ => ⟨S_, .f32⟩
  | .hbm, ⟨56, _⟩ => ⟨S1x8x128, .f32⟩
  | .hbm, ⟨57, _⟩ => ⟨S1x2040x128, .f32⟩
  | .hbm, ⟨58, _⟩ => ⟨S1x2048x128, .f32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .f32⟩
  | .hbm, ⟨66, _⟩ => ⟨S1x2048x1, .f32⟩
  | .hbm, ⟨67, _⟩ => ⟨S1x2048x128, .f32⟩
  | .hbm, ⟨68, _⟩ => ⟨S1x2048x128, .f32⟩
  | .hbm, ⟨69, _⟩ => ⟨S1x2048x128, .f32⟩
  | .hbm, ⟨70, _⟩ => ⟨S1x2048x128, .f32⟩
  | .hbm, ⟨71, _⟩ => ⟨S1x2048x1x128, .f32⟩
  | .hbm, ⟨72, _⟩ => ⟨S1x2048x128, .f32⟩
  | .hbm, ⟨73, _⟩ => ⟨S_, .f32⟩
  | .hbm, ⟨74, _⟩ => ⟨S_, .f32⟩
  | .hbm, ⟨75, _⟩ => ⟨S1x2048x128, .f32⟩
  | .hbm, ⟨76, _⟩ => ⟨S_, .f32⟩
  | .hbm, ⟨77, _⟩ => ⟨S1x16x128, .f32⟩
  | .hbm, ⟨78, _⟩ => ⟨S1x2032x128, .f32⟩
  | .hbm, ⟨79, _⟩ => ⟨S1x2048x128, .f32⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .f32⟩
  | .hbm, ⟨87, _⟩ => ⟨S1x2048x1, .f32⟩
  | .hbm, ⟨88, _⟩ => ⟨S1x2048x128, .f32⟩
  | .hbm, ⟨89, _⟩ => ⟨S1x2048x128, .f32⟩
  | .hbm, ⟨90, _⟩ => ⟨S1x2048x128, .f32⟩
  | .hbm, ⟨91, _⟩ => ⟨S1x2048x128, .f32⟩
  | .hbm, ⟨92, _⟩ => ⟨S1x2048x1x128, .f32⟩
  | .hbm, ⟨93, _⟩ => ⟨S1x2048x1x128, .f32⟩
  | .hbm, ⟨94, _⟩ => ⟨S1x2048x1x128, .f32⟩
  | .hbm, ⟨95, _⟩ => ⟨S1x2048x1x128, .f32⟩
  | .hbm, ⟨96, _⟩ => ⟨S1x2048x4x128, .f32⟩
  | .hbm, ⟨97, _⟩ => ⟨S4x128x1x2048, .f32⟩
  | .hbm, ⟨98, _⟩ => ⟨S1x2048x4x128, .f32⟩
  | .hbm, ⟨99, _⟩ => ⟨S1x2048x512, .f32⟩
  | .hbm, ⟨100, _⟩ => ⟨S1x1x512, .f32⟩
  | .hbm, ⟨101, _⟩ => ⟨S1x2048x512, .f32⟩
  | .hbm, ⟨102, _⟩ => ⟨S1x2048x512, .f32⟩
  | .hbm, ⟨103, _⟩ => ⟨S2048x512, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_call0_cst : Ref sig .tc := ⟨.hbm, 31, rfl⟩
abbrev main_call1_call0_v0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_call0_cst : Ref sig .tc := ⟨.hbm, 52, rfl⟩
abbrev main_call2_call0_v0 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call3_call0_cst : Ref sig .tc := ⟨.hbm, 73, rfl⟩
abbrev main_call3_call0_v0 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_8 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== MixfwdKernel.lean ====
abbrev S1x2048x1024 : Shape := ⟨3, ![1, 2048, 1024]⟩
abbrev S1x2048x512 : Shape := ⟨3, ![1, 2048, 512]⟩
abbrev S1x2048x4096 : Shape := ⟨3, ![1, 2048, 4096]⟩
abbrev S1x512x1024 : Shape := ⟨3, ![1, 512, 1024]⟩
abbrev S1x1024x1024 : Shape := ⟨3, ![1, 1024, 1024]⟩
abbrev S2048x1024 : Shape := ⟨2, ![2048, 1024]⟩
abbrev S2048x512 : Shape := ⟨2, ![2048, 512]⟩
abbrev S2048x4096 : Shape := ⟨2, ![2048, 4096]⟩
abbrev S512x1024 : Shape := ⟨2, ![512, 1024]⟩
abbrev S1024x512 : Shape := ⟨2, ![1024, 512]⟩
abbrev S1024x1024 : Shape := ⟨2, ![1024, 1024]⟩
abbrev S512x512 : Shape := ⟨2, ![512, 512]⟩
abbrev S256x512 : Shape := ⟨2, ![256, 512]⟩
abbrev S256x1024 : Shape := ⟨2, ![256, 1024]⟩

abbrev nBuf : Space → Nat
  | .hbm => 21
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x2048x512, .f32⟩
  | .hbm, ⟨2, _⟩ => ⟨S1x2048x512, .f32⟩
  | .hbm, ⟨3, _⟩ => ⟨S1x2048x4096, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x4096, .f32⟩
  | .hbm, ⟨11, _⟩ => ⟨S512x1024, .f32⟩
  | .hbm, ⟨12, _⟩ => ⟨S1024x512, .f32⟩
  | .hbm, ⟨13, _⟩ => ⟨S1024x512, .bf16⟩
  | .hbm, ⟨14, _⟩ => ⟨S512x1024, .f32⟩
  | .hbm, ⟨15, _⟩ => ⟨S1024x512, .f32⟩
  | .hbm, ⟨16, _⟩ => ⟨S1024x512, .bf16⟩
  | .hbm, ⟨17, _⟩ => ⟨S1024x1024, .f32⟩
  | .hbm, ⟨18, _⟩ => ⟨S1024x1024, .bf16⟩
  | .hbm, ⟨19, _⟩ => ⟨S2048x1024, .f32⟩
  | .hbm, ⟨20, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixfwdReferenceIdeal.lean ====
abbrev S1x2048x1024 : Shape := ⟨3, ![1, 2048, 1024]⟩
abbrev S1x2048x512 : Shape := ⟨3, ![1, 2048, 512]⟩
abbrev S1x2048x4096 : Shape := ⟨3, ![1, 2048, 4096]⟩
abbrev S1x512x1024 : Shape := ⟨3, ![1, 512, 1024]⟩
abbrev S1x1024x1024 : Shape := ⟨3, ![1, 1024, 1024]⟩
abbrev S512x1024 : Shape := ⟨2, ![512, 1024]⟩
abbrev S1x2048x2048 : Shape := ⟨3, ![1, 2048, 2048]⟩
abbrev S_ : Shape := ⟨0, ![]⟩
abbrev S1024x1024 : Shape := ⟨2, ![1024, 1024]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x512, .f32⟩
  | .hbm, ⟨2, _⟩ => ⟨S1x2048x512, .f32⟩
  | .hbm, ⟨3, _⟩ => ⟨S1x2048x4096, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S512x1024, .f32⟩
  | .hbm, ⟨8, _⟩ => ⟨S1x2048x1024, .f32⟩
  | .hbm, ⟨9, _⟩ => ⟨S512x1024, .f32⟩
  | .hbm, ⟨10, _⟩ => ⟨S1x2048x1024, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S_, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048x2048, .f32⟩
  | .hbm, ⟨19, _⟩ => ⟨S1x2048x2048, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1024x1024, .f32⟩
  | .hbm, ⟨26, _⟩ => ⟨S1x2048x1024, .f32⟩
  | .hbm, ⟨27, _⟩ => ⟨S1x2048x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== FfnupKernel.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1024x5632 : Shape := ⟨2, ![1024, 5632]⟩
abbrev S5632x1024 : Shape := ⟨2, ![5632, 1024]⟩
abbrev S16x352x1024 : Shape := ⟨3, ![16, 352, 1024]⟩
abbrev S_ : Shape := ⟨0, ![]⟩
abbrev S16x384x1024 : Shape := ⟨3, ![16, 384, 1024]⟩
abbrev S2048x1024 : Shape := ⟨2, ![2048, 1024]⟩
abbrev S8x768x1024 : Shape := ⟨3, ![8, 768, 1024]⟩
abbrev S2x2048x3072 : Shape := ⟨3, ![2, 2048, 3072]⟩
abbrev S2048x3072 : Shape := ⟨2, ![2048, 3072]⟩
abbrev S1024x1024 : Shape := ⟨2, ![1024, 1024]⟩
abbrev S1x768x1024 : Shape := ⟨3, ![1, 768, 1024]⟩
abbrev S2x1024x768 : Shape := ⟨3, ![2, 1024, 768]⟩
abbrev S1024x768 : Shape := ⟨2, ![1024, 768]⟩
abbrev S1024 : Shape := ⟨1, ![1024]⟩
abbrev S1024x1 : Shape := ⟨2, ![1024, 1]⟩
abbrev S768x1024 : Shape := ⟨2, ![768, 1024]⟩
abbrev S512x1024 : Shape := ⟨2, ![512, 1024]⟩
abbrev S512x768 : Shape := ⟨2, ![512, 768]⟩
abbrev S1x512x768 : Shape := ⟨3, ![1, 512, 768]⟩

abbrev nBuf : Space → Nat
  | .hbm => 14
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1024x5632, .f32⟩
  | .hbm, ⟨4, _⟩ => ⟨S5632x1024, .f32⟩
  | .hbm, ⟨5, _⟩ => ⟨S5632x1024, .bf16⟩
  | .hbm, ⟨6, _⟩ => ⟨S16x352x1024, .bf16⟩
  | .hbm, ⟨7, _⟩ => ⟨S_, .i32⟩
  | .hbm, ⟨8, _⟩ => ⟨S_, .bf16⟩
  | .hbm, ⟨9, _⟩ => ⟨S16x384x1024, .bf16⟩
  | .hbm, ⟨10, _⟩ => ⟨S2048x1024, .f32⟩
  | .hbm, ⟨11, _⟩ => ⟨S8x768x1024, .bf16⟩
  | .hbm, ⟨12, _⟩ => ⟨S2x2048x3072, .bf16⟩
  | .hbm, ⟨13, _⟩ => ⟨S2048x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S2x1024x768, .bf16⟩
  | .local _ .vmem, ⟨8, _⟩ => ⟨S2x1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnupReferenceIdeal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S1x2048x5632 : Shape := ⟨3, ![1, 2048, 5632]⟩
abbrev S1x2048x2816 : Shape := ⟨3, ![1, 2048, 2816]⟩
abbrev S2048x8x352 : Shape := ⟨3, ![2048, 8, 352]⟩
abbrev S2048x2x8x352 : Shape := ⟨4, ![2048, 2, 8, 352]⟩
abbrev S2x2048x8x352 : Shape := ⟨4, ![2, 2048, 8, 352]⟩
abbrev S2x2048x8x384 : Shape := ⟨4, ![2, 2048, 8, 384]⟩
abbrev S2x2048x3072 : Shape := ⟨3, ![2, 2048, 3072]⟩
abbrev S2048x8x384 : Shape := ⟨3, ![2048, 8, 384]⟩
abbrev S2048x3072 : Shape := ⟨2, ![2048, 3072]⟩

abbrev nBuf : Space → Nat
  | .hbm => 47
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1024, .f32⟩
  | .hbm, ⟨4, _⟩ => ⟨S1x2048x1024, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x1024, .f32⟩
  | .hbm, ⟨16, _⟩ => ⟨S1x2048x1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1024x5632, .f32⟩
  | .hbm, ⟨21, _⟩ => ⟨S1x2048x5632, .f32⟩
  | .hbm, ⟨22, _⟩ => ⟨S1x2048x2816, .f32⟩
  | .hbm, ⟨23, _⟩ => ⟨S1x2048x2816, .f32⟩
  | .hbm, ⟨24, _⟩ => ⟨S1x2048x2816, .f32⟩
  | .hbm, ⟨25, _⟩ => ⟨S1x2048x2816, .f32⟩
  | .hbm, ⟨26, _⟩ => ⟨S_, .f32⟩
  | .hbm, ⟨27, _⟩ => ⟨S1x2048x2816, .f32⟩
  | .hbm, ⟨28, _⟩ => ⟨S1x2048x2816, .f32⟩
  | .hbm, ⟨29, _⟩ => ⟨S_, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S2048x8x352, .f32⟩
  | .hbm, ⟨35, _⟩ => ⟨S2048x2x8x352, .f32⟩
  | .hbm, ⟨36, _⟩ => ⟨S2x2048x8x352, .f32⟩
  | .hbm, ⟨37, _⟩ => ⟨S_, .i32⟩
  | .hbm, ⟨38, _⟩ => ⟨S_, .f32⟩
  | .hbm, ⟨39, _⟩ => ⟨S2x2048x8x384, .f32⟩
  | .hbm, ⟨40, _⟩ => ⟨S2x2048x3072, .f32⟩
  | .hbm, ⟨41, _⟩ => ⟨S_, .i32⟩
  | .hbm, ⟨42, _⟩ => ⟨S_, .f32⟩
  | .hbm, ⟨43, _⟩ => ⟨S2048x8x384, .f32⟩
  | .hbm, ⟨44, _⟩ => ⟨S2048x3072, .f32⟩
  | .hbm, ⟨45, _⟩ => ⟨S2x2048x3072, .bf16⟩
  | .hbm, ⟨46, _⟩ => ⟨S2048x3072, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_call2_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== FfndownKernel.lean ====
abbrev S1x2048x1024 : Shape := ⟨3, ![1, 2048, 1024]⟩
abbrev S1x2048x2816 : Shape := ⟨3, ![1, 2048, 2816]⟩
abbrev S1x2816x1024 : Shape := ⟨3, ![1, 2816, 1024]⟩
abbrev S2048x2816 : Shape := ⟨2, ![2048, 2816]⟩
abbrev S2048x8x352 : Shape := ⟨3, ![2048, 8, 352]⟩
abbrev S_ : Shape := ⟨0, ![]⟩
abbrev S2048x8x384 : Shape := ⟨3, ![2048, 8, 384]⟩
abbrev S2816x1024 : Shape := ⟨2, ![2816, 1024]⟩
abbrev S8x352x1024 : Shape := ⟨3, ![8, 352, 1024]⟩
abbrev S8x384x1024 : Shape := ⟨3, ![8, 384, 1024]⟩
abbrev S2048x1024 : Shape := ⟨2, ![2048, 1024]⟩
abbrev S2048x3072 : Shape := ⟨2, ![2048, 3072]⟩
abbrev S3072x1024 : Shape := ⟨2, ![3072, 1024]⟩
abbrev S512x1024 : Shape := ⟨2, ![512, 1024]⟩
abbrev S512x3072 : Shape := ⟨2, ![512, 3072]⟩

abbrev nBuf : Space → Nat
  | .hbm => 19
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S1x2816x1024, .f32⟩
  | .hbm, ⟨3, _⟩ => ⟨S2048x2816, .f32⟩
  | .hbm, ⟨4, _⟩ => ⟨S2048x2816, .bf16⟩
  | .hbm, ⟨5, _⟩ => ⟨S2048x8x352, .bf16⟩
  | .hbm, ⟨6, _⟩ => ⟨S_, .i32⟩
  | .hbm, ⟨7, _⟩ => ⟨S_, .bf16⟩
  | .hbm, ⟨8, _⟩ => ⟨S2048x8x384, .bf16⟩
  | .hbm, ⟨9, _⟩ => ⟨S2816x1024, .f32⟩
  | .hbm, ⟨10, _⟩ => ⟨S2816x1024, .bf16⟩
  | .hbm, ⟨11, _⟩ => ⟨S8x352x1024, .bf16⟩
  | .hbm, ⟨12, _⟩ => ⟨S_, .i32⟩
  | .hbm, ⟨13, _⟩ => ⟨S_, .bf16⟩
  | .hbm, ⟨14, _⟩ => ⟨S8x384x1024, .bf16⟩
  | .hbm, ⟨15, _⟩ => ⟨S2048x1024, .f32⟩
  | .hbm, ⟨16, _⟩ => ⟨S2048x3072, .bf16⟩
  | .hbm, ⟨17, _⟩ => ⟨S3072x1024, .bf16⟩
  | .hbm, ⟨18, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S3072x1024, .bf16⟩
  | .local _ .vmem, ⟨5, _⟩ => ⟨S512x1024, .f32⟩
  | .local _ .vmem, ⟨6, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfndownReferenceIdeal.lean ====
abbrev S1x2048x1024 : Shape := ⟨3, ![1, 2048, 1024]⟩
abbrev S1x2048x2816 : Shape := ⟨3, ![1, 2048, 2816]⟩
abbrev S1x2816x1024 : Shape := ⟨3, ![1, 2816, 1024]⟩
abbrev S2816x1024 : Shape := ⟨2, ![2816, 1024]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x2816, .f32⟩
  | .hbm, ⟨2, _⟩ => ⟨S1x2816x1024, .f32⟩
  | .hbm, ⟨3, _⟩ => ⟨S2816x1024, .f32⟩
  | .hbm, ⟨4, _⟩ => ⟨S1x2048x1024, .f32⟩
  | .hbm, ⟨5, _⟩ => ⟨S_, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== WgradfullKernel.lean ====
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S2048x1024, .f32⟩
  | .hbm, ⟨3, _⟩ => ⟨S2048x1024, .bf16⟩
  | .hbm, ⟨4, _⟩ => ⟨S2048x1024, .f32⟩
  | .hbm, ⟨5, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | .local _ .vmem, ⟨3, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== WgradfullReferenceIdeal.lean ====
abbrev S1x2048x1024 : Shape := ⟨3, ![1, 2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S_, .f32⟩
  | .hbm, ⟨3, _⟩ => ⟨S1024x1024, .f32⟩
  | .hbm, ⟨4, _⟩ => ⟨S1x2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WgraddownKernel.lean ====
abbrev S1x2048x2816 : Shape := ⟨3, ![1, 2048, 2816]⟩
abbrev S1x2048x1024 : Shape := ⟨3, ![1, 2048, 1024]⟩
abbrev S2048x2816 : Shape := ⟨2, ![2048, 2816]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S2048x1024 : Shape := ⟨2, ![2048, 1024]⟩
abbrev S3072x1024 : Shape := ⟨2, ![3072, 1024]⟩
abbrev S2048x768 : Shape := ⟨2, ![2048, 768]⟩
abbrev S768x1024 : Shape := ⟨2, ![768, 1024]⟩

abbrev nBuf : Space → Nat
  | .hbm => 12
  | .vmem => 6
  | .smem => 0
  | _ => 0

abbrev bufTy : (tb : Table) → Fin (tcTables nBuf tb) → BufTy
  | .hbm, ⟨0, _⟩ => ⟨S1x2048x2816, .f32⟩
  | .hbm, ⟨1, _⟩ => ⟨S1x2048x1024, .f32⟩
  | .hbm, ⟨2, _⟩ => ⟨S2048x2816, .f32⟩
  | .hbm, ⟨3, _⟩ => ⟨S2048x2816, .bf16⟩
  | .hbm, ⟨4, _⟩ => ⟨S2048x8x352, .bf16⟩
  | .hbm, ⟨5, _⟩ => ⟨S_, .i32⟩
  | .hbm, ⟨6, _⟩ => ⟨S_, .bf16⟩
  | .hbm, ⟨7, _⟩ => ⟨S2048x8x384, .bf16⟩
  | .hbm, ⟨8, _⟩ => ⟨S2048x3072, .bf16⟩
  | .hbm, ⟨9, _⟩ => ⟨S2048x1024, .f32⟩
  | .hbm, ⟨10, _⟩ => ⟨S2048x1024, .bf16⟩
  | .hbm, ⟨11, _⟩ => ⟨S3072x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WgraddownReferenceIdeal.lean ====
abbrev S1x2048x2816 : Shape := ⟨3, ![1, 2048, 2816]⟩
abbrev S1x2048x1024 : Shape := ⟨3, ![1, 2048, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩
abbrev S8x384x1024 : Shape := ⟨3, ![8, 384, 1024]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2048x1024, .f32⟩
  | .hbm, ⟨2, _⟩ => ⟨S_, .f32⟩
  | .hbm, ⟨3, _⟩ => ⟨S2816x1024, .f32⟩
  | .hbm, ⟨4, _⟩ => ⟨S1x2048x1024, .f32⟩
  | .hbm, ⟨5, _⟩ => ⟨S1024x2816, .f32⟩
  | .hbm, ⟨6, _⟩ => ⟨S2816x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S3072x1024, .f32⟩
  | .hbm, ⟨12, _⟩ => ⟨S3072x1024, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== AdamwKernel.lean ====
abbrev S552x128 : Shape := ⟨2, ![552, 128]⟩

abbrev nBuf : Space → Nat
  | .hbm => 7
  | .vmem => 7
  | .smem => 0
  | _ => 0

abbrev bufTy : (tb : Table) → Fin (tcTables nBuf tb) → BufTy
  | .hbm, ⟨0, _⟩ => ⟨S552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S552x128, .f32⟩
  | .hbm, ⟨5, _⟩ => ⟨S552x128, .f32⟩
  | .hbm, ⟨6, _⟩ => ⟨S552x128, .f32⟩
  | .local _ .vmem, ⟨0, _⟩ => ⟨S552x128, .f32⟩
  | .local _ .vmem, ⟨1, _⟩ => ⟨S552x128, .f32⟩
  | .local _ .vmem, ⟨2, _⟩ => ⟨S552x128, .f32⟩
  | .local _ .vmem, ⟨3, _⟩ => ⟨S552x128, .f32⟩
  | .local _ .vmem, ⟨4, _⟩ => ⟨S552x128, .f32⟩
  | .local _ .vmem, ⟨5, _⟩ => ⟨S552x128, .f32⟩
  | .local _ .vmem, ⟨6, _⟩ => ⟨S552x128, .f32⟩
  | _, _ => ⟨S552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S552x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S552x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S552x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S552x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S552x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwReferenceIdeal.lean ====
abbrev S552x128 : Shape := ⟨2, ![552, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S_, .f32⟩
  | .hbm, ⟨5, _⟩ => ⟨S552x128, .f32⟩
  | .hbm, ⟨6, _⟩ => ⟨S552x128, .f32⟩
  | .hbm, ⟨7, _⟩ => ⟨S_, .f32⟩
  | .hbm, ⟨8, _⟩ => ⟨S552x128, .f32⟩
  | .hbm, ⟨9, _⟩ => ⟨S552x128, .f32⟩
  | .hbm, ⟨10, _⟩ => ⟨S552x128, .f32⟩
  | .hbm, ⟨11, _⟩ => ⟨S_, .f32⟩
  | .hbm, ⟨12, _⟩ => ⟨S552x128, .f32⟩
  | .hbm, ⟨13, _⟩ => ⟨S552x128, .f32⟩
  | .hbm, ⟨14, _⟩ => ⟨S552x128, .f32⟩
  | .hbm, ⟨15, _⟩ => ⟨S_, .f32⟩
  | .hbm, ⟨16, _⟩ => ⟨S552x128, .f32⟩
  | .hbm, ⟨17, _⟩ => ⟨S552x128, .f32⟩
  | .hbm, ⟨18, _⟩ => ⟨S552x128, .f32⟩
  | .hbm, ⟨19, _⟩ => ⟨S_, .f32⟩
  | .hbm, ⟨20, _⟩ => ⟨S552x128, .f32⟩
  | .hbm, ⟨21, _⟩ => ⟨S552x128, .f32⟩
  | .hbm, ⟨22, _⟩ => ⟨S_, .f32⟩
  | .hbm, ⟨23, _⟩ => ⟨S552x128, .f32⟩
  | .hbm, ⟨24, _⟩ => ⟨S552x128, .f32⟩
  | .hbm, ⟨25, _⟩ => ⟨S552x128, .f32⟩
  | .hbm, ⟨26, _⟩ => ⟨S_, .f32⟩
  | .hbm, ⟨27, _⟩ => ⟨S552x128, .f32⟩
  | .hbm, ⟨28, _⟩ => ⟨S552x128, .f32⟩
  | .hbm, ⟨29, _⟩ => ⟨S552x128, .f32⟩
  | .hbm, ⟨30, _⟩ => ⟨S_, .f32⟩
  | .hbm, ⟨31, _⟩ => ⟨S552x128, .f32⟩
  | .hbm, ⟨32, _⟩ => ⟨S552x128, .f32⟩
  | .hbm, ⟨33, _⟩ => ⟨S552x128, .f32⟩
  | .hbm, ⟨34, _⟩ => ⟨S_, .f32⟩
  | .hbm, ⟨35, _⟩ => ⟨S552x128, .f32⟩
  | .hbm, ⟨36, _⟩ => ⟨S552x128, .f32⟩
  | _, _ => ⟨S552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WgradinKernel.lean ====
abbrev S1x2048x512 : Shape := ⟨3, ![1, 2048, 512]⟩
abbrev S1x2048x2048 : Shape := ⟨3, ![1, 2048, 2048]⟩
abbrev S1x2048x1024 : Shape := ⟨3, ![1, 2048, 1024]⟩
abbrev S2048x512 : Shape := ⟨2, ![2048, 512]⟩
abbrev S2048x2048 : Shape := ⟨2, ![2048, 2048]⟩
abbrev S2048x1024 : Shape := ⟨2, ![2048, 1024]⟩
abbrev S8x512x1024 : Shape := ⟨3, ![8, 512, 1024]⟩
abbrev S1x512x1024 : Shape := ⟨3, ![1, 512, 1024]⟩
abbrev S512x1024 : Shape := ⟨2, ![512, 1024]⟩

abbrev nBuf : Space → Nat
  | .hbm => 19
  | .vmem => 13
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x2048, .f32⟩
  | .hbm, ⟨5, _⟩ => ⟨S1x2048x1024, .f32⟩
  | .hbm, ⟨6, _⟩ => ⟨S2048x512, .f32⟩
  | .hbm, ⟨7, _⟩ => ⟨S2048x512, .bf16⟩
  | .hbm, ⟨8, _⟩ => ⟨S2048x512, .f32⟩
  | .hbm, ⟨9, _⟩ => ⟨S2048x512, .bf16⟩
  | .hbm, ⟨10, _⟩ => ⟨S2048x512, .f32⟩
  | .hbm, ⟨11, _⟩ => ⟨S2048x512, .bf16⟩
  | .hbm, ⟨12, _⟩ => ⟨S2048x512, .f32⟩
  | .hbm, ⟨13, _⟩ => ⟨S2048x512, .bf16⟩
  | .hbm, ⟨14, _⟩ => ⟨S2048x2048, .f32⟩
  | .hbm, ⟨15, _⟩ => ⟨S2048x2048, .bf16⟩
  | .hbm, ⟨16, _⟩ => ⟨S2048x1024, .f32⟩
  | .hbm, ⟨17, _⟩ => ⟨S2048x1024, .bf16⟩
  | .hbm, ⟨18, _⟩ => ⟨S8x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x1024, .bf16⟩
  | .local _ .vmem, ⟨11, _⟩ => ⟨S1x512x1024, .bf16⟩
  | .local _ .vmem, ⟨12, _⟩ => ⟨S1x512x1024, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c1_i32_1 : BitVec 32 := 1#32
  let v5 : BitVec 1 := Scalar.cmpi .sge arg0 c1_i32_1
  let c2_i32 : BitVec 32 := 2#32
  let v6 : BitVec 1 := Scalar.cmpi .slt arg0 c2_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c2_i32_3 : BitVec 32 := 2#32
  let v10 : BitVec 1 := Scalar.cmpi .sge arg0 c2_i32_3
  let c3_i32 : BitVec 32 := 3#32
  let v11 : BitVec 1 := Scalar.cmpi .slt arg0 c3_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c3_i32_5 : BitVec 32 := 3#32
  let v15 : BitVec 1 := Scalar.cmpi .sge arg0 c3_i32_5
  let c4_i32 : BitVec 32 := 4#32
  let v16 : BitVec 1 := Scalar.cmpi .slt arg0 c4_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c4_i32_7 : BitVec 32 := 4#32
  let v20 : BitVec 1 := Scalar.cmpi .sge arg0 c4_i32_7
  let c8_i32 : BitVec 32 := 8#32
  let v21 : BitVec 1 := Scalar.cmpi .slt arg0 c8_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WgradinReferenceIdeal.lean ====
abbrev S1x2048x512 : Shape := ⟨3, ![1, 2048, 512]⟩
abbrev S1x2048x2048 : Shape := ⟨3, ![1, 2048, 2048]⟩
abbrev S1x2048x1024 : Shape := ⟨3, ![1, 2048, 1024]⟩
abbrev S1x2048x4096 : Shape := ⟨3, ![1, 2048, 4096]⟩
abbrev S_ : Shape := ⟨0, ![]⟩
abbrev S1024x4096 : Shape := ⟨2, ![1024, 4096]⟩
abbrev S4096x1024 : Shape := ⟨2, ![4096, 1024]⟩
abbrev S8x512x1024 : Shape := ⟨3, ![8, 512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x2048, .f32⟩
  | .hbm, ⟨5, _⟩ => ⟨S1x2048x1024, .f32⟩
  | .hbm, ⟨6, _⟩ => ⟨S1x2048x4096, .f32⟩
  | .hbm, ⟨7, _⟩ => ⟨S_, .f32⟩
  | .hbm, ⟨8, _⟩ => ⟨S1024x4096, .f32⟩
  | .hbm, ⟨9, _⟩ => ⟨S1x2048x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S8x512x1024, .f32⟩
  | .hbm, ⟨14, _⟩ => ⟨S8x512x1024, .bf16⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== WgradguKernel.lean ====
abbrev S1x2048x1024 : Shape := ⟨3, ![1, 2048, 1024]⟩
abbrev S1x2048x5632 : Shape := ⟨3, ![1, 2048, 5632]⟩
abbrev S2048x5632 : Shape := ⟨2, ![2048, 5632]⟩
abbrev S2048x2x8x352 : Shape := ⟨4, ![2048, 2, 8, 352]⟩
abbrev S2x2048x8x352 : Shape := ⟨4, ![2, 2048, 8, 352]⟩
abbrev S_ : Shape := ⟨0, ![]⟩
abbrev S2x2048x8x384 : Shape := ⟨4, ![2, 2048, 8, 384]⟩
abbrev S2x2048x3072 : Shape := ⟨3, ![2, 2048, 3072]⟩
abbrev S2048x1024 : Shape := ⟨2, ![2048, 1024]⟩
abbrev S8x768x1024 : Shape := ⟨3, ![8, 768, 1024]⟩
abbrev S1x2048x768 : Shape := ⟨3, ![1, 2048, 768]⟩
abbrev S1x768x1024 : Shape := ⟨3, ![1, 768, 1024]⟩
abbrev S768x1024 : Shape := ⟨2, ![768, 1024]⟩
abbrev S2048x768 : Shape := ⟨2, ![2048, 768]⟩

abbrev nBuf : Space → Nat
  | .hbm => 13
  | .vmem => 6
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5632, .f32⟩
  | .hbm, ⟨2, _⟩ => ⟨S2048x5632, .f32⟩
  | .hbm, ⟨3, _⟩ => ⟨S2048x5632, .bf16⟩
  | .hbm, ⟨4, _⟩ => ⟨S2048x2x8x352, .bf16⟩
  | .hbm, ⟨5, _⟩ => ⟨S2x2048x8x352, .bf16⟩
  | .hbm, ⟨6, _⟩ => ⟨S_, .i32⟩
  | .hbm, ⟨7, _⟩ => ⟨S_, .bf16⟩
  | .hbm, ⟨8, _⟩ => ⟨S2x2048x8x384, .bf16⟩
  | .hbm, ⟨9, _⟩ => ⟨S2x2048x3072, .bf16⟩
  | .hbm, ⟨10, _⟩ => ⟨S2048x1024, .f32⟩
  | .hbm, ⟨11, _⟩ => ⟨S2048x1024, .bf16⟩
  | .hbm, ⟨12, _⟩ => ⟨S8x768x1024, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S768x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli c1_i32_10 v26
  let c0_i32_11 : BitVec 32 := 0#32
  let v28 : BitVec 32 := Scalar.addi v27 c0_i32_11
  let c0_i32_12 : BitVec 32 := 0#32
  ![v16.toNat, arg2.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WgradguReferenceIdeal.lean ====
abbrev S1x2048x1024 : Shape := ⟨3, ![1, 2048, 1024]⟩
abbrev S1x2048x5632 : Shape := ⟨3, ![1, 2048, 5632]⟩
abbrev S_ : Shape := ⟨0, ![]⟩
abbrev S1024x5632 : Shape := ⟨2, ![1024, 5632]⟩
abbrev S5632x1024 : Shape := ⟨2, ![5632, 1024]⟩
abbrev S16x352x1024 : Shape := ⟨3, ![16, 352, 1024]⟩
abbrev S16x384x1024 : Shape := ⟨3, ![16, 384, 1024]⟩
abbrev S8x768x1024 : Shape := ⟨3, ![8, 768, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5632, .f32⟩
  | .hbm, ⟨2, _⟩ => ⟨S_, .f32⟩
  | .hbm, ⟨3, _⟩ => ⟨S1024x5632, .f32⟩
  | .hbm, ⟨4, _⟩ => ⟨S1x2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S16x352x1024, .f32⟩
  | .hbm, ⟨9, _⟩ => ⟨S_, .i32⟩
  | .hbm, ⟨10, _⟩ => ⟨S_, .f32⟩
  | .hbm, ⟨11, _⟩ => ⟨S16x384x1024, .f32⟩
  | .hbm, ⟨12, _⟩ => ⟨S8x768x1024, .f32⟩
  | .hbm, ⟨13, _⟩ => ⟨S8x768x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SumdevKernel.lean ====
abbrev S8x552x128 : Shape := ⟨3, ![8, 552, 128]⟩
abbrev S552x128 : Shape := ⟨2, ![552, 128]⟩
abbrev S1x552x128 : Shape := ⟨3, ![1, 552, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x552x128, .f32⟩
  | .hbm, ⟨1, _⟩ => ⟨S552x128, .f32⟩
  | .hbm, ⟨2, _⟩ => ⟨S552x128, .f32⟩
  | .local _ .vmem, ⟨0, _⟩ => ⟨S8x552x128, .f32⟩
  | .local _ .vmem, ⟨1, _⟩ => ⟨S552x128, .f32⟩
  | _, _ => ⟨S8x552x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumdevReferenceIdeal.lean ====
abbrev S8x552x128 : Shape := ⟨3, ![8, 552, 128]⟩
abbrev S552x128 : Shape := ⟨2, ![552, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8x552x128, .f32⟩
  | .hbm, ⟨1, _⟩ => ⟨S552x128, .f32⟩
  | .hbm, ⟨2, _⟩ => ⟨S_, .f32⟩
  | .hbm, ⟨3, _⟩ => ⟨S552x128, .f32⟩
  | _, _ => ⟨S8x552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Mix.Blocks.lean ====
/- What each grid point of the branch-mixing gradient reads: the windows of its eight arrays, at coordinates. -/
module

public import proofs.«01_k».proof.Proof.Gen.MixKernelIdeal.Value
public import proofs.«01_k».proof.Proof.Gen.MixReferenceIdeal.Run
public import proofs.«01_k».proof.Proof.Gen.MixReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixKernelIdeal.Grad

open Cert.MixKernelIdeal Cert.MixKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

variable (c : Dev nD)

theorem N4 (t : Fin cfg0.N) : t.val < 4 := lt_of_lt_of_eq t.isLt N_0

/-- Row `a` of block `t` of an array cut into blocks of 512 rows. -/
def row (t : Fin cfg0.N) (a : Fin 512) : Fin 2048 := ⟨512 * t.val + a.val, by have := N4 t; omega⟩

theorem row_val (t : Fin cfg0.N) (a : Fin 512) : (row t a : ℕ) = 512 * t.val + a.val := rfl

theorem blk0 (t : Fin cfg0.N) (a : Fin 512) (b : Fin 1024) :
    iblk m c 0 t (ix2 a b) = m ((c : Thread nD τ).loc main_arg0) (ix3 0 (row t a) b) := by
  blk_simp [iblk]; entry_read; pointwise; blk_ext [idx t, row_val]

theorem blk1 (t : Fin cfg0.N) (a : Fin 512) (b : Fin 512) :
    iblk m c 1 t (ix2 a b) = m ((c : Thread nD τ).loc main_arg1) (ix3 0 (row t a) b) := by
  blk_simp [iblk]; entry_read; pointwise; blk_ext [idx t, row_val]

theorem blk2 (t : Fin cfg0.N) (a : Fin 512) (b : Fin 512) :
    iblk m c 2 t (ix2 a b) = m ((c : Thread nD τ).loc main_arg2) (ix3 0 (row t a) b) := by
  blk_simp [iblk]; entry_read; pointwise; blk_ext [idx t, row_val]

theorem blk3 (t : Fin cfg0.N) (a : Fin 512) (b : Fin 1024) :
    iblk m c 3 t (ix2 a b) = m ((c : Thread nD τ).loc main_arg3) (ix3 0 (row t a) ⟨2048 + b.val, by omega⟩) := by
  blk_simp [iblk]; entry_read; pointwise; blk_ext [idx t, row_val]

theorem blk4 (t : Fin cfg0.N) (a : Fin 512) (b : Fin 1024) :
    iblk m c 4 t (ix2 a b) = m ((c : Thread nD τ).loc main_arg3) (ix3 0 (row t a) ⟨3072 + b.val, by omega⟩) := by
  blk_simp [iblk]; entry_read; pointwise; blk_ext [idx t, row_val]

theorem blk5 (t : Fin cfg0.N) (a : Fin 1024) (b : Fin 512) :
    iblk m c 5 t (ix2 a b) = m ((c : Thread nD τ).loc main_arg4) (ix3 0 b a) := by
  blk_simp [iblk]; entry_read; pointwise; blk_ext [idx t, row_val]

theorem blk6 (t : Fin cfg0.N) (a : Fin 1024) (b : Fin 512) :
    iblk m c 6 t (ix2 a b) = m ((c : Thread nD τ).loc main_arg5) (ix3 0 b a) := by
  blk_simp [iblk]; entry_read; pointwise; blk_ext [idx t, row_val]

theorem blk7 (t : Fin cfg0.N) (a : Fin 1024) (b : Fin 1024) :
    iblk m c 7 t (ix2 a b) = m ((c : Thread nD τ).loc main_arg6) (ix3 0 a b) := by
  blk_simp [iblk]; entry_read; pointwise; blk_ext [idx t, row_val]

end Cert.MixKernelIdeal.Grad
-- ==== Proof.Mix.Branches.lean ====
/- The gradients of the two branch outputs. -/
module

public import proofs.«01_k».proof.Proof.Mix.Blocks
public import proofs.«01_k».proof.Proof.Gen.MixReferenceIdeal.Run
public import proofs.«01_k».proof.Proof.Gen.MixReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixKernelIdeal.Grad

open Cert.MixKernelIdeal Cert.MixKernelIdeal.Gen

variable (m : (ℓ : Loc nD τ sig) → Buf (Elt Ideal) ℓ) (c : Dev nD)

open Cert.MixReferenceIdeal.Read in
theorem dyp : (dats m 0 c).arrAt 8 (cfgs 0).N
    = val_main_v31 (m ((c : Thread nD τ).loc main_arg0)) (m ((c : Thread nD τ).loc main_arg3)) (m ((c : Thread nD τ).loc main_arg6)) := by
  refine (dats m 0 c).arrAt_eq_of_covers 8 _ (by decide +kernel) fun t _ y => ?_
  blk_simp
  rw [after0_8]
  unfold Gen.outsAt0
  frame_out
  canon_tiles x h
  all_goals
    open_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v19, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, Cert.MixReferenceIdeal.Value.fn_main_v26, Ideal.logistic, blk0, blk1, blk2, blk3, blk4, blk5, blk6, blk7]
    blk_point [idx t, row_val]

open Cert.MixReferenceIdeal.Read in
theorem dys : (dats m 0 c).arrAt 9 (cfgs 0).N
    = val_main_v33 (m ((c : Thread nD τ).loc main_arg0)) (m ((c : Thread nD τ).loc main_arg3)) (m ((c : Thread nD τ).loc main_arg6)) := by
  refine (dats m 0 c).arrAt_eq_of_covers 9 _ (by decide +kernel) fun t _ y => ?_
  blk_simp
  rw [after0_9]
  unfold Gen.outsAt0
  frame_out
  canon_tiles x h
  all_goals
    open_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v19, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, Cert.MixReferenceIdeal.Value.fn_main_v26, Ideal.logistic, blk0, blk1, blk2, blk3, blk4, blk5, blk6, blk7]
    blk_point [idx t, row_val]

end Cert.MixKernelIdeal.Grad
-- ==== Proof.Mix.Inputs.lean ====
/- The gradients of the two branch inputs. -/
module

public import proofs.«01_k».proof.Proof.Mix.Blocks
public import proofs.«01_k».proof.Proof.Gen.MixReferenceIdeal.Run
public import proofs.«01_k».proof.Proof.Gen.MixReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixKernelIdeal.Grad

open Cert.MixKernelIdeal Cert.MixKernelIdeal.Gen

variable (m : (ℓ : Loc nD τ sig) → Buf (Elt Ideal) ℓ) (c : Dev nD)

open Cert.MixReferenceIdeal.Read in
theorem dp : (dats m 0 c).arrAt 10 (cfgs 0).N
    = val_main_v34 (m ((c : Thread nD τ).loc main_arg0)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  unfold Gen.outsAt0
  frame_out
  canon_tiles x h
  all_goals
    open_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v19, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, Cert.MixReferenceIdeal.Value.fn_main_v26, Ideal.logistic, blk0, blk1, blk2, blk3, blk4, blk5, blk6, blk7]
    blk_point [idx t, row_val]

open Cert.MixReferenceIdeal.Read in
theorem do_ : (dats m 0 c).arrAt 11 (cfgs 0).N
    = val_main_v35 (m ((c : Thread nD τ).loc main_arg0)) (m ((c : Thread nD τ).loc main_arg3)) (m ((c : Thread nD τ).loc main_arg5)) (m ((c : Thread nD τ).loc main_arg6)) := by
  refine (dats m 0 c).arrAt_eq_of_covers 11 _ (by decide +kernel) fun t _ y => ?_
  blk_simp
  rw [after0_11]
  unfold Gen.outsAt0
  frame_out
  canon_tiles x h
  all_goals
    open_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v19, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, Cert.MixReferenceIdeal.Value.fn_main_v26, Ideal.logistic, blk0, blk1, blk2, blk3, blk4, blk5, blk6, blk7]
    blk_point [idx t, row_val]

end Cert.MixKernelIdeal.Grad
-- ==== Proof.Mix.Gates.lean ====
/- The gradient of the gate logits. -/
module

public import proofs.«01_k».proof.Proof.Mix.Blocks
public import proofs.«01_k».proof.Proof.Gen.MixReferenceIdeal.Run
public import proofs.«01_k».proof.Proof.Gen.MixReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixKernelIdeal.Grad

open Cert.MixKernelIdeal Cert.MixKernelIdeal.Gen

variable (m : (ℓ : Loc nD τ sig) → Buf (Elt Ideal) ℓ) (c : Dev nD)

open Cert.MixReferenceIdeal.Read in
set_option maxHeartbeats 1600000 in
theorem dgl : (dats m 0 c).arrAt 12 (cfgs 0).N
    = val_main_v37 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  unfold Gen.outsAt0
  frame_out
  canon_tiles x h
  all_goals
    open_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v19, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, Cert.MixReferenceIdeal.Value.fn_main_v26, Ideal.logistic, blk0, blk1, blk2, blk3, blk4, blk5, blk6, blk7]
    blk_simp [idx t]
    pointwise [h0, h1]
    rw [mul_assoc]
    blk_point [idx t, row_val]

end Cert.MixKernelIdeal.Grad
-- ==== Proof.Mix.Claim.lean ====
/- The claims about the branch-mixing gradient: it runs and keeps its arguments at both instances, the plain
   reference runs, and in exact arithmetic the two give the same five gradients. -/
module

public import proofs.«01_k».proof.Defs
public import proofs.«01_k».proof.Proof.Gen.MixKernel.Frame
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Mix.Branches
public import proofs.«01_k».proof.Proof.Mix.Inputs
public import proofs.«01_k».proof.Proof.Mix.Gates
public import Idealize.ShloMosaic.Lib.Claim
public import Idealize.ShloMosaic.Lib.Quiescent

@[expose] public section

set_option maxRecDepth 16384

noncomputable section

namespace Cert.Mix

open Idealize.ShloMosaic Idealize.SL.Sem

local instance : Cert.MixKernel.Facts := Cert.MixKernel.Gen.facts
local instance : Cert.MixKernelIdeal.Facts := Cert.MixKernelIdeal.Gen.facts
local instance : Cert.MixReferenceIdeal.Facts := Cert.MixReferenceIdeal.Gen.facts

/-- The kernel on machine floats runs, keeps its arguments and leaves every counter at zero. -/
theorem frame_kernel : Cert.quiescent_MixKernel := fun m ρ _ => Cert.MixKernel.Gen.frame m ρ

/-- The same at exact arithmetic. -/
theorem frame_ideal : Cert.quiescent_MixKernelIdeal := fun m ρ _ => Cert.MixKernelIdeal.Gen.frame m ρ

/-- The reference runs and keeps its arguments. -/
theorem frame_reference : Cert.quiescent_MixReferenceIdeal := by
  intro m g _
  hlo_run
  · simp
  · exact sem_eq_zero_of_no_sems (sig := Cert.MixReferenceIdeal.sig) rfl _

/-- The two programs differ in nothing but the arithmetic they are read at. -/
theorem same_program : Cert.preserves_MixKernel_MixKernelIdeal := trivial

/-- In exact arithmetic the kernel's five arrays are the reference's. -/
theorem equal : Cert.algebraic_MixKernelIdeal_MixReferenceIdeal := by
  pair_intro
  · run_from Cert.MixKernelIdeal.Value.run_blocks m g
  · run_from Cert.MixReferenceIdeal.Value.run m' g' <;> obtain ⟨-, -, -, -, a4, a5, a6, -⟩ := hagree c <;>
      try simp only [a4, a5, a6]
    · exact (Cert.MixReferenceIdeal.Read.val_main_v31_eq _ _ _).trans (Cert.MixKernelIdeal.Grad.dyp m c).symm
    · exact (Cert.MixReferenceIdeal.Read.val_main_v33_eq _ _ _).trans (Cert.MixKernelIdeal.Grad.dys m c).symm
    · exact (Cert.MixReferenceIdeal.Read.val_main_v34_eq _ _ _ _).trans (Cert.MixKernelIdeal.Grad.dp m c).symm
    · exact (Cert.MixReferenceIdeal.Read.val_main_v35_eq _ _ _ _).trans (Cert.MixKernelIdeal.Grad.do_ m c).symm
    · refine (Cert.MixReferenceIdeal.Read.val_main_v37_eq _ _ _ _ _ _ _).trans ?_
      simp only [a4, a5, a6]
      exact (Cert.MixKernelIdeal.Grad.dgl m c).symm

end Cert.Mix

end
-- ==== Proof.Attn.Model.lean ====
/- Stick-breaking attention's gradient in real numbers: the two functions of a score that the forward pass uses, the
   weights, and the three gradients, for one row of queries against all earlier keys. Positions and columns are natural
   numbers; head `h` owns the columns `h * 64 … h * 64 + 63`. -/
module

public import Mathlib.Analysis.SpecialFunctions.Log.Basic
public import Mathlib.Data.EReal.Operations
public import Mathlib.Algebra.BigOperators.Intervals
public import Idealize.ShloMosaic.PureOps.Ideal

@[expose] public section

noncomputable section

namespace Cert.Attn

open Idealize.ShloMosaic Finset

/-! ### The two logarithms of a score -/

/-- The logarithm of the logistic function at `x`. -/
def logBeta (x : ℝ) : ℝ := min x 0 - Real.log (1 + Real.exp (-|x|))

/-- The logarithm of the logistic function at `-x`. -/
def logRest (x : ℝ) : ℝ := logBeta x - x

/-- `log_sigmoid (-x)` as it is computed from the larger of `x` and `0`. -/
theorem logRest_eq (x : ℝ) : logRest x = -(max x 0 + Real.log (1 + Real.exp (-|x|))) := by
  unfold logRest logBeta
  rcases le_total x 0 with h | h
  · rw [min_eq_left h, max_eq_right h]; ring
  · rw [min_eq_right h, max_eq_left h]; ring

/-- `log_sigmoid x` as it is computed from the larger of `-x` and `0`. -/
theorem logBeta_eq (x : ℝ) : logBeta x = -(max (-x) 0 + Real.log (1 + Real.exp (-|-x|))) := by
  unfold logBeta
  rw [abs_neg]
  rcases le_total x 0 with h | h
  · rw [min_eq_left h, max_eq_left (by linarith)]; ring
  · rw [min_eq_right h, max_eq_right (by linarith)]; ring

/-- The two probabilities add to one. -/
theorem exp_logRest (x : ℝ) : Real.exp (logRest x) = 1 - Real.exp (logBeta x) := by
  have key : ∀ y : ℝ, y ≤ 0 → Real.exp (y - Real.log (1 + Real.exp y)) + Real.exp (-Real.log (1 + Real.exp y)) = 1 := by
    intro y _
    have hp : 0 < 1 + Real.exp y := by positivity
    rw [Real.exp_sub, Real.exp_neg, Real.exp_log hp]
    field_simp
    ring
  rw [eq_sub_iff_add_eq]
  rcases le_total x 0 with h | h
  · have := key x h
    simp only [logRest, logBeta, min_eq_left h, abs_of_nonpos h, neg_neg]
    refine Eq.trans ?_ this
    rw [add_comm]
    congr 2
    ring
  · have := key (-x) (by linarith)
    simp only [logRest, logBeta, min_eq_right h, abs_of_nonneg h, zero_sub]
    refine Eq.trans ?_ this
    congr 2
    ring

/-! ### Attention and its gradient -/

variable (q k v g : ℕ → ℕ → ℝ)

/-- The score of key `s` for query `t`. -/
def score (h t s : ℕ) : ℝ := (∑ d ∈ range 64, q t (h * 64 + d) * k s (h * 64 + d)) / 8

/-- What the first `s` keys leave unbroken, as a logarithm. -/
def restSum (h t s : ℕ) : ℝ := ∑ j ∈ range s, logRest (score q k h t j)

/-- The weight of key `s` for query `t`: its own share, of what the keys between `s` and `t` left. -/
def weight (h t s : ℕ) : ℝ :=
  Real.exp (logBeta (score q k h t s) + (restSum q k h t t - restSum q k h t (s + 1)))

/-- The gradient at a weight. -/
def dweight (h t s : ℕ) : ℝ := ∑ d ∈ range 64, g t (h * 64 + d) * v s (h * 64 + d)

/-- The gradient at the logarithm of a weight. -/
def mass (h t s : ℕ) : ℝ := dweight v g h t s * weight q k h t s

/-- The gradient at a score. -/
def dscore (h t s : ℕ) : ℝ :=
  mass q k v g h t s * (1 - Real.exp (logBeta (score q k h t s)))
    - (∑ j ∈ range s, mass q k v g h t j) * Real.exp (logBeta (score q k h t s))

/-- The gradient at the query `t`, column `c`. -/
def gradQ (t c : ℕ) : ℝ := (∑ s ∈ range t, dscore q k v g (c / 64) t s * k s c) / 8

/-- What query `t` contributes to the gradient at the key `s`, column `c`. -/
def partK (c s t : ℕ) : ℝ := if s < t then q t c / 8 * dscore q k v g (c / 64) t s else 0

/-- What query `t` contributes to the gradient at the value `s`, column `c`. -/
def partV (c s t : ℕ) : ℝ := if s < t then g t c * weight q k (c / 64) t s else 0

/-- The gradient at the key `s`, column `c`. -/
def gradK (s c : ℕ) : ℝ := ∑ t ∈ range 2048, partK q k v g c s t

/-- The gradient at the value `s`, column `c`. -/
def gradV (s c : ℕ) : ℝ := ∑ t ∈ range 2048, partV q k g c s t

/-! ### Reals among the extended reals -/

/-- A sum over the first `n` numbers that keeps those before `t` is the sum over the first `t`. -/
theorem sum_before (n t : ℕ) (h : t ≤ n) (f : ℕ → ℝ) : (∑ s ∈ range n, if s < t then f s else 0) = ∑ s ∈ range t, f s := by
  rw [← Finset.sum_filter]
  refine Finset.sum_congr ?_ fun _ _ => rfl
  ext a
  simp only [Finset.mem_filter, Finset.mem_range]
  omega

/-- A finite sum of reals, read among the extended reals. -/
theorem coe_sum {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The logarithm of a positive real. -/
theorem log_pos_coe {x : ℝ} (h : 0 < x) : Ideal.log (x : EReal) = (Real.log x : EReal) := by
  rw [Ideal.log_coe, if_neg (not_le.2 h)]

/-- The larger of two reals. -/
theorem coe_max (x y : ℝ) : max (x : EReal) (y : EReal) = ((max x y : ℝ) : EReal) :=
  ((EReal.coe_strictMono.monotone).map_max).symm

/-- The smaller of two reals. -/
theorem coe_min (x y : ℝ) : min (x : EReal) (y : EReal) = ((min x y : ℝ) : EReal) :=
  ((EReal.coe_strictMono.monotone).map_min).symm

/-- The absolute value of a real. -/
theorem absf_coe (x : ℝ) : max (x : EReal) (-(x : EReal)) = ((|x| : ℝ) : EReal) := by
  rw [← EReal.coe_neg, coe_max]; rfl

/-- The logarithm of `1 + exp x`, as it is computed without overflow. -/
theorem softplus_coe (x : ℝ) :
    max (x : EReal) 0 + Ideal.log1p (Ideal.exp (-(max (x : EReal) (-(x : EReal)))))
      = ((max x 0 + Real.log (1 + Real.exp (-|x|)) : ℝ) : EReal) := by
  have h1 : (0 : ℝ) < 1 + Real.exp (-|x|) := by positivity
  rw [absf_coe, ← EReal.coe_neg, Ideal.exp_coe, ← EReal.coe_zero, coe_max, Ideal.log1p, ← EReal.coe_one, ← EReal.coe_add,
    log_pos_coe h1, ← EReal.coe_add]

/-- An extended real below plus infinity in absolute value is real. -/
theorem coe_of_abs_lt {x : EReal} (h : max x (-x) < ⊤) : ∃ r : ℝ, x = (r : EReal) := by
  induction x with
  | bot => simp at h
  | top => simp at h
  | coe r => exact ⟨r, rfl⟩

end Cert.Attn

end
-- ==== Proof.Attn.Block.lean ====
module

public import proofs.«01_k».proof.Proof.Gen.AttnKernelIdeal.Value
public import proofs.«01_k».proof.Proof.Attn.Model
public import Idealize.ShloMosaic.Lib.Pointwise

@[expose] public section

set_option maxRecDepth 16384
set_option maxHeartbeats 4000000

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

/-- The 32 rows from row `o` of a block of 256 rows. -/
abbrev strip {φ : FTy} (o : ℕ) (h : S256x256.Slices ![o, 0] S32x256) (X : FVec Ideal S256x256 φ) :
    FVec Ideal S32x256 φ := extractStridedSlice S32x256 ![o, 0] X h

/-- Eight pieces of 32 rows, one under the other. -/
abbrev stack {φ : FTy} (f : Fin 8 → FVec Ideal S32x256 φ) : FVec Ideal S256x256 φ :=
  concatenate S256x256 0 [⟨S32x256, f 0⟩, ⟨S32x256, f 1⟩, ⟨S32x256, f 2⟩, ⟨S32x256, f 3⟩,
    ⟨S32x256, f 4⟩, ⟨S32x256, f 5⟩, ⟨S32x256, f 6⟩, ⟨S32x256, f 7⟩]
    concatenates_S32x256_S32x256_S32x256_S32x256_S32x256_S32x256_S32x256_S32x256_S256x256_d0

/-- Eight pieces of 32 entries of a column, one under the other. -/
abbrev stackCol {φ : FTy} (f : Fin 8 → FVec Ideal S32x1 φ) : FVec Ideal S256x1 φ :=
  concatenate S256x1 0 [⟨S32x1, f 0⟩, ⟨S32x1, f 1⟩, ⟨S32x1, f 2⟩, ⟨S32x1, f 3⟩,
    ⟨S32x1, f 4⟩, ⟨S32x1, f 5⟩, ⟨S32x1, f 6⟩, ⟨S32x1, f 7⟩]
    concatenates_S32x1_S32x1_S32x1_S32x1_S32x1_S32x1_S32x1_S32x1_S256x1_d0

theorem slices_rows (i : Fin 8) : S256x256.Slices ![32 * i.val, 0] S32x256 := by
  revert i; decide

/-- The eight strips of a block, stacked, are the block. -/
theorem stack_strips {φ : FTy} (X : FVec Ideal S256x256 φ) :
    stack (fun i => strip (32 * i.val) (slices_rows i) X) = X := by
  funext y
  obtain ⟨a, b, rfl⟩ : ∃ a b, y = ix2 a b := ⟨y 0, y 1, by ext i; fin_cases i <;> rfl⟩
  unfold stack strip
  pointwise
  split_ifs
  all_goals (congr 1; try (ext i; fin_cases i <;> simp))
  all_goals omega

theorem slices_col (i : Fin 8) : S256x1.Slices ![32 * i.val, 0] S32x1 := by
  revert i; decide

/-- The 32 entries from row `o` of a column of 256 entries. -/
abbrev stripCol {φ : FTy} (o : ℕ) (h : S256x1.Slices ![o, 0] S32x1) (X : FVec Ideal S256x1 φ) :
    FVec Ideal S32x1 φ := extractStridedSlice S32x1 ![o, 0] X h

/-- A column laid along the lanes of a block. -/
def spread {φ : FTy} (v : FVec Ideal S256x1 φ) : FVec Ideal S256x256 φ := fun y => v (ix2 (y 0) 0)

/-- The sum of each row of a block, as a column. -/
def sumRows (X : FVec Ideal S256x256 .f32) : FVec Ideal S256x1 .f32 :=
  fun y => ∑ x : Fin 256, X (ix2 (y 0) x)

theorem spread_strip (i : Fin 8) (v : FVec Ideal S256x1 .f32) :
    broadcastTo S32x256 (stripCol (32 * i.val) (slices_col i) v) broadcasts_S32x1_S32x256
      = strip (32 * i.val) (slices_rows i) (spread v) := by
  funext y
  obtain ⟨a, b, rfl⟩ : ∃ a b, y = ix2 a b := ⟨y 0, y 1, by ext i; fin_cases i <;> rfl⟩
  unfold stripCol strip spread
  pointwise

theorem sum_strips (X : FVec Ideal S256x256 .f32) :
    stackCol (fun i => shapeCast S32x1 (multiReduction .add [1] S32
      (strip (32 * i.val) (slices_rows i) X) 0x00000000#32 reduces_S32x256_S32 (.inl rfl) rfl)
      shapeCasts_S32_S32x1) = sumRows X := by
  funext y
  obtain ⟨a, b, rfl⟩ : ∃ a b, y = ix2 a b := ⟨y 0, y 1, by ext i; fin_cases i <;> rfl⟩
  obtain rfl : b = 0 := by ext; omega
  unfold stackCol strip sumRows
  pointwise
  split_ifs
  all_goals refine Finset.sum_congr rfl fun x _ => ?_
  all_goals (congr 1; try (ext i; fin_cases i <;> simp))
  all_goals omega

/-- The zero constant, laid over a block. -/
abbrev zeros : FVec Ideal S256x256 .f32 := broadcast S256x256 (Scalar.ofBits .f32 0x00000000#32)

/-- The constant one, laid over a block. -/
abbrev ones : FVec Ideal S256x256 .f32 := broadcast S256x256 (Scalar.ofBits .f32 0x3F800000#32)

/-- Where a key stands before the query of its row, inside one block. -/
def causal : IVec S256x256 1 :=
  cmpi .slt (addi (iota .tc S256x256 32 [1] iota_S256x256_d1_w32) (broadcast S256x256 0#32))
    (iota .tc S256x256 32 [0] iota_S256x256_d0_w32)

/-- The logarithms of the stick fractions of a block of scores. -/
def logB (z : FVec Ideal S256x256 .f32) : FVec Ideal S256x256 .f32 :=
  subf (minimumf z zeros) (log (addf ones (exp (subf zeros (absf z)))))

/-- The logarithms of what the fractions leave. -/
def logR (z : FVec Ideal S256x256 .f32) : FVec Ideal S256x256 .f32 := subf (logB z) z

/-- The same where the mask holds, and zero elsewhere. -/
def logRM (M : IVec S256x256 1) (z : FVec Ideal S256x256 .f32) : FVec Ideal S256x256 .f32 :=
  select M (logR z) zeros

/-- What rounding to bf16 leaves of a value. -/
def rest (X : FVec Ideal S256x256 .f32) : FVec Ideal S256x256 .f32 :=
  subf X (extf .f32 (truncf .bf16 X bitsLt_bf16_f32) bitsLt_bf16_f32)

/-- The product of a block, split into its bf16 part and the rest, with a matrix laid out twice. -/
def twice (X : FVec Ideal S256x256 .f32) (U : FVec Ideal S512x256 .bf16) : FVec Ideal S256x256 .f32 :=
  matmul dot_S256x512_S512x256_S256x256_1_0_0_1_n_n none
    (concatenate S256x512 1 [⟨S256x256, truncf .bf16 X bitsLt_bf16_f32⟩,
      ⟨S256x256, truncf .bf16 (rest X) bitsLt_bf16_f32⟩]
      concatenates_S256x256_S256x256_S256x512_d1) U (constant S256x256 .f32 0x00000000#32)

/-- The mask that holds everywhere. -/
abbrev always : IVec S256x256 1 := fun _ => 1#1

/-- The attention weights of a block: the fraction times what the keys between leave. -/
def weights (M : IVec S256x256 1) (z : FVec Ideal S256x256 .f32) (left : FVec Ideal S256x1 .f32) :
    FVec Ideal S256x256 .f32 :=
  select M (exp (addf (logB z) (subf (spread left) (twice (logRM M z) k0_pay492)))) zeros

/-- The weights times their gradients. -/
def massOf (M : IVec S256x256 1) (z da : FVec Ideal S256x256 .f32) (left : FVec Ideal S256x1 .f32) :
    FVec Ideal S256x256 .f32 := mulf da (weights M z left)

/-- The gradient of a block of scores. -/
def dz (M : IVec S256x256 1) (z da : FVec Ideal S256x256 .f32) (left run : FVec Ideal S256x1 .f32) :
    FVec Ideal S256x256 .f32 :=
  select M (subf (mulf (massOf M z da left) (subf ones (exp (logB z))))
    (mulf (addf (spread run) (twice (massOf M z da left) k0_pay493)) (exp (logB z)))) zeros

/-! The same values as the strips of 32 rows they are computed in. -/

/-- The strip `i` of a block. -/
abbrev part {φ : FTy} (X : FVec Ideal S256x256 φ) (i : Fin 8) : FVec Ideal S32x256 φ :=
  strip (32 * i.val) (slices_rows i) X

/-- The strip `i` of a column, laid along the lanes. -/
abbrev partCol (v : FVec Ideal S256x1 .f32) (i : Fin 8) : FVec Ideal S32x256 .f32 :=
  broadcastTo S32x256 (stripCol (32 * i.val) (slices_col i) v) broadcasts_S32x1_S32x256

/-- The strip `i` of a mask. -/
abbrev partMask (M : IVec S256x256 1) (i : Fin 8) : IVec S32x256 1 :=
  extractStridedSlice S32x256 ![32 * i.val, 0] M (slices_rows i)

/-- The strip `i` of the weights. -/
abbrev weightsPart (M : IVec S256x256 1) (B UP : FVec Ideal S256x256 .f32)
    (left : FVec Ideal S256x1 .f32) (i : Fin 8) : FVec Ideal S32x256 .f32 :=
  select (partMask M i) (exp (addf (part B i) (subf (partCol left i) (part UP i))))
    (broadcast S32x256 (Scalar.ofBits .f32 0x00000000#32))

/-- The strip `i` of the gradient of the scores. -/
abbrev dzPart (M : IVec S256x256 1) (B EB : FVec Ideal S256x256 .f32) (E : Fin 8 → FVec Ideal S32x256 .f32)
    (run : FVec Ideal S256x1 .f32) (i : Fin 8) : FVec Ideal S32x256 .f32 :=
  select (partMask M i) (subf (mulf (E i) (subf (broadcast S32x256 (Scalar.ofBits .f32 0x3F800000#32))
      (exp (part B i)))) (mulf (addf (partCol run i) (part EB i)) (exp (part B i))))
    (broadcast S32x256 (Scalar.ofBits .f32 0x00000000#32))

theorem twice_parts {X : FVec Ideal S256x256 .f32} (f : Fin 8 → FVec Ideal S32x256 .f32)
    (U : FVec Ideal S512x256 .bf16) (hf : ∀ i, part X i = f i) :
    twice X U = matmul dot_S256x512_S512x256_S256x256_1_0_0_1_n_n none
    (concatenate S256x512 1
      [⟨S256x256, stack fun i => truncf .bf16 (f i) bitsLt_bf16_f32⟩,
       ⟨S256x256, stack fun i => truncf .bf16 (subf (f i) (extf .f32 (truncf .bf16 (f i)
          bitsLt_bf16_f32) bitsLt_bf16_f32)) bitsLt_bf16_f32⟩]
      concatenates_S256x256_S256x256_S256x512_d1) U (constant S256x256 .f32 0x00000000#32) := by
  obtain rfl : (fun i => part X i) = f := funext hf
  rw [twice, ← stack_strips (truncf .bf16 X bitsLt_bf16_f32),
    ← stack_strips (truncf .bf16 (rest X) bitsLt_bf16_f32)]
  rfl

theorem sum_parts {X : FVec Ideal S256x256 .f32} (f : Fin 8 → FVec Ideal S32x256 .f32)
    (hf : ∀ i, part X i = f i) : sumRows X = stackCol (fun i => shapeCast S32x1
      (multiReduction .add [1] S32 (f i) 0x00000000#32 reduces_S32x256_S32 (.inl rfl) rfl)
      shapeCasts_S32_S32x1) := by
  obtain rfl : (fun i => part X i) = f := funext hf
  exact (sum_strips X).symm

theorem stack_parts {X : FVec Ideal S256x256 .f32} (f : Fin 8 → FVec Ideal S32x256 .f32)
    (hf : ∀ i, part X i = f i) : X = stack f := by
  obtain rfl : (fun i => part X i) = f := funext hf
  exact (stack_strips X).symm

theorem weights_part (M : IVec S256x256 1) (z : FVec Ideal S256x256 .f32)
    (left : FVec Ideal S256x1 .f32) (i : Fin 8) : part (weights M z left) i
      = weightsPart M (logB z) (twice (logRM M z) k0_pay492) left i := by
  unfold weightsPart partCol
  rw [spread_strip]
  rfl

theorem mass_part (M : IVec S256x256 1) (z da : FVec Ideal S256x256 .f32)
    (left : FVec Ideal S256x1 .f32) (i : Fin 8) : part (massOf M z da left) i
      = mulf (part da i) (weightsPart M (logB z) (twice (logRM M z) k0_pay492) left i) := by
  rw [← weights_part]
  rfl

theorem dz_part (M : IVec S256x256 1) (z da : FVec Ideal S256x256 .f32)
    (left run : FVec Ideal S256x1 .f32) (i : Fin 8) : part (dz M z da left run) i
      = dzPart M (logB z) (twice (massOf M z da left) k0_pay493) (fun i => mulf (part da i)
          (weightsPart M (logB z) (twice (logRM M z) k0_pay492) left i)) run i := by
  unfold dzPart
  beta_reduce
  rw [← mass_part]
  unfold partCol
  rw [spread_strip]
  rfl

/-! ### What a block adds to the three gradients -/

/-- A block of score gradients times the keys. -/
def intoQ (D : FVec Ideal S256x256 .f32) (kb : FVec Ideal S256x128 .bf16) : FVec Ideal S256x128 .f32 :=
  matmul dot_S256x256_S256x128_S256x128_1_0_0_1_n_n none
    (truncf .bf16 D bitsLt_bf16_f32 : FVec Ideal S256x256 .bf16) kb (constant S256x128 .f32 0x00000000#32)

/-- The queries (or the incoming gradients) times a block. -/
def intoK (a : FVec Ideal S128x256 .bf16) (D : FVec Ideal S256x256 .f32) : FVec Ideal S128x256 .f32 :=
  matmul dot_S128x256_S256x256_S128x256_1_0_0_1_n_n none a
    (truncf .bf16 D bitsLt_bf16_f32 : FVec Ideal S256x256 .bf16) (constant S128x256 .f32 0x00000000#32)

/-- An accumulator block with what both heads add. -/
def grown (old : FVec Ideal S1x128x256 .f32) (a b : FVec Ideal S128x256 .bf16)
    (D E : FVec Ideal S256x256 .f32) : FVec Ideal S1x128x256 .f32 :=
  shapeCast S1x128x256 (addf (shapeCast S128x256 old shapeCasts_S1x128x256_S128x256)
    (addf (intoK a D) (intoK b E))) shapeCasts_S128x256_S1x128x256

/-- The query gradient as it is written out: one head in the first half of the lanes, the other in
the second. -/
def written (dq0 dq1 : FVec Ideal S256x128 .f32) (D E : FVec Ideal S256x256 .f32)
    (kb : FVec Ideal S256x128 .bf16) : FVec Ideal S256x128 .bf16 :=
  truncf .bf16 (mulf (select k0_pay475 (addf dq0 (intoQ D kb)) (addf dq1 (intoQ E kb)))
    (broadcast S256x128 (FloatOps.ofBits .f32 0x3E000000#32))) bitsLt_bf16_f32

end Cert.AttnKernelIdeal.Grad
-- ==== Proof.Attn.Head.lean ====
module

public import proofs.«01_k».proof.Proof.Gen.AttnKernelIdeal.Value
public import proofs.«01_k».proof.Proof.Attn.Model
public import Idealize.ShloMosaic.Lib.Pointwise
public import proofs.«01_k».proof.Proof.Attn.Block

/-!
The values of one block of one head: when the scores and what is carried along are real numbers, the
logarithms, the weights, their masses and the score gradients are the ones of the model.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

theorem one_const : Ideal.ofBits .f32 0x3F800000#32 = ((1 : ℝ) : EReal) := by
  simp [Ideal.ofBits, Ideal.ieee, -EReal.coe_mul]; norm_num

theorem zero_const : Ideal.ofBits .f32 0x00000000#32 = ((0 : ℝ) : EReal) := by
  simp [Ideal.ofBits, Ideal.ieee]

/-- The logarithm of the fraction of a real score. -/
theorem logB_coe (z : FVec Ideal S256x256 .f32) (y : S256x256.Idx) (x : ℝ) (h : z y = (x : EReal)) :
    logB z y = ((logBeta x : ℝ) : EReal) := by
  have h1 : (0 : ℝ) < 1 + Real.exp (-|x|) := by positivity
  show min (z y) (Ideal.ofBits .f32 0x00000000#32) - Ideal.log (Ideal.ofBits .f32 0x3F800000#32
    + Ideal.exp (Ideal.ofBits .f32 0x00000000#32 - max (z y) (-(z y)))) = _
  rw [h, zero_const, one_const, absf_coe, ← EReal.coe_sub, Ideal.exp_coe, ← EReal.coe_add, zero_sub, log_pos_coe h1, coe_min,
    ← EReal.coe_sub]
  rfl

/-- A comparison of two small numbers, as a word, as a number. -/
theorem bit_coe (p : Prop) [Decidable p] : (FloatOps.sitofp FTy.f32 (BitVec.setWidth 32 (BitVec.ofBool (decide p)) : BitVec 32) : Ideal .f32)
    = ((if p then 1 else 0 : ℝ) : EReal) := by
  by_cases h : p <;> simp only [h, decide_true, decide_false, if_true, if_false]
  · show ((((BitVec.setWidth 32 (BitVec.ofBool true)).toInt : ℝ)) : EReal) = _
    simp
  · show ((((BitVec.setWidth 32 (BitVec.ofBool false)).toInt : ℝ)) : EReal) = _
    simp

/-- Row `x` of the matrix that adds up the columns up to each column. -/
theorem upto_apply (x : Fin 512) (c : Fin 256) :
    k0_pay492 (F := Ideal) (ix2 x c) = (((if x.val % 256 ≤ c.val then 1 else 0 : ℝ)) : EReal) := by
  pointwise [k0_pay492]
  word_cmp
  split_ifs with h h' h' <;> rw [bit_coe] <;> congr 1 <;> first | rw [if_pos (by omega)] | rw [if_neg (by omega)]

/-- Row `x` of the matrix that adds up the columns before each column. -/
theorem before_apply (x : Fin 512) (c : Fin 256) :
    k0_pay493 (F := Ideal) (ix2 x c) = (((if x.val % 256 < c.val then 1 else 0 : ℝ)) : EReal) := by
  pointwise [k0_pay493]
  word_cmp
  split_ifs with h h' h' <;> rw [bit_coe] <;> congr 1 <;> first | rw [if_pos (by omega)] | rw [if_neg (by omega)]

/-- The product with a matrix of numbers laid out twice: the rests of real values are zero. -/
theorem twice_coe (X : FVec Ideal S256x256 .f32) (U : FVec Ideal S512x256 .bf16) (r c : Fin 256)
    (x : ℕ → ℝ) (w : ℕ → ℕ → ℝ)
    (hX : ∀ y : Fin 256, X (ix2 r y) = ((x y.val : ℝ) : EReal))
    (hU : ∀ (y : Fin 512) (c : Fin 256), U (ix2 y c) = ((w (y.val % 256) c.val : ℝ) : EReal)) :
    twice X U (ix2 r c) = ((∑ y ∈ Finset.range 256, x y * w y c.val : ℝ) : EReal) := by
  unfold twice rest
  pointwise [hX, hU]
  simp only [← EReal.coe_sub, ← EReal.coe_mul, coe_sum, sub_self, zero_mul, Finset.sum_const_zero, EReal.coe_zero, add_zero]
  rw [Finset.sum_range]
  refine congrArg _ (Finset.sum_congr rfl fun y _ => ?_)
  rw [Nat.mod_eq_of_lt y.isLt]

variable (q k v g : ℕ → ℕ → ℝ) (h t₀ s₀ : ℕ)

/-- What a block of one head holds: the scores, the weights' gradients, and what is left and passed over at its first key. -/
structure Holds (z da : FVec Ideal S256x256 .f32) (left run : FVec Ideal S256x1 .f32) : Prop where
  score : ∀ r c : Fin 256, z (ix2 r c) = ((score q k h (t₀ + r.val) (s₀ + c.val) : ℝ) : EReal)
  dweight : ∀ r c : Fin 256, da (ix2 r c) = ((dweight v g h (t₀ + r.val) (s₀ + c.val) : ℝ) : EReal)
  left : ∀ r : Fin 256, left (ix2 r 0)
    = ((restSum q k h (t₀ + r.val) (t₀ + r.val) - restSum q k h (t₀ + r.val) s₀ : ℝ) : EReal)
  run : ∀ r : Fin 256, run (ix2 r 0) = ((∑ j ∈ Finset.range s₀, mass q k v g h (t₀ + r.val) j : ℝ) : EReal)

/-- A mask that keeps an initial part of every row. -/
structure Keeps (M : IVec S256x256 1) (P : ℕ → ℕ → Prop) [∀ r c, Decidable (P r c)] : Prop where
  mask : ∀ r c : Fin 256, M (ix2 r c) = if P r.val c.val then 1#1 else 0#1
  down : ∀ r c c' : ℕ, c' ≤ c → P r c → P r c'

variable {q k v g h t₀ s₀} {z da : FVec Ideal S256x256 .f32} {left run : FVec Ideal S256x1 .f32}
  {M : IVec S256x256 1} {P : ℕ → ℕ → Prop} [∀ r c, Decidable (P r c)]

theorem select_coe {a : BitVec 1} {p : Prop} [Decidable p] (ha : a = if p then 1#1 else 0#1) (x : EReal) (y : ℝ)
    (hx : p → x = (y : EReal)) : Scalar.select a x (Ideal.ofBits .f32 0x00000000#32) = ((if p then y else 0 : ℝ) : EReal) := by
  rw [ha]
  by_cases hp : p
  · rw [if_pos hp, if_pos hp]; exact hx hp
  · rw [if_neg hp, if_neg hp]; exact zero_const

theorem rests_coe (H : Holds q k v g h t₀ s₀ z da left run) (K : Keeps M P) (r c : Fin 256) :
    logRM M z (ix2 r c)
      = ((if P r.val c.val then logRest (score q k h (t₀ + r.val) (s₀ + c.val)) else 0 : ℝ) : EReal) := by
  refine select_coe (K.mask r c) _ _ fun _ => ?_
  show logB z (ix2 r c) - z (ix2 r c) = _
  rw [logB_coe z _ _ (H.score r c), H.score, ← EReal.coe_sub]
  rfl

/-- A sum over a row of a block that keeps an initial part, up to a kept column. -/
theorem sum_kept (K : Keeps M P) (r c : ℕ) (hc : c < 256) (hp : P r c) (n : ℕ) (hn : n = c ∨ n = c + 1) (f : ℕ → ℝ)
    (w : ℕ → ℝ) (hw : ∀ y, w y = if y < n then 1 else 0) :
    ∑ y ∈ Finset.range 256, (if P r y then f y else 0) * w y = ∑ y ∈ Finset.range n, f y := by
  rw [← sum_before 256 n (by omega)]
  refine Finset.sum_congr rfl fun y _ => ?_
  rw [hw]
  by_cases hy : y < n
  · rw [if_pos hy, if_pos hy, if_pos (K.down r c y (by omega) hp), mul_one]
  · rw [if_neg hy, if_neg hy, mul_zero]

theorem weights_coe (H : Holds q k v g h t₀ s₀ z da left run) (K : Keeps M P) (r c : Fin 256) :
    weights M z left (ix2 r c)
      = ((if P r.val c.val then weight q k h (t₀ + r.val) (s₀ + c.val) else 0 : ℝ) : EReal) := by
  refine select_coe (K.mask r c) _ _ fun hp => ?_
  show Ideal.exp (logB z (ix2 r c) + (left (ix2 r 0) - twice (logRM M z) k0_pay492 (ix2 r c))) = _
  rw [logB_coe z _ _ (H.score r c), H.left,
    twice_coe _ _ r c (fun y => if P r.val y then logRest (score q k h (t₀ + r.val) (s₀ + y)) else 0)
      (fun y c => if y ≤ c then 1 else 0) (rests_coe H K r) upto_apply,
    sum_kept K r.val c.val c.isLt hp (c.val + 1) (.inr rfl) (fun y => logRest (score q k h (t₀ + r.val) (s₀ + y))) _
      (fun y => by simp only [Nat.lt_succ_iff]),
    ← EReal.coe_sub, ← EReal.coe_add, Ideal.exp_coe]
  refine congrArg _ (congrArg _ (congrArg _ ?_))
  rw [sub_sub]
  unfold restSum
  rw [show s₀ + c.val + 1 = s₀ + (c.val + 1) from rfl,
    Finset.sum_range_add (fun j => logRest (score q k h (t₀ + r.val) j)) s₀]

theorem mass_coe (H : Holds q k v g h t₀ s₀ z da left run) (K : Keeps M P) (r c : Fin 256) :
    massOf M z da left (ix2 r c)
      = ((if P r.val c.val then mass q k v g h (t₀ + r.val) (s₀ + c.val) else 0 : ℝ) : EReal) := by
  show da (ix2 r c) * weights M z left (ix2 r c) = _
  rw [H.dweight, weights_coe H K, ← EReal.coe_mul]
  refine congrArg _ ?_
  split_ifs
  · rfl
  · exact mul_zero _

theorem dz_coe (H : Holds q k v g h t₀ s₀ z da left run) (K : Keeps M P) (r c : Fin 256) :
    dz M z da left run (ix2 r c)
      = ((if P r.val c.val then dscore q k v g h (t₀ + r.val) (s₀ + c.val) else 0 : ℝ) : EReal) := by
  refine select_coe (K.mask r c) _ _ fun hp => ?_
  show massOf M z da left (ix2 r c) * (Ideal.ofBits .f32 0x3F800000#32 - Ideal.exp (logB z (ix2 r c)))
    - (run (ix2 r 0) + twice (massOf M z da left) k0_pay493 (ix2 r c)) * Ideal.exp (logB z (ix2 r c)) = _
  rw [mass_coe H K, if_pos hp, logB_coe z _ _ (H.score r c), H.run, one_const, Ideal.exp_coe,
    twice_coe _ _ r c (fun y => if P r.val y then mass q k v g h (t₀ + r.val) (s₀ + y) else 0)
      (fun y c => if y < c then 1 else 0) (mass_coe H K r) before_apply,
    sum_kept K r.val c.val c.isLt hp c.val (.inl rfl) (fun y => mass q k v g h (t₀ + r.val) (s₀ + y)) _ (fun y => rfl),
    ← EReal.coe_sub, ← EReal.coe_mul, ← EReal.coe_add, ← EReal.coe_mul, ← EReal.coe_sub, ← Finset.sum_range_add]
  rfl

theorem keeps_always : Keeps always (fun _ _ => True) := ⟨fun _ _ => (if_pos trivial).symm, fun _ _ _ _ _ => trivial⟩

theorem keeps_causal : Keeps causal (fun r c => c < r) := by
  refine ⟨fun r c => ?_, fun r c c' h h' => by omega⟩
  pointwise [causal]
  show IntOp.cmpi .slt (BitVec.ofNat 32 c.val + 0#32) (BitVec.ofNat 32 r.val) = _
  rw [BitVec.add_zero]
  word_cmp
  by_cases h : c.val < r.val
  · rw [decide_eq_true h, if_pos h]; rfl
  · rw [decide_eq_false h, if_neg h]; rfl

end Cert.AttnKernelIdeal.Grad
-- ==== Proof.Attn.Side.lean ====
module

public import proofs.«01_k».proof.Proof.Gen.AttnKernelIdeal.Value
public import proofs.«01_k».proof.Proof.Attn.Model
public import Idealize.ShloMosaic.Lib.Pointwise
public import proofs.«01_k».proof.Proof.Attn.Head

/-!
One block of both heads: the operands hold one head and zeros in the other head's lanes, and a block's
passage adds its keys to what a head carries along.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

/-! ### Operands that hold one head and zeros -/

/-- Rows of one head: the lanes of head `j` hold `f`, the other lanes zero. -/
def Rows (j : ℕ) (f : ℕ → ℕ → ℝ) (A : FVec Ideal S256x128 .bf16) : Prop :=
  ∀ (r : Fin 256) (l : Fin 128), A (ix2 r l) = ((if l.val / 64 = j then f r.val l.val else 0 : ℝ) : EReal)

/-- Columns of one head: the transpose of `Rows`. -/
def Cols (j : ℕ) (f : ℕ → ℕ → ℝ) (A : FVec Ideal S128x256 .bf16) : Prop :=
  ∀ (l : Fin 128) (r : Fin 256), A (ix2 l r) = ((if l.val / 64 = j then f r.val l.val else 0 : ℝ) : EReal)

/-- A sum over both heads' lanes that keeps one head is the sum over that head's lanes. -/
theorem sum_lanes (j : ℕ) (hj : j < 2) (f : ℕ → ℝ) :
    ∑ l ∈ Finset.range 128, (if l / 64 = j then f l else 0) = ∑ d ∈ Finset.range 64, f (64 * j + d) := by
  rw [show (128 : ℕ) = 64 + 64 from rfl, Finset.sum_range_add]
  have h0 : ∀ d ∈ Finset.range 64, d / 64 = 0 := fun d hd => Nat.div_eq_of_lt (Finset.mem_range.1 hd)
  have h1 : ∀ d ∈ Finset.range 64, (64 + d) / 64 = 1 := fun d hd => by have := Finset.mem_range.1 hd; omega
  have e0 : ∑ d ∈ Finset.range 64, (if d / 64 = j then f d else 0) = ∑ d ∈ Finset.range 64, if 0 = j then f d else 0 :=
    Finset.sum_congr rfl fun d hd => by rw [h0 d hd]
  have e1 : ∑ d ∈ Finset.range 64, (if (64 + d) / 64 = j then f (64 + d) else 0)
      = ∑ d ∈ Finset.range 64, if 1 = j then f (64 + d) else 0 := Finset.sum_congr rfl fun d hd => by rw [h1 d hd]
  rw [e0, e1]
  obtain rfl | rfl : j = 0 ∨ j = 1 := by omega
  · simp
  · simp

/-- The scores of one head, and the gradients at its weights. -/
theorem rows_coe {j : ℕ} (hj : j < 2) {f : ℕ → ℕ → ℝ} {A : FVec Ideal S256x128 .bf16} (H : Rows j f A)
    (B : FVec Ideal S1x128x256 .bf16) (w : ℕ → ℕ → ℝ)
    (hB : ∀ (l : Fin 128) (c : Fin 256), B (ix3 0 l c) = ((w c.val l.val : ℝ) : EReal)) (r c : Fin 256) :
    k0_pay501 A B (ix2 r c) = ((∑ d ∈ Finset.range 64, f r.val (64 * j + d) * w c.val (64 * j + d) : ℝ) : EReal) := by
  have hA := H
  unfold Rows at hA
  pointwise [k0_pay501, k0_pay499, hA, hB]
  simp only [← EReal.coe_mul, coe_sum]
  refine congrArg _ ?_
  rw [← sum_lanes j hj (fun l => f r.val l * w c.val l), Finset.sum_range]
  refine Finset.sum_congr rfl fun l _ => ?_
  split_ifs <;> simp

/-- A block times the keys. -/
theorem intoQ_coe (D : FVec Ideal S256x256 .f32) (kb : FVec Ideal S256x128 .bf16) (d w : ℕ → ℕ → ℝ)
    (hD : ∀ r c : Fin 256, D (ix2 r c) = ((d r.val c.val : ℝ) : EReal))
    (hk : ∀ (c : Fin 256) (l : Fin 128), kb (ix2 c l) = ((w c.val l.val : ℝ) : EReal)) (r : Fin 256) (l : Fin 128) :
    intoQ D kb (ix2 r l) = ((∑ c ∈ Finset.range 256, d r.val c * w c l.val : ℝ) : EReal) := by
  unfold intoQ
  pointwise [hD, hk]
  simp only [← EReal.coe_mul, coe_sum]
  rw [Finset.sum_range]

/-- The two heads' columns times their blocks, on top of an accumulator. -/
theorem grown_coe (old : FVec Ideal S1x128x256 .f32) {a b : FVec Ideal S128x256 .bf16} {D E : FVec Ideal S256x256 .f32}
    {f : ℕ → ℕ → ℝ} {d : ℕ → ℕ → ℕ → ℝ} (ha : Cols 0 f a) (hb : Cols 1 f b)
    (hD : ∀ r c : Fin 256, D (ix2 r c) = ((d 0 r.val c.val : ℝ) : EReal))
    (hE : ∀ r c : Fin 256, E (ix2 r c) = ((d 1 r.val c.val : ℝ) : EReal)) (l : Fin 128) (c : Fin 256) :
    grown old a b D E (ix3 0 l c)
      = old (ix3 0 l c) + ((∑ r ∈ Finset.range 256, f r l.val * d (l.val / 64) r c.val : ℝ) : EReal) := by
  unfold Cols at ha hb
  unfold grown intoK
  pointwise [ha, hb, hD, hE]
  simp only [← EReal.coe_mul, coe_sum, ← EReal.coe_add]
  refine congrArg _ (congrArg _ ?_)
  rw [Finset.sum_range, ← Finset.sum_add_distrib]
  refine Finset.sum_congr rfl fun r _ => ?_
  obtain h | h : l.val / 64 = 0 ∨ l.val / 64 = 1 := by have := l.isLt; omega
  · rw [h]; simp
  · rw [h]; simp

/-! ### The offsets of the loop -/

theorem trips_eq (i : grid0.Coords) : (k0_t1_loop i).trips = (i 1).val :=
  (by decide : ∀ x : Fin 8, Scf.trips 0#32 (Scalar.addi 0#32 (Scalar.muli (Scalar.divsi (Scalar.subi (Scalar.muli 1#32
    (BitVec.ofNat 32 x.val)) 0#32) 1#32) 1#32)) 1#32 = x.val) (i 1)

theorem off2_eq (i : grid0.Coords) (k : Fin (k0_t1_loop i).trips) : k0_off2 i k = ![k.val, 0, 0] := by
  have h : k.val < 8 := (lt_of_lt_of_eq k.isLt (trips_eq i)).trans (i 1).isLt
  show ![(Scf.iv 0#32 1#32 k.val).toNat, 0, 0] = _
  rw [(by decide : ∀ x : Fin 8, (Scf.iv 0#32 1#32 x.val).toNat = x.val) ⟨k.val, h⟩]

theorem off1_eq (i : grid0.Coords) (k : Fin (k0_t1_loop i).trips) : k0_off1 i k = ![256 * k.val, 0] := by
  have h : k.val < 8 := (lt_of_lt_of_eq k.isLt (trips_eq i)).trans (i 1).isLt
  show ![(Scalar.indexCast (Scalar.muli (Scf.iv 0#32 1#32 k.val) 256#32)).toNat, 0] = _
  rw [(by decide : ∀ x : Fin 8, (Scalar.indexCast (Scalar.muli (Scf.iv 0#32 1#32 x.val) 256#32)).toNat = 256 * x.val) ⟨k.val, h⟩]

/-! ### One head before and after a block -/

variable (q k v g : ℕ → ℕ → ℝ)

/-- What head `2 p + j` carries along for the queries from `t₀` on, before the key `s₀`. -/
structure Before (p j t₀ s₀ : ℕ) (sum run : FVec Ideal S256x1 .f32) (dq : FVec Ideal S256x128 .f32) : Prop where
  sum : ∀ r : Fin 256, sum (ix2 r 0) = ((restSum q k (2 * p + j) (t₀ + r.val) s₀ : ℝ) : EReal)
  run : ∀ r : Fin 256, run (ix2 r 0) = ((∑ s ∈ Finset.range s₀, mass q k v g (2 * p + j) (t₀ + r.val) s : ℝ) : EReal)
  dq : ∀ (r : Fin 256) (l : Fin 128), dq (ix2 r l)
    = ((∑ s ∈ Finset.range s₀, dscore q k v g (2 * p + j) (t₀ + r.val) s * k s (128 * p + l.val) : ℝ) : EReal)

/-- The operands of one head `2 p + j`: its queries and incoming gradients in their lanes, and what all keys before the
query leave unbroken. -/
structure Operands (p j t₀ : ℕ) (Q G : FVec Ideal S256x128 .bf16) (total : FVec Ideal S256x1 .f32) : Prop where
  Q : Rows j (fun r l => q (t₀ + r) (128 * p + l) / 8) Q
  G : Rows j (fun r l => g (t₀ + r) (128 * p + l)) G
  total : ∀ r : Fin 256, total (ix2 r 0) = ((restSum q k (2 * p + j) (t₀ + r.val) (t₀ + r.val) : ℝ) : EReal)

/-- A block of keys (or values), transposed. -/
def Block (f : ℕ → ℕ → ℝ) (p s₀ : ℕ) (B : FVec Ideal S1x128x256 .bf16) : Prop :=
  ∀ (l : Fin 128) (c : Fin 256), B (ix3 0 l c) = ((f (s₀ + c.val) (128 * p + l.val) : ℝ) : EReal)

variable {q k v g} {p j t₀ s₀ : ℕ} {Q G : FVec Ideal S256x128 .bf16} {total sum run : FVec Ideal S256x1 .f32}
  {dq : FVec Ideal S256x128 .f32} {K W : FVec Ideal S1x128x256 .bf16} {kb : FVec Ideal S256x128 .bf16}
  {M : IVec S256x256 1} {P : ℕ → ℕ → Prop} [∀ r c, Decidable (P r c)]

theorem holds (hj : j < 2) (O : Operands q k g p j t₀ Q G total) (I : Before q k v g p j t₀ s₀ sum run dq)
    (hK : Block k p s₀ K) (hW : Block v p s₀ W) :
    Holds q k v g (2 * p + j) t₀ s₀ (k0_pay501 Q K) (k0_pay501 G W) (subf total sum) run where
  score r c := by
    rw [rows_coe hj O.Q K (fun c l => k (s₀ + c) (128 * p + l)) hK]
    refine congrArg _ ?_
    unfold score
    rw [Finset.sum_div]
    refine Finset.sum_congr rfl fun d _ => ?_
    rw [show 128 * p + (64 * j + d) = (2 * p + j) * 64 + d by ring]
    ring
  dweight r c := by
    rw [rows_coe hj O.G W (fun c l => v (s₀ + c) (128 * p + l)) hW]
    refine congrArg _ (Finset.sum_congr rfl fun d _ => ?_)
    rw [show 128 * p + (64 * j + d) = (2 * p + j) * 64 + d by ring]
  left r := by
    show total (ix2 r 0) - sum (ix2 r 0) = _
    rw [O.total, I.sum, ← EReal.coe_sub]
  run r := I.run r

/-- Adding up a block's rows. -/
theorem sumRows_coe (X : FVec Ideal S256x256 .f32) (x : ℕ → ℕ → ℝ) (h : ∀ r c : Fin 256, X (ix2 r c) = ((x r.val c.val : ℝ) : EReal))
    (r : Fin 256) : sumRows X (ix2 r 0) = ((∑ c ∈ Finset.range 256, x r.val c : ℝ) : EReal) := by
  unfold sumRows
  pointwise [h]
  simp only [coe_sum]
  rw [Finset.sum_range]

/-- A whole block's passage. -/
theorem Before.next (hj : j < 2) (O : Operands q k g p j t₀ Q G total) (I : Before q k v g p j t₀ s₀ sum run dq)
    (hK : Block k p s₀ K) (hW : Block v p s₀ W)
    (hkb : ∀ (c : Fin 256) (l : Fin 128), kb (ix2 c l) = ((k (s₀ + c.val) (128 * p + l.val) : ℝ) : EReal)) :
    Before q k v g p j t₀ (s₀ + 256) (addf sum (sumRows (logRM always (k0_pay501 Q K))))
      (addf run (sumRows (massOf always (k0_pay501 Q K) (k0_pay501 G W) (subf total sum))))
      (addf dq (intoQ (dz always (k0_pay501 Q K) (k0_pay501 G W) (subf total sum) run) kb)) where
  sum r := by
    show sum (ix2 r 0) + _ = _
    rw [I.sum, sumRows_coe _ (fun r c => if True then logRest (score q k (2 * p + j) (t₀ + r) (s₀ + c)) else 0)
      (rests_coe (holds hj O I hK hW) keeps_always), ← EReal.coe_add]
    simp only [if_true]
    unfold restSum
    rw [Finset.sum_range_add (fun s => logRest (score q k (2 * p + j) (t₀ + r.val) s)) s₀]
  run r := by
    show run (ix2 r 0) + _ = _
    rw [I.run, sumRows_coe _ (fun r c => if True then mass q k v g (2 * p + j) (t₀ + r) (s₀ + c) else 0)
      (mass_coe (holds hj O I hK hW) keeps_always), ← EReal.coe_add]
    simp only [if_true]
    rw [Finset.sum_range_add (fun s => mass q k v g (2 * p + j) (t₀ + r.val) s) s₀]
  dq r l := by
    show dq (ix2 r l) + _ = _
    rw [I.dq, intoQ_coe _ kb (fun r c => if True then dscore q k v g (2 * p + j) (t₀ + r) (s₀ + c) else 0)
      (fun c l => k (s₀ + c) (128 * p + l)) (dz_coe (holds hj O I hK hW) keeps_always) hkb, ← EReal.coe_add]
    simp only [if_true]
    rw [Finset.sum_range_add (fun s => dscore q k v g (2 * p + j) (t₀ + r.val) s * k s (128 * p + l.val)) s₀]

end Cert.AttnKernelIdeal.Grad
-- ==== Proof.Attn.Trip.lean ====
module

public import proofs.«01_k».proof.Proof.Gen.AttnKernelIdeal.Value
public import proofs.«01_k».proof.Proof.Attn.Model
public import Idealize.ShloMosaic.Lib.Pointwise
public import proofs.«01_k».proof.Proof.Attn.Block

/-!
One pass of the loop over the earlier key blocks, written as steps on whole blocks: the printed stages
work on eight strips of rows each, and strip by strip they are the functions of the whole block.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

section
variable (𝒱 : Variants) (c : Dev nD) (bd : Option 𝒱.V) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg7 : Memref sig .tc .hbm S128x1024 .f32) (harg7 : arg7.IsWhole) (arg8 : Memref sig .tc .vmem S256x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S8x128x256 .bf16) (harg12 : arg12.IsWhole) (arg13 : Memref sig .tc .vmem S8x128x256 .bf16) (harg13 : arg13.IsWhole) (arg14 : Memref sig .tc .vmem S8x128x256 .f32) (harg14 : arg14.IsWhole) (arg15 : Memref sig .tc .vmem S8x128x256 .f32) (harg15 : arg15.IsWhole) (arg1 : BitVec 32) (v5 : IVec S256x128 1) (v13 : FVec Ideal S256x128 .f32) (v16 : FVec Ideal S256x128 .bf16) (v19 : FVec Ideal S256x128 .bf16) (v28 : FVec Ideal S256x128 .bf16) (v29 : FVec Ideal S256x128 .bf16) (v31 : FVec Ideal S128x256 .bf16) (v33 : FVec Ideal S128x256 .bf16) (v35 : FVec Ideal S128x256 .bf16) (v37 : FVec Ideal S128x256 .bf16) (v39 : FVec Ideal S256x128 .f32) (X_arg11 : BufTy.Contents (Elt Ideal) arg11.view.ty) (X_arg12 : BufTy.Contents (Elt Ideal) arg12.view.ty) (X_arg13 : BufTy.Contents (Elt Ideal) arg13.view.ty) (k : Fin (k0_t1_loop i).trips) (acc : FVec Ideal S256x1 .f32 × FVec Ideal S256x1 .f32 × FVec Ideal S256x128 .f32 × FVec Ideal S256x1 .f32 × FVec Ideal S256x1 .f32 × FVec Ideal S256x128 .f32) (f_arg14 : BufTy.Contents (Elt Ideal) arg14.view.ty) (f_arg15 : BufTy.Contents (Elt Ideal) arg15.view.ty)

theorem up0 : trip_k0_t1.sl.r_42 i arg12 v16 X_arg12 k
    = twice (logRM always (trip_k0_t1.sl.r_1 i arg12 v16 X_arg12 k)) k0_pay492 := by
  rw [twice_parts _ _ fun _ => rfl]; rfl

theorem sum0 : trip_k0_t1.sl.r_41 i arg12 v16 X_arg12 k
    = sumRows (logRM always (trip_k0_t1.sl.r_1 i arg12 v16 X_arg12 k)) := by
  rw [sum_parts _ fun _ => rfl]; rfl

theorem weights0 : trip_k0_t1.sl.r_112 i arg12 v16 v39 X_arg12 k acc
    = weights always (trip_k0_t1.sl.r_1 i arg12 v16 X_arg12 k) (trip_k0_t1.sl.r_80 v39 acc) := by
  rw [stack_parts _ (weights_part _ _ _), ← up0]; rfl

theorem mass0 : trip_k0_t1.sl.r_113 i arg12 arg13 v16 v28 v39 X_arg12 X_arg13 k acc
    = sumRows (massOf always (trip_k0_t1.sl.r_1 i arg12 v16 X_arg12 k)
        (trip_k0_t1.sl.r_2 i arg13 v28 X_arg13 k) (trip_k0_t1.sl.r_80 v39 acc)) := by
  rw [sum_parts _ (mass_part _ _ _ _), ← up0]; rfl

theorem before0 : trip_k0_t1.sl.r_114 i arg12 arg13 v16 v28 v39 X_arg12 X_arg13 k acc
    = twice (massOf always (trip_k0_t1.sl.r_1 i arg12 v16 X_arg12 k)
        (trip_k0_t1.sl.r_2 i arg13 v28 X_arg13 k) (trip_k0_t1.sl.r_80 v39 acc)) k0_pay493 := by
  rw [twice_parts _ _ (mass_part _ _ _ _), ← up0]; rfl

theorem up1 : trip_k0_t1.sl.r_79 i arg12 v19 X_arg12 k
    = twice (logRM always (trip_k0_t1.sl.r_3 i arg12 v19 X_arg12 k)) k0_pay492 := by
  rw [twice_parts _ _ fun _ => rfl]; rfl

theorem sum1 : trip_k0_t1.sl.r_78 i arg12 v19 X_arg12 k
    = sumRows (logRM always (trip_k0_t1.sl.r_3 i arg12 v19 X_arg12 k)) := by
  rw [sum_parts _ fun _ => rfl]; rfl

theorem weights1 : trip_k0_t1.sl.r_143 i arg12 v5 v13 v19 X_arg12 k acc
    = weights always (trip_k0_t1.sl.r_3 i arg12 v19 X_arg12 k) (trip_k0_t1.sl.r_115 v5 v13 acc) := by
  rw [stack_parts _ (weights_part _ _ _), ← up1]; rfl

theorem mass1 : trip_k0_t1.sl.r_145 i arg12 arg13 v5 v13 v19 v29 X_arg12 X_arg13 k acc
    = sumRows (massOf always (trip_k0_t1.sl.r_3 i arg12 v19 X_arg12 k)
        (trip_k0_t1.sl.r_4 i arg13 v29 X_arg13 k) (trip_k0_t1.sl.r_115 v5 v13 acc)) := by
  rw [sum_parts _ (mass_part _ _ _ _), ← up1]; rfl

theorem before1 : trip_k0_t1.sl.r_146 i arg12 arg13 v5 v13 v19 v29 X_arg12 X_arg13 k acc
    = twice (massOf always (trip_k0_t1.sl.r_3 i arg12 v19 X_arg12 k)
        (trip_k0_t1.sl.r_4 i arg13 v29 X_arg13 k) (trip_k0_t1.sl.r_115 v5 v13 acc)) k0_pay493 := by
  rw [twice_parts _ _ (mass_part _ _ _ _), ← up1]; rfl

theorem dq0 : trip_k0_t1.sl.r_154 i arg11 arg12 arg13 v16 v28 v39 X_arg11 X_arg12 X_arg13 k acc
    = addf acc.2.2.1 (intoQ (dz always (trip_k0_t1.sl.r_1 i arg12 v16 X_arg12 k)
        (trip_k0_t1.sl.r_2 i arg13 v28 X_arg13 k) (trip_k0_t1.sl.r_80 v39 acc) acc.2.1)
      (trip_k0_t1.sl.r i arg11 X_arg11 k)) := by
  rw [stack_parts _ (dz_part _ _ _ _ _), ← up0, ← before0]; rfl

theorem dk0 : trip_k0_t1.sl.r_152 i arg12 arg13 v16 v28 v31 v39 X_arg12 X_arg13 k acc
    = intoK v31 (dz always (trip_k0_t1.sl.r_1 i arg12 v16 X_arg12 k)
        (trip_k0_t1.sl.r_2 i arg13 v28 X_arg13 k) (trip_k0_t1.sl.r_80 v39 acc) acc.2.1) := by
  rw [stack_parts _ (dz_part _ _ _ _ _), ← up0, ← before0]; rfl

theorem dq1 : trip_k0_t1.sl.r_163 i arg11 arg12 arg13 v5 v13 v19 v29 X_arg11 X_arg12 X_arg13 k acc
    = addf acc.2.2.2.2.2 (intoQ (dz always (trip_k0_t1.sl.r_3 i arg12 v19 X_arg12 k)
        (trip_k0_t1.sl.r_4 i arg13 v29 X_arg13 k) (trip_k0_t1.sl.r_115 v5 v13 acc) acc.2.2.2.2.1)
      (trip_k0_t1.sl.r i arg11 X_arg11 k)) := by
  rw [stack_parts _ (dz_part _ _ _ _ _), ← up1, ← before1]; rfl

/-- What one pass of the loop carries on. -/
theorem trip_next : tripR_k0_t1 (F := Ideal) 𝒱 c bd i arg2 harg2 arg3 harg3 arg4 harg4 arg5 harg5 arg6 harg6 arg7 harg7 arg8 harg8 arg9 harg9 arg10 harg10
    arg11 harg11 arg12 harg12 arg13 harg13 arg14 harg14 arg15 harg15 arg1 v5 v13 v16 v19 v28 v29 v31 v33 v35 v37 v39
    X_arg11 X_arg12 X_arg13 k acc f_arg14 f_arg15
    = (addf acc.1 (sumRows (logRM always (trip_k0_t1.sl.r_1 i arg12 v16 X_arg12 k))),
      addf acc.2.1 (sumRows (massOf always (trip_k0_t1.sl.r_1 i arg12 v16 X_arg12 k)
        (trip_k0_t1.sl.r_2 i arg13 v28 X_arg13 k) (trip_k0_t1.sl.r_80 v39 acc))),
      addf acc.2.2.1 (intoQ (dz always (trip_k0_t1.sl.r_1 i arg12 v16 X_arg12 k)
        (trip_k0_t1.sl.r_2 i arg13 v28 X_arg13 k) (trip_k0_t1.sl.r_80 v39 acc) acc.2.1)
        (trip_k0_t1.sl.r i arg11 X_arg11 k)),
      addf acc.2.2.2.1 (sumRows (logRM always (trip_k0_t1.sl.r_3 i arg12 v19 X_arg12 k))),
      addf acc.2.2.2.2.1 (sumRows (massOf always (trip_k0_t1.sl.r_3 i arg12 v19 X_arg12 k)
        (trip_k0_t1.sl.r_4 i arg13 v29 X_arg13 k) (trip_k0_t1.sl.r_115 v5 v13 acc))),
      addf acc.2.2.2.2.2 (intoQ (dz always (trip_k0_t1.sl.r_3 i arg12 v19 X_arg12 k)
        (trip_k0_t1.sl.r_4 i arg13 v29 X_arg13 k) (trip_k0_t1.sl.r_115 v5 v13 acc) acc.2.2.2.2.1)
        (trip_k0_t1.sl.r i arg11 X_arg11 k))) := by
  unfold tripR_k0_t1 trip_k0_t1
  dsimp only
  rw [← sum0, ← mass0, ← dq0, ← sum1, ← mass1, ← dq1]
  rfl

/-- What one pass of the loop stores. -/
theorem trip_stores : tripL_k0_t1 (F := Ideal) 𝒱 c bd i arg2 harg2 arg3 harg3 arg4 harg4 arg5 harg5 arg6 harg6 arg7 harg7 arg8 harg8 arg9 harg9 arg10 harg10
    arg11 harg11 arg12 harg12 arg13 harg13 arg14 harg14 arg15 harg15 arg1 v5 v13 v16 v19 v28 v29 v31 v33 v35 v37 v39
    X_arg11 X_arg12 X_arg13 k acc f_arg14 f_arg15
    = ([⟨Rect.unit (k0_off2 i k) S1x128x256.size (k0_off2_inb i k), grown (arg14.view.readAt (Elt Ideal)
          (Rect.unit (s := S8x128x256) (k0_off2 i k) S1x128x256.size (k0_off2_inb i k)).toLoadRect f_arg14) v31 v33
        (dz always (trip_k0_t1.sl.r_1 i arg12 v16 X_arg12 k)
        (trip_k0_t1.sl.r_2 i arg13 v28 X_arg13 k) (trip_k0_t1.sl.r_80 v39 acc) acc.2.1)
        (dz always (trip_k0_t1.sl.r_3 i arg12 v19 X_arg12 k)
        (trip_k0_t1.sl.r_4 i arg13 v29 X_arg13 k) (trip_k0_t1.sl.r_115 v5 v13 acc) acc.2.2.2.2.1)⟩],
      [⟨Rect.unit (k0_off2 i k) S1x128x256.size (k0_off2_inb i k), grown (arg15.view.readAt (Elt Ideal)
          (Rect.unit (s := S8x128x256) (k0_off2 i k) S1x128x256.size (k0_off2_inb i k)).toLoadRect f_arg15) v35 v37
        (weights always (trip_k0_t1.sl.r_1 i arg12 v16 X_arg12 k) (trip_k0_t1.sl.r_80 v39 acc))
        (weights always (trip_k0_t1.sl.r_3 i arg12 v19 X_arg12 k) (trip_k0_t1.sl.r_115 v5 v13 acc))⟩]) := by
  unfold tripL_k0_t1 trip_k0_t1
  dsimp only
  rw [← weights0, ← weights1, grown, ← dk0, stack_parts _ (dz_part _ _ _ _ _), ← up1, ← before1]
  rfl
end

end Cert.AttnKernelIdeal.Grad
-- ==== Proof.Attn.Loop.lean ====
module

public import proofs.«01_k».proof.Proof.Gen.AttnKernelIdeal.Value
public import proofs.«01_k».proof.Proof.Attn.Model
public import Idealize.ShloMosaic.Lib.Pointwise
public import proofs.«01_k».proof.Proof.Attn.Side
public import proofs.«01_k».proof.Proof.Attn.Trip
public import Idealize.ShloMosaic.Lib.VecWindow
public import Idealize.ShloMosaic.Lib.WritesUnit

/-!
The loop over the earlier key blocks: what the carried values and the two accumulators hold after each pass.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

/-! ### Blocks of a buffer -/

theorem window_block {α : Type} (x : S8x128x256.Idx → α) (a : ℕ) (h : a < 8) (inb) (l : Fin 128) (c : Fin 256) :
    VecWindow.window x ![a, 0, 0] S1x128x256.size inb (ix3 0 l c) = x (ix3 ⟨a, h⟩ l c) :=
  congrArg x (funext fun d => by fin_cases d <;> exact Fin.ext (by simp [Rect.emb, Rect.unit]))

theorem window_rows {α : Type} (x : S2048x128.Idx → α) (a : ℕ) (h : a < 8) (inb) (c : Fin 256) (l : Fin 128) :
    VecWindow.window x ![256 * a, 0] S256x128.size inb (ix2 c l) = x (ix2 ⟨256 * a + c.val, by omega⟩ l) :=
  congrArg x (funext fun d => by fin_cases d <;> exact Fin.ext (by simp [Rect.emb, Rect.unit]))

theorem put_block {α : Type} (x : S8x128x256.Idx → α) (a : ℕ) (w : S1x128x256.Idx → α) (b : Fin 8) (l : Fin 128) (c : Fin 256) :
    VecWindow.put x ![a, 0, 0] S1x128x256.size w (ix3 b l c) = if b.val = a then w (ix3 0 l c) else x (ix3 b l c) := by
  unfold VecWindow.put
  by_cases h : b.val = a
  · rw [if_pos h, dif_pos (fun d => by fin_cases d <;> simp [h])]
    exact congrArg w (funext fun d => by fin_cases d <;> exact Fin.ext (by simp [Rect.unitLocal, h]))
  · rw [if_neg h, dif_neg (fun H => h (by have := H 0; simp at this; omega))]

/-- What the buffers hold of the keys and the values of the heads `2 p` and `2 p + 1`. -/
structure Keys (k v : ℕ → ℕ → ℝ) (p : ℕ) (kb : FVec Ideal S2048x128 .bf16) (kt vt : FVec Ideal S8x128x256 .bf16) : Prop where
  kb : ∀ (s : Fin 2048) (l : Fin 128), kb (ix2 s l) = ((k s.val (128 * p + l.val) : ℝ) : EReal)
  kt : ∀ (a : Fin 8) (l : Fin 128) (c : Fin 256), kt (ix3 a l c) = ((k (256 * a.val + c.val) (128 * p + l.val) : ℝ) : EReal)
  vt : ∀ (a : Fin 8) (l : Fin 128) (c : Fin 256), vt (ix3 a l c) = ((v (256 * a.val + c.val) (128 * p + l.val) : ℝ) : EReal)

/-- An accumulator to which the first `n` blocks of the queries from `t₀` on have been added. -/
def Grown (part : ℕ → ℕ → ℕ → ℝ) (p t₀ n : ℕ) (before after : FVec Ideal S8x128x256 .f32) : Prop :=
  ∀ (a : Fin 8) (l : Fin 128) (c : Fin 256), after (ix3 a l c) = if a.val < n then before (ix3 a l c)
    + ((∑ r ∈ Finset.range 256, part (128 * p + l.val) (256 * a.val + c.val) (t₀ + r) : ℝ) : EReal) else before (ix3 a l c)

theorem Grown.next {part : ℕ → ℕ → ℕ → ℝ} {p t₀ n : ℕ} {before after : FVec Ideal S8x128x256 .f32}
    (H : Grown part p t₀ n before after) (hn : n < 8) {a b : FVec Ideal S128x256 .bf16} {D E : FVec Ideal S256x256 .f32}
    {f : ℕ → ℕ → ℝ} {d : ℕ → ℕ → ℕ → ℝ} (ha : Cols 0 f a) (hb : Cols 1 f b)
    (hD : ∀ r c : Fin 256, D (ix2 r c) = ((d 0 r.val c.val : ℝ) : EReal))
    (hE : ∀ r c : Fin 256, E (ix2 r c) = ((d 1 r.val c.val : ℝ) : EReal))
    (hp : ∀ r c l : ℕ, r < 256 → c < 256 → l < 128 → f r l * d (l / 64) r c = part (128 * p + l) (256 * n + c) (t₀ + r)) (inb) :
    Grown part p t₀ (n + 1) before (VecWindow.put after ![n, 0, 0] S1x128x256.size
      (grown (VecWindow.window after ![n, 0, 0] S1x128x256.size inb) a b D E)) := by
  intro m l c
  rw [put_block]
  by_cases h : m.val = n
  · obtain rfl : m = ⟨n, hn⟩ := Fin.ext h
    rw [if_pos rfl, grown_coe _ ha hb hD hE, window_block _ _ hn, H, if_neg (lt_irrefl _), if_pos (Nat.lt_succ_self _)]
    refine congrArg _ (congrArg _ (Finset.sum_congr rfl fun r hr => ?_))
    exact hp r c.val l.val (Finset.mem_range.1 hr) c.isLt l.isLt
  · rw [if_neg h, H]
    by_cases h' : m.val < n
    · rw [if_pos h', if_pos (by omega)]
    · rw [if_neg h', if_neg (by omega)]

variable {q k v g : ℕ → ℕ → ℝ}

section
variable (𝒱 : Variants) (c : Dev nD) (bd : Option 𝒱.V) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg7 : Memref sig .tc .hbm S128x1024 .f32) (harg7 : arg7.IsWhole) (arg8 : Memref sig .tc .vmem S256x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S8x128x256 .bf16) (harg12 : arg12.IsWhole) (arg13 : Memref sig .tc .vmem S8x128x256 .bf16) (harg13 : arg13.IsWhole) (arg14 : Memref sig .tc .vmem S8x128x256 .f32) (harg14 : arg14.IsWhole) (arg15 : Memref sig .tc .vmem S8x128x256 .f32) (harg15 : arg15.IsWhole) (arg1 : BitVec 32) (v5 : IVec S256x128 1) (v13 : FVec Ideal S256x128 .f32) (v16 : FVec Ideal S256x128 .bf16) (v19 : FVec Ideal S256x128 .bf16) (v28 : FVec Ideal S256x128 .bf16) (v29 : FVec Ideal S256x128 .bf16) (v31 : FVec Ideal S128x256 .bf16) (v33 : FVec Ideal S128x256 .bf16) (v35 : FVec Ideal S128x256 .bf16) (v37 : FVec Ideal S128x256 .bf16) (v39 : FVec Ideal S256x128 .f32) (X11 : BufTy.Contents (Elt Ideal) arg11.view.ty) (X12 : BufTy.Contents (Elt Ideal) arg12.view.ty) (X13 : BufTy.Contents (Elt Ideal) arg13.view.ty) (G14 : BufTy.Contents (Elt Ideal) arg14.view.ty) (G15 : BufTy.Contents (Elt Ideal) arg15.view.ty)

/-- What the loop over the earlier key blocks has done after `n` of them. -/
theorem loop (p : ℕ) (hK : Keys k v p (arg11.view.read (Elt Ideal) X11) (arg12.view.read (Elt Ideal) X12) (arg13.view.read (Elt Ideal) X13))
    (O₀ : Operands q k g p 0 (256 * (i 1).val) v16 v28 (k0_pay490 v39))
    (O₁ : Operands q k g p 1 (256 * (i 1).val) v19 v29 (k0_pay491 v5 v13))
    (hq₀ : Cols 0 (fun r l => q (256 * (i 1).val + r) (128 * p + l) / 8) v31)
    (hq₁ : Cols 1 (fun r l => q (256 * (i 1).val + r) (128 * p + l) / 8) v33)
    (hg₀ : Cols 0 (fun r l => g (256 * (i 1).val + r) (128 * p + l)) v35)
    (hg₁ : Cols 1 (fun r l => g (256 * (i 1).val + r) (128 * p + l)) v37) (n : ℕ) (hn : n ≤ (i 1).val) :
    (Before q k v g p 0 (256 * (i 1).val) (256 * n) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).1.1 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).1.2.1 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).1.2.2.1
    ∧ Before q k v g p 1 (256 * (i 1).val) (256 * n) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).1.2.2.2.1 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).1.2.2.2.2.1 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).1.2.2.2.2.2)
    ∧ Grown (partK q k v g) p (256 * (i 1).val) n (arg14.view.read (Elt Ideal) G14)
        (arg14.view.read (Elt Ideal) (arg14.view.writes (Elt Ideal) G14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).2.1))
    ∧ Grown (partV q k g) p (256 * (i 1).val) n (arg15.view.read (Elt Ideal) G15)
        (arg15.view.read (Elt Ideal) (arg15.view.writes (Elt Ideal) G15 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) n).2.2)) := by
  induction n with
  | zero =>
    have hz : ∀ j, Before q k v g p j (256 * (i 1).val) 0 k0_pay494 k0_pay495 k0_pay496 := fun j =>
      ⟨fun r => zero_const, fun r => zero_const, fun r l => zero_const⟩
    exact ⟨⟨hz 0, hz 1⟩, fun a l c => (if_neg (Nat.not_lt_zero _)).symm, fun a l c => (if_neg (Nat.not_lt_zero _)).symm⟩
  | succ n ih =>
    obtain ⟨⟨B₀, B₁⟩, GK, GV⟩ := ih (by omega)
    have h8 : n < 8 := by have : (i 1).val < 8 := (i 1).isLt; omega
    obtain ⟨m, hm⟩ : ∃ m : Fin (k0_t1_loop i).trips, m.val = n := ⟨⟨n, by rw [trips_eq]; omega⟩, rfl⟩
    subst hm
    have inb : ∀ a, ![m.val, 0, 0] a + S1x128x256.size a ≤ S8x128x256.size a := off2_eq i m ▸ k0_off2_inb i m
    have inb' : ∀ a, ![256 * m.val, 0] a + S256x128.size a ≤ S2048x128.size a := off1_eq i m ▸ k0_off1_inb i m
    have hk : Block k p (256 * m.val) (arg12.view.readAt (Elt Ideal)
        (Rect.unit (s := S8x128x256) (k0_off2 i m) S1x128x256.size (k0_off2_inb i m)).toLoadRect X12) := fun l c => by
      rw [View.readAt_unit _ _ _ (off2_eq i m) inb, window_block _ _ h8, hK.kt]
    have hv : Block v p (256 * m.val) (arg13.view.readAt (Elt Ideal)
        (Rect.unit (s := S8x128x256) (k0_off2 i m) S1x128x256.size (k0_off2_inb i m)).toLoadRect X13) := fun l c => by
      rw [View.readAt_unit _ _ _ (off2_eq i m) inb, window_block _ _ h8, hK.vt]
    have hkb : ∀ (c : Fin 256) (l : Fin 128), trip_k0_t1.sl.r i arg11 X11 m (ix2 c l)
        = ((k (256 * m.val + c.val) (128 * p + l.val) : ℝ) : EReal) := fun c l => by
      unfold trip_k0_t1.sl.r
      rw [View.readAt_unit _ _ _ (off1_eq i m) inb', window_rows _ _ h8, hK.kb]
    have hD₀ := dz_coe (holds (by norm_num) O₀ B₀ hk hv) keeps_always
    have hD₁ := dz_coe (holds (by norm_num) O₁ B₁ hk hv) keeps_always
    have hW₀ := weights_coe (holds (by norm_num) O₀ B₀ hk hv) keeps_always
    have hW₁ := weights_coe (holds (by norm_num) O₁ B₁ hk hv) keeps_always
    have hlt : ∀ r c : ℕ, c < 256 → 256 * m.val + c < 256 * (i 1).val + r := fun r c hc => by omega
    have hdiv : ∀ l : ℕ, (128 * p + l) / 64 = 2 * p + l / 64 := fun l => by omega
    rw [st_k0_t1_succ, trip_next, trip_stores]
    refine ⟨⟨B₀.next (by norm_num) O₀ hk hv hkb, B₁.next (by norm_num) O₁ hk hv hkb⟩, ?_, ?_⟩
    · dsimp only [List.cons_append, List.nil_append]
      rw [View.read_writes_cons_put _ _ _ _ _ (off2_eq i m), View.readAt_unit _ _ _ (off2_eq i m) inb]
      exact GK.next h8 hq₀ hq₁ (d := fun j r c => if True then dscore q k v g (2 * p + j) (256 * (i 1).val + r) (256 * m.val + c) else 0)
        hD₀ hD₁ (fun r c l hr hc hl => by simp only [if_true, partK]; rw [if_pos (hlt r c hc), hdiv]) inb
    · dsimp only [List.cons_append, List.nil_append]
      rw [View.read_writes_cons_put _ _ _ _ _ (off2_eq i m), View.readAt_unit _ _ _ (off2_eq i m) inb]
      exact GV.next h8 hg₀ hg₁ (d := fun j r c => if True then weight q k (2 * p + j) (256 * (i 1).val + r) (256 * m.val + c) else 0)
        hW₀ hW₁ (fun r c l hr hc hl => by simp only [if_true, partV]; rw [if_pos (hlt r c hc), hdiv]) inb
end

end Cert.AttnKernelIdeal.Grad
-- ==== Proof.Attn.Operand.lean ====
module

public import proofs.«01_k».proof.Proof.Gen.AttnKernelIdeal.Value
public import proofs.«01_k».proof.Proof.Attn.Model
public import Idealize.ShloMosaic.Lib.Pointwise
public import proofs.«01_k».proof.Proof.Attn.Loop

/-!
# The operands of one query block

The two heads of a pair lie side by side in a block of 128 columns. The kernel cuts one head
out by setting the other half to zero; the sums over 128 columns are then sums over one head.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

/-! ### The operands as they are prepared -/

theorem eighth_const : Ideal.ofBits .f32 0x3E000000#32 = ((1 / 8 : ℝ) : EReal) := by
  simp [Ideal.ofBits, Ideal.ieee, -EReal.coe_mul]; norm_num

theorem bottom_const : Ideal.ofBits .f32 0xFF800000#32 = (⊥ : EReal) := by
  simp [Ideal.ofBits, Ideal.ieee]

/-- The lanes of the first head. -/
theorem lane_apply (r : Fin 256) (l : Fin 128) : k0_pay475 (ix2 r l) = if l.val / 64 = 0 then 1#1 else 0#1 := by
  pointwise [k0_pay475]
  word_cmp
  have h : (l.val / 64 = 0) ↔ l.val < 64 := by omega
  by_cases hl : l.val < 64
  · rw [decide_eq_true hl, if_pos (h.2 hl)]; rfl
  · rw [decide_eq_false hl, if_neg (fun e => hl (h.1 e))]; rfl

theorem select_first (r : Fin 256) (l : Fin 128) (x y : EReal) :
    Scalar.select (k0_pay475 (ix2 r l)) x y = if l.val / 64 = 0 then x else y := by
  rw [lane_apply]
  by_cases h : l.val / 64 = 0
  · rw [if_pos h, if_pos h]; rfl
  · rw [if_neg h, if_neg h]; rfl

theorem first_coe {x z : EReal} {y : ℝ} (r : Fin 256) (l : Fin 128) (hx : x = (y : EReal)) (hz : z = ((0 : ℝ) : EReal)) :
    Scalar.select (k0_pay475 (ix2 r l)) x z = ((if l.val / 64 = 0 then y else 0 : ℝ) : EReal) := by
  rw [select_first, hx, hz]
  split_ifs <;> rfl

theorem second_coe {x z : EReal} {y : ℝ} (r : Fin 256) (l : Fin 128) (hx : x = (y : EReal)) (hz : z = ((0 : ℝ) : EReal)) :
    Scalar.select (k0_pay475 (ix2 r l)) z x = ((if l.val / 64 = 1 then y else 0 : ℝ) : EReal) := by
  rw [select_first, hx, hz]
  have := l.isLt
  split_ifs <;> first | rfl | omega

section
variable {f : ℕ → ℕ → ℝ} {X : FVec Ideal S256x128 .f32} (hX : ∀ (r : Fin 256) (l : Fin 128), X (ix2 r l) = ((f r.val l.val : ℝ) : EReal))
include hX

theorem scaled_apply (r : Fin 256) (l : Fin 128) : k0_pay476 (F := Ideal) X (ix2 r l) = ((f r.val l.val / 8 : ℝ) : EReal) := by
  pointwise [k0_pay476, hX]
  rw [eighth_const, ← EReal.coe_mul, mul_one_div]

theorem query_rows : Rows 0 (fun r l => f r l / 8) (k0_pay479 (F := Ideal) X) ∧ Rows 1 (fun r l => f r l / 8) (k0_pay480 (F := Ideal) X)
    ∧ Cols 0 (fun r l => f r l / 8) (k0_pay485 (F := Ideal) X) ∧ Cols 1 (fun r l => f r l / 8) (k0_pay486 (F := Ideal) X) := by
  refine ⟨fun r l => first_coe r l (scaled_apply hX r l) zero_const, fun r l => second_coe r l (scaled_apply hX r l) zero_const, fun l r => ?_, fun l r => ?_⟩
  · pointwise [k0_pay485]
    exact first_coe r l (scaled_apply hX r l) rfl
  · pointwise [k0_pay486]
    exact second_coe r l (scaled_apply hX r l) rfl

theorem grad_rows : Rows 0 f (k0_pay483 (F := Ideal) X) ∧ Rows 1 f (k0_pay484 (F := Ideal) X) ∧ Cols 0 f (k0_pay487 (F := Ideal) X) ∧ Cols 1 f (k0_pay488 (F := Ideal) X) := by
  have h : ∀ r l, k0_pay477 (F := Ideal) X (ix2 r l) = ((f r.val l.val : ℝ) : EReal) := fun r l => by pointwise [k0_pay477, hX]
  refine ⟨fun r l => first_coe r l (h r l) zero_const, fun r l => second_coe r l (h r l) zero_const, fun l r => ?_, fun l r => ?_⟩
  · pointwise [k0_pay487, k0_pay481]
    exact first_coe r l (h r l) rfl
  · pointwise [k0_pay488, k0_pay482]
    exact second_coe r l (h r l) rfl
end

/-- The largest of the lanes of one head, where they all hold the same. -/
theorem max_lanes (w : Fin 128 → EReal) (y : EReal) (j : ℕ) (hj : j < 2)
    (hw : ∀ l : Fin 128, w l = if l.val / 64 = j then y else ⊥) : (Finset.univ.fold max ⊥ w) = y := by
  show Finset.univ.sup w = y
  refine le_antisymm (Finset.sup_le fun l _ => ?_) ?_
  · rw [hw]; split_ifs
    · exact le_rfl
    · exact bot_le
  · have h := Finset.le_sup (f := w) (Finset.mem_univ (⟨64 * j, by omega⟩ : Fin 128))
    rwa [hw, if_pos (show 64 * j / 64 = j by omega)] at h

theorem total_first (Y : FVec Ideal S256x128 .f32) (y : ℕ → ℕ → ℝ)
    (hY : ∀ (r : Fin 256) (l : Fin 128), Y (ix2 r l) = ((y (l.val / 64) r.val : ℝ) : EReal)) (r : Fin 256) :
    k0_pay490 (F := Ideal) (k0_pay489 Y) (ix2 r 0) = ((y 0 r.val : ℝ) : EReal) := by
  pointwise [k0_pay490, k0_pay489, k0_pay478, hY]
  simp only [select_first, bottom_const]
  exact max_lanes _ _ 0 (by norm_num) fun l => by
    by_cases h : l.val / 64 = 0
    · rw [if_pos h, if_pos h, h]
    · rw [if_neg h, if_neg h]

theorem total_second (Y : FVec Ideal S256x128 .f32) (y : ℕ → ℕ → ℝ)
    (hY : ∀ (r : Fin 256) (l : Fin 128), Y (ix2 r l) = ((y (l.val / 64) r.val : ℝ) : EReal)) (r : Fin 256) :
    k0_pay491 (F := Ideal) k0_pay475 (k0_pay478 (F := Ideal) Y) (ix2 r 0) = ((y 1 r.val : ℝ) : EReal) := by
  pointwise [k0_pay491, k0_pay478, hY]
  simp only [select_first, bottom_const]
  exact max_lanes _ _ 1 (by norm_num) fun l => by
    have := l.isLt
    by_cases h : l.val / 64 = 0
    · rw [if_pos h, if_neg (by omega)]
    · have h1 : l.val / 64 = 1 := by omega
      rw [if_neg h, if_pos h1, h1]

end Cert.AttnKernelIdeal.Grad
-- ==== Proof.Attn.Point.lean ====
module

public import proofs.«01_k».proof.Proof.Gen.AttnKernelIdeal.Value
public import proofs.«01_k».proof.Proof.Attn.Model
public import Idealize.ShloMosaic.Lib.Pointwise
public import proofs.«01_k».proof.Proof.Attn.Operand

/-!
# One block of queries

The loop over the key blocks left of the diagonal, followed by the block on the diagonal, gives
the gradient of the queries of the block, and adds the block's share to the accumulated
gradients of the keys and the values.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

/-! ### The block on the diagonal -/

theorem trips_none (i : grid0.Coords) : Scf.trips (k0_t2_loop i).lb (k0_t2_loop i).ub (k0_t2_loop i).st = 0 :=
  (by decide : ∀ x : Fin 8, Scf.trips (Scalar.addi 0#32 (Scalar.muli (Scalar.divsi (Scalar.subi (Scalar.muli 1#32
    (BitVec.ofNat 32 x.val)) 0#32) 1#32) 1#32)) (Scalar.addi 0#32 (Scalar.subi (Scalar.muli 1#32 (BitVec.ofNat 32 x.val)) 0#32)) 1#32 = 0) (i 1)

theorem off5_eq (i : grid0.Coords) : k0_off5 i = ![256 * (i 1).val, 0] :=
  congrArg (fun x : ℕ => ![x, 0]) ((by decide : ∀ x : Fin 8, (Scalar.indexCast (Scalar.muli (Scalar.addi (Scalar.muli 1#32
    (BitVec.ofNat 32 x.val)) 0#32) 256#32)).toNat = 256 * x.val) (i 1))

theorem off6_eq (i : grid0.Coords) : k0_off6 i = ![(i 1).val, 0, 0] :=
  congrArg (fun x : ℕ => ![x, 0, 0]) ((by decide : ∀ x : Fin 8, (Scalar.indexCast (Scalar.addi (Scalar.muli 1#32
    (BitVec.ofNat 32 x.val)) 0#32)).toNat = x.val) (i 1))

variable {q k v g : ℕ → ℕ → ℝ}

/-- The query gradient of one head, with the block on the diagonal. -/
theorem Before.last {p j t₀ : ℕ} {Q G : FVec Ideal S256x128 .bf16} {total sum run : FVec Ideal S256x1 .f32}
    {dq : FVec Ideal S256x128 .f32} {K W : FVec Ideal S1x128x256 .bf16} {kb : FVec Ideal S256x128 .bf16}
    (hj : j < 2) (O : Operands q k g p j t₀ Q G total) (I : Before q k v g p j t₀ t₀ sum run dq)
    (hK : Block k p t₀ K) (hW : Block v p t₀ W)
    (hkb : ∀ (c : Fin 256) (l : Fin 128), kb (ix2 c l) = ((k (t₀ + c.val) (128 * p + l.val) : ℝ) : EReal)) (r : Fin 256) (l : Fin 128) :
    addf dq (intoQ (dz causal (k0_pay501 Q K) (k0_pay501 G W) (subf total sum) run) kb) (ix2 r l)
      = ((∑ s ∈ Finset.range (t₀ + r.val), dscore q k v g (2 * p + j) (t₀ + r.val) s * k s (128 * p + l.val) : ℝ) : EReal) := by
  show dq (ix2 r l) + _ = _
  rw [I.dq, intoQ_coe _ kb (fun r c => if c < r then dscore q k v g (2 * p + j) (t₀ + r) (t₀ + c) else 0)
    (fun c l => k (t₀ + c) (128 * p + l)) (dz_coe (holds hj O I hK hW) keeps_causal) hkb, ← EReal.coe_add,
    Finset.sum_range_add (fun s => dscore q k v g (2 * p + j) (t₀ + r.val) s * k s (128 * p + l.val)) t₀]
  refine congrArg _ (congrArg _ ?_)
  rw [← sum_before 256 r.val r.isLt.le]
  refine Finset.sum_congr rfl fun c _ => ?_
  split_ifs
  · rfl
  · exact zero_mul _

/-- What is written out is the gradient of the queries. -/
theorem written_coe {p t₀ : ℕ} {dq₀ dq₁ : FVec Ideal S256x128 .f32} {D E : FVec Ideal S256x256 .f32}
    {kb : FVec Ideal S256x128 .bf16} (r : Fin 256) (l : Fin 128)
    (h₀ : addf dq₀ (intoQ D kb) (ix2 r l)
      = ((∑ s ∈ Finset.range (t₀ + r.val), dscore q k v g (2 * p + 0) (t₀ + r.val) s * k s (128 * p + l.val) : ℝ) : EReal))
    (h₁ : addf dq₁ (intoQ E kb) (ix2 r l)
      = ((∑ s ∈ Finset.range (t₀ + r.val), dscore q k v g (2 * p + 1) (t₀ + r.val) s * k s (128 * p + l.val) : ℝ) : EReal)) :
    written dq₀ dq₁ D E kb (ix2 r l) = ((gradQ q k v g (t₀ + r.val) (128 * p + l.val) : ℝ) : EReal) := by
  show Scalar.select (k0_pay475 (ix2 r l)) (addf dq₀ (intoQ D kb) (ix2 r l)) (addf dq₁ (intoQ E kb) (ix2 r l))
    * Ideal.ofBits .f32 0x3E000000#32 = _
  have hl := l.isLt
  rw [select_first, h₀, h₁, eighth_const]
  unfold gradQ
  split_ifs with h
  · rw [show (128 * p + l.val) / 64 = 2 * p + 0 by omega, ← EReal.coe_mul, mul_one_div]
  · rw [show (128 * p + l.val) / 64 = 2 * p + 1 by omega, ← EReal.coe_mul, mul_one_div]

section
variable (𝒱 : Variants) (c : Dev nD) (bd : Option 𝒱.V) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg7 : Memref sig .tc .hbm S128x1024 .f32) (harg7 : arg7.IsWhole) (arg8 : Memref sig .tc .vmem S256x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S8x128x256 .bf16) (harg12 : arg12.IsWhole) (arg13 : Memref sig .tc .vmem S8x128x256 .bf16) (harg13 : arg13.IsWhole) (arg14 : Memref sig .tc .vmem S8x128x256 .f32) (harg14 : arg14.IsWhole) (arg15 : Memref sig .tc .vmem S8x128x256 .f32) (harg15 : arg15.IsWhole) (arg1 : BitVec 32) (v5 : IVec S256x128 1) (v13 : FVec Ideal S256x128 .f32) (v16 : FVec Ideal S256x128 .bf16) (v19 : FVec Ideal S256x128 .bf16) (v28 : FVec Ideal S256x128 .bf16) (v29 : FVec Ideal S256x128 .bf16) (v31 : FVec Ideal S128x256 .bf16) (v33 : FVec Ideal S128x256 .bf16) (v35 : FVec Ideal S128x256 .bf16) (v37 : FVec Ideal S128x256 .bf16) (v39 : FVec Ideal S256x128 .f32) (X11 : BufTy.Contents (Elt Ideal) arg11.view.ty) (X12 : BufTy.Contents (Elt Ideal) arg12.view.ty) (X13 : BufTy.Contents (Elt Ideal) arg13.view.ty) (G14 : BufTy.Contents (Elt Ideal) arg14.view.ty) (G15 : BufTy.Contents (Elt Ideal) arg15.view.ty)

/-- What one query block does: it writes out the gradient of its queries, and adds what its queries contribute to the
gradients of the keys and of the values up to its own. -/
theorem point (p : ℕ) (hK : Keys k v p (arg11.view.read (Elt Ideal) X11) (arg12.view.read (Elt Ideal) X12) (arg13.view.read (Elt Ideal) X13))
    (O₀ : Operands q k g p 0 (256 * (i 1).val) v16 v28 (k0_pay490 v39))
    (O₁ : Operands q k g p 1 (256 * (i 1).val) v19 v29 (k0_pay491 v5 v13))
    (hq₀ : Cols 0 (fun r l => q (256 * (i 1).val + r) (128 * p + l) / 8) v31)
    (hq₁ : Cols 1 (fun r l => q (256 * (i 1).val + r) (128 * p + l) / 8) v33)
    (hg₀ : Cols 0 (fun r l => g (256 * (i 1).val + r) (128 * p + l)) v35)
    (hg₁ : Cols 1 (fun r l => g (256 * (i 1).val + r) (128 * p + l)) v37) (st) (hst : (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 (k0_pay494, k0_pay495, k0_pay496, k0_pay494, k0_pay495, k0_pay496) (Scf.trips (k0_t1_loop i).lb (k0_t1_loop i).ub (k0_t1_loop i).st)) = st) :
    (∀ (r : Fin 256) (l : Fin 128), written st.1.2.2.1 st.1.2.2.2.2.2 (dz causal (k0_pay501 v16 (arg12.view.readAt (Elt Ideal) (Rect.unit (s := S8x128x256) (k0_off6 i) S1x128x256.size (k0_off6_inb i)).toLoadRect X12)) (k0_pay501 v28 (arg13.view.readAt (Elt Ideal) (Rect.unit (s := S8x128x256) (k0_off6 i) S1x128x256.size (k0_off6_inb i)).toLoadRect X13)) (subf (k0_pay490 v39) st.1.1) st.1.2.1) (dz causal (k0_pay501 v19 (arg12.view.readAt (Elt Ideal) (Rect.unit (s := S8x128x256) (k0_off6 i) S1x128x256.size (k0_off6_inb i)).toLoadRect X12)) (k0_pay501 v29 (arg13.view.readAt (Elt Ideal) (Rect.unit (s := S8x128x256) (k0_off6 i) S1x128x256.size (k0_off6_inb i)).toLoadRect X13)) (subf (k0_pay491 v5 v13) st.1.2.2.2.1) st.1.2.2.2.2.1) (arg11.view.readAt (Elt Ideal) (Rect.unit (s := S2048x128) (k0_off5 i) S256x128.size (k0_off5_inb i)).toLoadRect X11) (ix2 r l)
      = ((gradQ q k v g (256 * (i 1).val + r.val) (128 * p + l.val) : ℝ) : EReal))
    ∧ Grown (partK q k v g) p (256 * (i 1).val) ((i 1).val + 1) (arg14.view.read (Elt Ideal) G14)
        (arg14.view.read (Elt Ideal) (arg14.view.writes (Elt Ideal) G14 (⟨(Rect.unit (s := S8x128x256) (k0_off6 i) S1x128x256.size (k0_off6_inb i)), grown (arg14.view.readAt (Elt Ideal)
          (Rect.unit (s := S8x128x256) (k0_off6 i) S1x128x256.size (k0_off6_inb i)).toLoadRect (arg14.view.writes (Elt Ideal) G14 st.2.1)) v31 v33 (dz causal (k0_pay501 v16 (arg12.view.readAt (Elt Ideal) (Rect.unit (s := S8x128x256) (k0_off6 i) S1x128x256.size (k0_off6_inb i)).toLoadRect X12)) (k0_pay501 v28 (arg13.view.readAt (Elt Ideal) (Rect.unit (s := S8x128x256) (k0_off6 i) S1x128x256.size (k0_off6_inb i)).toLoadRect X13)) (subf (k0_pay490 v39) st.1.1) st.1.2.1) (dz causal (k0_pay501 v19 (arg12.view.readAt (Elt Ideal) (Rect.unit (s := S8x128x256) (k0_off6 i) S1x128x256.size (k0_off6_inb i)).toLoadRect X12)) (k0_pay501 v29 (arg13.view.readAt (Elt Ideal) (Rect.unit (s := S8x128x256) (k0_off6 i) S1x128x256.size (k0_off6_inb i)).toLoadRect X13)) (subf (k0_pay491 v5 v13) st.1.2.2.2.1) st.1.2.2.2.2.1)⟩ :: st.2.1)))
    ∧ Grown (partV q k g) p (256 * (i 1).val) ((i 1).val + 1) (arg15.view.read (Elt Ideal) G15)
        (arg15.view.read (Elt Ideal) (arg15.view.writes (Elt Ideal) G15 (⟨(Rect.unit (s := S8x128x256) (k0_off6 i) S1x128x256.size (k0_off6_inb i)), grown (arg15.view.readAt (Elt Ideal)
          (Rect.unit (s := S8x128x256) (k0_off6 i) S1x128x256.size (k0_off6_inb i)).toLoadRect (arg15.view.writes (Elt Ideal) G15 st.2.2)) v35 v37 (weights causal (k0_pay501 v16 (arg12.view.readAt (Elt Ideal) (Rect.unit (s := S8x128x256) (k0_off6 i) S1x128x256.size (k0_off6_inb i)).toLoadRect X12)) (subf (k0_pay490 v39) st.1.1)) (weights causal (k0_pay501 v19 (arg12.view.readAt (Elt Ideal) (Rect.unit (s := S8x128x256) (k0_off6 i) S1x128x256.size (k0_off6_inb i)).toLoadRect X12)) (subf (k0_pay491 v5 v13) st.1.2.2.2.1))⟩ :: st.2.2))) := by
  have h8 : (i 1).val < 8 := (i 1).isLt
  obtain ⟨⟨B₀, B₁⟩, GK, GV⟩ := loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v5 v13 v16 v19 v28 v29 v31 v33 v35 v37 v39 X11 X12 X13 G14 G15 p hK O₀ O₁ hq₀ hq₁ hg₀ hg₁
    (i 1).val le_rfl
  rw [show Scf.trips (k0_t1_loop i).lb (k0_t1_loop i).ub (k0_t1_loop i).st = (i 1).val from trips_eq i] at hst
  rw [hst] at B₀ B₁ GK GV
  have inb : ∀ a, ![(i 1).val, 0, 0] a + S1x128x256.size a ≤ S8x128x256.size a := off6_eq i ▸ k0_off6_inb i
  have inb' : ∀ a, ![256 * (i 1).val, 0] a + S256x128.size a ≤ S2048x128.size a := off5_eq i ▸ k0_off5_inb i
  have hk : Block k p (256 * (i 1).val) (arg12.view.readAt (Elt Ideal) (Rect.unit (s := S8x128x256) (k0_off6 i) S1x128x256.size (k0_off6_inb i)).toLoadRect X12) := fun l c => by
    rw [View.readAt_unit _ _ _ (off6_eq i) inb, window_block _ _ h8, hK.kt]
  have hv : Block v p (256 * (i 1).val) (arg13.view.readAt (Elt Ideal) (Rect.unit (s := S8x128x256) (k0_off6 i) S1x128x256.size (k0_off6_inb i)).toLoadRect X13) := fun l c => by
    rw [View.readAt_unit _ _ _ (off6_eq i) inb, window_block _ _ h8, hK.vt]
  have hkb : ∀ (c : Fin 256) (l : Fin 128), (arg11.view.readAt (Elt Ideal) (Rect.unit (s := S2048x128) (k0_off5 i) S256x128.size (k0_off5_inb i)).toLoadRect X11) (ix2 c l) = ((k (256 * (i 1).val + c.val) (128 * p + l.val) : ℝ) : EReal) := fun c l => by
    rw [View.readAt_unit _ _ _ (off5_eq i) inb', window_rows _ _ h8, hK.kb]
  have hD₀ := dz_coe (holds (by norm_num) O₀ B₀ hk hv) keeps_causal
  have hD₁ := dz_coe (holds (by norm_num) O₁ B₁ hk hv) keeps_causal
  have hW₀ := weights_coe (holds (by norm_num) O₀ B₀ hk hv) keeps_causal
  have hW₁ := weights_coe (holds (by norm_num) O₁ B₁ hk hv) keeps_causal
  have hdiv : ∀ l : ℕ, (128 * p + l) / 64 = 2 * p + l / 64 := fun l => by omega
  refine ⟨fun r l => written_coe r l (B₀.last (by norm_num) O₀ hk hv hkb r l) (B₁.last (by norm_num) O₁ hk hv hkb r l), ?_, ?_⟩
  · rw [View.read_writes_cons_put _ _ _ _ _ (off6_eq i), View.readAt_unit _ _ _ (off6_eq i) inb]
    exact GK.next h8 hq₀ hq₁ (d := fun j r c => if c < r then dscore q k v g (2 * p + j) (256 * (i 1).val + r) (256 * (i 1).val + c) else 0)
      hD₀ hD₁ (fun r c l hr hc hl => by simp only [partK, add_lt_add_iff_left, mul_ite, mul_zero, hdiv]) inb
  · rw [View.read_writes_cons_put _ _ _ _ _ (off6_eq i), View.readAt_unit _ _ _ (off6_eq i) inb]
    exact GV.next h8 hg₀ hg₁ (d := fun j r c => if c < r then weight q k (2 * p + j) (256 * (i 1).val + r) (256 * (i 1).val + c) else 0)
      hW₀ hW₁ (fun r c l hr hc hl => by simp only [partV, add_lt_add_iff_left, mul_ite, mul_zero, hdiv]) inb
end

end Cert.AttnKernelIdeal.Grad
-- ==== Proof.Attn.First.lean ====
module

public import proofs.«01_k».proof.Proof.Gen.AttnKernelIdeal.Value
public import proofs.«01_k».proof.Proof.Attn.Model
public import Idealize.ShloMosaic.Lib.Pointwise
public import proofs.«01_k».proof.Proof.Attn.Point

/-!
# The first query block of a pair of heads

The same stages for the first block of queries, which lays out the keys and the values and
clears the accumulators first.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

section
variable (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg8 : Memref sig .tc .vmem S256x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S8x128x256 .bf16) (harg12 : arg12.IsWhole) (arg13 : Memref sig .tc .vmem S8x128x256 .bf16) (harg13 : arg13.IsWhole) (arg14 : Memref sig .tc .vmem S8x128x256 .f32) (harg14 : arg14.IsWhole) (arg15 : Memref sig .tc .vmem S8x128x256 .f32) (harg15 : arg15.IsWhole)  (x0 : Vec Ideal S256x128 .f32) (x1 x2 : Vec Ideal S2048x128 .f32) (x3 x4 : Vec Ideal S256x128 .f32)

theorem up0_A : (kernelRun0_A.sl.r_53 (F := Ideal) c i arg2 harg2 arg3 harg3 arg12 x0 x1) = twice (logRM causal (kernelRun0_A.sl.r_23 (F := Ideal) c i arg2 harg2 arg3 harg3 arg12 x0 x1)) k0_pay492 := by
  rw [twice_parts _ _ fun _ => rfl]; rfl

theorem up1_A : (kernelRun0_A.sl.r_84 (F := Ideal) c i arg2 harg2 arg3 harg3 arg12 x0 x1) = twice (logRM causal (kernelRun0_A.sl.r_25 (F := Ideal) c i arg2 harg2 arg3 harg3 arg12 x0 x1)) k0_pay492 := by
  rw [twice_parts _ _ fun _ => rfl]; rfl

theorem weights0_A : (kernelRun0_A.sl.r_116 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = weights causal (kernelRun0_A.sl.r_23 (F := Ideal) c i arg2 harg2 arg3 harg3 arg12 x0 x1) (kernelRun0_A.sl.r_85 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) := by
  rw [stack_parts _ (weights_part _ _ _), ← up0_A]; rfl

theorem before0_A : (kernelRun0_A.sl.r_117 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = twice (massOf causal (kernelRun0_A.sl.r_23 (F := Ideal) c i arg2 harg2 arg3 harg3 arg12 x0 x1) (kernelRun0_A.sl.r_24 (F := Ideal) c i arg4 harg4 arg5 harg5 arg13 x2 x3) (kernelRun0_A.sl.r_85 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) k0_pay493 := by
  rw [twice_parts _ _ (mass_part _ _ _ _), ← up0_A]; rfl

theorem weights1_A : (kernelRun0_A.sl.r_147 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = weights causal (kernelRun0_A.sl.r_25 (F := Ideal) c i arg2 harg2 arg3 harg3 arg12 x0 x1) (kernelRun0_A.sl.r_118 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) := by
  rw [stack_parts _ (weights_part _ _ _), ← up1_A]; rfl

theorem before1_A : (kernelRun0_A.sl.r_148 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = twice (massOf causal (kernelRun0_A.sl.r_25 (F := Ideal) c i arg2 harg2 arg3 harg3 arg12 x0 x1) (kernelRun0_A.sl.r_26 (F := Ideal) c i arg4 harg4 arg5 harg5 arg13 x2 x3) (kernelRun0_A.sl.r_118 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) k0_pay493 := by
  rw [twice_parts _ _ (mass_part _ _ _ _), ← up1_A]; rfl

theorem dq0_A : (kernelRun0_A.sl.r_165 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = addf (kernelRun0_A.sl.r_16 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (intoQ (dz causal (kernelRun0_A.sl.r_23 (F := Ideal) c i arg2 harg2 arg3 harg3 arg12 x0 x1) (kernelRun0_A.sl.r_24 (F := Ideal) c i arg4 harg4 arg5 harg5 arg13 x2 x3) (kernelRun0_A.sl.r_85 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_15 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) (kernelRun0_A.sl.r_20 (F := Ideal) c i arg3 harg3 arg11 x1)) := by
  rw [stack_parts _ (dz_part _ _ _ _ _), ← up0_A, ← before0_A]; rfl

theorem dk0_A : (kernelRun0_A.sl.r_163 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = intoK (kernelRun0_A.sl.r_7 (F := Ideal) c arg2 harg2 x0) (dz causal (kernelRun0_A.sl.r_23 (F := Ideal) c i arg2 harg2 arg3 harg3 arg12 x0 x1) (kernelRun0_A.sl.r_24 (F := Ideal) c i arg4 harg4 arg5 harg5 arg13 x2 x3) (kernelRun0_A.sl.r_85 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_15 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) := by
  rw [stack_parts _ (dz_part _ _ _ _ _), ← up0_A, ← before0_A]; rfl

/-- The gradient of the queries that is written out. -/
theorem query_A : (k0_pay2 k0_pay475 (kernelRun0_A.sl.r_19 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_20 c i arg3 harg3 arg11 x1) (kernelRun0_A.sl.r_165 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_178 c i arg2 harg2 arg3 harg3 arg4 harg4 arg5 harg5 arg6 harg6 arg8 harg8 arg9 harg9 arg10 harg10 arg11 harg11 arg12 harg12 arg13 harg13 arg14 harg14 arg15 harg15 x0 x1 x2 x3 x4)) = written (kernelRun0_A.sl.r_16 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_19 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (dz causal (kernelRun0_A.sl.r_23 (F := Ideal) c i arg2 harg2 arg3 harg3 arg12 x0 x1) (kernelRun0_A.sl.r_24 (F := Ideal) c i arg4 harg4 arg5 harg5 arg13 x2 x3) (kernelRun0_A.sl.r_85 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_15 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) (dz causal (kernelRun0_A.sl.r_25 (F := Ideal) c i arg2 harg2 arg3 harg3 arg12 x0 x1) (kernelRun0_A.sl.r_26 (F := Ideal) c i arg4 harg4 arg5 harg5 arg13 x2 x3) (kernelRun0_A.sl.r_118 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_18 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) (kernelRun0_A.sl.r_20 (F := Ideal) c i arg3 harg3 arg11 x1) := by
  unfold written
  rw [← dq0_A, stack_parts _ (dz_part _ _ _ _ _), ← up1_A, ← before1_A]
  rfl

/-- The accumulator of the key gradients. -/
theorem keys_A : (k0_pay702 (kernelRun0_A.sl.r_8 c arg2 harg2 x0) kernelRun0_A.sl.v46 kernelRun0_A.sl.v47 (kernelRun0_A.sl.r_18 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_83 c i arg2 harg2 arg3 harg3 arg12 x0 x1) (kernelRun0_A.sl.r_146 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_148 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_163 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_167 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_168 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_169 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_171 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_172 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_173 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_174 c i arg2 harg2 arg3 harg3 arg12 x0 x1) (kernelRun0_A.sl.r_175 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_176 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_177 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.v1087 c i arg2 harg2 arg3 harg3 arg4 harg4 arg5 harg5 arg6 harg6 arg8 harg8 arg9 harg9 arg10 harg10 arg11 harg11 arg12 harg12 arg13 harg13 arg14 harg14 arg15 harg15 x0 x1 x2 x3 x4)) = grown (kernelRun0_A.sl.v1087 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_7 (F := Ideal) c arg2 harg2 x0) (kernelRun0_A.sl.r_8 (F := Ideal) c arg2 harg2 x0) (dz causal (kernelRun0_A.sl.r_23 (F := Ideal) c i arg2 harg2 arg3 harg3 arg12 x0 x1) (kernelRun0_A.sl.r_24 (F := Ideal) c i arg4 harg4 arg5 harg5 arg13 x2 x3) (kernelRun0_A.sl.r_85 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_15 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) (dz causal (kernelRun0_A.sl.r_25 (F := Ideal) c i arg2 harg2 arg3 harg3 arg12 x0 x1) (kernelRun0_A.sl.r_26 (F := Ideal) c i arg4 harg4 arg5 harg5 arg13 x2 x3) (kernelRun0_A.sl.r_118 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_18 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) := by
  unfold grown
  rw [← dk0_A, stack_parts _ (dz_part _ _ _ _ _), ← up1_A, ← before1_A]
  rfl

/-- The accumulator of the value gradients. -/
theorem values_A : (k0_pay1 (kernelRun0_A.sl.r_179 c i arg2 harg2 arg3 harg3 arg4 harg4 arg5 harg5 arg6 harg6 arg8 harg8 arg9 harg9 arg10 harg10 arg11 harg11 arg12 harg12 arg13 harg13 arg14 harg14 arg15 harg15 x0 x1 x2 x3 x4)) = grown (kernelRun0_A.sl.v1097 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_9 (F := Ideal) c arg5 harg5 x3) (kernelRun0_A.sl.r_10 (F := Ideal) c arg5 harg5 x3) (weights causal (kernelRun0_A.sl.r_23 (F := Ideal) c i arg2 harg2 arg3 harg3 arg12 x0 x1) (kernelRun0_A.sl.r_85 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) (weights causal (kernelRun0_A.sl.r_25 (F := Ideal) c i arg2 harg2 arg3 harg3 arg12 x0 x1) (kernelRun0_A.sl.r_118 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4)) := by
  rw [← weights0_A, ← weights1_A]
  rfl

/-- What the loop over the key blocks left of the diagonal leaves behind. -/
def swept_A := st_k0_t1 (F := Ideal) Variants.none c none i arg2 harg2 arg3 harg3 arg4 harg4 arg5 harg5 arg6 harg6 (Memref.whole main_arg2) (Memref.isWhole_whole _) arg8 harg8 arg9 harg9 arg10 harg10 arg11 harg11 arg12 harg12 arg13 harg13 arg14 harg14 arg15 harg15 (BitVec.ofNat 32 (i 1).val) k0_pay475 (kernelRun0_A.sl.r_2 c arg6 harg6 x4) (kernelRun0_A.sl.r_3 c arg2 harg2 x0) (kernelRun0_A.sl.r_4 c arg2 harg2 x0) (kernelRun0_A.sl.r_5 c arg5 harg5 x3) (kernelRun0_A.sl.r_6 c arg5 harg5 x3) (kernelRun0_A.sl.r_7 c arg2 harg2 x0) (kernelRun0_A.sl.r_8 c arg2 harg2 x0) (kernelRun0_A.sl.r_9 c arg5 harg5 x3) (kernelRun0_A.sl.r_10 c arg5 harg5 x3) (kernelRun0_A.sl.r_11 c arg6 harg6 x4) (arg11.view.writes (Elt Ideal) arg11.view.junk (kernelRun0_A.sl.HS0_1 c arg3 harg3 x1)) (arg12.view.writes (Elt Ideal) arg12.view.junk (kernelRun0_A.sl.HS1_8 c arg3 harg3 x1)) (arg13.view.writes (Elt Ideal) arg13.view.junk (kernelRun0_A.sl.HS2_8 c arg4 harg4 x2)) (arg14.view.writes (Elt Ideal) arg14.view.junk kernelRun0_A.sl.HS3_1) (arg15.view.writes (Elt Ideal) arg15.view.junk kernelRun0_A.sl.HS4_1) (k0_pay494, k0_pay495, k0_pay496, k0_pay494, k0_pay495, k0_pay496) (Scf.trips (k0_t1_loop i).lb (k0_t1_loop i).ub (k0_t1_loop i).st)

theorem left0_A : (kernelRun0_A.sl.r_14 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).1.1 := by
  unfold kernelRun0_A.sl.r_14
  rw [trips_none]
  rfl

theorem left1_A : (kernelRun0_A.sl.r_15 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).1.2.1 := by
  unfold kernelRun0_A.sl.r_15
  rw [trips_none]
  rfl

theorem left2_A : (kernelRun0_A.sl.r_16 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).1.2.2.1 := by
  unfold kernelRun0_A.sl.r_16
  rw [trips_none]
  rfl

theorem left3_A : (kernelRun0_A.sl.r_17 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).1.2.2.2.1 := by
  unfold kernelRun0_A.sl.r_17
  rw [trips_none]
  rfl

theorem left4_A : (kernelRun0_A.sl.r_18 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).1.2.2.2.2.1 := by
  unfold kernelRun0_A.sl.r_18
  rw [trips_none]
  rfl

theorem left5_A : (kernelRun0_A.sl.r_19 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).1.2.2.2.2.2 := by
  unfold kernelRun0_A.sl.r_19
  rw [trips_none]
  rfl

theorem v1087_A : (kernelRun0_A.sl.v1087 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (arg14.view.readAt (Elt Ideal) (Rect.unit (s := S8x128x256) (k0_off6 i) S1x128x256.size (k0_off6_inb i)).toLoadRect (arg14.view.writes (Elt Ideal) (arg14.view.writes (Elt Ideal) arg14.view.junk kernelRun0_A.sl.HS3_1) (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).2.1)) := by
  unfold kernelRun0_A.sl.v1087
  rw [trips_none]
  rw [← View.writes_append]; rfl

theorem v1097_A : (kernelRun0_A.sl.v1097 (F := Ideal) c i arg2 harg2 arg3 harg3 arg4 harg4 arg5 harg5 arg6 harg6 arg8 harg8 arg9 harg9 arg10 harg10 arg11 harg11 arg12 harg12 arg13 harg13 arg14 harg14 arg15 harg15 x0 x1 x2 x3 x4) = (arg15.view.readAt (Elt Ideal) (Rect.unit (s := S8x128x256) (k0_off6 i) S1x128x256.size (k0_off6_inb i)).toLoadRect (arg15.view.writes (Elt Ideal) (arg15.view.writes (Elt Ideal) arg15.view.junk kernelRun0_A.sl.HS4_1) (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).2.2)) := by
  unfold kernelRun0_A.sl.v1097
  rw [trips_none]
  rw [← View.writes_append]; rfl

variable {q k v g : ℕ → ℕ → ℝ}

/-- One block of queries: its gradient, and what it adds to the gradients of the keys and values. -/
theorem row_A (hc0 : cond0_0 i) (hc1 : ¬cond0_1 i) (p : ℕ)
    (hK : Keys k v p (arg11.view.read (Elt Ideal) (arg11.view.writes (Elt Ideal) arg11.view.junk (kernelRun0_A.sl.HS0_1 (F := Ideal) c arg3 harg3 x1))) (arg12.view.read (Elt Ideal) (arg12.view.writes (Elt Ideal) arg12.view.junk (kernelRun0_A.sl.HS1_8 (F := Ideal) c arg3 harg3 x1))) (arg13.view.read (Elt Ideal) (arg13.view.writes (Elt Ideal) arg13.view.junk (kernelRun0_A.sl.HS2_8 (F := Ideal) c arg4 harg4 x2))))
    (hx0 : ∀ (r : Fin 256) (l : Fin 128), x0 (ix2 r l) = ((q (256 * (i 1).val + r.val) (128 * p + l.val) : ℝ) : EReal))
    (hx3 : ∀ (r : Fin 256) (l : Fin 128), x3 (ix2 r l) = ((g (256 * (i 1).val + r.val) (128 * p + l.val) : ℝ) : EReal))
    (hx4 : ∀ (r : Fin 256) (l : Fin 128), x4 (ix2 r l)
      = ((restSum q k (2 * p + l.val / 64) (256 * (i 1).val + r.val) (256 * (i 1).val + r.val) : ℝ) : EReal)) :
    (∀ (r : Fin 256) (l : Fin 128), (k0_pay2 k0_pay475 (kernelRun0_A.sl.r_19 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_20 c i arg3 harg3 arg11 x1) (kernelRun0_A.sl.r_165 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_178 c i arg2 harg2 arg3 harg3 arg4 harg4 arg5 harg5 arg6 harg6 arg8 harg8 arg9 harg9 arg10 harg10 arg11 harg11 arg12 harg12 arg13 harg13 arg14 harg14 arg15 harg15 x0 x1 x2 x3 x4)) (ix2 r l) = ((gradQ q k v g (256 * (i 1).val + r.val) (128 * p + l.val) : ℝ) : EReal))
    ∧ Grown (partK q k v g) p (256 * (i 1).val) ((i 1).val + 1) (arg14.view.read (Elt Ideal) (arg14.view.writes (Elt Ideal) arg14.view.junk (kernelRun0_A.sl.HS3_1 (F := Ideal)))) (arg14.view.read (Elt Ideal) (arg14.view.writes (Elt Ideal) arg14.view.junk (kernelRun0_A (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4).2.2.2.2.2.2.1))
    ∧ Grown (partV q k g) p (256 * (i 1).val) ((i 1).val + 1) (arg15.view.read (Elt Ideal) (arg15.view.writes (Elt Ideal) arg15.view.junk (kernelRun0_A.sl.HS4_1 (F := Ideal)))) (arg15.view.read (Elt Ideal) (arg15.view.writes (Elt Ideal) arg15.view.junk (kernelRun0_A (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4).2.2.2.2.2.2.2.1)) := by
  have R0 : arg2.view.readAt (Elt Ideal) (Rect.unit ![0, 0] S256x128.size inb_S256x128_S256x128_0_0).toLoadRect (harg2.unread x0) = x0 := (View.readAt_full _ _ _).trans (harg2.read_unread x0)
  have R3 : arg5.view.readAt (Elt Ideal) (Rect.unit ![0, 0] S256x128.size inb_S256x128_S256x128_0_0).toLoadRect (harg5.unread x3) = x3 := (View.readAt_full _ _ _).trans (harg5.read_unread x3)
  have R4 : arg6.view.readAt (Elt Ideal) (Rect.unit ![0, 0] S256x128.size inb_S256x128_S256x128_0_0).toLoadRect (harg6.unread x4) = x4 := (View.readAt_full _ _ _).trans (harg6.read_unread x4)
  have hQ := query_rows (X := x0) (f := fun r l => q (256 * (i 1).val + r) (128 * p + l)) hx0
  have hG := grad_rows (X := x3) (f := fun r l => g (256 * (i 1).val + r) (128 * p + l)) hx3
  have e1 : (kernelRun0_A.sl.r_3 (F := Ideal) c arg2 harg2 x0) = k0_pay479 x0 := congrArg k0_pay479 R0
  have e2 : (kernelRun0_A.sl.r_4 (F := Ideal) c arg2 harg2 x0) = k0_pay480 x0 := congrArg k0_pay480 R0
  have e3 : (kernelRun0_A.sl.r_5 (F := Ideal) c arg5 harg5 x3) = k0_pay483 x3 := congrArg k0_pay483 R3
  have e4 : (kernelRun0_A.sl.r_6 (F := Ideal) c arg5 harg5 x3) = k0_pay484 x3 := congrArg k0_pay484 R3
  have e5 : (kernelRun0_A.sl.r_7 (F := Ideal) c arg2 harg2 x0) = k0_pay485 x0 := congrArg k0_pay485 R0
  have e6 : (kernelRun0_A.sl.r_8 (F := Ideal) c arg2 harg2 x0) = k0_pay486 x0 := congrArg k0_pay486 R0
  have e7 : (kernelRun0_A.sl.r_9 (F := Ideal) c arg5 harg5 x3) = k0_pay487 x3 := congrArg k0_pay487 R3
  have e8 : (kernelRun0_A.sl.r_10 (F := Ideal) c arg5 harg5 x3) = k0_pay488 x3 := congrArg k0_pay488 R3
  have e9 : (kernelRun0_A.sl.r_11 (F := Ideal) c arg6 harg6 x4) = k0_pay489 x4 := congrArg k0_pay489 R4
  have e0 : (kernelRun0_A.sl.r_2 (F := Ideal) c arg6 harg6 x4) = k0_pay478 x4 := congrArg k0_pay478 R4
  have P := point (q := q) (k := k) (v := v) (g := g) Variants.none c none i arg2 harg2 arg3 harg3 arg4 harg4 arg5 harg5 arg6 harg6 (Memref.whole main_arg2) (Memref.isWhole_whole _) arg8 harg8 arg9 harg9 arg10 harg10 arg11 harg11 arg12 harg12 arg13 harg13 arg14 harg14 arg15 harg15 (BitVec.ofNat 32 (i 1).val) k0_pay475 (kernelRun0_A.sl.r_2 c arg6 harg6 x4) (kernelRun0_A.sl.r_3 c arg2 harg2 x0) (kernelRun0_A.sl.r_4 c arg2 harg2 x0) (kernelRun0_A.sl.r_5 c arg5 harg5 x3) (kernelRun0_A.sl.r_6 c arg5 harg5 x3) (kernelRun0_A.sl.r_7 c arg2 harg2 x0) (kernelRun0_A.sl.r_8 c arg2 harg2 x0) (kernelRun0_A.sl.r_9 c arg5 harg5 x3) (kernelRun0_A.sl.r_10 c arg5 harg5 x3) (kernelRun0_A.sl.r_11 c arg6 harg6 x4) (arg11.view.writes (Elt Ideal) arg11.view.junk (kernelRun0_A.sl.HS0_1 c arg3 harg3 x1)) (arg12.view.writes (Elt Ideal) arg12.view.junk (kernelRun0_A.sl.HS1_8 c arg3 harg3 x1)) (arg13.view.writes (Elt Ideal) arg13.view.junk (kernelRun0_A.sl.HS2_8 c arg4 harg4 x2)) (arg14.view.writes (Elt Ideal) arg14.view.junk kernelRun0_A.sl.HS3_1) (arg15.view.writes (Elt Ideal) arg15.view.junk kernelRun0_A.sl.HS4_1) p (by exact hK)
    ⟨e1 ▸ hQ.1, e3 ▸ hG.1, fun r => e9 ▸ total_first x4 (fun j r => restSum q k (2 * p + j) (256 * (i 1).val + r) (256 * (i 1).val + r)) hx4 r⟩
    ⟨e2 ▸ hQ.2.1, e4 ▸ hG.2.1, fun r => e0 ▸ total_second x4 (fun j r => restSum q k (2 * p + j) (256 * (i 1).val + r) (256 * (i 1).val + r)) hx4 r⟩
    (e5 ▸ hQ.2.2.1) (e6 ▸ hQ.2.2.2) (e7 ▸ hG.2.2.1) (e8 ▸ hG.2.2.2) (swept_A c i arg2 harg2 arg3 harg3 arg4 harg4 arg5 harg5 arg6 harg6 arg8 harg8 arg9 harg9 arg10 harg10 arg11 harg11 arg12 harg12 arg13 harg13 arg14 harg14 arg15 harg15 x0 x1 x2 x3 x4) rfl
  rw [← left0_A, ← left1_A, ← left2_A, ← left3_A, ← left4_A, ← left5_A, ← v1087_A, ← v1097_A] at P
  refine ⟨fun r l => by rw [query_A]; exact P.1 r l, ?_, ?_⟩
  · rw [show (kernelRun0_A (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4).2.2.2.2.2.2.1 = ⟨(Rect.unit (s := S8x128x256) (k0_off6 i) S1x128x256.size (k0_off6_inb i)), (k0_pay702 (kernelRun0_A.sl.r_8 c arg2 harg2 x0) kernelRun0_A.sl.v46 kernelRun0_A.sl.v47 (kernelRun0_A.sl.r_18 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_83 c i arg2 harg2 arg3 harg3 arg12 x0 x1) (kernelRun0_A.sl.r_146 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_148 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_163 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_167 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_168 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_169 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_171 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_172 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_173 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_174 c i arg2 harg2 arg3 harg3 arg12 x0 x1) (kernelRun0_A.sl.r_175 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_176 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.r_177 c i arg2 harg2 arg3 harg3 arg4 harg4 arg5 harg5 arg6 harg6 arg8 harg8 arg9 harg9 arg10 harg10 arg11 harg11 arg12 harg12 arg13 harg13 arg14 harg14 arg15 harg15 x0 x1 x2 x3 x4) (kernelRun0_A.sl.v1087 c i arg2 harg2 arg3 harg3 arg4 harg4 arg5 harg5 arg6 harg6 arg8 harg8 arg9 harg9 arg10 harg10 arg11 harg11 arg12 harg12 arg13 harg13 arg14 harg14 arg15 harg15 x0 x1 x2 x3 x4))⟩ :: ((swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).2.1 ++ kernelRun0_A.sl.HS3_1) from by
      unfold kernelRun0_A swept_A
      dsimp only
      rw [trips_none]
      rfl, keys_A, ← List.cons_append, View.writes_append]
    exact P.2.1
  · rw [show (kernelRun0_A (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4).2.2.2.2.2.2.2.1 = ⟨(Rect.unit (s := S8x128x256) (k0_off6 i) S1x128x256.size (k0_off6_inb i)), (k0_pay1 (kernelRun0_A.sl.r_179 c i arg2 harg2 arg3 harg3 arg4 harg4 arg5 harg5 arg6 harg6 arg8 harg8 arg9 harg9 arg10 harg10 arg11 harg11 arg12 harg12 arg13 harg13 arg14 harg14 arg15 harg15 x0 x1 x2 x3 x4))⟩ :: ((swept_A c i arg2 harg2 arg3 harg3 arg4 harg4 arg5 harg5 arg6 harg6 arg8 harg8 arg9 harg9 arg10 harg10 arg11 harg11 arg12 harg12 arg13 harg13 arg14 harg14 arg15 harg15 x0 x1 x2 x3 x4).2.2 ++ kernelRun0_A.sl.HS4_1) from by
      unfold kernelRun0_A swept_A
      dsimp only
      rw [trips_none]
      rfl, values_A, ← List.cons_append, View.writes_append]
    exact P.2.2
end

end Cert.AttnKernelIdeal.Grad
-- ==== Proof.Attn.Later.lean ====
module

public import proofs.«01_k».proof.Proof.Gen.AttnKernelIdeal.Value
public import proofs.«01_k».proof.Proof.Attn.Model
public import Idealize.ShloMosaic.Lib.Pointwise
public import proofs.«01_k».proof.Proof.Attn.Point

/-!
# The later query blocks of a pair of heads

The stages of the body on the diagonal block, for the blocks of queries that find the keys, the
values and the accumulators in the scratch buffers.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

section
variable (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg8 : Memref sig .tc .vmem S256x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S8x128x256 .bf16) (harg12 : arg12.IsWhole) (arg13 : Memref sig .tc .vmem S8x128x256 .bf16) (harg13 : arg13.IsWhole) (arg14 : Memref sig .tc .vmem S8x128x256 .f32) (harg14 : arg14.IsWhole) (arg15 : Memref sig .tc .vmem S8x128x256 .f32) (harg15 : arg15.IsWhole)  (x0 : Vec Ideal S256x128 .f32) (x1 x2 : Vec Ideal S2048x128 .f32) (x3 x4 : Vec Ideal S256x128 .f32) (xs0 : Vec Ideal S2048x128 .bf16) (xs1 xs2 : Vec Ideal S8x128x256 .bf16) (xs3 xs4 : Vec Ideal S8x128x256 .f32)

theorem up0_C : (kernelRun0_C.sl.r_51 (F := Ideal) c i arg2 harg2 arg12 harg12 x0 xs1) = twice (logRM causal (kernelRun0_C.sl.r_21 (F := Ideal) c i arg2 harg2 arg12 harg12 x0 xs1)) k0_pay492 := by
  rw [twice_parts _ _ fun _ => rfl]; rfl

theorem up1_C : (kernelRun0_C.sl.r_82 (F := Ideal) c i arg2 harg2 arg12 harg12 x0 xs1) = twice (logRM causal (kernelRun0_C.sl.r_23 (F := Ideal) c i arg2 harg2 arg12 harg12 x0 xs1)) k0_pay492 := by
  rw [twice_parts _ _ fun _ => rfl]; rfl

theorem weights0_C : (kernelRun0_C.sl.r_114 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = weights causal (kernelRun0_C.sl.r_21 (F := Ideal) c i arg2 harg2 arg12 harg12 x0 xs1) (kernelRun0_C.sl.r_83 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) := by
  rw [stack_parts _ (weights_part _ _ _), ← up0_C]; rfl

theorem before0_C : (kernelRun0_C.sl.r_115 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = twice (massOf causal (kernelRun0_C.sl.r_21 (F := Ideal) c i arg2 harg2 arg12 harg12 x0 xs1) (kernelRun0_C.sl.r_22 (F := Ideal) c i arg5 harg5 arg13 harg13 x3 xs2) (kernelRun0_C.sl.r_83 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) k0_pay493 := by
  rw [twice_parts _ _ (mass_part _ _ _ _), ← up0_C]; rfl

theorem weights1_C : (kernelRun0_C.sl.r_145 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = weights causal (kernelRun0_C.sl.r_23 (F := Ideal) c i arg2 harg2 arg12 harg12 x0 xs1) (kernelRun0_C.sl.r_116 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) := by
  rw [stack_parts _ (weights_part _ _ _), ← up1_C]; rfl

theorem before1_C : (kernelRun0_C.sl.r_146 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = twice (massOf causal (kernelRun0_C.sl.r_23 (F := Ideal) c i arg2 harg2 arg12 harg12 x0 xs1) (kernelRun0_C.sl.r_24 (F := Ideal) c i arg5 harg5 arg13 harg13 x3 xs2) (kernelRun0_C.sl.r_116 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) k0_pay493 := by
  rw [twice_parts _ _ (mass_part _ _ _ _), ← up1_C]; rfl

theorem dq0_C : (kernelRun0_C.sl.r_163 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = addf (kernelRun0_C.sl.r_14 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (intoQ (dz causal (kernelRun0_C.sl.r_21 (F := Ideal) c i arg2 harg2 arg12 harg12 x0 xs1) (kernelRun0_C.sl.r_22 (F := Ideal) c i arg5 harg5 arg13 harg13 x3 xs2) (kernelRun0_C.sl.r_83 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_13 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) (kernelRun0_C.sl.r_18 (F := Ideal) i arg11 harg11 xs0)) := by
  rw [stack_parts _ (dz_part _ _ _ _ _), ← up0_C, ← before0_C]; rfl

theorem dk0_C : (kernelRun0_C.sl.r_161 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = intoK (kernelRun0_C.sl.r_5 (F := Ideal) c arg2 harg2 x0) (dz causal (kernelRun0_C.sl.r_21 (F := Ideal) c i arg2 harg2 arg12 harg12 x0 xs1) (kernelRun0_C.sl.r_22 (F := Ideal) c i arg5 harg5 arg13 harg13 x3 xs2) (kernelRun0_C.sl.r_83 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_13 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) := by
  rw [stack_parts _ (dz_part _ _ _ _ _), ← up0_C, ← before0_C]; rfl

/-- The gradient of the queries that is written out. -/
theorem query_C : (k0_pay2 k0_pay475 (kernelRun0_C.sl.r_17 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_18 i arg11 harg11 xs0) (kernelRun0_C.sl.r_163 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_176 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) = written (kernelRun0_C.sl.r_14 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_17 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (dz causal (kernelRun0_C.sl.r_21 (F := Ideal) c i arg2 harg2 arg12 harg12 x0 xs1) (kernelRun0_C.sl.r_22 (F := Ideal) c i arg5 harg5 arg13 harg13 x3 xs2) (kernelRun0_C.sl.r_83 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_13 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) (dz causal (kernelRun0_C.sl.r_23 (F := Ideal) c i arg2 harg2 arg12 harg12 x0 xs1) (kernelRun0_C.sl.r_24 (F := Ideal) c i arg5 harg5 arg13 harg13 x3 xs2) (kernelRun0_C.sl.r_116 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_16 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) (kernelRun0_C.sl.r_18 (F := Ideal) i arg11 harg11 xs0) := by
  unfold written
  rw [← dq0_C, stack_parts _ (dz_part _ _ _ _ _), ← up1_C, ← before1_C]
  rfl

/-- The accumulator of the key gradients. -/
theorem keys_C : (k0_pay702 (kernelRun0_C.sl.r_6 c arg2 harg2 x0) kernelRun0_C.sl.v46 kernelRun0_C.sl.v47 (kernelRun0_C.sl.r_16 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_81 c i arg2 harg2 arg12 harg12 x0 xs1) (kernelRun0_C.sl.r_144 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_146 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_161 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_165 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_166 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_167 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_169 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_170 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_171 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_172 c i arg2 harg2 arg12 harg12 x0 xs1) (kernelRun0_C.sl.r_173 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_174 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_175 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.v1087 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) = grown (kernelRun0_C.sl.v1087 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_5 (F := Ideal) c arg2 harg2 x0) (kernelRun0_C.sl.r_6 (F := Ideal) c arg2 harg2 x0) (dz causal (kernelRun0_C.sl.r_21 (F := Ideal) c i arg2 harg2 arg12 harg12 x0 xs1) (kernelRun0_C.sl.r_22 (F := Ideal) c i arg5 harg5 arg13 harg13 x3 xs2) (kernelRun0_C.sl.r_83 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_13 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) (dz causal (kernelRun0_C.sl.r_23 (F := Ideal) c i arg2 harg2 arg12 harg12 x0 xs1) (kernelRun0_C.sl.r_24 (F := Ideal) c i arg5 harg5 arg13 harg13 x3 xs2) (kernelRun0_C.sl.r_116 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_16 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) := by
  unfold grown
  rw [← dk0_C, stack_parts _ (dz_part _ _ _ _ _), ← up1_C, ← before1_C]
  rfl

/-- The accumulator of the value gradients. -/
theorem values_C : (k0_pay1 (kernelRun0_C.sl.r_177 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) = grown (kernelRun0_C.sl.v1097 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_7 (F := Ideal) c arg5 harg5 x3) (kernelRun0_C.sl.r_8 (F := Ideal) c arg5 harg5 x3) (weights causal (kernelRun0_C.sl.r_21 (F := Ideal) c i arg2 harg2 arg12 harg12 x0 xs1) (kernelRun0_C.sl.r_83 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) (weights causal (kernelRun0_C.sl.r_23 (F := Ideal) c i arg2 harg2 arg12 harg12 x0 xs1) (kernelRun0_C.sl.r_116 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) := by
  rw [← weights0_C, ← weights1_C]
  rfl

/-- What the loop over the key blocks left of the diagonal leaves behind. -/
def swept_C := st_k0_t1 (F := Ideal) Variants.none c none i arg2 harg2 arg3 harg3 arg4 harg4 arg5 harg5 arg6 harg6 (Memref.whole main_arg2) (Memref.isWhole_whole _) arg8 harg8 arg9 harg9 arg10 harg10 arg11 harg11 arg12 harg12 arg13 harg13 arg14 harg14 arg15 harg15 (BitVec.ofNat 32 (i 1).val) k0_pay475 (kernelRun0_C.sl.r c arg6 harg6 x4) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg2 harg2 x0) (kernelRun0_C.sl.r_6 c arg2 harg2 x0) (kernelRun0_C.sl.r_7 c arg5 harg5 x3) (kernelRun0_C.sl.r_8 c arg5 harg5 x3) (kernelRun0_C.sl.r_9 c arg6 harg6 x4) (harg11.unread xs0) (harg12.unread xs1) (harg13.unread xs2) (harg14.unread xs3) (harg15.unread xs4) (k0_pay494, k0_pay495, k0_pay496, k0_pay494, k0_pay495, k0_pay496) (Scf.trips (k0_t1_loop i).lb (k0_t1_loop i).ub (k0_t1_loop i).st)

theorem left0_C : (kernelRun0_C.sl.r_12 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).1.1 := by
  unfold kernelRun0_C.sl.r_12
  rw [trips_none]
  rfl

theorem left1_C : (kernelRun0_C.sl.r_13 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).1.2.1 := by
  unfold kernelRun0_C.sl.r_13
  rw [trips_none]
  rfl

theorem left2_C : (kernelRun0_C.sl.r_14 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).1.2.2.1 := by
  unfold kernelRun0_C.sl.r_14
  rw [trips_none]
  rfl

theorem left3_C : (kernelRun0_C.sl.r_15 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).1.2.2.2.1 := by
  unfold kernelRun0_C.sl.r_15
  rw [trips_none]
  rfl

theorem left4_C : (kernelRun0_C.sl.r_16 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).1.2.2.2.2.1 := by
  unfold kernelRun0_C.sl.r_16
  rw [trips_none]
  rfl

theorem left5_C : (kernelRun0_C.sl.r_17 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).1.2.2.2.2.2 := by
  unfold kernelRun0_C.sl.r_17
  rw [trips_none]
  rfl

theorem v1087_C : (kernelRun0_C.sl.v1087 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (arg14.view.readAt (Elt Ideal) (Rect.unit (s := S8x128x256) (k0_off6 i) S1x128x256.size (k0_off6_inb i)).toLoadRect (arg14.view.writes (Elt Ideal) (harg14.unread xs3) (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).2.1)) := by
  unfold kernelRun0_C.sl.v1087
  rw [trips_none]
  rfl

theorem v1097_C : (kernelRun0_C.sl.v1097 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) = (arg15.view.readAt (Elt Ideal) (Rect.unit (s := S8x128x256) (k0_off6 i) S1x128x256.size (k0_off6_inb i)).toLoadRect (arg15.view.writes (Elt Ideal) (harg15.unread xs4) (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4).2.2)) := by
  unfold kernelRun0_C.sl.v1097
  rw [trips_none]
  rfl

variable {q k v g : ℕ → ℕ → ℝ}

/-- One block of queries: its gradient, and what it adds to the gradients of the keys and values. -/
theorem row_C  (p : ℕ)
    (hK : Keys k v p xs0 xs1 xs2)
    (hx0 : ∀ (r : Fin 256) (l : Fin 128), x0 (ix2 r l) = ((q (256 * (i 1).val + r.val) (128 * p + l.val) : ℝ) : EReal))
    (hx3 : ∀ (r : Fin 256) (l : Fin 128), x3 (ix2 r l) = ((g (256 * (i 1).val + r.val) (128 * p + l.val) : ℝ) : EReal))
    (hx4 : ∀ (r : Fin 256) (l : Fin 128), x4 (ix2 r l)
      = ((restSum q k (2 * p + l.val / 64) (256 * (i 1).val + r.val) (256 * (i 1).val + r.val) : ℝ) : EReal)) :
    (∀ (r : Fin 256) (l : Fin 128), (k0_pay2 k0_pay475 (kernelRun0_C.sl.r_17 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_18 i arg11 harg11 xs0) (kernelRun0_C.sl.r_163 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) (kernelRun0_C.sl.r_176 c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)) (ix2 r l) = ((gradQ q k v g (256 * (i 1).val + r.val) (128 * p + l.val) : ℝ) : EReal))
    ∧ Grown (partK q k v g) p (256 * (i 1).val) ((i 1).val + 1) xs3 (arg14.view.read (Elt Ideal) (arg14.view.writes (Elt Ideal) (harg14.unread xs3) (kernelRun0_C.sl.HS3_1 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4)))
    ∧ Grown (partV q k g) p (256 * (i 1).val) ((i 1).val + 1) xs4 (arg15.view.read (Elt Ideal) (arg15.view.writes (Elt Ideal) (harg15.unread xs4) (kernelRun0_C.sl.HS4_1 (F := Ideal) c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4))) := by
  have R0 : arg2.view.readAt (Elt Ideal) (Rect.unit ![0, 0] S256x128.size inb_S256x128_S256x128_0_0).toLoadRect (harg2.unread x0) = x0 := (View.readAt_full _ _ _).trans (harg2.read_unread x0)
  have R3 : arg5.view.readAt (Elt Ideal) (Rect.unit ![0, 0] S256x128.size inb_S256x128_S256x128_0_0).toLoadRect (harg5.unread x3) = x3 := (View.readAt_full _ _ _).trans (harg5.read_unread x3)
  have R4 : arg6.view.readAt (Elt Ideal) (Rect.unit ![0, 0] S256x128.size inb_S256x128_S256x128_0_0).toLoadRect (harg6.unread x4) = x4 := (View.readAt_full _ _ _).trans (harg6.read_unread x4)
  have hQ := query_rows (X := x0) (f := fun r l => q (256 * (i 1).val + r) (128 * p + l)) hx0
  have hG := grad_rows (X := x3) (f := fun r l => g (256 * (i 1).val + r) (128 * p + l)) hx3
  have e1 : (kernelRun0_C.sl.r_1 (F := Ideal) c arg2 harg2 x0) = k0_pay479 x0 := congrArg k0_pay479 R0
  have e2 : (kernelRun0_C.sl.r_2 (F := Ideal) c arg2 harg2 x0) = k0_pay480 x0 := congrArg k0_pay480 R0
  have e3 : (kernelRun0_C.sl.r_3 (F := Ideal) c arg5 harg5 x3) = k0_pay483 x3 := congrArg k0_pay483 R3
  have e4 : (kernelRun0_C.sl.r_4 (F := Ideal) c arg5 harg5 x3) = k0_pay484 x3 := congrArg k0_pay484 R3
  have e5 : (kernelRun0_C.sl.r_5 (F := Ideal) c arg2 harg2 x0) = k0_pay485 x0 := congrArg k0_pay485 R0
  have e6 : (kernelRun0_C.sl.r_6 (F := Ideal) c arg2 harg2 x0) = k0_pay486 x0 := congrArg k0_pay486 R0
  have e7 : (kernelRun0_C.sl.r_7 (F := Ideal) c arg5 harg5 x3) = k0_pay487 x3 := congrArg k0_pay487 R3
  have e8 : (kernelRun0_C.sl.r_8 (F := Ideal) c arg5 harg5 x3) = k0_pay488 x3 := congrArg k0_pay488 R3
  have e9 : (kernelRun0_C.sl.r_9 (F := Ideal) c arg6 harg6 x4) = k0_pay489 x4 := congrArg k0_pay489 R4
  have e0 : (kernelRun0_C.sl.r (F := Ideal) c arg6 harg6 x4) = k0_pay478 x4 := congrArg k0_pay478 R4
  have P := point (q := q) (k := k) (v := v) (g := g) Variants.none c none i arg2 harg2 arg3 harg3 arg4 harg4 arg5 harg5 arg6 harg6 (Memref.whole main_arg2) (Memref.isWhole_whole _) arg8 harg8 arg9 harg9 arg10 harg10 arg11 harg11 arg12 harg12 arg13 harg13 arg14 harg14 arg15 harg15 (BitVec.ofNat 32 (i 1).val) k0_pay475 (kernelRun0_C.sl.r c arg6 harg6 x4) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg2 harg2 x0) (kernelRun0_C.sl.r_6 c arg2 harg2 x0) (kernelRun0_C.sl.r_7 c arg5 harg5 x3) (kernelRun0_C.sl.r_8 c arg5 harg5 x3) (kernelRun0_C.sl.r_9 c arg6 harg6 x4) (harg11.unread xs0) (harg12.unread xs1) (harg13.unread xs2) (harg14.unread xs3) (harg15.unread xs4) p (by simpa only [Memref.IsWhole.read_unread] using hK)
    ⟨e1 ▸ hQ.1, e3 ▸ hG.1, fun r => e9 ▸ total_first x4 (fun j r => restSum q k (2 * p + j) (256 * (i 1).val + r) (256 * (i 1).val + r)) hx4 r⟩
    ⟨e2 ▸ hQ.2.1, e4 ▸ hG.2.1, fun r => e0 ▸ total_second x4 (fun j r => restSum q k (2 * p + j) (256 * (i 1).val + r) (256 * (i 1).val + r)) hx4 r⟩
    (e5 ▸ hQ.2.2.1) (e6 ▸ hQ.2.2.2) (e7 ▸ hG.2.2.1) (e8 ▸ hG.2.2.2) (swept_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4) rfl
  rw [← left0_C, ← left1_C, ← left2_C, ← left3_C, ← left4_C, ← left5_C, ← v1087_C, ← v1097_C, harg14.read_unread, harg15.read_unread] at P
  refine ⟨fun r l => by rw [query_C]; exact P.1 r l, ?_, ?_⟩
  · unfold kernelRun0_C.sl.HS3_1
    rw [keys_C, trips_none]
    exact P.2.1
  · unfold kernelRun0_C.sl.HS4_1
    rw [values_C, trips_none]
    exact P.2.2
end

end Cert.AttnKernelIdeal.Grad
-- ==== Proof.Attn.Store.lean ====
module

public import proofs.«01_k».proof.Proof.Gen.AttnKernelIdeal.Value
public import proofs.«01_k».proof.Proof.Attn.Model
public import Idealize.ShloMosaic.Lib.Pointwise
public import proofs.«01_k».proof.Proof.Attn.First
public import proofs.«01_k».proof.Proof.Attn.Later

/-!
# The scratch buffers

Blocks written one after another, the keys and the values laid out for a pair of heads, and what
the accumulators hold after a number of queries.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

variable {q k v g : ℕ → ℕ → ℝ}

/-- Eight blocks written one after another, read back. -/
theorem eight_blocks {e : EltTy} {κ : Kind} {sp : Space} (w : View sig κ sp S8x128x256 e) (f : w.ty.Contents (Elt Ideal))
    (P₀ P₁ P₂ P₃ P₄ P₅ P₆ P₇ : S1x128x256.Idx → Elt Ideal e) (i₀ i₁ i₂ i₃ i₄ i₅ i₆ i₇) (a : Fin 8) (l : Fin 128) (c : Fin 256) :
    w.read (Elt Ideal) (w.writes (Elt Ideal) f [⟨Rect.unit ![7, 0, 0] S1x128x256.size i₇, P₇⟩, ⟨Rect.unit ![6, 0, 0] S1x128x256.size i₆, P₆⟩,
      ⟨Rect.unit ![5, 0, 0] S1x128x256.size i₅, P₅⟩, ⟨Rect.unit ![4, 0, 0] S1x128x256.size i₄, P₄⟩, ⟨Rect.unit ![3, 0, 0] S1x128x256.size i₃, P₃⟩,
      ⟨Rect.unit ![2, 0, 0] S1x128x256.size i₂, P₂⟩, ⟨Rect.unit ![1, 0, 0] S1x128x256.size i₁, P₁⟩, ⟨Rect.unit ![0, 0, 0] S1x128x256.size i₀, P₀⟩])
      (ix3 a l c) = ![P₀, P₁, P₂, P₃, P₄, P₅, P₆, P₇] a (ix3 0 l c) := by
  repeat rw [View.read_writes_cons_put _ _ _ _ _ rfl]
  repeat rw [put_block]
  fin_cases a <;> simp

/-- A row of 2048, by its block of 256. -/
theorem row_split (s : Fin 2048) : ∃ (a : Fin 8) (r : Fin 256), s = ⟨256 * a.val + r.val, by omega⟩ :=
  ⟨⟨s.val / 256, by omega⟩, ⟨s.val % 256, by omega⟩, Fin.ext (Nat.div_add_mod _ _).symm⟩

theorem put_rows {α : Type} (x : S2048x128.Idx → α) (a : ℕ) (w : S256x128.Idx → α) (b : Fin 8) (r : Fin 256) (l : Fin 128) :
    VecWindow.put x ![256 * a, 0] S256x128.size w (ix2 ⟨256 * b.val + r.val, by omega⟩ l)
      = if b.val = a then w (ix2 r l) else x (ix2 ⟨256 * b.val + r.val, by omega⟩ l) := by
  unfold VecWindow.put
  by_cases h : b.val = a
  · rw [if_pos h, dif_pos (fun d => by fin_cases d <;> simp [h])]
    exact congrArg w (funext fun d => by fin_cases d <;> exact Fin.ext (by simp [Rect.unitLocal, h]))
  · rw [if_neg h, dif_neg (fun H => h (by have := H 0; simp at this; omega))]

/-- Eight blocks of rows written one after another, read back. -/
theorem eight_rows {e : EltTy} {κ : Kind} {sp : Space} (w : View sig κ sp S2048x128 e) (f : w.ty.Contents (Elt Ideal))
    (P₀ P₁ P₂ P₃ P₄ P₅ P₆ P₇ : S256x128.Idx → Elt Ideal e) (i₀ i₁ i₂ i₃ i₄ i₅ i₆ i₇) (a : Fin 8) (r : Fin 256) (l : Fin 128) :
    w.read (Elt Ideal) (w.writes (Elt Ideal) f [⟨Rect.unit ![1792, 0] S256x128.size i₇, P₇⟩, ⟨Rect.unit ![1536, 0] S256x128.size i₆, P₆⟩,
      ⟨Rect.unit ![1280, 0] S256x128.size i₅, P₅⟩, ⟨Rect.unit ![1024, 0] S256x128.size i₄, P₄⟩, ⟨Rect.unit ![768, 0] S256x128.size i₃, P₃⟩,
      ⟨Rect.unit ![512, 0] S256x128.size i₂, P₂⟩, ⟨Rect.unit ![256, 0] S256x128.size i₁, P₁⟩, ⟨Rect.unit ![0, 0] S256x128.size i₀, P₀⟩])
      (ix2 ⟨256 * a.val + r.val, by omega⟩ l) = ![P₀, P₁, P₂, P₃, P₄, P₅, P₆, P₇] a (ix2 r l) := by
  rw [View.read_writes_cons_put (off' := ![256 * 7, 0]) w f i₇ P₇ _ rfl, View.read_writes_cons_put (off' := ![256 * 6, 0]) w f i₆ P₆ _ rfl,
    View.read_writes_cons_put (off' := ![256 * 5, 0]) w f i₅ P₅ _ rfl, View.read_writes_cons_put (off' := ![256 * 4, 0]) w f i₄ P₄ _ rfl,
    View.read_writes_cons_put (off' := ![256 * 3, 0]) w f i₃ P₃ _ rfl, View.read_writes_cons_put (off' := ![256 * 2, 0]) w f i₂ P₂ _ rfl,
    View.read_writes_cons_put (off' := ![256 * 1, 0]) w f i₁ P₁ _ rfl, View.read_writes_cons_put (off' := ![256 * 0, 0]) w f i₀ P₀ _ rfl]
  repeat rw [put_rows]
  fin_cases a <;> simp

/-- What the scratch buffers hold once `n` queries of the heads `2 p` and `2 p + 1` are done. -/
structure Reached (q k v g : ℕ → ℕ → ℝ) (p n : ℕ) (kb : FVec Ideal S2048x128 .bf16) (kt vt : FVec Ideal S8x128x256 .bf16)
    (dk dv : FVec Ideal S8x128x256 .f32) : Prop where
  keys : Keys k v p kb kt vt
  dk : ∀ (a : Fin 8) (l : Fin 128) (c : Fin 256), dk (ix3 a l c)
    = ((∑ t ∈ Finset.range n, partK q k v g (128 * p + l.val) (256 * a.val + c.val) t : ℝ) : EReal)
  dv : ∀ (a : Fin 8) (l : Fin 128) (c : Fin 256), dv (ix3 a l c)
    = ((∑ t ∈ Finset.range n, partV q k g (128 * p + l.val) (256 * a.val + c.val) t : ℝ) : EReal)

/-- One more block of queries. Keys from the block of the query on receive nothing. -/
theorem Grown.sum {part : ℕ → ℕ → ℕ → ℝ} {p b : ℕ} {before after : FVec Ideal S8x128x256 .f32}
    (G : Grown part p (256 * b) (b + 1) before after) (h0 : ∀ c s t, ¬s < t → part c s t = 0)
    (h : ∀ (a : Fin 8) (l : Fin 128) (c : Fin 256), before (ix3 a l c)
      = ((∑ t ∈ Finset.range (256 * b), part (128 * p + l.val) (256 * a.val + c.val) t : ℝ) : EReal))
    (a : Fin 8) (l : Fin 128) (c : Fin 256) : after (ix3 a l c)
      = ((∑ t ∈ Finset.range (256 * (b + 1)), part (128 * p + l.val) (256 * a.val + c.val) t : ℝ) : EReal) := by
  rw [G a l c, h, show 256 * (b + 1) = 256 * b + 256 by ring, Finset.sum_range_add, EReal.coe_add]
  split_ifs with ha
  · rfl
  · have z : ∑ r ∈ Finset.range 256, part (128 * p + l.val) (256 * a.val + c.val) (256 * b + r) = 0 :=
      Finset.sum_eq_zero fun r hr => h0 _ _ _ (by have := Finset.mem_range.mp hr; omega)
    rw [z, EReal.coe_zero, add_zero]

theorem Reached.next {p b : ℕ} {kb kt vt dk dv dk' dv'} (R : Reached q k v g p (256 * b) kb kt vt dk dv)
    (GK : Grown (partK q k v g) p (256 * b) (b + 1) dk dk') (GV : Grown (partV q k g) p (256 * b) (b + 1) dv dv') :
    Reached q k v g p (256 * (b + 1)) kb kt vt dk' dv' :=
  ⟨R.keys, GK.sum (fun _ _ _ h => if_neg h) R.dk, GV.sum (fun _ _ _ h => if_neg h) R.dv⟩

/-! ### Laying out the keys and the values -/

/-- A block of rows of an input. -/
theorem rows_read (w : Memref sig .tc .vmem S2048x128 .f32) (hw : w.IsWhole) (x : Vec Ideal S2048x128 .f32) {f : ℕ → ℕ → ℝ} {p : ℕ}
    (hx : ∀ (s : Fin 2048) (l : Fin 128), x (ix2 s l) = ((f s.val (128 * p + l.val) : ℝ) : EReal)) (a : ℕ) (h : a < 8)
    {off : Fin 2 → ℕ} (inb) (ho : off = ![256 * a, 0]) (n : ℕ) (c : Fin 256) (hn : n = 256 * a + c.val) (l : Fin 128) :
    w.view.readAt (Elt Ideal) (Rect.unit (s := S2048x128) off ![256, 128] inb).toLoadRect (hw.unread x) (ix2 c l)
      = ((f n (128 * p + l.val) : ℝ) : EReal) := by
  subst ho hn
  exact (congrFun (View.readAt_unit _ _ _ rfl inb) _).trans ((window_rows _ _ h _ _ _).trans (by rw [hw.read_unread, hx]))

section
variable (c : Dev nD) (arg3 : Memref sig .tc .vmem S2048x128 .f32) (harg3 : arg3.IsWhole) (arg4 : Memref sig .tc .vmem S2048x128 .f32)
  (harg4 : arg4.IsWhole) (x1 x2 : Vec Ideal S2048x128 .f32) (p : ℕ) {κ₀ κ₁ κ₂ : Kind} {sp₀ sp₁ sp₂ : Space}
  (w₀ : View sig κ₀ sp₀ S2048x128 .bf16) (w₁ : View sig κ₁ sp₁ S8x128x256 .bf16) (w₂ : View sig κ₂ sp₂ S8x128x256 .bf16)
  (hx1 : ∀ (s : Fin 2048) (l : Fin 128), x1 (ix2 s l) = ((k s.val (128 * p + l.val) : ℝ) : EReal))
  (hx2 : ∀ (s : Fin 2048) (l : Fin 128), x2 (ix2 s l) = ((v s.val (128 * p + l.val) : ℝ) : EReal))
include hx1 hx2

/-- The buffers after the keys and the values have been laid out. -/
theorem laid_out : Keys k v p (w₀.read (Elt Ideal) (w₀.writes (Elt Ideal) w₀.junk (kernelRun0_A.sl.HS0_1 (F := Ideal) c arg3 harg3 x1)))
    (w₁.read (Elt Ideal) (w₁.writes (Elt Ideal) w₁.junk (kernelRun0_A.sl.HS1_8 (F := Ideal) c arg3 harg3 x1)))
    (w₂.read (Elt Ideal) (w₂.writes (Elt Ideal) w₂.junk (kernelRun0_A.sl.HS2_8 (F := Ideal) c arg4 harg4 x2))) := by
  refine ⟨fun s l => ?_, fun a l c => ?_, fun a l c => ?_⟩
  · unfold kernelRun0_A.sl.HS0_1
    rw [View.read_writes_full, View.readAt_full, harg3.read_unread]
    pointwise [k0_pay8, hx1]
  · unfold kernelRun0_A.sl.HS1_8
    rw [eight_blocks]
    fin_cases a
    · pointwise [k0_pay9]
      exact rows_read arg3 harg3 x1 hx1 0 (by norm_num) _ rfl _ c (by simp) l
    · pointwise [k0_pay10]
      exact rows_read arg3 harg3 x1 hx1 1 (by norm_num) _ rfl _ c rfl l
    · pointwise [k0_pay11]
      exact rows_read arg3 harg3 x1 hx1 2 (by norm_num) _ rfl _ c rfl l
    · pointwise [k0_pay13, k0_pay12, kernelRun0_A.sl.r]
      exact rows_read arg3 harg3 x1 hx1 3 (by norm_num) _ rfl _ c rfl l
    · pointwise [k0_pay14]
      exact rows_read arg3 harg3 x1 hx1 4 (by norm_num) _ rfl _ c rfl l
    · pointwise [k0_pay15]
      exact rows_read arg3 harg3 x1 hx1 5 (by norm_num) _ rfl _ c rfl l
    · pointwise [k0_pay16]
      exact rows_read arg3 harg3 x1 hx1 6 (by norm_num) _ rfl _ c rfl l
    · pointwise [k0_pay17]
      exact rows_read arg3 harg3 x1 hx1 7 (by norm_num) _ rfl _ c rfl l
  · unfold kernelRun0_A.sl.HS2_8
    rw [eight_blocks]
    fin_cases a
    · pointwise [k0_pay19, k0_pay18, kernelRun0_A.sl.r_1]
      exact rows_read arg4 harg4 x2 hx2 0 (by norm_num) _ rfl _ c (by simp) l
    · pointwise [k0_pay20]
      exact rows_read arg4 harg4 x2 hx2 1 (by norm_num) _ rfl _ c rfl l
    · pointwise [k0_pay21]
      exact rows_read arg4 harg4 x2 hx2 2 (by norm_num) _ rfl _ c rfl l
    · pointwise [k0_pay22]
      exact rows_read arg4 harg4 x2 hx2 3 (by norm_num) _ rfl _ c rfl l
    · pointwise [k0_pay23]
      exact rows_read arg4 harg4 x2 hx2 4 (by norm_num) _ rfl _ c rfl l
    · pointwise [k0_pay24]
      exact rows_read arg4 harg4 x2 hx2 5 (by norm_num) _ rfl _ c rfl l
    · pointwise [k0_pay25]
      exact rows_read arg4 harg4 x2 hx2 6 (by norm_num) _ rfl _ c rfl l
    · pointwise [k0_pay26]
      exact rows_read arg4 harg4 x2 hx2 7 (by norm_num) _ rfl _ c rfl l
end

end Cert.AttnKernelIdeal.Grad
-- ==== Proof.Attn.Cases.lean ====
module

public import proofs.«01_k».proof.Proof.Gen.AttnKernelIdeal.Value
public import proofs.«01_k».proof.Proof.Attn.Model
public import Idealize.ShloMosaic.Lib.Pointwise
public import proofs.«01_k».proof.Proof.Attn.Store

/-!
# The cases of the grid

The first, a middle and the last block of queries of a pair of heads, from the contents of the
input blocks and of the scratch buffers.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

variable {q k v g : ℕ → ℕ → ℝ}

/-- A block of an accumulator. -/
theorem block_read (w : Memref sig .tc .vmem S8x128x256 .f32) (G) {f : ℕ → ℕ → ℝ}
    (hG : ∀ (a : Fin 8) (l : Fin 128) (c : Fin 256), w.view.read (Elt Ideal) G (ix3 a l c) = ((f (256 * a.val + c.val) l.val : ℝ) : EReal))
    (a : ℕ) (h : a < 8) (inb) (c : ℕ) (hc : c < 256) (n : ℕ) (hn : n = 256 * a + c) (l : Fin 128) :
    w.view.readAt (Elt Ideal) (Rect.unit (s := S8x128x256) ![a, 0, 0] ![1, 128, 256] inb).toLoadRect G (ix3 0 l ⟨c, hc⟩)
      = ((f n l.val : ℝ) : EReal) :=
  hn ▸ (congrFun (View.readAt_unit _ _ _ rfl inb) _).trans ((window_block _ _ h _ _ _).trans (hG _ _ _))

section
variable (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg8 : Memref sig .tc .vmem S256x128 .bf16) (harg8 : arg8.IsWhole) (arg9 : Memref sig .tc .vmem S2048x128 .bf16) (harg9 : arg9.IsWhole) (arg10 : Memref sig .tc .vmem S2048x128 .bf16) (harg10 : arg10.IsWhole)  (x0 : Vec Ideal S256x128 .f32) (x1 x2 : Vec Ideal S2048x128 .f32) (x3 x4 : Vec Ideal S256x128 .f32) (p : ℕ)
  (hx0 : ∀ (r : Fin 256) (l : Fin 128), x0 (ix2 r l) = ((q (256 * (i 1).val + r.val) (128 * p + l.val) : ℝ) : EReal))
  (hx3 : ∀ (r : Fin 256) (l : Fin 128), x3 (ix2 r l) = ((g (256 * (i 1).val + r.val) (128 * p + l.val) : ℝ) : EReal))
  (hx4 : ∀ (r : Fin 256) (l : Fin 128), x4 (ix2 r l)
    = ((restSum q k (2 * p + l.val / 64) (256 * (i 1).val + r.val) (256 * (i 1).val + r.val) : ℝ) : EReal))
include hx0 hx3 hx4

/-- The first block of queries of a pair of heads. -/
theorem first (hc0 : cond0_0 i) (hc1 : ¬cond0_1 i) (hi : (i 1).val = 0)
    (hx1 : ∀ (s : Fin 2048) (l : Fin 128), x1 (ix2 s l) = ((k s.val (128 * p + l.val) : ℝ) : EReal))
    (hx2 : ∀ (s : Fin 2048) (l : Fin 128), x2 (ix2 s l) = ((v s.val (128 * p + l.val) : ℝ) : EReal)) :
    (∀ (r : Fin 256) (l : Fin 128), out0_A_5 (F := Ideal) c i arg2 harg2 arg3 harg3 arg4 harg4 arg5 harg5 arg6 harg6 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) hc0 hc1 x0 x1 x2 x3 x4 (ix2 r l) = ((gradQ q k v g (256 * (i 1).val + r.val) (128 * p + l.val) : ℝ) : EReal))
    ∧ Reached q k v g p (256 * ((i 1).val + 1)) (sout0_A_0 (F := Ideal) c i arg2 harg2 arg3 harg3 arg4 harg4 arg5 harg5 arg6 harg6 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) hc0 hc1 x0 x1 x2 x3 x4) (sout0_A_1 (F := Ideal) c i arg2 harg2 arg3 harg3 arg4 harg4 arg5 harg5 arg6 harg6 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) hc0 hc1 x0 x1 x2 x3 x4) (sout0_A_2 (F := Ideal) c i arg2 harg2 arg3 harg3 arg4 harg4 arg5 harg5 arg6 harg6 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) hc0 hc1 x0 x1 x2 x3 x4) (sout0_A_3 (F := Ideal) c i arg2 harg2 arg3 harg3 arg4 harg4 arg5 harg5 arg6 harg6 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) hc0 hc1 x0 x1 x2 x3 x4) (sout0_A_4 (F := Ideal) c i arg2 harg2 arg3 harg3 arg4 harg4 arg5 harg5 arg6 harg6 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) hc0 hc1 x0 x1 x2 x3 x4) := by
  have K := laid_out (k := k) (v := v) c arg3 harg3 arg4 harg4 x1 x2 p (scM0_0).view (scM0_1).view (scM0_2).view hx1 hx2
  obtain ⟨D, GK, GV⟩ := row_A c i arg2 harg2 arg3 harg3 arg4 harg4 arg5 harg5 arg6 harg6 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) x0 x1 x2 x3 x4 hc0 hc1 p K hx0 hx3 hx4
  refine ⟨fun r l => ?_, Reached.next (dk := (scM0_3).view.read (Elt Ideal) ((scM0_3).view.writes (Elt Ideal) (scM0_3).view.junk (kernelRun0_A.sl.HS3_1 (F := Ideal))))
      (dv := (scM0_4).view.read (Elt Ideal) ((scM0_4).view.writes (Elt Ideal) (scM0_4).view.junk (kernelRun0_A.sl.HS4_1 (F := Ideal)))) ⟨K, ?_, ?_⟩ GK GV⟩
  · exact (congrFun (View.read_writes_full VO0_5 VO0_5.junk _ _ _) _).trans (D r l)
  · intro a l c
    unfold kernelRun0_A.sl.HS3_1
    rw [View.read_writes_full, hi]
    pointwise [k0_pay27]
    simp
  · intro a l c
    unfold kernelRun0_A.sl.HS4_1
    rw [View.read_writes_full, hi]
    pointwise [k0_pay28]
    simp
end

section
variable (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg8 : Memref sig .tc .vmem S256x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S8x128x256 .bf16) (harg12 : arg12.IsWhole) (arg13 : Memref sig .tc .vmem S8x128x256 .bf16) (harg13 : arg13.IsWhole) (arg14 : Memref sig .tc .vmem S8x128x256 .f32) (harg14 : arg14.IsWhole) (arg15 : Memref sig .tc .vmem S8x128x256 .f32) (harg15 : arg15.IsWhole)  (x0 : Vec Ideal S256x128 .f32) (x1 x2 : Vec Ideal S2048x128 .f32) (x3 x4 : Vec Ideal S256x128 .f32) (xs0 : Vec Ideal S2048x128 .bf16) (xs1 xs2 : Vec Ideal S8x128x256 .bf16) (xs3 xs4 : Vec Ideal S8x128x256 .f32) (p : ℕ)
  (hx0 : ∀ (r : Fin 256) (l : Fin 128), x0 (ix2 r l) = ((q (256 * (i 1).val + r.val) (128 * p + l.val) : ℝ) : EReal))
  (hx3 : ∀ (r : Fin 256) (l : Fin 128), x3 (ix2 r l) = ((g (256 * (i 1).val + r.val) (128 * p + l.val) : ℝ) : EReal))
  (hx4 : ∀ (r : Fin 256) (l : Fin 128), x4 (ix2 r l)
    = ((restSum q k (2 * p + l.val / 64) (256 * (i 1).val + r.val) (256 * (i 1).val + r.val) : ℝ) : EReal))
  (R : Reached q k v g p (256 * (i 1).val) xs0 xs1 xs2 xs3 xs4)
include hx0 hx3 hx4 R

/-- A block of queries in the middle. -/
theorem middle (hc0 : ¬cond0_0 i) (hc1 : ¬cond0_1 i) :
    (∀ (r : Fin 256) (l : Fin 128), out0_B_5 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4 (ix2 r l) = ((gradQ q k v g (256 * (i 1).val + r.val) (128 * p + l.val) : ℝ) : EReal))
    ∧ Reached q k v g p (256 * ((i 1).val + 1)) (sout0_B_0 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4) (sout0_B_1 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4) (sout0_B_2 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4) (sout0_B_3 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4) (sout0_B_4 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4) := by
  obtain ⟨D, GK, GV⟩ := row_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4 p R.keys hx0 hx3 hx4
  exact ⟨fun r l => (congrFun (View.read_writes_full VO0_5 VO0_5.junk _ _ _) _).trans (D r l), R.next GK GV⟩

/-- The last block of queries, after which the accumulated gradients are written out. -/
theorem last (hc0 : ¬cond0_0 i) (hc1 : cond0_1 i) (hi : (i 1).val = 7) :
    (∀ (r : Fin 256) (l : Fin 128), out0_C_5 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4 (ix2 r l) = ((gradQ q k v g (256 * (i 1).val + r.val) (128 * p + l.val) : ℝ) : EReal))
    ∧ (∀ (s : Fin 2048) (l : Fin 128), out0_C_6 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4 (ix2 s l) = ((gradK q k v g s.val (128 * p + l.val) : ℝ) : EReal))
    ∧ (∀ (s : Fin 2048) (l : Fin 128), out0_C_7 (F := Ideal) c i arg2 harg2 arg3 harg3 arg4 harg4 arg5 harg5 arg6 harg6 arg8 harg8 arg9 harg9 arg10 harg10 arg11 harg11 arg12 harg12 arg13 harg13 arg14 harg14 arg15 harg15 hc0 hc1 x0 x1 x2 x3 x4 xs0 xs1 xs2 xs3 xs4 (ix2 s l) = ((gradV q k g s.val (128 * p + l.val) : ℝ) : EReal)) := by
  obtain ⟨D, GK, GV⟩ := row_C c i arg2 harg2 arg3 harg3 arg4 harg4 arg5 harg5 arg6 harg6 arg8 harg8 arg9 harg9 arg10 harg10 arg11 harg11 arg12 harg12 arg13 harg13 arg14 harg14 arg15 harg15 x0 x3 x4 xs0 xs1 xs2 xs3 xs4 p R.keys hx0 hx3 hx4
  have F := R.next GK GV
  rw [hi] at F
  refine ⟨fun r l => (congrFun (View.read_writes_full VO0_5 VO0_5.junk _ _ _) _).trans (D r l), fun s l => ?_, fun s l => ?_⟩
  · obtain ⟨a, r, rfl⟩ := row_split s
    refine (eight_rows VO0_6 _ _ _ _ _ _ _ _ _ _ _ _ _ _ _ _ _ a r l).trans ?_
    have B := block_read arg14 _ (f := fun s l => gradK q k v g s (128 * p + l)) F.dk
    fin_cases a
    · pointwise [k0_pay463]
      exact B 0 (by norm_num) _ _ _ _ (by simp) l
    · pointwise [k0_pay465]
      exact B 1 (by norm_num) _ _ _ _ rfl l
    · pointwise [k0_pay467]
      exact B 2 (by norm_num) _ _ _ _ rfl l
    · pointwise [k0_pay470]
      exact B 3 (by norm_num) _ _ _ _ rfl l
    · pointwise [k0_pay472]
      exact B 4 (by norm_num) _ _ _ _ rfl l
    · pointwise [k0_pay474, kernelRun0_C.sl.r_179]
      exact B 5 (by norm_num) _ _ _ _ rfl l
    · pointwise [k0_pay4, kernelRun0_C.sl.v1176]
      exact B 6 (by norm_num) _ _ _ _ rfl l
    · pointwise [k0_pay6, kernelRun0_C.sl.v1186]
      exact B 7 (by norm_num) _ _ _ _ rfl l
  · obtain ⟨a, r, rfl⟩ := row_split s
    refine (eight_rows VO0_7 _ _ _ _ _ _ _ _ _ _ _ _ _ _ _ _ _ a r l).trans ?_
    have B := block_read arg15 _ (f := fun s l => gradV q k g s (128 * p + l)) F.dv
    fin_cases a
    · pointwise [k0_pay464]
      exact B 0 (by norm_num) _ _ _ _ (by simp) l
    · pointwise [k0_pay466]
      exact B 1 (by norm_num) _ _ _ _ rfl l
    · pointwise [k0_pay469, k0_pay468, kernelRun0_C.sl.r_178]
      exact B 2 (by norm_num) _ _ _ _ rfl l
    · pointwise [k0_pay471]
      exact B 3 (by norm_num) _ _ _ _ rfl l
    · pointwise [k0_pay473]
      exact B 4 (by norm_num) _ _ _ _ rfl l
    · pointwise [k0_pay3, kernelRun0_C.sl.v1171]
      exact B 5 (by norm_num) _ _ _ _ rfl l
    · pointwise [k0_pay5, kernelRun0_C.sl.v1181]
      exact B 6 (by norm_num) _ _ _ _ rfl l
    · pointwise [k0_pay7, kernelRun0_C.sl.v1191]
      exact B 7 (by norm_num) _ _ _ _ rfl l
end

end Cert.AttnKernelIdeal.Grad
-- ==== Proof.Attn.Window.lean ====
/- Running sums along the last axis of the scores, written as window sums: from a position to the end, and from the start
   up to a position. -/
module

public import proofs.«01_k».proof.Proof.Gen.AttnReferenceIdeal.Read
public import proofs.«01_k».proof.Proof.Attn.Model
public import Idealize.ShloMosaic.Lib.Pointwise

@[expose] public section

set_option maxRecDepth 16384

noncomputable section

namespace Cert.Attn

open Idealize.ShloMosaic Finset
open Cert.AttnReferenceIdeal

/-- Adding the terms of a list one after another adds their sum. -/
theorem foldl_add {ι : Type*} (l : List ι) (f : ι → EReal) (a : EReal) :
    l.foldl (fun r n => r + f n) a = a + (l.map f).sum := by
  induction l generalizing a with
  | nil => simp
  | cons b l ih => rw [List.foldl_cons, ih, List.map_cons, List.sum_cons, add_assoc]

/-- A window sum from zero is the sum over the window of the elements the window meets. -/
theorem reduceWindow_sum {s t u : Shape} (window strides lo hi : Fin s.rank → Nat) (x : FVec Ideal s .f32) (init : FVec Ideal u .f32)
    (h : s.ReduceWindows window strides lo hi t) (hu : 0 < u.numel) (hinit : ∀ i, init i = 0) (j : t.Idx) :
    Host.reduceWindowAdd (F := Ideal) window strides lo hi x init h hu j
      = ∑ k : (⟨s.rank, window⟩ : Shape).Idx,
          if hin : ∀ a, lo a ≤ (j (a.cast h.1.symm)).val * strides a + (k a).val
              ∧ (j (a.cast h.1.symm)).val * strides a + (k a).val - lo a < s.size a
          then x (fun a => ⟨(j (a.cast h.1.symm)).val * strides a + (k a).val - lo a, (hin a).2⟩) else 0 := by
  unfold Host.reduceWindowAdd
  rw [hinit]
  show Host.reduceWindow (· + ·) window strides lo hi x (fun _ : (⟨0, ![]⟩ : Shape).Idx => (0 : EReal)) h (by decide) j = _
  unfold Host.reduceWindow
  rw [foldl_add, zero_add, ← List.ofFn_eq_map, List.sum_ofFn]
  exact Fintype.sum_equiv (Shape.rowMajor ⟨s.rank, window⟩).symm _ _ fun n => by split_ifs <;> rfl

/-- A window of 2048 along the last axis, `lo` places of it before the position: the sum of its elements. -/
theorem window_sum (lo hi : ℕ) (x : FVec Ideal S1x8x2048x2048 .f32) (init : FVec Ideal S_ .f32)
    (hinit : ∀ i, init i = 0) (H : S1x8x2048x2048.ReduceWindows ![1, 1, 1, 2048] ![1, 1, 1, 1] ![0, 0, 0, lo] ![0, 0, 0, hi] S1x8x2048x2048)
    (hu : 0 < S_.numel) (h : Fin 8) (t s : Fin 2048) (f : ℕ → ℝ) (hf : ∀ j : Fin 2048, x (ix4 0 h t j) = ((f j : ℝ) : EReal)) :
    Host.reduceWindowAdd (F := Ideal) ![1, 1, 1, 2048] ![1, 1, 1, 1] ![0, 0, 0, lo] ![0, 0, 0, hi] x init H hu (ix4 0 h t s)
      = ((∑ w ∈ range 2048, if lo ≤ s.val + w ∧ s.val + w - lo < 2048 then f (s.val + w - lo) else 0 : ℝ) : EReal) := by
  rw [reduceWindow_sum _ _ _ _ _ _ _ _ hinit, ← coe_sum, Finset.sum_range]
  refine (sum_idx4 (n0 := 1) (n1 := 1) (n2 := 1) (n3 := 2048) _).trans ?_
  simp only [Finset.univ_unique, Finset.sum_singleton]
  refine Finset.sum_congr rfl fun w _ => ?_
  by_cases hp : lo ≤ s.val + w.val ∧ s.val + w.val - lo < 2048
  · rw [if_pos hp, dif_pos]
    · refine Eq.trans ?_ (hf ⟨s.val + w.val - lo, hp.2⟩)
      congr 1
      funext a
      fin_cases a
      · rfl
      · exact Fin.ext (by simp)
      · exact Fin.ext (by simp)
      · exact Fin.ext (by simp)
    · intro a
      fin_cases a
      · simp
      · simp
      · simp
      · simpa using hp
  · rw [if_neg hp, dif_neg]
    · rfl
    · intro hall
      exact hp (by simpa using hall 3)

/-- The sum from a position to the end. -/
theorem suffix_sum (s : ℕ) (hs : s < 2048) (f : ℕ → ℝ) :
    (∑ w ∈ range 2048, if 0 ≤ s + w ∧ s + w - 0 < 2048 then f (s + w - 0) else 0) = ∑ w ∈ range (2048 - s), f (s + w) := by
  rw [show 2048 = (2048 - s) + s by omega, Finset.sum_range_add, Finset.sum_eq_zero (s := range s), add_zero]
  · rw [show 2048 - s + s - s = 2048 - s by omega]
    refine Finset.sum_congr rfl fun w hw => ?_
    have := Finset.mem_range.1 hw
    rw [if_pos (by omega), Nat.sub_zero]
  · intro w _
    rw [if_neg (by omega)]

/-- The sum from the start up to a position, itself included. -/
theorem prefix_sum (s : ℕ) (hs : s < 2048) (f : ℕ → ℝ) :
    (∑ w ∈ range 2048, if 2047 ≤ s + w ∧ s + w - 2047 < 2048 then f (s + w - 2047) else 0) = ∑ w ∈ range (s + 1), f w := by
  conv_lhs => rw [show range 2048 = range ((2047 - s) + (s + 1)) by congr 1; omega]
  rw [Finset.sum_range_add, Finset.sum_eq_zero (s := range (2047 - s)), zero_add]
  · refine Finset.sum_congr rfl fun w hw => ?_
    have := Finset.mem_range.1 hw
    rw [if_pos (by omega)]
    congr 1
    omega
  · intro w hw
    have := Finset.mem_range.1 hw
    rw [if_neg (by omega)]

end Cert.Attn

end
-- ==== Proof.Attn.Reference.lean ====
/- The plain reference of the attention gradient, read one element at a time in real numbers. -/
module

public import proofs.«01_k».proof.Proof.Gen.AttnReferenceIdeal.Read
public import proofs.«01_k».proof.Proof.Attn.Window
public import Idealize.ShloMosaic.Lib.Pointwise
public import Idealize.ShloMosaic.Lib.WordCmp

@[expose] public section

set_option maxRecDepth 16384

noncomputable section

namespace Cert.AttnReferenceIdeal.Grad

open Idealize.ShloMosaic Idealize.ShloMosaic.TcCoe Idealize.SL.Sem
open Cert.AttnReferenceIdeal Cert.AttnReferenceIdeal.Gen Cert.AttnReferenceIdeal.Read Cert.Attn

/-- The columns of the projection and the incoming gradient are the reals `q`, `k`, `v`, `g`. -/
structure Reads (x0 : FVec Ideal S1x2048x4096 .f32) (x1 : FVec Ideal S1x2048x512 .f32) (q k v g : ℕ → ℕ → ℝ) : Prop where
  q : ∀ (t : Fin 2048) (c : Fin 512), x0 (ix3 0 t ⟨512 + c.val, by omega⟩) = ((q t c : ℝ) : EReal)
  k : ∀ (t : Fin 2048) (c : Fin 512), x0 (ix3 0 t ⟨1024 + c.val, by omega⟩) = ((k t c : ℝ) : EReal)
  v : ∀ (t : Fin 2048) (c : Fin 512), x0 (ix3 0 t ⟨1536 + c.val, by omega⟩) = ((v t c : ℝ) : EReal)
  g : ∀ (t : Fin 2048) (c : Fin 512), x1 (ix3 0 t c) = ((g t c : ℝ) : EReal)

variable {x0 : FVec Ideal S1x2048x4096 .f32} {x1 : FVec Ideal S1x2048x512 .f32} {q k v g : ℕ → ℕ → ℝ}

theorem queries (hr : Reads x0 x1 q k v g) (h : Fin 8) (t : Fin 2048) (d : Fin 64) :
    val_main_v4 (F := Ideal) x0 (ix4 0 h t d) = ((q t (h * 64 + d) : ℝ) : EReal) := by
  pointwise [val_main_v4, val_main_v3, val_main_v0]
  exact hr.q t ⟨h * 64 + d, by omega⟩

theorem keys (hr : Reads x0 x1 q k v g) (h : Fin 8) (t : Fin 2048) (d : Fin 64) :
    val_main_v6 (F := Ideal) x0 (ix4 0 h t d) = ((k t (h * 64 + d) : ℝ) : EReal) := by
  pointwise [val_main_v6, val_main_v5, val_main_v1]
  exact hr.k t ⟨h * 64 + d, by omega⟩

theorem values (hr : Reads x0 x1 q k v g) (h : Fin 8) (t : Fin 2048) (d : Fin 64) :
    val_main_v8 (F := Ideal) x0 (ix4 0 h t d) = ((v t (h * 64 + d) : ℝ) : EReal) := by
  pointwise [val_main_v8, val_main_v7, val_main_v2]
  exact hr.v t ⟨h * 64 + d, by omega⟩

theorem incoming (hr : Reads x0 x1 q k v g) (h : Fin 8) (t : Fin 2048) (d : Fin 64) :
    val_main_v32 (F := Ideal) x1 (ix4 0 h t d) = ((g t (h * 64 + d) : ℝ) : EReal) := by
  pointwise [val_main_v32, val_main_v31]
  exact hr.g t ⟨h * 64 + d, by omega⟩

/-- The scale of the scores is one eighth. -/
theorem eighth : Ideal.ofBits .f32 0x3E000000#32 = (((1 : ℝ) / 8 : ℝ) : EReal) := by
  simp [Ideal.ofBits, Ideal.ieee, -EReal.coe_mul]; norm_num

/-- The bound that no real reaches is plus infinity. -/
theorem infinity : Ideal.ofBits .f32 0x7F800000#32 = (⊤ : EReal) := by
  simp [Ideal.ofBits, Ideal.ieee]

theorem scores (hr : Reads x0 x1 q k v g) (h : Fin 8) (t s : Fin 2048) :
    val_main_v11 (F := Ideal) x0 (ix4 0 h t s) = ((score q k h t s : ℝ) : EReal) := by
  pointwise [val_main_v11, val_main_v10, val_main_v9, val_main_cst, queries hr, keys hr, eighth]
  simp only [← EReal.coe_mul, coe_sum]
  rw [score, Finset.sum_range, ← div_eq_mul_one_div]

theorem dweights (hr : Reads x0 x1 q k v g) (h : Fin 8) (t s : Fin 2048) :
    val_main_v35 (F := Ideal) x0 x1 (ix4 0 h t s) = ((dweight v g h t s : ℝ) : EReal) := by
  pointwise [val_main_v35, incoming hr, values hr]
  simp only [← EReal.coe_mul, coe_sum]
  rw [dweight, Finset.sum_range]

theorem softplus0 (hr : Reads x0 x1 q k v g) (h : Fin 8) (t s : Fin 2048) :
    val_main_call0_v1_0 (F := Ideal) x0 (ix4 0 h t s) = ((-logBeta (score q k h t s) : ℝ) : EReal) := by
  have hz := scores hr h t s
  pointwise [val_main_call0_v1_0, val_main_call0_call0_v4, val_main_call0_call0_v6, val_main_call0_call0_v11,
    val_main_call0_call0_v3, val_main_call0_call0_v1, val_main_call0_call0_v2, val_main_call0_call0_v10, val_main_call0_call0_v9,
    val_main_call0_call0_v8, val_main_call0_call0_v7, val_main_call0_call0_v0, val_main_call0_call0_v5, val_main_call0_v0, val_main_call0_call0_cst, hz]
  rw [if_neg (fun h => h rfl), logBeta_eq, neg_neg, ← softplus_coe, EReal.coe_neg]
  rfl

theorem softplus1 (hr : Reads x0 x1 q k v g) (h : Fin 8) (t s : Fin 2048) :
    val_main_call1_v1_0 (F := Ideal) x0 (ix4 0 h t s) = ((-logRest (score q k h t s) : ℝ) : EReal) := by
  have hz := scores hr h t s
  pointwise [val_main_call1_v1_0, val_main_call1_call0_v4, val_main_call1_call0_v6, val_main_call1_call0_v11,
    val_main_call1_call0_v3, val_main_call1_call0_v1, val_main_call1_call0_v2, val_main_call1_call0_v10, val_main_call1_call0_v9,
    val_main_call1_call0_v8, val_main_call1_call0_v7, val_main_call1_call0_v0, val_main_call1_call0_v5, val_main_call1_v0, val_main_v20, val_main_call1_call0_cst, hz]
  simp only [neg_neg]
  rw [if_neg (fun h => h rfl), logRest_eq, neg_neg, ← softplus_coe]
  rfl

/-- A real is not plus infinity, so the branch for plus infinity is not taken. -/
theorem not_top (x : ℝ) : ¬ ((x : EReal) = Ideal.ofBits .f32 0x7F800000#32) := by
  rw [infinity]; exact EReal.coe_ne_top x

theorem rest0 (hr : Reads x0 x1 q k v g) (h : Fin 8) (t s : Fin 2048) :
    val_main_v19_1 (F := Ideal) x0 (ix4 0 h t s) = ((1 - Real.exp (logBeta (score q k h t s)) : ℝ) : EReal) := by
  have hz := scores hr h t s
  have hs := softplus0 hr h t s
  pointwise [val_main_v19_1, val_main_call0_call0_v21, val_main_call0_call0_v20, val_main_call0_call0_v16, val_main_call0_call0_v18, val_main_call0_call0_v17,
    val_main_call0_call0_v14, val_main_call0_call0_v13, val_main_call0_call0_v15, val_main_call0_call0_v19, val_main_call0_call0_cst_0, val_main_call0_call0_cst_1,
    val_main_call0_call0_cst_2, val_main_call0_call0_cst_3, val_main_call0_v0, hz, hs]
  rw [← EReal.coe_neg, if_neg (not_top _), if_neg (not_top _), ← EReal.coe_sub, Ideal.exp_coe, ← exp_logRest, logRest]
  congr 2; ring

theorem beta (hr : Reads x0 x1 q k v g) (h : Fin 8) (t s : Fin 2048) :
    val_main_v21_1 (F := Ideal) x0 (ix4 0 h t s) = ((Real.exp (logBeta (score q k h t s)) : ℝ) : EReal) := by
  have hz := scores hr h t s
  have hs := softplus1 hr h t s
  pointwise [val_main_v21_1, val_main_call1_call0_v21, val_main_call1_call0_v20, val_main_call1_call0_v16, val_main_call1_call0_v18, val_main_call1_call0_v17,
    val_main_call1_call0_v14, val_main_call1_call0_v13, val_main_call1_call0_v15, val_main_call1_call0_v19, val_main_call1_call0_cst_0, val_main_call1_call0_cst_1,
    val_main_call1_call0_cst_2, val_main_call1_call0_cst_3, val_main_call1_v0, val_main_v20, hz, hs]
  rw [neg_neg, if_neg (not_top _), if_neg (not_top _), ← EReal.coe_sub, Ideal.exp_coe, logRest]
  congr 2; ring

theorem zero_const : constant (F := Ideal) S_ .f32 0#32 ix0 = 0 := by
  pointwise

theorem sel_one (x y : EReal) : Scalar.select (1#1) x y = x := rfl

theorem sel_zero (x y : EReal) : Scalar.select (0#1) x y = y := rfl

/-- The head that owns a column. -/
theorem column_head (h : Fin 8) (d : Fin 64) : (h.val * 64 + d.val) / 64 = h.val := by omega

theorem earlier (h : Fin 8) (t s : Fin 2048) :
    val_main_v22_1 (F := Ideal) (ix4 0 h t s) = if s.val < t.val then 1#1 else 0#1 := by
  pointwise [val_main_v22_1, val_main_v18, val_main_v17, val_main_v16, val_main_v15, val_main_v14, val_main_v13, val_main_v12]
  word_cmp
  by_cases hs : s.val < t.val <;> simp only [hs, decide_true, decide_false, if_true, if_false] <;> rfl

/-- The logarithm of what a key leaves, kept where the key comes before the query. -/
def keptRest (q k : ℕ → ℕ → ℝ) (h t s : ℕ) : ℝ := if s < t then logRest (score q k h t s) else 0

theorem kept (hr : Reads x0 x1 q k v g) (h : Fin 8) (t s : Fin 2048) :
    val_main_v22_0 (F := Ideal) x0 (ix4 0 h t s) = ((keptRest q k h t s : ℝ) : EReal) := by
  pointwise [val_main_v22_0, val_main_v21_0, softplus1 hr, earlier, val_main_call2_v2, val_main_call2_v0, val_main_cst_0]
  unfold keptRest
  by_cases hs : s.val < t.val
  · simp only [if_pos hs, sel_one, ← EReal.coe_neg, neg_neg]
  · simp only [if_neg hs, sel_zero, id, zero_const, EReal.coe_zero]

/-- From key `s` on, the keys before the query `t` leave the difference of two of the sums from the start. -/
theorem keptRest_suffix (h t s : ℕ) (ht : t < 2048) (hs : s < t) :
    ∑ w ∈ Finset.range (2048 - s), keptRest q k h t (s + w) = restSum q k h t t - restSum q k h t s := by
  rw [restSum, restSum, ← Finset.sum_Ico_eq_sub _ hs.le, Finset.sum_Ico_eq_sum_range,
    show 2048 - s = (t - s) + (2048 - t) by omega, Finset.sum_range_add, Finset.sum_eq_zero (s := Finset.range (2048 - t)), add_zero]
  · refine Finset.sum_congr rfl fun w hw => ?_
    have := Finset.mem_range.1 hw
    rw [keptRest, if_pos (by omega)]
  · intro w _
    rw [keptRest, if_neg (by omega)]

theorem exponent (hr : Reads x0 x1 q k v g) (h : Fin 8) (t s : Fin 2048) :
    val_main_v25 (F := Ideal) x0 (ix4 0 h t s)
      = ((logBeta (score q k h t s) + (∑ w ∈ Finset.range (2048 - s), keptRest q k h t (s + w)) - keptRest q k h t s : ℝ) : EReal) := by
  have h23 : val_main_v23 (F := Ideal) x0 (ix4 0 h t s) = ((∑ w ∈ Finset.range (2048 - s), keptRest q k h t (s + w) : ℝ) : EReal) := by
    rw [← suffix_sum s s.isLt]
    refine window_sum 0 2047 _ _ ?_ _ _ h t s (fun j => keptRest q k h t j) fun j => kept hr h t j
    intro i
    pointwise [val_main_call3_v0, val_main_call3_cst]
  have h19 : val_main_v19_0 (F := Ideal) x0 (ix4 0 h t s) = ((logBeta (score q k h t s) : ℝ) : EReal) := by
    pointwise [val_main_v19_0, softplus0 hr]
    rw [← EReal.coe_neg, neg_neg]
  pointwise [val_main_v25, val_main_v24, h23, h19, kept hr]
  rw [EReal.coe_sub, EReal.coe_add]

/-- The exponentiated sum, at a key before the query, is its weight. -/
theorem exponent_eq (h t s : ℕ) (ht : t < 2048) (hs : s < t) :
    Real.exp (logBeta (score q k h t s) + (∑ w ∈ Finset.range (2048 - s), keptRest q k h t (s + w)) - keptRest q k h t s)
      = weight q k h t s := by
  rw [keptRest_suffix h t s ht hs, weight, keptRest, if_pos hs]
  simp only [restSum, Finset.sum_range_succ]
  congr 1; ring

theorem weights (hr : Reads x0 x1 q k v g) (h : Fin 8) (t s : Fin 2048) :
    val_main_v27_0 (F := Ideal) x0 (ix4 0 h t s) = ((if s.val < t.val then weight q k h t s else 0 : ℝ) : EReal) := by
  have he := earlier h t s
  pointwise [val_main_v22_1] at he
  pointwise [val_main_v27_0, val_main_v27_1, val_main_v26, he, exponent hr, val_main_call4_v2, val_main_call4_v0, val_main_cst_1]
  by_cases hs : s.val < t.val
  · simp only [if_pos hs, ← exponent_eq h t s t.isLt hs, sel_one, EReal.coe_sub, EReal.coe_add, ← Ideal.exp_coe]
  · simp only [if_neg hs, sel_zero, id, zero_const, EReal.coe_zero]

theorem masses (hr : Reads x0 x1 q k v g) (h : Fin 8) (t s : Fin 2048) :
    val_main_v37 (F := Ideal) x0 x1 (ix4 0 h t s) = ((if s.val < t.val then mass q k v g h t s else 0 : ℝ) : EReal) := by
  have he := earlier h t s
  pointwise [val_main_v22_1] at he
  pointwise [val_main_v37, val_main_v36, val_main_v27_1, val_main_v26, he, exponent hr, dweights hr, val_main_call5_v0, val_main_call5_cst]
  by_cases hs : s.val < t.val
  · simp only [if_pos hs, mass, ← exponent_eq h t s t.isLt hs, sel_one, EReal.coe_mul, EReal.coe_sub, EReal.coe_add, ← Ideal.exp_coe]
  · simp only [if_neg hs, sel_zero, zero_const, zero_mul, EReal.coe_zero]

theorem before (hr : Reads x0 x1 q k v g) (h : Fin 8) (t s : Fin 2048) (hs : s.val < t.val) :
    val_main_v40 (F := Ideal) x0 x1 (ix4 0 h t s) = ((∑ j ∈ Finset.range s, mass q k v g h t j : ℝ) : EReal) := by
  have h39 : val_main_v39 (F := Ideal) x0 x1 (ix4 0 h t s)
      = ((∑ w ∈ Finset.range (s + 1), if w < t.val then mass q k v g h t w else 0 : ℝ) : EReal) := by
    rw [← prefix_sum s s.isLt]
    refine window_sum 2047 0 _ _ ?_ _ _ h t s (fun w => if w < t.val then mass q k v g h t w else 0) fun j => masses hr h t j
    intro i
    pointwise [val_main_call6_v0, val_main_call6_cst]
  have h38 : val_main_v38 (F := Ideal) x0 x1 (ix4 0 h t s) = -((if s.val < t.val then mass q k v g h t s else 0 : ℝ) : EReal) := by
    pointwise [val_main_v38, masses hr]
  have h40 : val_main_v40 (F := Ideal) x0 x1 (ix4 0 h t s)
      = val_main_v38 (F := Ideal) x0 x1 (ix4 0 h t s) + val_main_v39 (F := Ideal) x0 x1 (ix4 0 h t s) := by
    pointwise [val_main_v40]
  rw [h40, h38, h39, ← EReal.coe_neg, ← EReal.coe_add, Finset.sum_range_succ, if_pos hs]
  refine congrArg _ ?_
  rw [Finset.sum_congr rfl (g := fun j => mass q k v g h t j)]
  · ring
  · intro j hj
    have := Finset.mem_range.1 hj
    rw [if_pos (by omega)]

theorem dscores (hr : Reads x0 x1 q k v g) (h : Fin 8) (t s : Fin 2048) :
    val_main_v47 (F := Ideal) x0 x1 (ix4 0 h t s) = ((if s.val < t.val then dscore q k v g h t s / 8 else 0 : ℝ) : EReal) := by
  have he := earlier h t s
  pointwise [val_main_v47, val_main_v46, val_main_v45, val_main_v44, val_main_v43, val_main_v42, val_main_v41, val_main_call9_v1, val_main_call9_v0,
    val_main_call8_v1, val_main_call8_v0, he, beta hr, rest0 hr, masses hr, val_main_call7_v0, val_main_call7_cst, val_main_cst_2, eighth]
  by_cases hs : s.val < t.val
  · simp only [if_pos hs, before hr h t s hs, dscore, sel_one, ← EReal.coe_neg, ← EReal.coe_mul, ← EReal.coe_add]
    congr 1; ring
  · simp only [if_neg hs, sel_zero, EReal.coe_zero, neg_zero, zero_mul, add_zero]

theorem dqueries (hr : Reads x0 x1 q k v g) (h : Fin 8) (t : Fin 2048) (d : Fin 64) :
    val_main_v49 (F := Ideal) x0 x1 (ix4 0 h t d) = ((gradQ q k v g t (h * 64 + d) : ℝ) : EReal) := by
  pointwise [val_main_v49, dscores hr, keys hr]
  simp only [← EReal.coe_mul, coe_sum]
  rw [gradQ, column_head, Finset.sum_div, ← sum_before 2048 t t.isLt.le, Finset.sum_range]
  refine congrArg _ (Finset.sum_congr rfl fun s _ => ?_)
  split_ifs <;> ring

theorem dkeys (hr : Reads x0 x1 q k v g) (h : Fin 8) (t : Fin 2048) (d : Fin 64) :
    val_main_v48 (F := Ideal) x0 x1 (ix4 0 h t d) = ((gradK q k v g t (h * 64 + d) : ℝ) : EReal) := by
  pointwise [val_main_v48, dscores hr, queries hr]
  simp only [← EReal.coe_mul, coe_sum]
  rw [gradK, Finset.sum_range]
  refine congrArg _ (Finset.sum_congr rfl fun s _ => ?_)
  rw [partK, column_head]
  split_ifs <;> ring

theorem dvalues (hr : Reads x0 x1 q k v g) (h : Fin 8) (t : Fin 2048) (d : Fin 64) :
    val_main_v34 (F := Ideal) x0 x1 (ix4 0 h t d) = ((gradV q k g t (h * 64 + d) : ℝ) : EReal) := by
  pointwise [val_main_v34, val_main_v33, weights hr, incoming hr]
  simp only [← EReal.coe_mul, coe_sum]
  rw [gradV, Finset.sum_range]
  refine congrArg _ (Finset.sum_congr rfl fun s _ => ?_)
  rw [partV, column_head]
  split_ifs <;> ring

theorem out_q (hr : Reads x0 x1 q k v g) (t : Fin 2048) (c : Fin 512) :
    val_main_v57 (F := Ideal) x0 x1 (ix2 t c) = ((gradQ q k v g t c : ℝ) : EReal) := by
  pointwise [val_main_v57, val_main_v56, val_main_v55, val_main_v54, dqueries hr]
  rw [Nat.div_add_mod']

theorem out_k (hr : Reads x0 x1 q k v g) (t : Fin 2048) (c : Fin 512) :
    val_main_v59 (F := Ideal) x0 x1 (ix2 t c) = ((gradK q k v g t c : ℝ) : EReal) := by
  pointwise [val_main_v59, val_main_v58, val_main_v53, val_main_v52, dkeys hr]
  rw [Nat.div_add_mod']

theorem out_v (hr : Reads x0 x1 q k v g) (t : Fin 2048) (c : Fin 512) :
    val_main_v61 (F := Ideal) x0 x1 (ix2 t c) = ((gradV q k g t c : ℝ) : EReal) := by
  pointwise [val_main_v61, val_main_v60, val_main_v51, val_main_v50, dvalues hr]
  rw [Nat.div_add_mod']

end Cert.AttnReferenceIdeal.Grad

end
-- ==== Proof.Attn.Inputs.lean ====
module

public import proofs.«01_k».proof.Proof.Gen.AttnKernelIdeal.Value
public import proofs.«01_k».proof.Proof.Attn.Model
public import Idealize.ShloMosaic.Lib.Pointwise
public import proofs.«01_k».proof.Proof.Attn.Cases
public import proofs.«01_k».proof.Proof.Attn.Reference
public import Idealize.ShloMosaic.Lib.Pipeline.ValueKit

/-!
# What the kernel reads

The block of each operand at a grid point, in the arguments of the program.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

theorem idx : ∀ t : Fin cfg0.N, win0_0.index t = ![t.val % 8, 4 + t.val / 8] ∧ win0_1.index t = ![0, 8 + t.val / 8] ∧ win0_2.index t = ![0, 12 + t.val / 8]
    ∧ win0_3.index t = ![t.val % 8, t.val / 8] ∧ win0_4.index t = ![t.val % 8, t.val / 8] ∧ win0_5.index t = ![t.val % 8, t.val / 8]
    ∧ win0_6.index t = ![0, t.val / 8] ∧ win0_7.index t = ![0, t.val / 8] ∧ ((grid0.coords t) 1).val = t.val % 8 :=
  (by decide +kernel : ∀ t : Fin grid0.N, _)

theorem N32 (t : Fin cfg0.N) : t.val < 32 := lt_of_lt_of_eq t.isLt N_0

variable (m : (ℓ : Loc nD τ sig) → Buf (Elt Ideal) ℓ) (c : Dev nD) {q k v g : ℕ → ℕ → ℝ}

/-- Row `r` of the block of queries of a grid point, among all rows. -/
def row (t : Fin cfg0.N) (r : Fin 256) : Fin 2048 := ⟨256 * (t.val % 8) + r.val, by omega⟩

/-- Column `l` of the pair of heads of a grid point, among all columns. -/
def col (t : Fin cfg0.N) (l : Fin 128) : Fin 512 := ⟨128 * (t.val / 8) + l.val, by have := N32 t; omega⟩

theorem row_val (t : Fin cfg0.N) (r : Fin 256) : (row t r : ℕ) = 256 * (t.val % 8) + r.val := rfl
theorem col_val (t : Fin cfg0.N) (l : Fin 128) : (col t l : ℕ) = 128 * (t.val / 8) + l.val := rfl

theorem proj_read (t : Fin 2048) (b : Fin 4096) : V m c main_v25 (ix2 t b) = m ((c : Thread nD τ).loc main_arg0) (ix3 0 t b) := by
  simp only [V, List.flatten_cons, List.flatten_nil, hostOps0, hostOps0_1, hostOps0_2, hostOps0_3, hostOps0_4, List.cons_append, List.nil_append, List.append_nil]
  entry_read
  pointwise

theorem do_read (t : Fin 2048) (b : Fin 512) : V m c main_v26 (ix2 t b) = m ((c : Thread nD τ).loc main_arg1) (ix3 0 t b) := by
  simp only [V, List.flatten_cons, List.flatten_nil, hostOps0, hostOps0_1, hostOps0_2, hostOps0_3, hostOps0_4, List.cons_append, List.nil_append, List.append_nil]
  entry_read
  pointwise

theorem blk0 (t : Fin cfg0.N) (r : Fin 256) (l : Fin 128) :
    iblk m c 0 t (ix2 r l) = m ((c : Thread nD τ).loc main_arg0) (ix3 0 (row t r) ⟨512 + (col t l).val, by omega⟩) := by
  blk_simp [iblk]; rw [← proj_read m c]; blk_ext [idx t, row_val, col_val]

theorem blk1 (t : Fin cfg0.N) (s : Fin 2048) (l : Fin 128) :
    iblk m c 1 t (ix2 s l) = m ((c : Thread nD τ).loc main_arg0) (ix3 0 s ⟨1024 + (col t l).val, by omega⟩) := by
  blk_simp [iblk]; rw [← proj_read m c]; blk_ext [idx t, row_val, col_val]

theorem blk2 (t : Fin cfg0.N) (s : Fin 2048) (l : Fin 128) :
    iblk m c 2 t (ix2 s l) = m ((c : Thread nD τ).loc main_arg0) (ix3 0 s ⟨1536 + (col t l).val, by omega⟩) := by
  blk_simp [iblk]; rw [← proj_read m c]; blk_ext [idx t, row_val, col_val]

theorem blk3 (t : Fin cfg0.N) (r : Fin 256) (l : Fin 128) :
    iblk m c 3 t (ix2 r l) = m ((c : Thread nD τ).loc main_arg1) (ix3 0 (row t r) (col t l)) := by
  blk_simp [iblk]; rw [← do_read m c]; blk_ext [idx t, row_val, col_val]

theorem blk4 (t : Fin cfg0.N) (r : Fin 256) (l : Fin 128) :
    iblk m c 4 t (ix2 r l) = V m c main_v24 (ix2 (row t r) (col t l)) := by
  blk_simp [iblk]; blk_ext [idx t, row_val, col_val]

/-- From the kept logarithms of one head and query to the column of totals the kernel reads. -/
theorem totals_of (X : FVec Ideal S1x8x2048x2048 .f32) (t : Fin 2048) (l : Fin 512) (f : ℕ → ℝ)
    (hX : ∀ s : Fin 2048, X (ix4 0 ⟨l.val / 64, by omega⟩ t s) = ((f s : ℝ) : EReal)) :
    shapeCast main_v24.ty.shape
      (broadcastInDim S2048x8x64 ![0, 1, 2] bcast_S2048x8x1_S2048x8x64_0_1_2
        (broadcastInDim S2048x8x1 ![0, 1] bcast_S2048x8_S2048x8x1_0_1
          (transpose S2048x8 [1, 0]
            (fun i => shapeCast main_v20.ty.shape
              (Host.reduceAdd X (constant (F := Ideal) S_ FTy.f32 0#32) reducesTo_S1x8x2048x2048_S1x8x2048_d3 h_S_)
              shapeCasts_S1x8x2048_S8x2048 i)
            transposes_S8x2048_S2048x8_1_0)))
      shapeCasts_S2048x8x64_S2048x512 (ix2 t l) = ((∑ s ∈ Finset.range 2048, f s : ℝ) : EReal) := by
  pointwise [hX]
  rw [← Fin.sum_univ_eq_sum_range f, ← coe_sum]

variable {q k v g : ℕ → ℕ → ℝ}

/-- Over all keys the kept logarithms add up to those of the keys before the query. -/
theorem keptRest_all (h t : ℕ) (ht : t < 2048) :
    ∑ s ∈ Finset.range 2048, Cert.AttnReferenceIdeal.Grad.keptRest q k h t s = restSum q k h t t := by
  rcases Nat.eq_zero_or_pos t with rfl | h0
  · exact Finset.sum_eq_zero fun s _ => if_neg (by omega)
  · simpa [restSum] using Cert.AttnReferenceIdeal.Grad.keptRest_suffix (q := q) (k := k) h t 0 ht h0

/-- The totals handed to the kernel are the whole sums of the logarithms left by the keys before each query. -/
theorem total_read (hr : Cert.AttnReferenceIdeal.Grad.Reads (m ((c : Thread nD τ).loc main_arg0)) (m ((c : Thread nD τ).loc main_arg1)) q k v g)
    (t : Fin 2048) (l : Fin 512) : V m c main_v24 (ix2 t l) = ((restSum q k (l.val / 64) t t : ℝ) : EReal) := by
  rw [← keptRest_all (q := q) (k := k) (l.val / 64) t t.isLt]
  simp only [V, List.flatten_cons, List.flatten_nil, hostOps0, hostOps0_1, hostOps0_2, hostOps0_3, hostOps0_4, List.cons_append, List.nil_append, List.append_nil]
  entry_read
  exact totals_of (Cert.AttnReferenceIdeal.Read.val_main_v22_0 (F := Ideal) (m ((c : Thread nD τ).loc main_arg0))) t l _
    fun s => Cert.AttnReferenceIdeal.Grad.kept hr ⟨l.val / 64, by omega⟩ t s

end Cert.AttnKernelIdeal.Grad
-- ==== Proof.Attn.Grid.lean ====
module

public import proofs.«01_k».proof.Proof.Gen.AttnKernelIdeal.Value
public import proofs.«01_k».proof.Proof.Attn.Model
public import Idealize.ShloMosaic.Lib.Pointwise
public import proofs.«01_k».proof.Proof.Attn.Inputs
public import Idealize.ShloMosaic.Lib.Pipeline.ValueKit

/-!
# Along the grid

What the scratch buffers hold from one block of queries to the next, and the three arrays the kernel
leaves.
-/

@[expose] public section

set_option maxHeartbeats 4000000
set_option maxRecDepth 16384

noncomputable section

namespace Cert.AttnKernelIdeal.Grad

open Idealize.ShloMosaic Idealize.ShloMosaic.TcCoe Idealize.ShloMosaic.Tactic Idealize.SL.Sem
open Cert.AttnKernelIdeal Cert.AttnKernelIdeal.Gen Cert.Attn

variable {m : (ℓ : Loc nD τ sig) → Buf (Elt Ideal) ℓ} {c : Dev nD} {q k v g : ℕ → ℕ → ℝ}

theorem block_val (t : Fin cfg0.N) : ((grid0.coords t) 1).val = t.val % 8 := (idx t).2.2.2.2.2.2.2.2

/-- The same state, its number of queries written otherwise. -/
theorem Reached.count {p n n' : ℕ} {kb : FVec Ideal S2048x128 .bf16} {kt vt : FVec Ideal S8x128x256 .bf16}
    {dk dv : FVec Ideal S8x128x256 .f32} (R : Reached q k v g p n kb kt vt dk dv) (h : n = n') : Reached q k v g p n' kb kt vt dk dv := h ▸ R

variable (hr : Cert.AttnReferenceIdeal.Grad.Reads (m ((c : Thread nD τ).loc main_arg0)) (m ((c : Thread nD τ).loc main_arg1)) q k v g)
include hr

theorem in_q (t : Fin cfg0.N) (r : Fin 256) (l : Fin 128) :
    iblk m c 0 t (ix2 r l) = ((q (256 * ((grid0.coords t) 1).val + r.val) (128 * (t.val / 8) + l.val) : ℝ) : EReal) := by
  rw [blk0, block_val]; exact hr.q (row t r) (col t l)

theorem in_k (t : Fin cfg0.N) (s : Fin 2048) (l : Fin 128) :
    iblk m c 1 t (ix2 s l) = ((k s.val (128 * (t.val / 8) + l.val) : ℝ) : EReal) := by
  rw [blk1]; exact hr.k s (col t l)

theorem in_v (t : Fin cfg0.N) (s : Fin 2048) (l : Fin 128) :
    iblk m c 2 t (ix2 s l) = ((v s.val (128 * (t.val / 8) + l.val) : ℝ) : EReal) := by
  rw [blk2]; exact hr.v s (col t l)

theorem in_g (t : Fin cfg0.N) (r : Fin 256) (l : Fin 128) :
    iblk m c 3 t (ix2 r l) = ((g (256 * ((grid0.coords t) 1).val + r.val) (128 * (t.val / 8) + l.val) : ℝ) : EReal) := by
  rw [blk3, block_val]; exact hr.g (row t r) (col t l)

theorem in_total (t : Fin cfg0.N) (r : Fin 256) (l : Fin 128) :
    iblk m c 4 t (ix2 r l) = ((restSum q k (2 * (t.val / 8) + l.val / 64) (256 * ((grid0.coords t) 1).val + r.val)
      (256 * ((grid0.coords t) 1).val + r.val) : ℝ) : EReal) := by
  rw [blk4, total_read m c hr, block_val, row_val, col_val, show (128 * (t.val / 8) + l.val) / 64 = 2 * (t.val / 8) + l.val / 64 by omega]

/-- The gradient of the queries that a grid point writes. -/
def WritesQ (m : (ℓ : Loc nD τ sig) → Buf (Elt Ideal) ℓ) (c : Dev nD) (q k v g : ℕ → ℕ → ℝ) (t : Fin cfg0.N) : Prop :=
  ∀ (r : Fin 256) (l : Fin 128), (outsAt0 m c t.val t.isLt).1 (ix2 r l)
    = ((gradQ q k v g (256 * ((grid0.coords t) 1).val + r.val) (128 * (t.val / 8) + l.val) : ℝ) : EReal)

/-- What the scratch buffers hold after a grid point. -/
def AfterPoint (m : (ℓ : Loc nD τ sig) → Buf (Elt Ideal) ℓ) (c : Dev nD) (q k v g : ℕ → ℕ → ℝ) (t : Fin cfg0.N) : Prop :=
  Reached q k v g (t.val / 8) (256 * (((grid0.coords t) 1).val + 1)) (outsAt0 m c t.val t.isLt).2.2.2.1
    (outsAt0 m c t.val t.isLt).2.2.2.2.1
    (outsAt0 m c t.val t.isLt).2.2.2.2.2.1
    (outsAt0 m c t.val t.isLt).2.2.2.2.2.2.1
    (outsAt0 m c t.val t.isLt).2.2.2.2.2.2.2

/-- What the scratch buffers hold before a grid point that is not the first of its pair. -/
def BeforePoint (m : (ℓ : Loc nD τ sig) → Buf (Elt Ideal) ℓ) (c : Dev nD) (q k v g : ℕ → ℕ → ℝ) (t : Fin cfg0.N) : Prop :=
  Reached q k v g (t.val / 8) (256 * ((grid0.coords t) 1).val) (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2.1
    (outsAt0 m c (t.val - 1) (Nat.lt_of_le_of_lt (Nat.sub_le _ _) t.isLt)).2.2.2.2.2.2.2

theorem at_first (t : Fin cfg0.N) (h0 : t.val % 8 = 0) (h1 : ¬t.val % 8 = 7) : WritesQ m c q k v g t ∧ AfterPoint m c q k v g t := by
  unfold WritesQ AfterPoint
  rw [outsAt0_A m c t h0 h1]
  dsimp only
  exact first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (t.val / 8) (in_q hr t) (in_g hr t) (in_total hr t)
    ((hcond0_0 t).mpr h0) (fun h => h1 ((hcond0_1 t).mp h)) ((block_val t).trans h0) (in_k hr t) (in_v hr t)

theorem at_middle (t : Fin cfg0.N) (h0 : ¬t.val % 8 = 0) (h1 : ¬t.val % 8 = 7) (R : BeforePoint m c q k v g t) :
    WritesQ m c q k v g t ∧ AfterPoint m c q k v g t := by
  unfold WritesQ AfterPoint
  rw [outsAt0_B m c t h0 h1]
  dsimp only
  exact middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2.1
    (outsAt0 m c (t.val - 1) (Nat.lt_of_le_of_lt (Nat.sub_le _ _) t.isLt)).2.2.2.2.2.2.2 (t.val / 8) (in_q hr t) (in_g hr t) (in_total hr t) R
    (fun h => h0 ((hcond0_0 t).mp h)) (fun h => h1 ((hcond0_1 t).mp h))

theorem at_last (t : Fin cfg0.N) (h0 : ¬t.val % 8 = 0) (h1 : t.val % 8 = 7) (R : BeforePoint m c q k v g t) :
    WritesQ m c q k v g t
      ∧ (∀ (s : Fin 2048) (l : Fin 128), (outsAt0 m c t.val t.isLt).2.1 (ix2 s l) = ((gradK q k v g s.val (128 * (t.val / 8) + l.val) : ℝ) : EReal))
      ∧ ∀ (s : Fin 2048) (l : Fin 128), (outsAt0 m c t.val t.isLt).2.2.1 (ix2 s l) = ((gradV q k g s.val (128 * (t.val / 8) + l.val) : ℝ) : EReal) := by
  unfold WritesQ
  rw [outsAt0_C m c t h0 h1]
  dsimp only
  exact last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2.1
    (outsAt0 m c (t.val - 1) (Nat.lt_of_le_of_lt (Nat.sub_le _ _) t.isLt)).2.2.2.2.2.2.2 (t.val / 8) (in_q hr t) (in_g hr t) (in_total hr t) R
    (fun h => h0 ((hcond0_0 t).mp h)) ((hcond0_1 t).mpr h1) ((block_val t).trans h1)

/-- After each but the last block of queries of a pair of heads, the scratch buffers hold the sums over the queries so far. -/
theorem after_point (n : ℕ) : ∀ h : n < cfg0.N, n % 8 ≠ 7 → AfterPoint m c q k v g ⟨n, h⟩ := by
  induction n with
  | zero => exact fun h h1 => (at_first hr ⟨0, h⟩ rfl h1).2
  | succ n ih =>
    intro h h1
    by_cases h0 : (n + 1) % 8 = 0
    · exact (at_first hr ⟨n + 1, h⟩ h0 h1).2
    · have R : Reached q k v g (n / 8) _ _ _ _ _ _ := ih (by omega) (by omega)
      rw [show n / 8 = (n + 1) / 8 by omega] at R
      refine (at_middle hr ⟨n + 1, h⟩ h0 h1 (R.count ?_)).2
      rw [block_val, block_val]
      show 256 * (n % 8 + 1) = 256 * ((n + 1) % 8)
      omega

theorem before_point (t : Fin cfg0.N) (h0 : ¬t.val % 8 = 0) : BeforePoint m c q k v g t := by
  obtain ⟨n, h⟩ := t
  cases n with
  | zero => exact absurd rfl h0
  | succ n =>
    have h0 : ¬(n + 1) % 8 = 0 := h0
    have R : Reached q k v g (n / 8) _ _ _ _ _ _ := after_point hr n (by omega) (by omega)
    rw [show n / 8 = (n + 1) / 8 by omega] at R
    refine R.count ?_
    rw [block_val, block_val]
    show 256 * (n % 8 + 1) = 256 * ((n + 1) % 8)
    omega

theorem writes_q (t : Fin cfg0.N) : WritesQ m c q k v g t := by
  by_cases h0 : t.val % 8 = 0
  · exact (at_first hr t h0 (by omega)).1
  · by_cases h1 : t.val % 8 = 7
    · exact (at_last hr t h0 h1 (before_point hr t h0)).1
    · exact (at_middle hr t h0 h1 (before_point hr t h0)).1

/-- The kernel's gradient of the queries is the reference's. -/
theorem dq : (dats m 0 c).arrAt 5 (cfgs 0).N = Cert.AttnReferenceIdeal.Read.val_main_v57 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  obtain ⟨r, l, rfl⟩ : ∃ (r : Fin 256) (l : Fin 128), y = ix2 r l := ⟨y 0, y 1, by funext a; fin_cases a <;> rfl⟩
  refine (writes_q hr t r l).trans ?_
  rw [block_val]
  refine (Cert.AttnReferenceIdeal.Grad.out_q hr (row t r) (col t l)).symm.trans ?_
  blk_ext [idx t, row_val, col_val]

/-- The kernel's gradient of the keys is the reference's. -/
theorem dk : (dats m 0 c).arrAt 6 (cfgs 0).N = Cert.AttnReferenceIdeal.Read.val_main_v59 (F := Ideal) (m ((c : Thread nD τ).loc main_arg0)) (m ((c : Thread nD τ).loc main_arg1)) := by
  refine (dats m 0 c).arrAt_eq_of_covers 6 _ (by decide +kernel) fun t hf y => ?_
  have h1 : t.val % 8 = 7 := (flush0_6 t).1 hf
  have h0 : ¬t.val % 8 = 0 := by omega
  blk_simp
  rw [after0_6]
  obtain ⟨s, l, rfl⟩ : ∃ (s : Fin 2048) (l : Fin 128), y = ix2 s l := ⟨y 0, y 1, by funext a; fin_cases a <;> rfl⟩
  refine ((at_last hr t h0 h1 (before_point hr t h0)).2.1 s l).trans ?_
  refine (Cert.AttnReferenceIdeal.Grad.out_k hr s (col t l)).symm.trans ?_
  blk_ext [idx t, row_val, col_val]

/-- The kernel's gradient of the values is the reference's. -/
theorem dv : (dats m 0 c).arrAt 7 (cfgs 0).N = Cert.AttnReferenceIdeal.Read.val_main_v61 (F := Ideal) (m ((c : Thread nD τ).loc main_arg0)) (m ((c : Thread nD τ).loc main_arg1)) := by
  refine (dats m 0 c).arrAt_eq_of_covers 7 _ (by decide +kernel) fun t hf y => ?_
  have h1 : t.val % 8 = 7 := (flush0_7 t).1 hf
  have h0 : ¬t.val % 8 = 0 := by omega
  blk_simp
  rw [after0_7]
  obtain ⟨s, l, rfl⟩ : ∃ (s : Fin 2048) (l : Fin 128), y = ix2 s l := ⟨y 0, y 1, by funext a; fin_cases a <;> rfl⟩
  refine ((at_last hr t h0 h1 (before_point hr t h0)).2.2 s l).trans ?_
  refine (Cert.AttnReferenceIdeal.Grad.out_v hr s (col t l)).symm.trans ?_
  blk_ext [idx t, row_val, col_val]

end Cert.AttnKernelIdeal.Grad
-- ==== Proof.Attn.Finite.lean ====
/- Entries whose absolute value stays below infinity are real numbers. -/
module

public import Idealize.ShloMosaic.Lib.Pointwise
public import proofs.«01_k».proof.Proof.Attn.Model

@[expose] public section

noncomputable section

namespace Cert.Finite

open Idealize.ShloMosaic

/-- An extended real whose absolute value compares below the infinity of machine floats is a real. -/
theorem real_of_below {x : Ideal .f32}
    (h : FloatOps.cmpf (F := Ideal) .olt (FloatOps.hostAbsf x) (FloatOps.ofBits (F := Ideal) .f32 0x7F800000#32) = 1#1) :
    ∃ r : ℝ, x = (r : EReal) := by
  have hi : FloatOps.ofBits (F := Ideal) .f32 0x7F800000#32 = (⊤ : EReal) := by
    show Ideal.ofBits .f32 0x7F800000#32 = _
    simp [Ideal.ofBits, Ideal.ieee]
  rw [hi] at h
  refine Cert.Attn.coe_of_abs_lt (of_decide_eq_true ?_)
  have h' : BitVec.ofBool (decide (max (x : EReal) (-x) < ⊤)) = 1#1 := h
  revert h'
  cases decide (max (x : EReal) (-x) < ⊤) <;> decide

end Cert.Finite
-- ==== Proof.Attn.Claim.lean ====
/- The claims about the attention gradient: it runs and keeps its arguments at both instances, the plain reference
   runs, and in exact arithmetic the two give the same gradients of the queries, the keys and the values. -/
module

public import proofs.«01_k».proof.Defs
public import proofs.«01_k».proof.Proof.Gen.AttnKernel.Frame
public import proofs.«01_k».proof.Proof.Gen.AttnKernelIdeal.Value
public import proofs.«01_k».proof.Proof.Gen.AttnReferenceIdeal.Run
public import proofs.«01_k».proof.Proof.Gen.AttnReferenceIdeal.Read
public import proofs.«01_k».proof.Proof.Gen.Pre_finite_attn
public import proofs.«01_k».proof.Proof.Attn.Grid
public import proofs.«01_k».proof.Proof.Attn.Finite
public import Idealize.ShloMosaic.Lib.Claim
public import Idealize.ShloMosaic.Lib.Quiescent

@[expose] public section

set_option maxRecDepth 16384

noncomputable section

namespace Cert.Attn

open Idealize.ShloMosaic Idealize.ShloMosaic.TcCoe Idealize.SL.Sem

local instance : Cert.AttnKernel.Facts := Cert.AttnKernel.Gen.facts
local instance : Cert.AttnKernelIdeal.Facts := Cert.AttnKernelIdeal.Gen.facts
local instance : Cert.AttnReferenceIdeal.Facts := Cert.AttnReferenceIdeal.Gen.facts
local instance : Cert.Pre_finite_attn.Facts := Cert.Pre_finite_attn.Gen.facts

/-- The kernel on machine floats runs, keeps its arguments and leaves every counter at zero. -/
theorem frame_kernel : Cert.quiescent_AttnKernel := fun m ρ _ => Cert.AttnKernel.Gen.frame m ρ

/-- The same at exact arithmetic. -/
theorem frame_ideal : Cert.quiescent_AttnKernelIdeal := fun m ρ _ => Cert.AttnKernelIdeal.Gen.frame m ρ

/-- In particular from finite arguments. -/
theorem frame_ideal_finite : Cert.quiescent_AttnKernelIdeal_pre_finite_attn := fun m ρ _ => Cert.AttnKernelIdeal.Gen.frame m ρ

/-- The reference runs and keeps its arguments. -/
theorem frame_reference : Cert.quiescent_AttnReferenceIdeal := by
  intro m g _
  hlo_run
  · simp
  · exact sem_eq_zero_of_no_sems (sig := Cert.AttnReferenceIdeal.sig) rfl _

/-- In particular from finite arguments. -/
theorem frame_reference_finite : Cert.quiescent_AttnReferenceIdeal_pre_finite_attn := fun m g _ => frame_reference m g trivial

/-- The two programs differ in nothing but the arithmetic they are read at. -/
theorem same_program : Cert.preserves_AttnKernel_AttnKernelIdeal := trivial

/-- Finite projections and a finite incoming gradient are read as real numbers. -/
theorem reals {m : (ℓ : Loc Cert.AttnKernelIdeal.nD Cert.AttnKernelIdeal.τ Cert.AttnKernelIdeal.sig) → Buf (Elt Ideal) ℓ}
    (hp : Cert.Pre_AttnKernelIdeal_finite_attn m) (c : Dev Cert.AttnKernelIdeal.nD) :
    ∃ q k v g : ℕ → ℕ → ℝ, Cert.AttnReferenceIdeal.Grad.Reads
      (m ((c.tc : Thread Cert.AttnKernelIdeal.nD Cert.AttnKernelIdeal.τ).loc Cert.AttnKernelIdeal.main_arg0))
      (m ((c.tc : Thread Cert.AttnKernelIdeal.nD Cert.AttnKernelIdeal.τ).loc Cert.AttnKernelIdeal.main_arg1)) q k v g := by
  obtain ⟨h0, h1⟩ := hp c
  have P : ∀ (t : Fin 2048) (a : Fin 1536), ∃ r : ℝ,
      m ((c.tc : Thread Cert.AttnKernelIdeal.nD Cert.AttnKernelIdeal.τ).loc Cert.AttnKernelIdeal.main_arg0) (ix3 0 t ⟨512 + a.val, by omega⟩) = (r : EReal) := by
    intro t a
    have h := congrFun h0 (ix3 0 t a)
    unfold Cert.Pre_finite_attn.fn at h
    pointwise at h
    exact Cert.Finite.real_of_below h
  have G : ∀ (t : Fin 2048) (a : Fin 512), ∃ r : ℝ,
      m ((c.tc : Thread Cert.AttnKernelIdeal.nD Cert.AttnKernelIdeal.τ).loc Cert.AttnKernelIdeal.main_arg1) (ix3 0 t a) = (r : EReal) := by
    intro t a
    have h := congrFun h1 (ix3 0 t a)
    unfold Cert.Pre_finite_attn.fn at h
    pointwise at h
    exact Cert.Finite.real_of_below h
  choose p hp using P
  choose d hd using G
  refine ⟨fun t a => if h : t < 2048 ∧ a < 512 then p ⟨t, h.1⟩ ⟨a, by omega⟩ else 0,
    fun t a => if h : t < 2048 ∧ a < 512 then p ⟨t, h.1⟩ ⟨512 + a, by omega⟩ else 0,
    fun t a => if h : t < 2048 ∧ a < 512 then p ⟨t, h.1⟩ ⟨1024 + a, by omega⟩ else 0,
    fun t a => if h : t < 2048 ∧ a < 512 then d ⟨t, h.1⟩ ⟨a, h.2⟩ else 0, fun t a => ?_, fun t a => ?_, fun t a => ?_, fun t a => ?_⟩
  · rw [dif_pos ⟨t.isLt, a.isLt⟩]; exact hp t ⟨a, by omega⟩
  · rw [dif_pos ⟨t.isLt, a.isLt⟩, ← hp t ⟨512 + a, by omega⟩]
    congr 2; exact Fin.ext (by show 1024 + a.val = 512 + (512 + a.val); omega)
  · rw [dif_pos ⟨t.isLt, a.isLt⟩, ← hp t ⟨1024 + a, by omega⟩]
    congr 2; exact Fin.ext (by show 1536 + a.val = 512 + (1024 + a.val); omega)
  · rw [dif_pos ⟨t.isLt, a.isLt⟩]; exact hd t a

/-- In exact arithmetic, from finite arguments, the kernel's three gradients are the reference's. -/
theorem equal : Cert.algebraic_AttnKernelIdeal_AttnReferenceIdeal_pre_finite_attn := by
  pair_intro
  · run_from Cert.AttnKernelIdeal.Value.run_blocks m g
  · run_from Cert.AttnReferenceIdeal.Value.run m' g' <;> obtain ⟨a0, a1, -⟩ := hagree c <;> obtain ⟨q, k, v, g, hr⟩ := reals ‹_› c <;>
      try simp only [a0, a1]
    · refine (Cert.AttnReferenceIdeal.Read.val_main_v57_eq _).trans ?_
      simp only [a0, a1]
      exact (Cert.AttnKernelIdeal.Grad.dq hr).symm
    · refine (Cert.AttnReferenceIdeal.Read.val_main_v59_eq _).trans ?_
      simp only [a0, a1]
      exact (Cert.AttnKernelIdeal.Grad.dk hr).symm
    · refine (Cert.AttnReferenceIdeal.Read.val_main_v61_eq _).trans ?_
      simp only [a0, a1]
      exact (Cert.AttnKernelIdeal.Grad.dv hr).symm

end Cert.Attn

end
-- ==== Proof.Norm.Model.lean ====
/- Root-mean-square normalization and its gradient, in real numbers. -/
module

public import Idealize.ShloMosaic.Lib.Pointwise
public import proofs.«01_k».proof.Proof.Attn.Model

@[expose] public section

noncomputable section

namespace Cert.Norm

open Idealize.ShloMosaic Finset

/-- What is added to the mean square. -/
def eps : ℝ := 8796093 / 2 ^ 43

/-- The mean square of row `t`. -/
def meanSq (x : ℕ → ℕ → ℝ) (t : ℕ) : ℝ := (∑ d ∈ range 1024, x t d * x t d) / 1024

/-- The factor of row `t`: one over the root of its mean square. -/
def factor (x : ℕ → ℕ → ℝ) (t : ℕ) : ℝ := (√(meanSq x t + eps))⁻¹

/-- The normalized row times the gradient that reaches it, added up. -/
def tilt (x dn : ℕ → ℕ → ℝ) (gain : ℕ → ℝ) (t : ℕ) : ℝ := ∑ d ∈ range 1024, dn t d * gain d * (x t d * factor x t)

/-- The gradient at the input of the normalization, from the gradient `dn` at its output. -/
def gradIn (x dn : ℕ → ℕ → ℝ) (gain : ℕ → ℝ) (t d : ℕ) : ℝ :=
  factor x t * (dn t d * gain d - x t d * factor x t * (tilt x dn gain t / 1024))

/-- The gradient at the gain. -/
def gradGain (x dn : ℕ → ℕ → ℝ) (d : ℕ) : ℝ := ∑ t ∈ range 2048, dn t d * (x t d * factor x t)

variable (x dn : ℕ → ℕ → ℝ) (gain : ℕ → ℝ) (t d : ℕ)

theorem base_pos : 0 < meanSq x t + eps := by
  have h : 0 ≤ meanSq x t := div_nonneg (sum_nonneg fun d _ => mul_self_nonneg _) (by norm_num)
  have : 0 < eps := by unfold eps; positivity
  linarith

theorem factor_sq : factor x t * factor x t = (meanSq x t + eps)⁻¹ := by
  rw [factor, ← mul_inv, Real.mul_self_sqrt (base_pos x t).le]

/-- The gradient as the chain rule writes it: through the product and through the mean square. -/
theorem gradIn_chain :
    dn t d * gain d * factor x t
      + (x t d * ((∑ e ∈ range 1024, x t e * (dn t e * gain e)) * (-(1 / 2) * (factor x t / (meanSq x t + eps))) / 1024)
        + (∑ e ∈ range 1024, x t e * (dn t e * gain e)) * (-(1 / 2) * (factor x t / (meanSq x t + eps))) / 1024 * x t d)
      = gradIn x dn gain t d := by
  have h : tilt x dn gain t = factor x t * ∑ e ∈ range 1024, x t e * (dn t e * gain e) := by
    rw [tilt, mul_sum]; exact sum_congr rfl fun e _ => by ring
  rw [gradIn, h, div_eq_mul_inv (factor x t), ← factor_sq]
  ring

/-! ### Read among the extended reals -/

theorem eps_const : Ideal.ofBits .f32 0x358637BD#32 = ((eps : ℝ) : EReal) := by
  unfold eps; simp [Ideal.ofBits, Ideal.ieee, -EReal.coe_mul]; norm_num

theorem width_const : Ideal.ofBits .f32 0x44800000#32 = ((1024 : ℝ) : EReal) := by
  simp [Ideal.ofBits, Ideal.ieee, -EReal.coe_mul]; norm_num

theorem half_const : Ideal.ofBits .f32 0x3F000000#32 = ((1 / 2 : ℝ) : EReal) := by
  simp [Ideal.ofBits, Ideal.ieee, -EReal.coe_mul]; norm_num

theorem minus_half_const : Ideal.ofBits .f32 0xBF000000#32 = ((-(1 / 2) : ℝ) : EReal) := by
  simp [Ideal.ofBits, Ideal.ieee, -EReal.coe_mul]; norm_num

theorem one_const : Ideal.ofBits .f32 0x3F800000#32 = (1 : EReal) := by
  simp [Ideal.ofBits, Ideal.ieee, -EReal.coe_mul]; norm_num

/-- A quotient of reals with a divisor that is not zero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- A sum of reals over the numbers below `n`. -/
theorem sum_coe (n : ℕ) (f : ℕ → ℝ) : ∑ i : Fin n, ((f i : ℝ) : EReal) = ((∑ i ∈ range n, f i : ℝ) : EReal) := by
  rw [Cert.Attn.coe_sum, ← Fin.sum_univ_eq_sum_range]

/-- The reciprocal root of a positive real. -/
theorem rsqrt_coe {a : ℝ} (h : 0 < a) : Ideal.rsqrt (a : EReal) = (((√a)⁻¹ : ℝ) : EReal) := by
  rw [Ideal.rsqrt_coe, if_neg (not_lt.2 h.le), if_neg h.ne']

/-- The mean square, as it is computed. -/
theorem base_coe {X : Fin 1024 → EReal} (hX : ∀ d, X d = ((x t d : ℝ) : EReal)) :
    Ideal.div (∑ d, X d * X d) ((1024 : ℝ) : EReal) + ((eps : ℝ) : EReal) = ((meanSq x t + eps : ℝ) : EReal) := by
  simp only [hX, ← EReal.coe_mul]
  rw [sum_coe 1024 fun d => x t d * x t d, div_coe _ _ (by norm_num), ← EReal.coe_add]; rfl

/-- The factor, as it is computed. -/
theorem factor_coe {X : Fin 1024 → EReal} (hX : ∀ d, X d = ((x t d : ℝ) : EReal)) :
    Ideal.rsqrt (Ideal.div (∑ d, X d * X d) ((1024 : ℝ) : EReal) + ((eps : ℝ) : EReal)) = ((factor x t : ℝ) : EReal) := by
  rw [base_coe x t hX, rsqrt_coe (base_pos x t), factor]

/-- The kernel's gradient at the input of the normalization. -/
theorem gradIn_coe (x dn : ℕ → ℕ → ℝ) (gain : ℕ → ℝ) (t d : ℕ) :
    ((factor x t : ℝ) : EReal) * (((dn t d : ℝ) : EReal) * ((gain d : ℝ) : EReal) - ((x t d : ℝ) : EReal) * ((factor x t : ℝ) : EReal)
      * Ideal.div (∑ e : Fin 1024, ((dn t e : ℝ) : EReal) * ((gain e : ℝ) : EReal) * (((x t e : ℝ) : EReal) * ((factor x t : ℝ) : EReal))) ((1024 : ℝ) : EReal))
      = ((gradIn x dn gain t d : ℝ) : EReal) := by
  simp only [← EReal.coe_mul]
  rw [sum_coe 1024 fun e => dn t e * gain e * (x t e * factor x t), div_coe _ _ (by norm_num)]
  simp only [← EReal.coe_mul, ← EReal.coe_sub]
  rfl

/-- One more block of 512 rows added to the rows before it. -/
theorem add_block (f : ℕ → ℝ) (n : ℕ) {Y X : EReal} (hY : Y = X + ∑ r : Fin 512, ((f (512 * n + r) : ℝ) : EReal))
    (hX : X = ((∑ s ∈ range (512 * n), f s : ℝ) : EReal)) : Y = ((∑ s ∈ range (512 * (n + 1)), f s : ℝ) : EReal) := by
  rw [hY, hX, sum_coe 512 fun r => f (512 * n + r), ← EReal.coe_add, ← sum_range_add]
  rfl

/-! ### A sum over axes of size one -/

/-- A sum in which one index alone falls on the result's index. -/
theorem sum_single {s t : Shape} {axes : List (Fin s.rank)} (h : s.ReducesTo axes t) (v : s.Idx → EReal) (init : EReal) (j : t.Idx)
    (i₀ : s.Idx) (hi : ∀ i, h.drop i = j ↔ i = i₀) : Ideal.hostReduceAdd h v init j = init + v i₀ := by
  unfold Ideal.hostReduceAdd
  rw [Finset.sum_eq_single_of_mem i₀ (Finset.mem_filter.2 ⟨Finset.mem_univ _, (hi i₀).2 rfl⟩)]
  exact fun i hm hne => absurd ((hi i).1 (Finset.mem_filter.1 hm).2) hne

/-- The middle axis is kept. -/
theorem sum_middle {n : ℕ} (h : (⟨3, ![1, n, 1]⟩ : Shape).ReducesTo [0, 2] ⟨1, ![n]⟩) (v : (⟨3, ![1, n, 1]⟩ : Shape).Idx → EReal) (init : EReal) (j : Fin n) :
    Ideal.hostReduceAdd h v init (ix1 j) = init + v (ix3 0 j 0) := by
  refine sum_single h v init _ _ fun i => ⟨fun e => ?_, ?_⟩
  · funext a; apply Fin.ext
    match a with
    | ⟨0, _⟩ => exact Nat.lt_one_iff.1 (i 0).isLt
    | ⟨1, _⟩ => exact congrArg Fin.val (congrFun e 0)
    | ⟨2, _⟩ => exact Nat.lt_one_iff.1 (i 2).isLt
  · rintro rfl; funext b; apply Fin.ext
    match b with
    | ⟨0, _⟩ => rfl

/-- The last axis is kept. -/
theorem sum_last {n : ℕ} (h : (⟨3, ![1, 1, n]⟩ : Shape).ReducesTo [0, 1] ⟨1, ![n]⟩) (v : (⟨3, ![1, 1, n]⟩ : Shape).Idx → EReal) (init : EReal) (j : Fin n) :
    Ideal.hostReduceAdd h v init (ix1 j) = init + v (ix3 0 0 j) := by
  refine sum_single h v init _ _ fun i => ⟨fun e => ?_, ?_⟩
  · funext a; apply Fin.ext
    match a with
    | ⟨0, _⟩ => exact Nat.lt_one_iff.1 (i 0).isLt
    | ⟨1, _⟩ => exact Nat.lt_one_iff.1 (i 1).isLt
    | ⟨2, _⟩ => exact congrArg Fin.val (congrFun e 0)
  · rintro rfl; funext b; apply Fin.ext
    match b with
    | ⟨0, _⟩ => rfl

end Cert.Norm
-- ==== Proof.Inproj.Reference.lean ====
/- The plain reference of the gradient of the input projection, read one element at a time in real numbers. -/
module

public import proofs.«01_k».proof.Proof.Gen.InprojReferenceIdeal.Read
public import proofs.«01_k».proof.Proof.Norm.Model
public import Idealize.ShloMosaic.Lib.Pointwise
public import Idealize.ShloMosaic.Lib.WordCmp

@[expose] public section

set_option maxRecDepth 16384

noncomputable section

namespace Cert.InprojReferenceIdeal.Grad

open Idealize.ShloMosaic Idealize.ShloMosaic.TcCoe Idealize.SL.Sem
open Cert.InprojReferenceIdeal Cert.InprojReferenceIdeal.Gen Cert.InprojReferenceIdeal.Read Cert.Norm

/-- The arguments are the reals `dp` (the five parts side by side), `x`, `gain` and `w`. -/
structure Reads (x0 x1 x2 x3 : FVec Ideal S1x2048x512 .f32) (x4 : FVec Ideal S1x2048x2048 .f32) (x6 : FVec Ideal S1x2048x1024 .f32)
    (x7 : FVec Ideal S1x1024 .f32) (x8 : FVec Ideal S1x1024x4096 .f32) (dp x : ℕ → ℕ → ℝ) (gain : ℕ → ℝ) (w : ℕ → ℕ → ℝ) : Prop where
  p0 : ∀ (t : Fin 2048) (j : Fin 512), x0 (ix3 0 t j) = ((dp t j : ℝ) : EReal)
  p1 : ∀ (t : Fin 2048) (j : Fin 512), x1 (ix3 0 t j) = ((dp t (512 + j) : ℝ) : EReal)
  p2 : ∀ (t : Fin 2048) (j : Fin 512), x2 (ix3 0 t j) = ((dp t (1024 + j) : ℝ) : EReal)
  p3 : ∀ (t : Fin 2048) (j : Fin 512), x3 (ix3 0 t j) = ((dp t (1536 + j) : ℝ) : EReal)
  p4 : ∀ (t : Fin 2048) (j : Fin 2048), x4 (ix3 0 t j) = ((dp t (2048 + j) : ℝ) : EReal)
  x : ∀ (t : Fin 2048) (d : Fin 1024), x6 (ix3 0 t d) = ((x t d : ℝ) : EReal)
  gain : ∀ d : Fin 1024, x7 (ix2 0 d) = ((gain d : ℝ) : EReal)
  w : ∀ (d : Fin 1024) (c : Fin 4096), x8 (ix3 0 d c) = ((w d c : ℝ) : EReal)

/-- The gradient at the output of the normalization: the parts times the weights. -/
def back (dp w : ℕ → ℕ → ℝ) (t d : ℕ) : ℝ := ∑ c ∈ Finset.range 4096, dp t c * w d c

variable {x0 x1 x2 x3 : FVec Ideal S1x2048x512 .f32} {x4 : FVec Ideal S1x2048x2048 .f32} {x6 : FVec Ideal S1x2048x1024 .f32}
    {x7 : FVec Ideal S1x1024 .f32} {x8 : FVec Ideal S1x1024x4096 .f32} {dp x : ℕ → ℕ → ℝ} {gain : ℕ → ℝ} {w : ℕ → ℕ → ℝ}

/-- The factor of each row. -/
theorem root (hr : Reads x0 x1 x2 x3 x4 x6 x7 x8 dp x gain w) (t : Fin 2048) :
    val_main_v8 (F := Ideal) x6 (ix3 0 t 0) = ((factor x t : ℝ) : EReal) := by
  pointwise [val_main_v8, val_main_v7, val_main_v6, val_main_v5, val_main_v4, val_main_v3, val_main_v2, val_main_v1, val_main_cst, val_main_cst_0, val_main_cst_1, eps_const, width_const]
  exact factor_coe x t fun d => hr.x t d

/-- Minus one half of the factor over the mean square. -/
theorem slope (hr : Reads x0 x1 x2 x3 x4 x6 x7 x8 dp x gain w) (t : Fin 2048) :
    val_main_v11 (F := Ideal) x6 (ix3 0 t 0) = ((-(1 / 2) * (factor x t / (meanSq x t + eps)) : ℝ) : EReal) := by
  pointwise [val_main_v11, val_main_v10, val_main_v9, val_main_v7, val_main_v6, val_main_v5, val_main_v4, val_main_v3, val_main_v2, val_main_v1,
    val_main_cst, val_main_cst_0, val_main_cst_1, val_main_cst_2, root hr, eps_const, width_const, minus_half_const]
  rw [base_coe x t fun d => hr.x t d, div_coe _ _ (base_pos x t).ne', ← EReal.coe_mul]

/-- The five parts side by side. -/
theorem parts (hr : Reads x0 x1 x2 x3 x4 x6 x7 x8 dp x gain w) (t : Fin 2048) (c : Fin 4096) :
    val_main_v32 (F := Ideal) x0 x1 x2 x3 x4 (ix3 0 t c) = ((dp t c : ℝ) : EReal) := by
  pointwise [val_main_v32, val_main_v31, val_main_v30, val_main_v29, val_main_v28, val_main_v27, val_main_v26, val_main_v25, val_main_v24,
    val_main_cst_3, val_main_cst_4, val_main_cst_5, val_main_cst_6, val_main_cst_7, hr.p0, hr.p1, hr.p2, hr.p3, hr.p4]
  by_cases h0 : c.val < 512
  · simp (disch := omega) only [dif_pos, dif_neg, zero_add, add_zero]
  by_cases h1 : c.val < 1024
  · simp (disch := omega) only [dif_pos, dif_neg, zero_add, add_zero, Nat.add_sub_cancel' (show 512 ≤ c.val by omega)]
  by_cases h2 : c.val < 1536
  · simp (disch := omega) only [dif_pos, dif_neg, zero_add, add_zero, Nat.add_sub_cancel' (show 1024 ≤ c.val by omega)]
  by_cases h3 : c.val < 2048
  · simp (disch := omega) only [dif_pos, dif_neg, zero_add, add_zero, Nat.add_sub_cancel' (show 1536 ≤ c.val by omega)]
  · simp (disch := omega) only [dif_pos, dif_neg, add_zero, Nat.add_sub_cancel' (show 2048 ≤ c.val by omega)]

/-- The gradient at the output of the normalization. -/
theorem backward (hr : Reads x0 x1 x2 x3 x4 x6 x7 x8 dp x gain w) (t : Fin 2048) (d : Fin 1024) :
    val_main_v33 (F := Ideal) x0 x1 x2 x3 x4 x8 (ix3 0 t d) = ((back dp w t d : ℝ) : EReal) := by
  pointwise [val_main_v33, val_main_v17, parts hr, hr.w]
  simp only [← EReal.coe_mul]
  exact sum_coe 4096 fun c => dp t c * w d c

/-- The gradient at the normalized rows. -/
theorem gained (hr : Reads x0 x1 x2 x3 x4 x6 x7 x8 dp x gain w) (t : Fin 2048) (d : Fin 1024) :
    val_main_v38 (F := Ideal) x0 x1 x2 x3 x4 x7 x8 (ix3 0 t d) = ((back dp w t d * gain d : ℝ) : EReal) := by
  pointwise [val_main_v38, val_main_v37, val_main_v14, val_main_v0, backward hr, hr.gain]
  simp only [← EReal.coe_mul]

/-- What each row's factor receives, spread over the row. -/
theorem spread (hr : Reads x0 x1 x2 x3 x4 x6 x7 x8 dp x gain w) (t : Fin 2048) :
    val_main_v48 (F := Ideal) x0 x1 x2 x3 x4 x6 x7 x8 (ix3 0 t 0)
      = (((∑ e ∈ Finset.range 1024, x t e * (back dp w t e * gain e)) * (-(1 / 2) * (factor x t / (meanSq x t + eps))) / 1024 : ℝ) : EReal) := by
  pointwise [val_main_v48, val_main_v47, val_main_v46, val_main_v42, val_main_v41, val_main_v40, val_main_cst_10, val_main_cst_11, slope hr, gained hr, hr.x, width_const]
  simp only [← EReal.coe_mul]
  rw [sum_coe 1024 fun e => x t e * (back dp w t e * gain e), ← EReal.coe_mul, div_coe _ _ (by norm_num)]

/-- The same, after a sum over axes of size one. -/
theorem spread_sum (hr : Reads x0 x1 x2 x3 x4 x6 x7 x8 dp x gain w) (t : Fin 2048) :
    val_main_v49 (F := Ideal) x0 x1 x2 x3 x4 x6 x7 x8 (ix1 t)
      = (((∑ e ∈ Finset.range 1024, x t e * (back dp w t e * gain e)) * (-(1 / 2) * (factor x t / (meanSq x t + eps))) / 1024 : ℝ) : EReal) := by
  pointwise [val_main_v49]
  refine (sum_middle reducesTo_S1x2048x1_S2048_d0_2 _ _ t).trans ?_
  rw [spread hr]
  pointwise [val_main_cst_12]

/-- The first result: what arrived at the layer's input, and the gradient through the normalization. -/
theorem full (hr : Reads x0 x1 x2 x3 x4 x6 x7 x8 dp x gain w) (x5 : FVec Ideal S1x2048x1024 .f32) (t : Fin 2048) (d : Fin 1024) :
    val_main_v57 (F := Ideal) x0 x1 x2 x3 x4 x5 x6 x7 x8 (ix2 t d) = x5 (ix3 0 t d) + ((gradIn x (back dp w) gain t d : ℝ) : EReal) := by
  pointwise [val_main_v57, val_main_v55, val_main_v54, val_main_v53, val_main_v52, val_main_v51, val_main_v50, spread_sum hr, val_main_v45, val_main_v44, val_main_v43,
    gained hr, root hr, hr.x]
  rw [← gradIn_chain, add_assoc, add_assoc]
  simp only [← EReal.coe_mul, ← EReal.coe_add]

/-- The second result: one half of the first. -/
theorem halved (hr : Reads x0 x1 x2 x3 x4 x6 x7 x8 dp x gain w) (x5 : FVec Ideal S1x2048x1024 .f32) (t : Fin 2048) (d : Fin 1024) :
    val_main_v61 (F := Ideal) x0 x1 x2 x3 x4 x5 x6 x7 x8 (ix2 t d)
      = ((1 / 2 : ℝ) : EReal) * (x5 (ix3 0 t d) + ((gradIn x (back dp w) gain t d : ℝ) : EReal)) := by
  have h := full hr x5 t d
  pointwise [val_main_v57] at h
  pointwise [val_main_v61, val_main_v60, val_main_v59, val_main_v58, val_main_cst_13, half_const]
  rw [h]

/-- The third result: the gradient at the gain. -/
theorem gradOfGain (hr : Reads x0 x1 x2 x3 x4 x6 x7 x8 dp x gain w) (d : Fin 1024) :
    val_main_v56 (F := Ideal) x0 x1 x2 x3 x4 x6 x8 (ix2 0 d) = ((gradGain x (back dp w) d : ℝ) : EReal) := by
  pointwise [val_main_v56, val_main_v39]
  refine (sum_last reducesTo_S1x1x1024_S1024_d0_1 _ _ d).trans ?_
  pointwise [val_main_v36, val_main_v35, val_main_v34, val_main_v13, val_main_v12, val_main_cst_9, val_main_cst_8, backward hr, root hr, hr.x]
  simp only [← EReal.coe_mul]
  rw [gradGain, ← sum_coe 2048 fun t => back dp w t d * (x t d * factor x t)]
  exact Finset.sum_congr rfl fun t _ => by rw [mul_comm]

end Cert.InprojReferenceIdeal.Grad
-- ==== Proof.Inproj.Blocks.lean ====
/- What the gradient of the input projection reads at a grid point, in the arguments of the program. -/
module

public import proofs.«01_k».proof.Proof.Gen.InprojKernelIdeal.Value
public import proofs.«01_k».proof.Proof.Inproj.Reference
public import Idealize.ShloMosaic.Lib.Pointwise
public import Idealize.ShloMosaic.Lib.Pipeline.ValueKit

@[expose] public section

set_option maxHeartbeats 4000000
set_option maxRecDepth 16384

noncomputable section

namespace Cert.InprojKernelIdeal.Grad

open Idealize.ShloMosaic Idealize.ShloMosaic.TcCoe Idealize.ShloMosaic.Tactic Idealize.SL.Sem
open Cert.InprojKernelIdeal Cert.InprojKernelIdeal.Gen Cert.Norm

/-- The block of rows each window holds at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0] ∧ win0_11.index t = ![0, 0] :=
  (by decide +kernel : ∀ t : Fin grid0.N, _)

theorem N4 (t : Fin cfg0.N) : t.val < 4 := lt_of_lt_of_eq t.isLt N_0

/-- Row `r` of the block of a grid point, among all rows. -/
def row (t : Fin cfg0.N) (r : Fin 512) : Fin 2048 := ⟨512 * t.val + r.val, by have := N4 t; omega⟩

theorem row_val (t : Fin cfg0.N) (r : Fin 512) : (row t r : ℕ) = 512 * t.val + r.val := rfl

variable (m : (ℓ : Loc nD τ sig) → Buf (Elt Ideal) ℓ) (c : Dev nD)

theorem read0 (t : Fin 2048) (b : Fin 512) : V m c main_v8 (ix2 t b) = m ((c : Thread nD τ).loc main_arg0) (ix3 0 t b) := by
  simp only [V, hostOps0]; entry_read; pointwise
theorem read1 (t : Fin 2048) (b : Fin 512) : V m c main_v9 (ix2 t b) = m ((c : Thread nD τ).loc main_arg1) (ix3 0 t b) := by
  simp only [V, hostOps0]; entry_read; pointwise
theorem read2 (t : Fin 2048) (b : Fin 512) : V m c main_v10 (ix2 t b) = m ((c : Thread nD τ).loc main_arg2) (ix3 0 t b) := by
  simp only [V, hostOps0]; entry_read; pointwise
theorem read3 (t : Fin 2048) (b : Fin 512) : V m c main_v11 (ix2 t b) = m ((c : Thread nD τ).loc main_arg3) (ix3 0 t b) := by
  simp only [V, hostOps0]; entry_read; pointwise
theorem read4 (t : Fin 2048) (b : Fin 2048) : V m c main_v12 (ix2 t b) = m ((c : Thread nD τ).loc main_arg4) (ix3 0 t b) := by
  simp only [V, hostOps0]; entry_read; pointwise
theorem read5 (t : Fin 2048) (b : Fin 1024) : V m c main_v13 (ix2 t b) = m ((c : Thread nD τ).loc main_arg5) (ix3 0 t b) := by
  simp only [V, hostOps0]; entry_read; pointwise
theorem read6 (t : Fin 2048) (b : Fin 1024) : V m c main_v14 (ix2 t b) = m ((c : Thread nD τ).loc main_arg6) (ix3 0 t b) := by
  simp only [V, hostOps0]; entry_read; pointwise
theorem read7 (b : Fin 1024) : V m c main_arg7 (ix2 0 b) = m ((c : Thread nD τ).loc main_arg7) (ix2 0 b) := by
  simp only [V, hostOps0]; entry_read; rfl
theorem read8 (a : Fin 4096) (b : Fin 1024) : V m c main_v2 (ix2 a b) = m ((c : Thread nD τ).loc main_arg8) (ix3 0 b a) := by
  simp only [V, hostOps0]; entry_read; pointwise

theorem blk0 (t : Fin cfg0.N) (r l : Fin 512) : iblk m c 0 t (ix2 r l) = m ((c : Thread nD τ).loc main_arg0) (ix3 0 (row t r) l) := by
  blk_simp [iblk]; rw [← read0 m c]; blk_ext [idx t, row_val]
theorem blk1 (t : Fin cfg0.N) (r l : Fin 512) : iblk m c 1 t (ix2 r l) = m ((c : Thread nD τ).loc main_arg1) (ix3 0 (row t r) l) := by
  blk_simp [iblk]; rw [← read1 m c]; blk_ext [idx t, row_val]
theorem blk2 (t : Fin cfg0.N) (r l : Fin 512) : iblk m c 2 t (ix2 r l) = m ((c : Thread nD τ).loc main_arg2) (ix3 0 (row t r) l) := by
  blk_simp [iblk]; rw [← read2 m c]; blk_ext [idx t, row_val]
theorem blk3 (t : Fin cfg0.N) (r l : Fin 512) : iblk m c 3 t (ix2 r l) = m ((c : Thread nD τ).loc main_arg3) (ix3 0 (row t r) l) := by
  blk_simp [iblk]; rw [← read3 m c]; blk_ext [idx t, row_val]
theorem blk4 (t : Fin cfg0.N) (r : Fin 512) (l : Fin 2048) : iblk m c 4 t (ix2 r l) = m ((c : Thread nD τ).loc main_arg4) (ix3 0 (row t r) l) := by
  blk_simp [iblk]; rw [← read4 m c]; blk_ext [idx t, row_val]
theorem blk5 (t : Fin cfg0.N) (r : Fin 512) (l : Fin 1024) : iblk m c 5 t (ix2 r l) = m ((c : Thread nD τ).loc main_arg5) (ix3 0 (row t r) l) := by
  blk_simp [iblk]; rw [← read5 m c]; blk_ext [idx t, row_val]
theorem blk6 (t : Fin cfg0.N) (r : Fin 512) (l : Fin 1024) : iblk m c 6 t (ix2 r l) = m ((c : Thread nD τ).loc main_arg6) (ix3 0 (row t r) l) := by
  blk_simp [iblk]; rw [← read6 m c]; blk_ext [idx t, row_val]
theorem blk7 (t : Fin cfg0.N) (l : Fin 1024) : iblk m c 7 t (ix2 0 l) = m ((c : Thread nD τ).loc main_arg7) (ix2 0 l) := by
  blk_simp [iblk]; rw [← read7 m c]; blk_ext [idx t, row_val]
theorem blk8 (t : Fin cfg0.N) (a : Fin 4096) (b : Fin 1024) : iblk m c 8 t (ix2 a b) = m ((c : Thread nD τ).loc main_arg8) (ix3 0 b a) := by
  blk_simp [iblk]; rw [← read8 m c]; blk_ext [idx t, row_val]

end Cert.InprojKernelIdeal.Grad
-- ==== Proof.Inproj.Grid.lean ====
/- The gradient of the input projection: what its grid leaves, and that this is the plain reference's. -/
module

public import proofs.«01_k».proof.Proof.Inproj.Blocks

@[expose] public section

set_option maxHeartbeats 4000000
set_option maxRecDepth 16384

noncomputable section

namespace Cert.InprojKernelIdeal.Grad

open Idealize.ShloMosaic Idealize.ShloMosaic.TcCoe Idealize.ShloMosaic.Tactic Idealize.SL.Sem
open Cert.InprojKernelIdeal Cert.InprojKernelIdeal.Gen Cert.Norm Cert.InprojReferenceIdeal.Grad

variable {m : (ℓ : Loc nD τ sig) → Buf (Elt Ideal) ℓ} {c : Dev nD} {dp x : ℕ → ℕ → ℝ} {gain : ℕ → ℝ} {w : ℕ → ℕ → ℝ}

variable (m c dp x gain w) in
/-- The arguments of the program are the reals `dp`, `x`, `gain` and `w`. -/
abbrev Args : Prop :=
  Reads (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg7)) (m ((c : Thread nD τ).loc main_arg8)) dp x gain w

/-- The product with the weights, one part of the columns after another. -/
theorem back_parts (dp w : ℕ → ℕ → ℝ) (t d : ℕ) :
    ∑ i : Fin 512, ((dp t i : ℝ) : EReal) * ((w d i : ℝ) : EReal) + ∑ i : Fin 512, ((dp t (512 + i) : ℝ) : EReal) * ((w d (512 + i) : ℝ) : EReal)
      + ∑ i : Fin 512, ((dp t (1024 + i) : ℝ) : EReal) * ((w d (1024 + i) : ℝ) : EReal) + ∑ i : Fin 512, ((dp t (1536 + i) : ℝ) : EReal) * ((w d (1536 + i) : ℝ) : EReal)
      + ∑ i : Fin 2048, ((dp t (2048 + i) : ℝ) : EReal) * ((w d (2048 + i) : ℝ) : EReal) = ((back dp w t d : ℝ) : EReal) := by
  simp only [← EReal.coe_mul]
  rw [sum_coe 512 fun i => dp t i * w d i, sum_coe 512 fun i => dp t (512 + i) * w d (512 + i), sum_coe 512 fun i => dp t (1024 + i) * w d (1024 + i),
    sum_coe 512 fun i => dp t (1536 + i) * w d (1536 + i), sum_coe 2048 fun i => dp t (2048 + i) * w d (2048 + i)]
  simp only [← EReal.coe_add]
  rw [back, show 4096 = 512 + 512 + 512 + 512 + 2048 from rfl, Finset.sum_range_add, Finset.sum_range_add, Finset.sum_range_add, Finset.sum_range_add]

/-- The rows of the first result that a grid point writes. -/
theorem writes_full (hr : Args m c dp x gain w) (t : Fin cfg0.N) (r : Fin 512) (l : Fin 1024) :
    (outsAt0 m c t.val t.isLt).1 (ix2 r l)
      = Cert.InprojReferenceIdeal.Read.val_main_v57 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) (ix2 (row t r) l) := by
  refine Eq.trans ?_ (full hr _ (row t r) l).symm
  rw [← gradIn_coe]
  by_cases h0 : t.val % 4 = 0
  · rw [outsAt0_A m c t h0]
    frame_out
    open_payloads
    pointwise [width_const, eps_const, blk0, blk1, blk2, blk3, blk4, blk5, blk6, blk7, blk8, hr.p0, hr.p1, hr.p2, hr.p3, hr.p4, hr.gain, hr.w, hr.x]
    simp only [back_parts]
    rw [factor_coe x (row t r) fun _ => rfl]
  · rw [outsAt0_B m c t h0]
    frame_out
    open_payloads
    pointwise [width_const, eps_const, blk0, blk1, blk2, blk3, blk4, blk5, blk6, blk7, blk8, hr.p0, hr.p1, hr.p2, hr.p3, hr.p4, hr.gain, hr.w, hr.x]
    simp only [back_parts]
    rw [factor_coe x (row t r) fun _ => rfl]

/-- The rows of the second result are one half of the first's. -/
theorem writes_half (t : Fin cfg0.N) (r : Fin 512) (l : Fin 1024) :
    (outsAt0 m c t.val t.isLt).2.1 (ix2 r l) = ((1 / 2 : ℝ) : EReal) * (outsAt0 m c t.val t.isLt).1 (ix2 r l) := by
  by_cases h0 : t.val % 4 = 0
  · rw [outsAt0_A m c t h0]
    frame_out
    open_payloads
    pointwise [half_const]
  · rw [outsAt0_B m c t h0]
    frame_out
    open_payloads
    pointwise [half_const]

/-- The gradient at the gain after each grid point: the rows so far. -/
theorem so_far (hr : Args m c dp x gain w) (l : Fin 1024) : ∀ (n : ℕ) (hn : n < cfg0.N),
    (outsAt0 m c n hn).2.2 (ix2 0 l) = ((∑ s ∈ Finset.range (512 * (n + 1)), back dp w s l * (x s l * factor x s) : ℝ) : EReal) := by
  have first (t : Fin cfg0.N) (h0 : t.val % 4 = 0) : (outsAt0 m c t.val t.isLt).2.2 (ix2 0 l)
      = 0 + ∑ r : Fin 512, ((back dp w (row t r) l : ℝ) : EReal) * (((x (row t r) l : ℝ) : EReal) * ((factor x (row t r) : ℝ) : EReal)) := by
    rw [outsAt0_A m c t h0]
    frame_out
    open_payloads
    pointwise [width_const, eps_const, blk0, blk1, blk2, blk3, blk4, blk5, blk6, blk7, blk8, hr.p0, hr.p1, hr.p2, hr.p3, hr.p4, hr.gain, hr.w, hr.x]
    simp only [back_parts]
    exact Finset.sum_congr rfl fun r _ => by rw [factor_coe x (row t r) fun _ => rfl]
  have later (t : Fin cfg0.N) (h0 : ¬t.val % 4 = 0) : (outsAt0 m c t.val t.isLt).2.2 (ix2 0 l)
      = (outsAt0 m c (t.val - 1) (by omega)).2.2 (ix2 0 l)
        + ∑ r : Fin 512, ((back dp w (row t r) l : ℝ) : EReal) * (((x (row t r) l : ℝ) : EReal) * ((factor x (row t r) : ℝ) : EReal)) := by
    rw [outsAt0_B m c t h0]
    frame_out
    open_payloads
    pointwise [width_const, eps_const, blk0, blk1, blk2, blk3, blk4, blk5, blk6, blk7, blk8, hr.p0, hr.p1, hr.p2, hr.p3, hr.p4, hr.gain, hr.w, hr.x]
    simp only [back_parts]
    exact congrArg _ (Finset.sum_congr rfl fun r _ => by rw [factor_coe x (row t r) fun _ => rfl])
  intro n
  induction n with
  | zero => exact fun hn => add_block (fun s => back dp w s l * (x s l * factor x s)) 0 ((first ⟨0, hn⟩ rfl).trans (by simp only [← EReal.coe_mul]; rfl)) (by simp)
  | succ n ih =>
    intro hn
    have h4 : n + 1 < 4 := N4 ⟨n + 1, hn⟩
    exact add_block (fun s => back dp w s l * (x s l * factor x s)) (n + 1)
      ((later ⟨n + 1, hn⟩ (by show ¬(n + 1) % 4 = 0; omega)).trans (by simp only [← EReal.coe_mul]; rfl)) (ih _)

/-- The first result is the reference's. -/
theorem full_eq (hr : Args m c dp x gain w) : (dats m 0 c).arrAt 9 (cfgs 0).N
    = Cert.InprojReferenceIdeal.Read.val_main_v57 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  obtain ⟨r, l, rfl⟩ : ∃ (r : Fin 512) (l : Fin 1024), y = ix2 r l := ⟨y 0, y 1, by funext a; fin_cases a <;> rfl⟩
  refine (writes_full hr t r l).trans ?_
  blk_ext [idx t, row_val]

/-- The second result is the reference's. -/
theorem half_eq (hr : Args m c dp x gain w) : (dats m 0 c).arrAt 10 (cfgs 0).N
    = Cert.InprojReferenceIdeal.Read.val_main_v61 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  obtain ⟨r, l, rfl⟩ : ∃ (r : Fin 512) (l : Fin 1024), y = ix2 r l := ⟨y 0, y 1, by funext a; fin_cases a <;> rfl⟩
  refine ((writes_half t r l).trans (congrArg _ ((writes_full hr t r l).trans (full hr _ (row t r) l)))).trans ?_
  refine (halved hr _ (row t r) l).symm.trans ?_
  blk_ext [idx t, row_val]

/-- The third result is the reference's. -/
theorem gain_eq (hr : Args m c dp x gain w) : (dats m 0 c).arrAt 11 (cfgs 0).N
    = Cert.InprojReferenceIdeal.Read.val_main_v56 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg6)) (m ((c : Thread nD τ).loc main_arg8)) := by
  refine (dats m 0 c).arrAt_eq_of_covers 11 _ (by decide +kernel) fun t hf y => ?_
  have h3 : t.val = 3 := by have := (flush0_11 t).1 hf; have := N4 t; omega
  blk_simp
  rw [after0_11]
  obtain ⟨z, l, rfl⟩ : ∃ (z : Fin 1) (l : Fin 1024), y = ix2 z l := ⟨y 0, y 1, by funext a; fin_cases a <;> rfl⟩
  obtain rfl : z = 0 := Subsingleton.elim _ _
  refine (so_far hr l t.val t.isLt).trans ?_
  rw [h3]
  refine (gradOfGain hr l).symm.trans ?_
  blk_ext [idx t, row_val]

end Cert.InprojKernelIdeal.Grad
-- ==== Proof.Norm.Real.lean ====
/- Tables of real numbers read from arrays whose entries are real numbers. -/
module

public import Idealize.ShloMosaic.Lib.Pointwise

@[expose] public section

noncomputable section

namespace Cert.Norm

open Idealize.ShloMosaic

/-- A list of real entries, as a function of the position. -/
theorem row_of {a : ℕ} (X : Fin a → EReal) (h : ∀ i, ∃ r : ℝ, X i = (r : EReal)) : ∃ f : ℕ → ℝ, ∀ i : Fin a, X i = ((f i : ℝ) : EReal) := by
  choose g hg using h
  exact ⟨fun i => if hi : i < a then g ⟨i, hi⟩ else 0, fun i => by simp only [i.isLt, dif_pos]; exact hg i⟩

/-- A table of real entries, as a function of the two positions. -/
theorem table_of {a b : ℕ} (X : Fin a → Fin b → EReal) (h : ∀ i j, ∃ r : ℝ, X i j = (r : EReal)) :
    ∃ f : ℕ → ℕ → ℝ, ∀ (i : Fin a) (j : Fin b), X i j = ((f i j : ℝ) : EReal) := by
  choose g hg using h
  exact ⟨fun i j => if hij : i < a ∧ j < b then g ⟨i, hij.1⟩ ⟨j, hij.2⟩ else 0, fun i j => by simp only [i.isLt, j.isLt, and_self, dif_pos]; exact hg i j⟩

end Cert.Norm
-- ==== Proof.Inproj.Claim.lean ====
/- The claims about the gradient of the input projection and its normalization: it runs and keeps its arguments at both
   instances, the plain reference runs, and in exact arithmetic the two give the same three results. -/
module

public import proofs.«01_k».proof.Defs
public import proofs.«01_k».proof.Proof.Gen.InprojKernel.Frame
public import proofs.«01_k».proof.Proof.Gen.InprojKernelIdeal.Value
public import proofs.«01_k».proof.Proof.Gen.InprojReferenceIdeal.Run
public import proofs.«01_k».proof.Proof.Gen.InprojReferenceIdeal.Read
public import proofs.«01_k».proof.Proof.Gen.Pre_finite_inproj
public import proofs.«01_k».proof.Proof.Inproj.Grid
public import proofs.«01_k».proof.Proof.Norm.Real
public import proofs.«01_k».proof.Proof.Attn.Finite
public import Idealize.ShloMosaic.Lib.Claim
public import Idealize.ShloMosaic.Lib.Quiescent

@[expose] public section

set_option maxRecDepth 16384

noncomputable section

namespace Cert.Inproj

open Idealize.ShloMosaic Idealize.ShloMosaic.TcCoe Idealize.SL.Sem

local instance : Cert.InprojKernel.Facts := Cert.InprojKernel.Gen.facts
local instance : Cert.InprojKernelIdeal.Facts := Cert.InprojKernelIdeal.Gen.facts
local instance : Cert.InprojReferenceIdeal.Facts := Cert.InprojReferenceIdeal.Gen.facts
local instance : Cert.Pre_finite_inproj.Facts := Cert.Pre_finite_inproj.Gen.facts

/-- The kernel on machine floats runs, keeps its arguments and leaves every counter at zero. -/
theorem frame_kernel : Cert.quiescent_InprojKernel := fun m ρ _ => Cert.InprojKernel.Gen.frame m ρ

/-- The same at exact arithmetic. -/
theorem frame_ideal : Cert.quiescent_InprojKernelIdeal := fun m ρ _ => Cert.InprojKernelIdeal.Gen.frame m ρ

/-- In particular from finite arguments. -/
theorem frame_ideal_finite : Cert.quiescent_InprojKernelIdeal_pre_finite_inproj := fun m ρ _ => Cert.InprojKernelIdeal.Gen.frame m ρ

/-- The reference runs and keeps its arguments. -/
theorem frame_reference : Cert.quiescent_InprojReferenceIdeal := by
  intro m g _
  hlo_run
  · simp
  · exact sem_eq_zero_of_no_sems (sig := Cert.InprojReferenceIdeal.sig) rfl _

/-- In particular from finite arguments. -/
theorem frame_reference_finite : Cert.quiescent_InprojReferenceIdeal_pre_finite_inproj := fun m g _ => frame_reference m g trivial

/-- The two programs differ in nothing but the arithmetic they are read at. -/
theorem same_program : Cert.preserves_InprojKernel_InprojKernelIdeal := trivial

/-- Finite arguments are read as real numbers. -/
theorem reals {m : (ℓ : Loc Cert.InprojKernelIdeal.nD Cert.InprojKernelIdeal.τ Cert.InprojKernelIdeal.sig) → Buf (Elt Ideal) ℓ}
    (hp : Cert.Pre_InprojKernelIdeal_finite_inproj m) (c : Dev Cert.InprojKernelIdeal.nD) :
    ∃ (dp x : ℕ → ℕ → ℝ) (gain : ℕ → ℝ) (w : ℕ → ℕ → ℝ), Cert.InprojKernelIdeal.Grad.Args m c dp x gain w := by
  obtain ⟨h0, h1, h2, h3, h4, h6, h7, h8⟩ := hp c
  have P0 : ∀ (t : Fin 2048) (a : Fin 512), ∃ r : ℝ, m ((c.tc : Thread Cert.InprojKernelIdeal.nD Cert.InprojKernelIdeal.τ).loc Cert.InprojKernelIdeal.main_arg0) (ix3 0 t a) = (r : EReal) := by
    intro t a
    have h := congrFun h0 (ix3 0 t a)
    unfold Cert.Pre_finite_inproj.fn at h
    pointwise at h
    exact Cert.Finite.real_of_below h
  have P1 : ∀ (t : Fin 2048) (a : Fin 512), ∃ r : ℝ, m ((c.tc : Thread Cert.InprojKernelIdeal.nD Cert.InprojKernelIdeal.τ).loc Cert.InprojKernelIdeal.main_arg1) (ix3 0 t a) = (r : EReal) := by
    intro t a
    have h := congrFun h1 (ix3 0 t a)
    unfold Cert.Pre_finite_inproj.fn at h
    pointwise at h
    exact Cert.Finite.real_of_below h
  have P2 : ∀ (t : Fin 2048) (a : Fin 512), ∃ r : ℝ, m ((c.tc : Thread Cert.InprojKernelIdeal.nD Cert.InprojKernelIdeal.τ).loc Cert.InprojKernelIdeal.main_arg2) (ix3 0 t a) = (r : EReal) := by
    intro t a
    have h := congrFun h2 (ix3 0 t a)
    unfold Cert.Pre_finite_inproj.fn at h
    pointwise at h
    exact Cert.Finite.real_of_below h
  have P3 : ∀ (t : Fin 2048) (a : Fin 512), ∃ r : ℝ, m ((c.tc : Thread Cert.InprojKernelIdeal.nD Cert.InprojKernelIdeal.τ).loc Cert.InprojKernelIdeal.main_arg3) (ix3 0 t a) = (r : EReal) := by
    intro t a
    have h := congrFun h3 (ix3 0 t a)
    unfold Cert.Pre_finite_inproj.fn at h
    pointwise at h
    exact Cert.Finite.real_of_below h
  have P4 : ∀ (t : Fin 2048) (a : Fin 2048), ∃ r : ℝ, m ((c.tc : Thread Cert.InprojKernelIdeal.nD Cert.InprojKernelIdeal.τ).loc Cert.InprojKernelIdeal.main_arg4) (ix3 0 t a) = (r : EReal) := by
    intro t a
    have h := congrFun h4 (ix3 0 t a)
    unfold Cert.Pre_finite_inproj.fn at h
    pointwise at h
    exact Cert.Finite.real_of_below h
  have X : ∀ (t : Fin 2048) (a : Fin 1024), ∃ r : ℝ, m ((c.tc : Thread Cert.InprojKernelIdeal.nD Cert.InprojKernelIdeal.τ).loc Cert.InprojKernelIdeal.main_arg6) (ix3 0 t a) = (r : EReal) := by
    intro t a
    have h := congrFun h6 (ix3 0 t a)
    unfold Cert.Pre_finite_inproj.fn at h
    pointwise at h
    exact Cert.Finite.real_of_below h
  have G : ∀ (a : Fin 1024), ∃ r : ℝ, m ((c.tc : Thread Cert.InprojKernelIdeal.nD Cert.InprojKernelIdeal.τ).loc Cert.InprojKernelIdeal.main_arg7) (ix2 0 a) = (r : EReal) := by
    intro a
    have h := congrFun h7 (ix2 0 a)
    unfold Cert.Pre_finite_inproj.fn at h
    pointwise at h
    exact Cert.Finite.real_of_below h
  have W : ∀ (t : Fin 1024) (a : Fin 4096), ∃ r : ℝ, m ((c.tc : Thread Cert.InprojKernelIdeal.nD Cert.InprojKernelIdeal.τ).loc Cert.InprojKernelIdeal.main_arg8) (ix3 0 t a) = (r : EReal) := by
    intro t a
    have h := congrFun h8 (ix3 0 t a)
    unfold Cert.Pre_finite_inproj.fn at h
    pointwise at h
    exact Cert.Finite.real_of_below h
  obtain ⟨p0, p0h⟩ := Cert.Norm.table_of _ P0
  obtain ⟨p1, p1h⟩ := Cert.Norm.table_of _ P1
  obtain ⟨p2, p2h⟩ := Cert.Norm.table_of _ P2
  obtain ⟨p3, p3h⟩ := Cert.Norm.table_of _ P3
  obtain ⟨p4, p4h⟩ := Cert.Norm.table_of _ P4
  obtain ⟨x, xh⟩ := Cert.Norm.table_of _ X
  obtain ⟨gain, gh⟩ := Cert.Norm.row_of _ G
  obtain ⟨w, wh⟩ := Cert.Norm.table_of _ W
  refine ⟨fun t a => if a < 512 then p0 t a else if a < 1024 then p1 t (a - 512) else if a < 1536 then p2 t (a - 1024)
    else if a < 2048 then p3 t (a - 1536) else p4 t (a - 2048), x, gain, w, ?_, ?_, ?_, ?_, ?_, xh, gh, wh⟩ <;> intro t a
  · rw [if_pos (by omega)]; exact p0h t a
  · rw [if_neg (by omega), if_pos (by omega), Nat.add_sub_cancel_left]; exact p1h t a
  · rw [if_neg (by omega), if_neg (by omega), if_pos (by omega), Nat.add_sub_cancel_left]; exact p2h t a
  · rw [if_neg (by omega), if_neg (by omega), if_neg (by omega), if_pos (by omega), Nat.add_sub_cancel_left]; exact p3h t a
  · rw [if_neg (by omega), if_neg (by omega), if_neg (by omega), if_neg (by omega), Nat.add_sub_cancel_left]; exact p4h t a

/-- In exact arithmetic, from finite arguments, the kernel's results are the reference's. -/
theorem equal : Cert.algebraic_InprojKernelIdeal_InprojReferenceIdeal_pre_finite_inproj := by
  pair_intro
  · run_from Cert.InprojKernelIdeal.Value.run_blocks m g
  · run_from Cert.InprojReferenceIdeal.Value.run m' g' <;> obtain ⟨a0, a1, a2, a3, a4, a5, a6, a7, a8⟩ := hagree c <;> obtain ⟨dp, x, gain, w, hr⟩ := reals ‹_› c <;>
      try simp only [a0, a1, a2, a3, a4, a5, a6, a7, a8]
    · refine Eq.trans ?_ (Cert.InprojKernelIdeal.Grad.full_eq hr).symm
      simp only [← a0, ← a1, ← a2, ← a3, ← a4, ← a5, ← a6, ← a7, ← a8]
      exact Cert.InprojReferenceIdeal.Read.val_main_v57_eq _ _
    · refine Eq.trans ?_ (Cert.InprojKernelIdeal.Grad.half_eq hr).symm
      simp only [← a0, ← a1, ← a2, ← a3, ← a4, ← a5, ← a6, ← a7, ← a8]
      exact Cert.InprojReferenceIdeal.Read.val_main_v61_eq _ _
    · refine Eq.trans ?_ (Cert.InprojKernelIdeal.Grad.gain_eq hr).symm
      simp only [← a0, ← a1, ← a2, ← a3, ← a4, ← a5, ← a6, ← a7, ← a8]
      rfl

end Cert.Inproj

end
-- ==== Proof.Loss.Reference.lean ====
/- The plain reference of the loss and its gradient, read one element at a time in real numbers. -/
module

public import proofs.«01_k».proof.Proof.Gen.LossReferenceIdeal.Read
public import proofs.«01_k».proof.Proof.Norm.Model
public import Idealize.ShloMosaic.Lib.Pointwise
public import Idealize.ShloMosaic.Lib.WordCmp

@[expose] public section

set_option maxRecDepth 16384

noncomputable section

namespace Cert.LossReferenceIdeal.Grad

open Idealize.ShloMosaic Idealize.ShloMosaic.TcCoe Idealize.SL.Sem
open Cert.LossReferenceIdeal Cert.LossReferenceIdeal.Gen Cert.LossReferenceIdeal.Read Cert.Norm

/-- The arguments are the reals `x`, `y` and `gain`. -/
structure Reads (x0 x1 : FVec Ideal S1x2048x1024 .f32) (x2 : FVec Ideal S1024 .f32) (x y : ℕ → ℕ → ℝ) (gain : ℕ → ℝ) : Prop where
  x : ∀ (t : Fin 2048) (d : Fin 1024), x0 (ix3 0 t d) = ((x t d : ℝ) : EReal)
  y : ∀ (t : Fin 2048) (d : Fin 1024), x1 (ix3 0 t d) = ((y t d : ℝ) : EReal)
  gain : ∀ d : Fin 1024, x2 (ix1 d) = ((gain d : ℝ) : EReal)

/-- How far the normalized row is from the target. -/
def miss (x y : ℕ → ℕ → ℝ) (gain : ℕ → ℝ) (t d : ℕ) : ℝ := x t d * factor x t * gain d - y t d

/-- The gradient of the loss at the normalized row. -/
def pull (x y : ℕ → ℕ → ℝ) (gain : ℕ → ℝ) (t d : ℕ) : ℝ := miss x y gain t d * (1 / 1024)

/-- The loss of one row, twice. -/
def rowLoss (x y : ℕ → ℕ → ℝ) (gain : ℕ → ℝ) (t : ℕ) : ℝ := (∑ d ∈ Finset.range 1024, miss x y gain t d * miss x y gain t d) / 1024

variable {x0 x1 : FVec Ideal S1x2048x1024 .f32} {x2 : FVec Ideal S1024 .f32} {x y : ℕ → ℕ → ℝ} {gain : ℕ → ℝ}

theorem two_const : Ideal.ofBits .f32 0x40000000#32 = ((2 : ℝ) : EReal) := by
  simp [Ideal.ofBits, Ideal.ieee, -EReal.coe_mul]; norm_num

/-- The factor of each row. -/
theorem root (hr : Reads x0 x1 x2 x y gain) (t : Fin 2048) :
    val_main_v7 (F := Ideal) x0 (ix3 0 t 0) = ((factor x t : ℝ) : EReal) := by
  pointwise [val_main_v7, val_main_v6, val_main_v5, val_main_v4, val_main_v3, val_main_v2, val_main_v1, val_main_v0, val_main_cst, val_main_cst_0, val_main_cst_1,
    eps_const, width_const]
  exact factor_coe x t fun d => hr.x t d

/-- Minus one half of the factor over the mean square. -/
theorem slope (hr : Reads x0 x1 x2 x y gain) (t : Fin 2048) :
    val_main_v10 (F := Ideal) x0 (ix3 0 t 0) = ((-(1 / 2) * (factor x t / (meanSq x t + eps)) : ℝ) : EReal) := by
  pointwise [val_main_v10, val_main_v9, val_main_v8, val_main_v6, val_main_v5, val_main_v4, val_main_v3, val_main_v2, val_main_v1, val_main_v0,
    val_main_cst, val_main_cst_0, val_main_cst_1, val_main_cst_2, root hr, eps_const, width_const, minus_half_const]
  rw [base_coe x t fun d => hr.x t d, div_coe _ _ (base_pos x t).ne', ← EReal.coe_mul]

/-- The distance from the target. -/
theorem missed (hr : Reads x0 x1 x2 x y gain) (t : Fin 2048) (d : Fin 1024) :
    val_main_v16 (F := Ideal) x0 x1 x2 (ix3 0 t d) = ((miss x y gain t d : ℝ) : EReal) := by
  pointwise [val_main_v16, val_main_v15, val_main_v14, val_main_v13, val_main_v12, val_main_v11, root hr, hr.x, hr.y, hr.gain]
  simp only [← EReal.coe_mul, ← EReal.coe_sub]
  rfl

/-- The gradient at the normalized row. -/
theorem pulled (hr : Reads x0 x1 x2 x y gain) (t : Fin 2048) (d : Fin 1024) :
    val_main_v30 (F := Ideal) x0 x1 x2 (ix3 0 t d) = ((pull x y gain t d : ℝ) : EReal) := by
  pointwise [val_main_v30, val_main_v29, val_main_v28, val_main_v27, val_main_v26, val_main_v25, val_main_v19, val_main_v18, val_main_cst_3, val_main_cst_8, val_main_cst_9,
    val_main_cst_10, missed hr, two_const, half_const, one_const, width_const]
  rw [div_coe _ _ (by norm_num), ← EReal.coe_mul, ← EReal.coe_mul, pull]
  congr 1; ring

/-- The gradient at the normalized rows, times the gain. -/
theorem gained (hr : Reads x0 x1 x2 x y gain) (t : Fin 2048) (d : Fin 1024) :
    val_main_v35 (F := Ideal) x0 x1 x2 (ix3 0 t d) = ((pull x y gain t d * gain d : ℝ) : EReal) := by
  pointwise [val_main_v35, val_main_v34, val_main_v13, pulled hr, hr.gain]
  simp only [← EReal.coe_mul]

/-- What each row's factor receives. -/
theorem spread (hr : Reads x0 x1 x2 x y gain) (t : Fin 2048) :
    val_main_v44 (F := Ideal) x0 x1 x2 (ix3 0 t 0)
      = (((∑ e ∈ Finset.range 1024, x t e * (pull x y gain t e * gain e)) * (-(1 / 2) * (factor x t / (meanSq x t + eps))) / 1024 : ℝ) : EReal) := by
  pointwise [val_main_v44, val_main_v43, val_main_v42, val_main_v39, val_main_v38, val_main_v37, val_main_cst_13, val_main_cst_14, slope hr, gained hr, hr.x, width_const]
  simp only [← EReal.coe_mul]
  rw [sum_coe 1024 fun e => x t e * (pull x y gain t e * gain e), ← EReal.coe_mul, div_coe _ _ (by norm_num)]

/-- The same, after a sum over axes of size one. -/
theorem spread_sum (hr : Reads x0 x1 x2 x y gain) (t : Fin 2048) :
    val_main_v45 (F := Ideal) x0 x1 x2 (ix1 t)
      = (((∑ e ∈ Finset.range 1024, x t e * (pull x y gain t e * gain e)) * (-(1 / 2) * (factor x t / (meanSq x t + eps))) / 1024 : ℝ) : EReal) := by
  pointwise [val_main_v45]
  refine (sum_middle reducesTo_S1x2048x1_S2048_d0_2 _ _ t).trans ?_
  rw [spread hr]
  pointwise [val_main_cst_15]

/-- The gradient at the input of the normalization. -/
theorem full (hr : Reads x0 x1 x2 x y gain) (t : Fin 2048) (d : Fin 1024) :
    val_main_v52 (F := Ideal) x0 x1 x2 (ix2 t d) = ((gradIn x (pull x y gain) gain t d : ℝ) : EReal) := by
  pointwise [val_main_v52, val_main_v51, val_main_v50, val_main_v49, val_main_v48, val_main_v47, val_main_v46, spread_sum hr, val_main_v41, val_main_v40,
    gained hr, root hr, hr.x]
  rw [← gradIn_chain, add_assoc]
  simp only [← EReal.coe_mul, ← EReal.coe_add]

/-- One half of it. -/
theorem halved (hr : Reads x0 x1 x2 x y gain) (t : Fin 2048) (d : Fin 1024) :
    val_main_v56 (F := Ideal) x0 x1 x2 (ix2 t d) = ((1 / 2 : ℝ) : EReal) * ((gradIn x (pull x y gain) gain t d : ℝ) : EReal) := by
  have h := full hr t d
  pointwise [val_main_v52] at h
  pointwise [val_main_v56, val_main_v55, val_main_v54, val_main_v53, val_main_cst_16, half_const]
  rw [h]

/-- The loss. -/
theorem loss (hr : Reads x0 x1 x2 x y gain) (l : Fin 128) :
    val_main_v57 (F := Ideal) x0 x1 x2 (ix2 0 l) = ((1 / 2 * ∑ t ∈ Finset.range 2048, rowLoss x y gain t : ℝ) : EReal) := by
  pointwise [val_main_v57, val_main_v24, val_main_v23, val_main_v22, val_main_v21, val_main_v20, val_main_v17, val_main_cst_4, val_main_cst_5, val_main_cst_6, val_main_cst_7,
    missed hr, half_const, width_const]
  simp only [← EReal.coe_mul, Finset.univ_unique, Finset.sum_singleton]
  rw [EReal.coe_mul, ← sum_coe 2048 (rowLoss x y gain)]
  refine congrArg _ (Finset.sum_congr rfl fun t _ => ?_)
  rw [sum_coe 1024 fun d => miss x y gain t d * miss x y gain t d, div_coe _ _ (by norm_num)]
  rfl

/-- The gradient at the gain. -/
theorem gradOfGain (hr : Reads x0 x1 x2 x y gain) (d : Fin 1024) :
    val_main_v58 (F := Ideal) x0 x1 x2 (ix2 0 d) = ((gradGain x (pull x y gain) d : ℝ) : EReal) := by
  pointwise [val_main_v58, val_main_v36]
  refine (sum_last reducesTo_S1x1x1024_S1024_d0_1 _ _ d).trans ?_
  pointwise [val_main_v33, val_main_v32, val_main_v31, val_main_v12, val_main_v11, val_main_cst_12, val_main_cst_11, pulled hr, root hr, hr.x]
  simp only [← EReal.coe_mul]
  rw [gradGain, ← sum_coe 2048 fun t => pull x y gain t d * (x t d * factor x t)]
  exact Finset.sum_congr rfl fun t _ => by rw [mul_comm]

end Cert.LossReferenceIdeal.Grad
-- ==== Proof.Loss.Grid.lean ====
/- The loss and its gradient: what the kernel's grid leaves, and that this is the plain reference's. -/
module

public import proofs.«01_k».proof.Proof.Gen.LossKernelIdeal.Value
public import proofs.«01_k».proof.Proof.Loss.Reference
public import Idealize.ShloMosaic.Lib.Pointwise
public import Idealize.ShloMosaic.Lib.Pipeline.ValueKit

@[expose] public section

set_option maxHeartbeats 4000000
set_option maxRecDepth 16384

noncomputable section

namespace Cert.LossKernelIdeal.Grad

open Idealize.ShloMosaic Idealize.ShloMosaic.TcCoe Idealize.ShloMosaic.Tactic Idealize.SL.Sem
open Cert.LossKernelIdeal Cert.LossKernelIdeal.Gen Cert.Norm Cert.LossReferenceIdeal.Grad

/-- The block of rows each window holds at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

theorem N4 (t : Fin cfg0.N) : t.val < 4 := lt_of_lt_of_eq t.isLt N_0

/-- Row `r` of the block of a grid point, among all rows. -/
def row (t : Fin cfg0.N) (r : Fin 512) : Fin 2048 := ⟨512 * t.val + r.val, by have := N4 t; omega⟩

theorem row_val (t : Fin cfg0.N) (r : Fin 512) : (row t r : ℕ) = 512 * t.val + r.val := rfl

section Blocks

variable (m : (ℓ : Loc nD τ sig) → Buf (Elt Ideal) ℓ) (c : Dev nD)

theorem read0 (t : Fin 2048) (b : Fin 1024) : V m c main_v0 (ix2 t b) = m ((c : Thread nD τ).loc main_arg0) (ix3 0 t b) := by
  simp only [V, hostOps0]; entry_read; pointwise
theorem read1 (t : Fin 2048) (b : Fin 1024) : V m c main_v1 (ix2 t b) = m ((c : Thread nD τ).loc main_arg1) (ix3 0 t b) := by
  simp only [V, hostOps0]; entry_read; pointwise
theorem read2 (b : Fin 1024) : V m c main_v2 (ix2 0 b) = m ((c : Thread nD τ).loc main_arg2) (ix1 b) := by
  simp only [V, hostOps0]; entry_read; pointwise

theorem blk0 (t : Fin cfg0.N) (r : Fin 512) (l : Fin 1024) : iblk m c 0 t (ix2 r l) = m ((c : Thread nD τ).loc main_arg0) (ix3 0 (row t r) l) := by
  blk_simp [iblk]; rw [← read0 m c]; blk_ext [idx t, row_val]
theorem blk1 (t : Fin cfg0.N) (r : Fin 512) (l : Fin 1024) : iblk m c 1 t (ix2 r l) = m ((c : Thread nD τ).loc main_arg1) (ix3 0 (row t r) l) := by
  blk_simp [iblk]; rw [← read1 m c]; blk_ext [idx t, row_val]
theorem blk2 (t : Fin cfg0.N) (l : Fin 1024) : iblk m c 2 t (ix2 0 l) = m ((c : Thread nD τ).loc main_arg2) (ix1 l) := by
  blk_simp [iblk]; rw [← read2 m c]; blk_ext [idx t, row_val]

end Blocks

variable {m : (ℓ : Loc nD τ sig) → Buf (Elt Ideal) ℓ} {c : Dev nD} {x y : ℕ → ℕ → ℝ} {gain : ℕ → ℝ}

variable (m c x y gain) in
/-- The arguments of the program are the reals `x`, `y` and `gain`. -/
abbrev Args : Prop := Reads (m ((c : Thread nD τ).loc main_arg0)) (m ((c : Thread nD τ).loc main_arg1)) (m ((c : Thread nD τ).loc main_arg2)) x y gain

theorem step_const : Ideal.ofBits .f32 0x3A800000#32 = ((1 / 1024 : ℝ) : EReal) := by
  simp [Ideal.ofBits, Ideal.ieee, -EReal.coe_mul]; norm_num

/-- The distance from the target, as the kernel computes it. -/
theorem miss_coe (t d : ℕ) : ((x t d : ℝ) : EReal) * ((factor x t : ℝ) : EReal) * ((gain d : ℝ) : EReal) - ((y t d : ℝ) : EReal) = ((miss x y gain t d : ℝ) : EReal) := by
  simp only [← EReal.coe_mul, ← EReal.coe_sub]; rfl

/-- The gradient at the normalized row, as the kernel computes it. -/
theorem pull_coe (t d : ℕ) : ((miss x y gain t d : ℝ) : EReal) * ((1 / 1024 : ℝ) : EReal) = ((pull x y gain t d : ℝ) : EReal) := (EReal.coe_mul _ _).symm

/-- The factor of a row, its entries already read as reals. -/
theorem factor_read (t : ℕ) : Ideal.rsqrt (Ideal.div (∑ d : Fin 1024, ((x t d : ℝ) : EReal) * ((x t d : ℝ) : EReal)) ((1024 : ℝ) : EReal) + ((eps : ℝ) : EReal))
    = ((factor x t : ℝ) : EReal) := factor_coe x t fun _ => rfl

/-- The rows of the first result that a grid point writes. -/
theorem writes_full (hr : Args m c x y gain) (t : Fin cfg0.N) (r : Fin 512) (l : Fin 1024) :
    (outsAt0 m c t.val t.isLt).1 (ix2 r l) = ((gradIn x (pull x y gain) gain (row t r) l : ℝ) : EReal) := by
  rw [← gradIn_coe]
  by_cases h0 : t.val % 4 = 0
  · rw [outsAt0_A m c t h0]
    frame_out
    open_payloads
    pointwise [width_const, eps_const, step_const, blk0, blk1, blk2, hr.x, hr.y, hr.gain]
    simp only [factor_read, miss_coe, pull_coe]
  · rw [outsAt0_B m c t h0]
    frame_out
    open_payloads
    pointwise [width_const, eps_const, step_const, blk0, blk1, blk2, hr.x, hr.y, hr.gain]
    simp only [factor_read, miss_coe, pull_coe]

/-- The rows of the second result are one half of the first's. -/
theorem writes_half (t : Fin cfg0.N) (r : Fin 512) (l : Fin 1024) :
    (outsAt0 m c t.val t.isLt).2.1 (ix2 r l) = ((1 / 2 : ℝ) : EReal) * (outsAt0 m c t.val t.isLt).1 (ix2 r l) := by
  by_cases h0 : t.val % 4 = 0
  · rw [outsAt0_A m c t h0]
    frame_out
    open_payloads
    pointwise [half_const]
  · rw [outsAt0_B m c t h0]
    frame_out
    open_payloads
    pointwise [half_const]

/-- One half of the losses of a block of rows is the sum of the halves. -/
theorem half_rows (n : ℕ) : ((1 / 2 : ℝ) : EReal) * ∑ r : Fin 512, Ideal.div (∑ d : Fin 1024, ((miss x y gain (512 * n + r) d : ℝ) : EReal) * ((miss x y gain (512 * n + r) d : ℝ) : EReal)) ((1024 : ℝ) : EReal)
    = ∑ r : Fin 512, ((1 / 2 * rowLoss x y gain (512 * n + r) : ℝ) : EReal) := by
  have h (r : Fin 512) : Ideal.div (∑ d : Fin 1024, ((miss x y gain (512 * n + r) d : ℝ) : EReal) * ((miss x y gain (512 * n + r) d : ℝ) : EReal)) ((1024 : ℝ) : EReal)
      = ((rowLoss x y gain (512 * n + r) : ℝ) : EReal) := by
    simp only [← EReal.coe_mul]
    rw [sum_coe 1024 fun d => miss x y gain (512 * n + r) d * miss x y gain (512 * n + r) d, div_coe _ _ (by norm_num)]
    rfl
  simp only [h]
  rw [sum_coe 512 fun r => rowLoss x y gain (512 * n + r), sum_coe 512 fun r => 1 / 2 * rowLoss x y gain (512 * n + r), ← EReal.coe_mul, Finset.mul_sum]

/-- The loss and the gradient at the gain after each grid point: the rows so far. -/
theorem so_far (hr : Args m c x y gain) : ∀ (n : ℕ) (hn : n < cfg0.N),
    (∀ l : Fin 128, (outsAt0 m c n hn).2.2.1 (ix2 0 l) = ((∑ s ∈ Finset.range (512 * (n + 1)), 1 / 2 * rowLoss x y gain s : ℝ) : EReal))
    ∧ ∀ l : Fin 1024, (outsAt0 m c n hn).2.2.2 (ix2 0 l) = ((∑ s ∈ Finset.range (512 * (n + 1)), pull x y gain s l * (x s l * factor x s) : ℝ) : EReal) := by
  have first (t : Fin cfg0.N) (h0 : t.val % 4 = 0) :
      (∀ l : Fin 128, (outsAt0 m c t.val t.isLt).2.2.1 (ix2 0 l) = 0 + ∑ r : Fin 512, ((1 / 2 * rowLoss x y gain (512 * t.val + r) : ℝ) : EReal))
      ∧ ∀ l : Fin 1024, (outsAt0 m c t.val t.isLt).2.2.2 (ix2 0 l)
        = 0 + ∑ r : Fin 512, ((pull x y gain (512 * t.val + r) l * (x (512 * t.val + r) l * factor x (512 * t.val + r)) : ℝ) : EReal) := by
    rw [outsAt0_A m c t h0, ← half_rows]
    constructor <;> intro l
    · frame_out
      open_payloads
      pointwise [width_const, eps_const, step_const, half_const, blk0, blk1, blk2, hr.x, hr.y, hr.gain]
      simp only [factor_read, miss_coe, row_val]
    · frame_out
      open_payloads
      pointwise [width_const, eps_const, step_const, half_const, blk0, blk1, blk2, hr.x, hr.y, hr.gain]
      simp only [factor_read, miss_coe, pull_coe, row_val, EReal.coe_mul]
  have later (t : Fin cfg0.N) (h0 : ¬t.val % 4 = 0) :
      (∀ l : Fin 128, (outsAt0 m c t.val t.isLt).2.2.1 (ix2 0 l)
        = (outsAt0 m c (t.val - 1) (by omega)).2.2.1 (ix2 0 l) + ∑ r : Fin 512, ((1 / 2 * rowLoss x y gain (512 * t.val + r) : ℝ) : EReal))
      ∧ ∀ l : Fin 1024, (outsAt0 m c t.val t.isLt).2.2.2 (ix2 0 l)
        = (outsAt0 m c (t.val - 1) (by omega)).2.2.2 (ix2 0 l)
          + ∑ r : Fin 512, ((pull x y gain (512 * t.val + r) l * (x (512 * t.val + r) l * factor x (512 * t.val + r)) : ℝ) : EReal) := by
    rw [outsAt0_B m c t h0, ← half_rows]
    constructor <;> intro l
    · frame_out
      open_payloads
      pointwise [width_const, eps_const, step_const, half_const, blk0, blk1, blk2, hr.x, hr.y, hr.gain]
      simp only [factor_read, miss_coe, row_val]
    · frame_out
      open_payloads
      pointwise [width_const, eps_const, step_const, half_const, blk0, blk1, blk2, hr.x, hr.y, hr.gain]
      simp only [factor_read, miss_coe, pull_coe, row_val, EReal.coe_mul]
  intro n
  induction n with
  | zero =>
    intro hn
    have F := first ⟨0, hn⟩ rfl
    exact ⟨fun l => add_block _ 0 (F.1 l) (by simp), fun l => add_block (fun s => pull x y gain s l * (x s l * factor x s)) 0 (F.2 l) (by simp)⟩
  | succ n ih =>
    intro hn
    have h4 : n + 1 < 4 := N4 ⟨n + 1, hn⟩
    have F := later ⟨n + 1, hn⟩ (by show ¬(n + 1) % 4 = 0; omega)
    exact ⟨fun l => add_block _ (n + 1) (F.1 l) ((ih _).1 l), fun l => add_block (fun s => pull x y gain s l * (x s l * factor x s)) (n + 1) (F.2 l) ((ih _).2 l)⟩

/-- The first result is the reference's. -/
theorem full_eq (hr : Args m c x y gain) : (dats m 0 c).arrAt 3 (cfgs 0).N
    = Cert.LossReferenceIdeal.Read.val_main_v52 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ : ∃ (r : Fin 512) (l : Fin 1024), y = ix2 r l := ⟨y 0, y 1, by funext a; fin_cases a <;> rfl⟩
  refine (writes_full hr t r l).trans ?_
  refine (full hr (row t r) l).symm.trans ?_
  blk_ext [idx t, row_val]

/-- The second result is the reference's. -/
theorem half_eq (hr : Args m c x y gain) : (dats m 0 c).arrAt 4 (cfgs 0).N
    = Cert.LossReferenceIdeal.Read.val_main_v56 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, by funext a; fin_cases a <;> rfl⟩
  refine ((writes_half t r l).trans (congrArg _ (writes_full hr t r l))).trans ?_
  refine (halved hr (row t r) l).symm.trans ?_
  blk_ext [idx t, row_val]

/-- The third result, the loss, is the reference's. -/
theorem loss_eq (hr : Args m c x y gain) : (dats m 0 c).arrAt 5 (cfgs 0).N
    = Cert.LossReferenceIdeal.Read.val_main_v57 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have h3 : t.val = 3 := by have := (flush0_5 t).1 hf; have := N4 t; omega
  blk_simp
  rw [after0_5]
  obtain ⟨r, l, rfl⟩ : ∃ (r : Fin 1) (l : Fin 128), y = ix2 r l := ⟨y 0, y 1, by funext a; fin_cases a <;> rfl⟩
  obtain rfl : r = 0 := Subsingleton.elim _ _
  refine ((so_far hr t.val t.isLt).1 l).trans ?_
  rw [h3]
  refine Eq.trans ?_ ((loss hr l).symm.trans ?_)
  · rw [Finset.mul_sum]
  blk_ext [idx t, row_val]

/-- The fourth result is the reference's. -/
theorem gain_eq (hr : Args m c x y gain) : (dats m 0 c).arrAt 6 (cfgs 0).N
    = Cert.LossReferenceIdeal.Read.val_main_v58 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have h3 : t.val = 3 := by have := (flush0_6 t).1 hf; have := N4 t; omega
  blk_simp
  rw [after0_6]
  obtain ⟨r, l, rfl⟩ : ∃ (r : Fin 1) (l : Fin 1024), y = ix2 r l := ⟨y 0, y 1, by funext a; fin_cases a <;> rfl⟩
  obtain rfl : r = 0 := Subsingleton.elim _ _
  refine ((so_far hr t.val t.isLt).2 l).trans ?_
  rw [h3]
  refine Eq.trans ?_ ((gradOfGain hr l).symm.trans ?_)
  · rfl
  blk_ext [idx t, row_val]

end Cert.LossKernelIdeal.Grad
-- ==== Proof.Loss.Claim.lean ====
/- The claims about the loss and its gradient: it runs and keeps its arguments at both instances, the plain reference runs,
   and in exact arithmetic the two give the same four results. -/
module

public import proofs.«01_k».proof.Defs
public import proofs.«01_k».proof.Proof.Gen.LossKernel.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.Pre_finite_loss
public import proofs.«01_k».proof.Proof.Loss.Grid
public import proofs.«01_k».proof.Proof.Norm.Real
public import proofs.«01_k».proof.Proof.Attn.Finite
public import Idealize.ShloMosaic.Lib.Claim
public import Idealize.ShloMosaic.Lib.Quiescent

@[expose] public section

set_option maxRecDepth 16384

noncomputable section

namespace Cert.Loss

open Idealize.ShloMosaic Idealize.ShloMosaic.TcCoe Idealize.SL.Sem

local instance : Cert.LossKernel.Facts := Cert.LossKernel.Gen.facts
local instance : Cert.LossKernelIdeal.Facts := Cert.LossKernelIdeal.Gen.facts
local instance : Cert.LossReferenceIdeal.Facts := Cert.LossReferenceIdeal.Gen.facts
local instance : Cert.Pre_finite_loss.Facts := Cert.Pre_finite_loss.Gen.facts

/-- The kernel on machine floats runs, keeps its arguments and leaves every counter at zero. -/
theorem frame_kernel : Cert.quiescent_LossKernel := fun m ρ _ => Cert.LossKernel.Gen.frame m ρ

/-- The same at exact arithmetic. -/
theorem frame_ideal : Cert.quiescent_LossKernelIdeal := fun m ρ _ => Cert.LossKernelIdeal.Gen.frame m ρ

/-- In particular from finite arguments. -/
theorem frame_ideal_finite : Cert.quiescent_LossKernelIdeal_pre_finite_loss := fun m ρ _ => Cert.LossKernelIdeal.Gen.frame m ρ

/-- The reference runs and keeps its arguments. -/
theorem frame_reference : Cert.quiescent_LossReferenceIdeal := by
  intro m g _
  hlo_run
  · simp
  · exact sem_eq_zero_of_no_sems (sig := Cert.LossReferenceIdeal.sig) rfl _

/-- In particular from finite arguments. -/
theorem frame_reference_finite : Cert.quiescent_LossReferenceIdeal_pre_finite_loss := fun m g _ => frame_reference m g trivial

/-- The two programs differ in nothing but the arithmetic they are read at. -/
theorem same_program : Cert.preserves_LossKernel_LossKernelIdeal := trivial

/-- Finite arguments are read as real numbers. -/
theorem reals {m : (ℓ : Loc Cert.LossKernelIdeal.nD Cert.LossKernelIdeal.τ Cert.LossKernelIdeal.sig) → Buf (Elt Ideal) ℓ}
    (hp : Cert.Pre_LossKernelIdeal_finite_loss m) (c : Dev Cert.LossKernelIdeal.nD) :
    ∃ (x y : ℕ → ℕ → ℝ) (gain : ℕ → ℝ), Cert.LossKernelIdeal.Grad.Args m c x y gain := by
  obtain ⟨h0, h1, h2⟩ := hp c
  have X : ∀ (t : Fin 2048) (a : Fin 1024), ∃ r : ℝ, m ((c.tc : Thread Cert.LossKernelIdeal.nD Cert.LossKernelIdeal.τ).loc Cert.LossKernelIdeal.main_arg0) (ix3 0 t a) = (r : EReal) := by
    intro t a
    have h := congrFun h0 (ix3 0 t a)
    unfold Cert.Pre_finite_loss.fn at h
    pointwise at h
    exact Cert.Finite.real_of_below h
  have Y : ∀ (t : Fin 2048) (a : Fin 1024), ∃ r : ℝ, m ((c.tc : Thread Cert.LossKernelIdeal.nD Cert.LossKernelIdeal.τ).loc Cert.LossKernelIdeal.main_arg1) (ix3 0 t a) = (r : EReal) := by
    intro t a
    have h := congrFun h1 (ix3 0 t a)
    unfold Cert.Pre_finite_loss.fn at h
    pointwise at h
    exact Cert.Finite.real_of_below h
  have G : ∀ (a : Fin 1024), ∃ r : ℝ, m ((c.tc : Thread Cert.LossKernelIdeal.nD Cert.LossKernelIdeal.τ).loc Cert.LossKernelIdeal.main_arg2) (ix1 a) = (r : EReal) := by
    intro a
    have h := congrFun h2 (ix1 a)
    unfold Cert.Pre_finite_loss.fn at h
    pointwise at h
    exact Cert.Finite.real_of_below h
  obtain ⟨x, xh⟩ := Cert.Norm.table_of _ X
  obtain ⟨y, yh⟩ := Cert.Norm.table_of _ Y
  obtain ⟨gain, gh⟩ := Cert.Norm.row_of _ G
  exact ⟨x, y, gain, xh, yh, gh⟩

/-- In exact arithmetic, from finite arguments, the kernel's results are the reference's. -/
theorem equal : Cert.algebraic_LossKernelIdeal_LossReferenceIdeal_pre_finite_loss := by
  pair_intro
  · run_from Cert.LossKernelIdeal.Value.run_blocks m g
  · run_from Cert.LossReferenceIdeal.Value.run m' g' <;> obtain ⟨a0, a1, a2⟩ := hagree c <;> obtain ⟨x, y, gain, hr⟩ := reals ‹_› c <;>
      try simp only [a0, a1, a2]
    · refine Eq.trans ?_ (Cert.LossKernelIdeal.Grad.full_eq hr).symm
      simp only [← a0, ← a1, ← a2]
      exact Cert.LossReferenceIdeal.Read.val_main_v52_eq _ _
    · refine Eq.trans ?_ (Cert.LossKernelIdeal.Grad.half_eq hr).symm
      simp only [← a0, ← a1, ← a2]
      exact Cert.LossReferenceIdeal.Read.val_main_v56_eq _ _
    · refine Eq.trans ?_ (Cert.LossKernelIdeal.Grad.loss_eq hr).symm
      simp only [← a0, ← a1, ← a2]
      rfl
    · refine Eq.trans ?_ (Cert.LossKernelIdeal.Grad.gain_eq hr).symm
      simp only [← a0, ← a1, ← a2]
      rfl

end Cert.Loss

end
-- ==== Proof.Pool.Model.lean ====
/- Causal pooling in real numbers: sums over a trailing window, sums over a leading window, and the gradient made of them. -/
module

public import proofs.«01_k».proof.Proof.Attn.Window
public import proofs.«01_k».proof.Proof.Norm.Model
public import Idealize.ShloMosaic.Lib.WordCmp

@[expose] public section

noncomputable section

namespace Cert.Pool

open Finset Idealize.ShloMosaic Idealize.ShloMosaic.WordCmp

/-- The sum of the last `n` entries up to `t`; entries before the first count nothing. -/
def win (f : ℕ → ℝ) (n t : ℕ) : ℝ := ∑ j ∈ range n, if j ≤ t then f (t - j) else 0

/-- The sum of the next `n` of 2048 entries from `t`; entries after the last count nothing. -/
def back (f : ℕ → ℝ) (n t : ℕ) : ℝ := ∑ j ∈ range n, if t + j < 2048 then f (t + j) else 0

theorem win_one (f : ℕ → ℝ) (t : ℕ) : win f 1 t = f t := by simp [win]

theorem back_one (f : ℕ → ℝ) (t : ℕ) (ht : t < 2048) : back f 1 t = f t := by simp [back, ht]

/-- A window twice as long is the window and the one before it. -/
theorem win_double (f : ℕ → ℝ) (n t : ℕ) : win f (n + n) t = win f n t + if n ≤ t then win f n (t - n) else 0 := by
  unfold win
  rw [sum_range_add]
  congr 1
  split_ifs with h
  · refine sum_congr rfl fun j _ => ?_
    by_cases hj : j ≤ t - n
    · rw [if_pos hj, if_pos (by omega), Nat.sub_sub]
    · rw [if_neg hj, if_neg (by omega)]
  · exact sum_eq_zero fun j _ => if_neg (by omega)

/-- A leading window twice as long is the window and the one after it. -/
theorem back_double (f : ℕ → ℝ) (n t : ℕ) : back f (n + n) t = back f n t + if t + n < 2048 then back f n (t + n) else 0 := by
  unfold back
  rw [sum_range_add]
  congr 1
  split_ifs with h
  · exact sum_congr rfl fun j _ => by rw [Nat.add_assoc]
  · exact sum_eq_zero fun j _ => if_neg (by omega)

/-- The difference of two running sums is the sum over the window between them. -/
theorem prefix_sub (f : ℕ → ℝ) (n t : ℕ) :
    (∑ j ∈ range (t + 1), f j) - (if t < n then 0 else ∑ j ∈ range (t - n + 1), f j) = win f n t := by
  induction n with
  | zero => simp [win]
  | succ n ih =>
    have step : win f (n + 1) t = win f n t + if n ≤ t then f (t - n) else 0 := by
      unfold win; rw [sum_range_succ]
    rw [step, ← ih]
    by_cases h : n ≤ t
    · rw [if_neg (show ¬t < n by omega), if_pos h, sum_range_succ _ (t - n)]
      by_cases h' : t < n + 1
      · rw [if_pos h', show t - n = 0 by omega, range_zero, sum_empty]; ring
      · rw [if_neg h', show t - (n + 1) + 1 = t - n by omega]; ring
    · rw [if_pos (show t < n + 1 by omega), if_pos (show t < n by omega), if_neg h]; ring

/-- The running sum from a position on, of an entry less the one `n` later, is the sum over a leading window. -/
theorem suffix_sub (f : ℕ → ℝ) (n t : ℕ) (ht : t < 2048) :
    ∑ j ∈ range (2048 - t), (f (t + j) - if t + j + n < 2048 then f (t + j + n) else 0) = back f n t := by
  induction n with
  | zero =>
    simp only [Nat.add_zero]
    refine (sum_eq_zero fun j hj => ?_).trans (by simp [back])
    have := mem_range.1 hj
    rw [if_pos (by omega), sub_self]
  | succ n ih =>
    have step : back f (n + 1) t = back f n t + if t + n < 2048 then f (t + n) else 0 := by
      unfold back; rw [sum_range_succ]
    rw [step, ← ih]
    obtain ⟨m, hm⟩ : ∃ m, 2048 - t = m + 1 := ⟨2047 - t, by omega⟩
    rw [hm]
    simp only [sum_sub_distrib]
    rw [sum_range_succ (fun j => if t + j + (n + 1) < 2048 then f (t + j + (n + 1)) else 0), if_neg (by omega),
      sum_range_succ' (fun j => if t + j + n < 2048 then f (t + j + n) else 0)]
    simp only [show ∀ j, t + (j + 1) + n = t + j + (n + 1) by omega, Nat.add_zero]
    ring

/-- The length of the window of group `g` of columns. -/
def len (g : ℕ) : ℕ := 2 ^ (g + 1)

/-- How many positions the window holds at row `t`. -/
def count (g t : ℕ) : ℝ := ((min (t + 1) (len g) : ℕ) : ℝ)

theorem count_ne (g t : ℕ) : count g t ≠ 0 := by
  have : 0 < len g := by unfold len; positivity
  unfold count
  exact_mod_cast (by omega : min (t + 1) (len g) ≠ 0)

/-- Column `k` of group `g`: the mean over the window less the entry itself. -/
def centred (x : ℕ → ℕ → ℝ) (g t k : ℕ) : ℝ := win (fun s => x s (128 * g + k)) (len g) t / count g t - x t (128 * g + k)

/-- The centred rows through the map of their group. -/
def mapped (x : ℕ → ℕ → ℝ) (w : ℕ → ℕ → ℕ → ℝ) (g t l : ℕ) : ℝ := ∑ k ∈ range 128, centred x g t k * w g k l

/-- The gradient at the map's result. -/
def pull (dp : ℕ → ℕ → ℝ) (s : ℕ → ℝ) (g t l : ℕ) : ℝ := dp t (128 * g + l) * s (128 * g + l)

/-- The gradient at the centred rows. -/
def inner (dp : ℕ → ℕ → ℝ) (w : ℕ → ℕ → ℕ → ℝ) (s : ℕ → ℝ) (g t k : ℕ) : ℝ := ∑ l ∈ range 128, pull dp s g t l * w g k l

/-- The gradient at the pooled columns. -/
def gradIn (dp : ℕ → ℕ → ℝ) (w : ℕ → ℕ → ℕ → ℝ) (s : ℕ → ℝ) (g t k : ℕ) : ℝ :=
  back (fun r => inner dp w s g r k / count g r) (len g) t - inner dp w s g t k

/-- The gradient at the map of a group. -/
def gradMap (dp x : ℕ → ℕ → ℝ) (s : ℕ → ℝ) (g k l : ℕ) : ℝ := ∑ t ∈ range 2048, centred x g t k * pull dp s g t l

/-- The gradient at the scale of a column. -/
def gradScale (dp x : ℕ → ℕ → ℝ) (w : ℕ → ℕ → ℕ → ℝ) (g l : ℕ) : ℝ := ∑ t ∈ range 2048, dp t (128 * g + l) * mapped x w g t l

/-- The number of positions a window holds, as the programs count it: the smaller of the row's number and the window's length. -/
theorem count_read (n t : ℕ) (hn : n < 2 ^ 31) (ht : t < 2048) :
    (FloatOps.sitofp FTy.f32 (IntOp.minsi (IntOp.addi (BitVec.ofNat 32 t) 1#32) (BitVec.ofNat 32 n)) : Ideal .f32)
      = ((((min (t + 1) n : ℕ) : ℝ)) : EReal) := by
  have a : IntOp.addi (BitVec.ofNat 32 t) 1#32 = BitVec.ofNat 32 (t + 1) := by
    unfold IntOp.addi; exact (BitVec.ofNat_add t 1).symm
  have e : IntOp.minsi (IntOp.addi (BitVec.ofNat 32 t) 1#32) (BitVec.ofNat 32 n) = BitVec.ofNat 32 (min (t + 1) n) := by
    rw [a]
    unfold IntOp.minsi
    rw [BitVec.slt, toInt_ofNat_of_lt (show t + 1 < 2 ^ (32 - 1) by omega), toInt_ofNat_of_lt (show n < 2 ^ (32 - 1) by omega)]
    by_cases h : t + 1 < n
    · rw [if_pos (by simpa using (by exact_mod_cast h)), Nat.min_eq_left (by omega)]
    · rw [if_neg (by simpa using (by exact_mod_cast Nat.le_of_not_lt h)), Nat.min_eq_right (by omega)]
  rw [e]
  show (((BitVec.ofNat 32 (min (t + 1) n)).toInt : ℝ) : EReal) = _
  rw [toInt_ofNat_of_lt (show min (t + 1) n < 2 ^ (32 - 1) by omega)]
  rfl

/-- The mean over the window less the entry, as the reference computes it: from the difference of two running sums. -/
theorem mean_less (f : ℕ → ℝ) (n t : ℕ) (hn : 0 < n) (hb : n < 2 ^ 31) (ht : t < 2048) (e : ℝ) :
    Ideal.div (((∑ j ∈ range (t + 1), f j : ℝ) : EReal) - (if _h : t < n then 0 else ((∑ j ∈ range (t - n + 1), f j : ℝ) : EReal)))
        (FloatOps.sitofp FTy.f32 (IntOp.minsi (IntOp.addi (BitVec.ofNat 32 t) 1#32) (BitVec.ofNat 32 n)) : Ideal .f32) - ((e : ℝ) : EReal)
      = ((win f n t / ((min (t + 1) n : ℕ) : ℝ) - e : ℝ) : EReal) := by
  have hz : ((min (t + 1) n : ℕ) : ℝ) ≠ 0 := by exact_mod_cast (by omega : min (t + 1) n ≠ 0)
  rw [count_read n t hb ht, ← prefix_sub, EReal.coe_sub, ← Cert.Norm.div_coe _ _ hz, EReal.coe_sub]
  by_cases h : t < n
  · rw [dif_pos h, if_pos h, EReal.coe_zero]
  · rw [dif_neg h, if_neg h]

/-- An entry less the one a window further on, as the reference computes it: by adding the shifted negative. -/
theorem less_shifted (q : ℕ → ℝ) (n m t : ℕ) (hm : m + n = 2048) :
    ((q t : ℝ) : EReal) + (if _h : t < m then -((q (n + t) : ℝ) : EReal) else 0)
      = ((q t - (if t + n < 2048 then q (t + n) else 0) : ℝ) : EReal) := by
  by_cases h : t < m
  · rw [dif_pos h, if_pos (by omega), add_comm n t, EReal.coe_sub]; rfl
  · rw [dif_neg h, if_neg (by omega), sub_zero, add_zero]

end Cert.Pool

end
-- ==== Proof.Pool.Steps.lean ====
/- The pooling's gradient: the vectors the kernel computes for one group of columns, read entry by entry. -/
module

public import proofs.«01_k».proof.Proof.Gen.PoolKernelIdeal.Value
public import proofs.«01_k».proof.Proof.Pool.Model
public import Idealize.ShloMosaic.Lib.Pointwise
public import Idealize.ShloMosaic.Lib.KernelVsHost

@[expose] public section

set_option maxHeartbeats 1000000
set_option maxRecDepth 16384

noncomputable section

namespace Cert.PoolKernelIdeal.Grad

open Idealize.ShloMosaic Idealize.ShloMosaic.TcCoe Idealize.ShloMosaic.Tactic Idealize.ShloMosaic.WordCmp
open Cert.PoolKernelIdeal Cert.PoolKernelIdeal.Gen Cert.Pool Cert.Norm

/-- The entries of a block of columns are the reals `f`. -/
def Cols (u : FVec Ideal S2048x128 .f32) (f : ℕ → ℕ → ℝ) : Prop := ∀ (t : Fin 2048) (k : Fin 128), u (ix2 t k) = ((f t k : ℝ) : EReal)

/-- The number of each row. -/
def rows : IVec S2048x128 32 := iota .tc S2048x128 32 [0] iota_S2048x128_d0_w32

/-- One doubling of a sum over the rows up to each row: the block is added to itself moved down by `n` rows. -/
def up (n : BitVec 32) (u : FVec Ideal S2048x128 .f32) : FVec Ideal S2048x128 .f32 :=
  addf u (select (cmpi .sge rows (broadcast S2048x128 n)) (dynamicRotate 0 n none u rotates_S2048x128_d0)
    (broadcast S2048x128 (Scalar.ofBits .f32 0x00000000#32 : Ideal .f32)))

/-- One doubling of a sum over the rows from each row on: the block is added to itself moved up, by a rotation of `n` rows downwards. -/
def down (n : BitVec 32) (u : FVec Ideal S2048x128 .f32) : FVec Ideal S2048x128 .f32 :=
  addf u (select (cmpi .slt rows (broadcast S2048x128 n)) (dynamicRotate 0 n none u rotates_S2048x128_d0)
    (broadcast S2048x128 (Scalar.ofBits .f32 0x00000000#32 : Ideal .f32)))

/-- One over the number of rows in the window. -/
def inv (n : BitVec 32) : FVec Ideal S2048x128 .f32 :=
  divf (broadcast S2048x128 (Scalar.ofBits .f32 0x3F800000#32 : Ideal .f32))
    (sitofp .f32 (minsi (addi rows (broadcast S2048x128 1#32)) (broadcast S2048x128 n)))

theorem rotated (n : ℕ) (hn : n < 2048) (u : FVec Ideal S2048x128 .f32) (t : Fin 2048) (k : Fin 128) :
    dynamicRotate 0 (BitVec.ofNat 32 n) none u rotates_S2048x128_d0 (ix2 t k)
      = u (ix2 ⟨(t + 2048 - n) % 2048, Nat.mod_lt _ (by norm_num)⟩ k) := by
  refine dynamicRotate_apply (s := S2048x128) 0 _ u _ (ix2 t k) _ fun b => ?_
  have hm : (BitVec.ofNat 32 n).toNat % 2048 = n := by
    rw [BitVec.toNat_ofNat, Nat.mod_eq_of_lt (by omega : n < 2 ^ 32), Nat.mod_eq_of_lt hn]
  match b with
  | ⟨0, _⟩ => show (t.val + 2048 - n) % 2048 = (t.val + 2048 - (BitVec.ofNat 32 n).toNat % 2048) % 2048; rw [hm]
  | ⟨1, _⟩ => rfl

theorem up_read (n : ℕ) (hn : n < 2048) (u : FVec Ideal S2048x128 .f32) (f : ℕ → ℕ → ℝ) (h : Cols u f) :
    Cols (up (BitVec.ofNat 32 n) u) fun t k => f t k + if n ≤ t then f (t - n) k else 0 := by
  intro t k
  have ht := t.isLt
  unfold up rows
  pointwise [rotated n hn, h t k, h _ k]
  by_cases q : n ≤ t.val
  · rw [(cmpi_sge_ofNat_eq_one_iff (by omega) (by omega)).2 q, select_one, if_pos q, ← EReal.coe_add, show (t.val + 2048 - n) % 2048 = t.val - n by omega]
  · rw [(cmpi_sge_ofNat_eq_zero_iff (by omega) (by omega)).2 q, select_zero, if_neg q, add_zero, add_zero]

theorem down_read (n : ℕ) (hn : n < 2048) (u : FVec Ideal S2048x128 .f32) (f : ℕ → ℕ → ℝ) (h : Cols u f) :
    Cols (down (BitVec.ofNat 32 n) u) fun t k => f t k + if t < n then f (t + (2048 - n)) k else 0 := by
  intro t k
  have ht := t.isLt
  unfold down rows
  pointwise [rotated n hn, h t k, h _ k]
  by_cases q : t.val < n
  · rw [(cmpi_slt_ofNat_eq_one_iff (by omega) (by omega)).2 q, select_one, if_pos q, ← EReal.coe_add, show (t.val + 2048 - n) % 2048 = t.val + (2048 - n) by omega]
  · rw [(cmpi_slt_ofNat_eq_zero_iff (by omega) (by omega)).2 q, select_zero, if_neg q, add_zero, add_zero]

theorem len_le (g : ℕ) (hg : g < 4) : len g ≤ 16 := by
  unfold len
  exact (Nat.pow_le_pow_right (by norm_num) (by omega : g + 1 ≤ 4)).trans (by norm_num)

theorem inv_read (g : ℕ) (hg : g < 4) : Cols (inv (BitVec.ofNat 32 (len g))) fun t _ => 1 / count g t := by
  intro t k
  have hl := len_le g hg
  unfold inv rows
  pointwise []
  rw [count_read (len g) t (by omega) t.isLt]
  exact div_coe 1 _ (count_ne g t)

/-- The sums over the windows, the window doubled step by step. -/
def ups : ℕ → FVec Ideal S2048x128 .f32 → FVec Ideal S2048x128 .f32
  | 0, u => up 1#32 u
  | g + 1, u => up (BitVec.ofNat 32 (len g)) (ups g u)

/-- The sums over the windows that begin at a row, the window doubled step by step. -/
def downs : ℕ → FVec Ideal S2048x128 .f32 → FVec Ideal S2048x128 .f32
  | 0, u => down 2047#32 u
  | g + 1, u => down (BitVec.ofNat 32 (2048 - len g)) (downs g u)

theorem len_succ (g : ℕ) : len (g + 1) = len g + len g := by unfold len; rw [pow_succ 2 (g + 1)]; ring

theorem ups_read (u : FVec Ideal S2048x128 .f32) (f : ℕ → ℕ → ℝ) (h : Cols u f) :
    ∀ g < 4, Cols (ups g u) fun t k => win (fun s => f s k) (len g) t
  | 0, _ => fun t k => by
    beta_reduce
    rw [show len 0 = 1 + 1 from rfl, win_double, win_one]
    refine (up_read 1 (by norm_num) u f h t k).trans ?_
    rw [win_one]
  | g + 1, hg => fun t k => by
    have hl := len_le g (by omega)
    beta_reduce
    rw [len_succ, win_double]
    exact up_read (len g) (by omega) _ _ (ups_read u f h g (by omega)) t k

theorem downs_read (u : FVec Ideal S2048x128 .f32) (f : ℕ → ℕ → ℝ) (h : Cols u f) :
    ∀ g < 4, Cols (downs g u) fun t k => back (fun s => f s k) (len g) t
  | 0, _ => fun t k => by
    have ht := t.isLt
    beta_reduce
    rw [show len 0 = 1 + 1 from rfl, back_double, back_one _ _ ht]
    refine (down_read 2047 (by norm_num) u f h t k).trans ?_
    beta_reduce
    by_cases q : t.val < 2047
    · rw [if_pos q, if_pos (by omega), back_one _ _ (by omega)]
    · rw [if_neg q, if_neg (by omega)]
  | g + 1, hg => fun t k => by
    have hl := len_le g (by omega)
    have ht := t.isLt
    beta_reduce
    rw [len_succ, back_double]
    refine (down_read (2048 - len g) (by unfold len at *; have : 0 < 2 ^ (g + 1) := by positivity
                                         omega) _ _ (downs_read u f h g (by omega)) t k).trans ?_
    beta_reduce
    by_cases q : t.val < 2048 - len g
    · rw [if_pos q, if_pos (by omega), show 2048 - (2048 - len g) = len g by omega]
    · rw [if_neg q, if_neg (by omega)]

theorem same {u : FVec Ideal S2048x128 .f32} {f : ℕ → ℕ → ℝ} (h : Cols u f) : Cols (shapeCast S2048x128 u shapeCasts_S2048x128_S2048x128) f := by
  intro t k
  pointwise [h t k]

/-- The columns less their means, as the kernel computes them. -/
def cent (g : ℕ) (u : FVec Ideal S2048x128 .f32) : FVec Ideal S2048x128 .f32 := subf (mulf (ups g u) (inv (BitVec.ofNat 32 (len g)))) u

theorem cent_read (g : ℕ) (hg : g < 4) {u : FVec Ideal S2048x128 .f32} {x : ℕ → ℕ → ℝ} (h : Cols u fun t k => x t (128 * g + k)) :
    Cols (cent g u) (centred x g) := by
  intro t k
  show (ups g u (ix2 t k) : EReal) * inv (BitVec.ofNat 32 (len g)) (ix2 t k) - u (ix2 t k) = _
  rw [ups_read u _ h g hg t k, inv_read g hg t k, h t k, ← EReal.coe_mul, ← EReal.coe_sub, centred, mul_one_div]

/-- The gradient at the columns, as the kernel computes it from the gradient at the centred columns. -/
def giveBack (g : ℕ) (u : FVec Ideal S2048x128 .f32) : FVec Ideal S2048x128 .f32 := subf (downs g (mulf u (inv (BitVec.ofNat 32 (len g))))) u

theorem giveBack_read (g : ℕ) (hg : g < 4) {u : FVec Ideal S2048x128 .f32} {dp : ℕ → ℕ → ℝ} {w : ℕ → ℕ → ℕ → ℝ} {s : ℕ → ℝ} (h : Cols u (inner dp w s g)) :
    Cols (giveBack g u) (gradIn dp w s g) := by
  intro t k
  have hm : Cols (mulf u (inv (BitVec.ofNat 32 (len g)))) fun t k => inner dp w s g t k / count g t := fun t k => by
    show (u (ix2 t k) : EReal) * inv (BitVec.ofNat 32 (len g)) (ix2 t k) = _
    rw [h t k, inv_read g hg t k, ← EReal.coe_mul, mul_one_div]
  show (downs g _ (ix2 t k) : EReal) - u (ix2 t k) = _
  rw [downs_read _ _ hm g hg t k, h t k, ← EReal.coe_sub]
  rfl

/-- The blocks of one group: its columns, the incoming gradient, its map and its scales. -/
structure Parts (g : ℕ) (X D : FVec Ideal S2048x128 .f32) (W : FVec Ideal S1x128x128 .f32) (S : FVec Ideal S1x128 .f32)
    (dp x : ℕ → ℕ → ℝ) (w : ℕ → ℕ → ℕ → ℝ) (s : ℕ → ℝ) : Prop where
  x : Cols X fun t k => x t (128 * g + k)
  dp : Cols D fun t k => dp t (128 * g + k)
  w : ∀ k l : Fin 128, W (ix3 0 k l) = ((w g k l : ℝ) : EReal)
  s : ∀ l : Fin 128, S (ix2 0 l) = ((s (128 * g + l) : ℝ) : EReal)

variable {g : ℕ} {X D Y : FVec Ideal S2048x128 .f32} {W : FVec Ideal S1x128x128 .f32} {S : FVec Ideal S1x128 .f32}
  {dp x : ℕ → ℕ → ℝ} {w : ℕ → ℕ → ℕ → ℝ} {s : ℕ → ℝ}

/-- The gradient at the map's result. -/
theorem pull_read (hp : Parts g X D W S dp x w s) (t : Fin 2048) (l : Fin 128) : k0_pay16 (F := Ideal) D S (ix2 t l) = ((pull dp s g t l : ℝ) : EReal) := by
  unfold k0_pay16 k0_pay14
  pointwise [hp.dp t l, hp.s]
  exact (EReal.coe_mul _ _).symm

/-- The gradient at the scales. -/
theorem scale_read (hp : Parts g X D W S dp x w s) (hY : Cols Y (centred x g)) (l : Fin 128) :
    k0_pay15 (F := Ideal) Y W D (ix2 0 l) = ((gradScale dp x w g l : ℝ) : EReal) := by
  unfold k0_pay15 k0_pay14 k0_pay13
  pointwise [hp.dp _ _, hp.w, hY _ _]
  simp only [← EReal.coe_mul, sum_coe 128 fun j => centred x g _ j * w g j l]
  exact sum_coe 2048 fun t => dp t (128 * g + l) * mapped x w g t l

/-- The gradient at the map. -/
theorem map_read (hp : Parts g X D W S dp x w s) (hY : Cols Y (centred x g)) (k l : Fin 128) :
    k0_pay17 (F := Ideal) Y D S (ix3 0 k l) = ((gradMap dp x s g k l : ℝ) : EReal) := by
  unfold k0_pay17
  pointwise [pull_read hp, hY _ _]
  simp only [← EReal.coe_mul]
  exact sum_coe 2048 fun t => centred x g t k * pull dp s g t l

/-- The gradient at the centred columns. -/
theorem inner_read (hp : Parts g X D W S dp x w s) : Cols (k0_pay37 (F := Ideal) (k0_pay31 W) (k0_pay32 D) S) (inner dp w s g) := by
  intro t k
  show k0_pay37 (F := Ideal) (k0_pay13 W) (k0_pay14 D) S (ix2 t k) = _
  have hpull := fun l => pull_read hp t l
  unfold k0_pay16 at hpull
  unfold k0_pay37 k0_pay35 k0_pay13
  pointwise [hpull, hp.w]
  simp only [← EReal.coe_mul]
  exact sum_coe 128 fun l => pull dp s g t l * w g k l

/-- The gradient at the columns. -/
theorem give_read (hg : g < 4) (hp : Parts g X D W S dp x w s) (t : Fin 2048) (k : Fin 128) :
    giveBack g (k0_pay37 (F := Ideal) (k0_pay31 W) (k0_pay32 D) S) (ix2 t k) = ((gradIn dp w s g t k : ℝ) : EReal) :=
  giveBack_read g hg (inner_read hp) t k

theorem cent_part (hg : g < 4) (hp : Parts g X D W S dp x w s) : Cols (cent g (shapeCast S2048x128 X shapeCasts_S2048x128_S2048x128)) (centred x g) :=
  cent_read g hg (same hp.x)

variable (X D W S)

theorem cent0 : k0_pay3 (F := Ideal) X = cent 0 (shapeCast S2048x128 X shapeCasts_S2048x128_S2048x128) := rfl
theorem cent1 : k0_pay12 (F := Ideal) rows X = cent 1 (shapeCast S2048x128 X shapeCasts_S2048x128_S2048x128) := rfl
theorem cent2 : k0_pay20 (F := Ideal) rows X = cent 2 (shapeCast S2048x128 X shapeCasts_S2048x128_S2048x128) := rfl
theorem cent3 : k0_pay30 (F := Ideal) rows (k0_pay27 X) (k0_pay28 rows) = cent 3 (shapeCast S2048x128 X shapeCasts_S2048x128_S2048x128) := rfl

theorem give0 : k0_pay10 (F := Ideal) rows k0_pay2 (k0_pay4 W) (k0_pay7 D S) = giveBack 0 (k0_pay37 (F := Ideal) (k0_pay31 W) (k0_pay32 D) S) := rfl
theorem give1 : k0_pay18 (F := Ideal) rows (k0_pay11 rows) W D S = giveBack 1 (k0_pay37 (F := Ideal) (k0_pay31 W) (k0_pay32 D) S) := rfl
theorem give2 : k0_pay26 (F := Ideal) rows (k0_pay19 rows) (k0_pay21 W) (k0_pay22 D) S = giveBack 2 (k0_pay37 (F := Ideal) (k0_pay31 W) (k0_pay32 D) S) := rfl
theorem give3 : k0_pay1 (F := Ideal) (k0_pay37 (k0_pay31 W) (k0_pay32 D) S) (k0_pay38 rows (k0_pay29 (k0_pay28 rows)) (k0_pay31 W) (k0_pay32 D) S)
    = giveBack 3 (k0_pay37 (F := Ideal) (k0_pay31 W) (k0_pay32 D) S) := rfl

end Cert.PoolKernelIdeal.Grad

end
-- ==== Proof.Pool.Reference.lean ====
/- The plain reference of the gradient of causal pooling, read one element at a time in real numbers. -/
module

public import proofs.«01_k».proof.Proof.Gen.PoolReferenceIdeal.Read
public import proofs.«01_k».proof.Proof.Pool.Model
public import Idealize.ShloMosaic.Lib.Pointwise
public import Idealize.ShloMosaic.Lib.WordCmp

@[expose] public section

set_option maxRecDepth 16384

noncomputable section

namespace Cert.PoolReferenceIdeal.Grad

open Idealize.ShloMosaic Idealize.ShloMosaic.TcCoe Idealize.SL.Sem
open Cert.PoolReferenceIdeal Cert.PoolReferenceIdeal.Gen Cert.PoolReferenceIdeal.Read Cert.Pool
open Cert.Norm (sum_coe div_coe)

/-- The arguments are the reals `dp`, `x`, `w` and `s`. -/
structure Reads (x0 : FVec Ideal S1x2048x512 .f32) (x1 : FVec Ideal S1x2048x4096 .f32) (x2 : FVec Ideal S1x4x128x128 .f32) (x3 : FVec Ideal S1x512 .f32)
    (dp x : ℕ → ℕ → ℝ) (w : ℕ → ℕ → ℕ → ℝ) (s : ℕ → ℝ) : Prop where
  dp : ∀ (t : Fin 2048) (b : Fin 512), x0 (ix3 0 t b) = ((dp t b : ℝ) : EReal)
  x : ∀ (t : Fin 2048) (b : Fin 512), x1 (ix3 0 t (⟨b.val, by omega⟩ : Fin 4096)) = ((x t b : ℝ) : EReal)
  w : ∀ (g : Fin 4) (k l : Fin 128), x2 (ix4 0 g k l) = ((w g k l : ℝ) : EReal)
  s : ∀ b : Fin 512, x3 (ix2 0 b) = ((s b : ℝ) : EReal)

/-- A window of 2048 along the rows, `lo` places of it before the position: the sum of its elements. -/
theorem window_sum (lo hi : ℕ) (x : FVec Ideal S1x2048x128 .f32) (init : FVec Ideal S_ .f32)
    (hinit : ∀ i, init i = 0) (H : S1x2048x128.ReduceWindows ![1, 2048, 1] ![1, 1, 1] ![0, lo, 0] ![0, hi, 0] S1x2048x128)
    (hu : 0 < S_.numel) (t : Fin 2048) (k : Fin 128) (f : ℕ → ℝ) (hf : ∀ j : Fin 2048, x (ix3 0 j k) = ((f j : ℝ) : EReal)) :
    Host.reduceWindowAdd (F := Ideal) ![1, 2048, 1] ![1, 1, 1] ![0, lo, 0] ![0, hi, 0] x init H hu (ix3 0 t k)
      = ((∑ w ∈ Finset.range 2048, if lo ≤ t.val + w ∧ t.val + w - lo < 2048 then f (t.val + w - lo) else 0 : ℝ) : EReal) := by
  rw [Cert.Attn.reduceWindow_sum _ _ _ _ _ _ _ _ hinit, ← Cert.Attn.coe_sum, Finset.sum_range]
  refine (sum_idx3 (n0 := 1) (n1 := 2048) (n2 := 1) _).trans ?_
  simp only [Finset.univ_unique, Finset.sum_singleton]
  refine Finset.sum_congr rfl fun w _ => ?_
  by_cases hp : lo ≤ t.val + w.val ∧ t.val + w.val - lo < 2048
  · rw [if_pos hp, dif_pos]
    · refine Eq.trans ?_ (hf ⟨t.val + w.val - lo, hp.2⟩)
      congr 1
      funext a
      fin_cases a
      · rfl
      · exact Fin.ext (by simp)
      · exact Fin.ext (by simp)
    · intro a
      fin_cases a
      · simp
      · simpa using hp
      · simp
  · rw [if_neg hp, dif_neg]
    · rfl
    · intro hall
      exact hp (by simpa using hall 1)

variable {x0 : FVec Ideal S1x2048x512 .f32} {x1 : FVec Ideal S1x2048x4096 .f32} {x2 : FVec Ideal S1x4x128x128 .f32} {x3 : FVec Ideal S1x512 .f32}
  {dp x : ℕ → ℕ → ℝ} {w : ℕ → ℕ → ℕ → ℝ} {s : ℕ → ℝ}

/-- The columns of group 0. -/
theorem column0 (hr : Reads x0 x1 x2 x3 dp x w s) (t : Fin 2048) (k : Fin 128) : val_main_v6 (F := Ideal) x1 (ix3 0 t k) = ((x t (128 * 0 + k) : ℝ) : EReal) := by
  pointwise [val_main_v6, val_main_v5, val_main_v3, val_main_v0]
  have e := hr.x t ⟨k, by omega⟩
  simpa only [Nat.mul_zero, Nat.zero_add] using e

/-- The running sums of group 0. -/
theorem running0 (hr : Reads x0 x1 x2 x3 dp x w s) (t : Fin 2048) (k : Fin 128) :
    val_main_v7 (F := Ideal) x1 (ix3 0 t k) = ((∑ j ∈ Finset.range (t + 1), x j (128 * 0 + k) : ℝ) : EReal) := by
  rw [← Cert.Attn.prefix_sum t t.isLt fun j => x j (128 * 0 + k)]
  refine window_sum 2047 0 _ _ ?_ _ _ t k (fun j => x j (128 * 0 + k)) fun j => column0 hr j k
  intro i
  pointwise [val_main_call0_call0_v0, val_main_call0_call0_cst]

/-- The centred columns of group 0. -/
theorem centred0 (hr : Reads x0 x1 x2 x3 dp x w s) (t : Fin 2048) (k : Fin 128) : val_main_v21 (F := Ideal) x1 (ix3 0 t k) = ((centred x 0 t k : ℝ) : EReal) := by
  pointwise [val_main_v21, val_main_v20, val_main_v19, val_main_v18, val_main_v17, val_main_v16, val_main_v15, val_main_v14, val_main_v13, val_main_v12, val_main_v11, val_main_v10, val_main_v9, val_main_v8, val_main_v4, val_main_c, val_main_c_1, val_main_cst, val_main_cst_0, running0 hr, column0 hr]
  refine Eq.trans ?_ (mean_less (fun j => x j (128 * 0 + k)) 2 t (by norm_num) (by norm_num) t.isLt (x t (128 * 0 + k)))
  simp only [Nat.mul_zero, Nat.zero_add]

/-- The columns of group 1. -/
theorem column1 (hr : Reads x0 x1 x2 x3 dp x w s) (t : Fin 2048) (k : Fin 128) : val_main_v23 (F := Ideal) x1 (ix3 0 t k) = ((x t (128 * 1 + k) : ℝ) : EReal) := by
  pointwise [val_main_v23, val_main_v22, val_main_v3, val_main_v0]
  exact hr.x t ⟨128 * 1 + k, by omega⟩

/-- The running sums of group 1. -/
theorem running1 (hr : Reads x0 x1 x2 x3 dp x w s) (t : Fin 2048) (k : Fin 128) :
    val_main_v24 (F := Ideal) x1 (ix3 0 t k) = ((∑ j ∈ Finset.range (t + 1), x j (128 * 1 + k) : ℝ) : EReal) := by
  rw [← Cert.Attn.prefix_sum t t.isLt fun j => x j (128 * 1 + k)]
  refine window_sum 2047 0 _ _ ?_ _ _ t k (fun j => x j (128 * 1 + k)) fun j => column1 hr j k
  intro i
  pointwise [val_main_call1_call0_v0, val_main_call1_call0_cst]

/-- The centred columns of group 1. -/
theorem centred1 (hr : Reads x0 x1 x2 x3 dp x w s) (t : Fin 2048) (k : Fin 128) : val_main_v38 (F := Ideal) x1 (ix3 0 t k) = ((centred x 1 t k : ℝ) : EReal) := by
  pointwise [val_main_v38, val_main_v37, val_main_v36, val_main_v35, val_main_v34, val_main_v33, val_main_v32, val_main_v31, val_main_v30, val_main_v29, val_main_v28, val_main_v27, val_main_v26, val_main_v25, val_main_v4, val_main_c_4, val_main_c_5, val_main_cst_2, val_main_cst_3, running1 hr, column1 hr]
  exact mean_less (fun j => x j (128 * 1 + k)) 4 t (by norm_num) (by norm_num) t.isLt (x t (128 * 1 + k))

/-- The columns of group 2. -/
theorem column2 (hr : Reads x0 x1 x2 x3 dp x w s) (t : Fin 2048) (k : Fin 128) : val_main_v40 (F := Ideal) x1 (ix3 0 t k) = ((x t (128 * 2 + k) : ℝ) : EReal) := by
  pointwise [val_main_v40, val_main_v39, val_main_v3, val_main_v0]
  exact hr.x t ⟨128 * 2 + k, by omega⟩

/-- The running sums of group 2. -/
theorem running2 (hr : Reads x0 x1 x2 x3 dp x w s) (t : Fin 2048) (k : Fin 128) :
    val_main_v41 (F := Ideal) x1 (ix3 0 t k) = ((∑ j ∈ Finset.range (t + 1), x j (128 * 2 + k) : ℝ) : EReal) := by
  rw [← Cert.Attn.prefix_sum t t.isLt fun j => x j (128 * 2 + k)]
  refine window_sum 2047 0 _ _ ?_ _ _ t k (fun j => x j (128 * 2 + k)) fun j => column2 hr j k
  intro i
  pointwise [val_main_call2_call0_v0, val_main_call2_call0_cst]

/-- The centred columns of group 2. -/
theorem centred2 (hr : Reads x0 x1 x2 x3 dp x w s) (t : Fin 2048) (k : Fin 128) : val_main_v55 (F := Ideal) x1 (ix3 0 t k) = ((centred x 2 t k : ℝ) : EReal) := by
  pointwise [val_main_v55, val_main_v54, val_main_v53, val_main_v52, val_main_v51, val_main_v50, val_main_v49, val_main_v48, val_main_v47, val_main_v46, val_main_v45, val_main_v44, val_main_v43, val_main_v42, val_main_v4, val_main_c_8, val_main_c_9, val_main_cst_6, val_main_cst_7, running2 hr, column2 hr]
  exact mean_less (fun j => x j (128 * 2 + k)) 8 t (by norm_num) (by norm_num) t.isLt (x t (128 * 2 + k))

/-- The columns of group 3. -/
theorem column3 (hr : Reads x0 x1 x2 x3 dp x w s) (t : Fin 2048) (k : Fin 128) : val_main_v57 (F := Ideal) x1 (ix3 0 t k) = ((x t (128 * 3 + k) : ℝ) : EReal) := by
  pointwise [val_main_v57, val_main_v56, val_main_v3, val_main_v0]
  exact hr.x t ⟨128 * 3 + k, by omega⟩

/-- The running sums of group 3. -/
theorem running3 (hr : Reads x0 x1 x2 x3 dp x w s) (t : Fin 2048) (k : Fin 128) :
    val_main_v58 (F := Ideal) x1 (ix3 0 t k) = ((∑ j ∈ Finset.range (t + 1), x j (128 * 3 + k) : ℝ) : EReal) := by
  rw [← Cert.Attn.prefix_sum t t.isLt fun j => x j (128 * 3 + k)]
  refine window_sum 2047 0 _ _ ?_ _ _ t k (fun j => x j (128 * 3 + k)) fun j => column3 hr j k
  intro i
  pointwise [val_main_call3_call0_v0, val_main_call3_call0_cst]

/-- The centred columns of group 3. -/
theorem centred3 (hr : Reads x0 x1 x2 x3 dp x w s) (t : Fin 2048) (k : Fin 128) : val_main_v72 (F := Ideal) x1 (ix3 0 t k) = ((centred x 3 t k : ℝ) : EReal) := by
  pointwise [val_main_v72, val_main_v71, val_main_v70, val_main_v69, val_main_v68, val_main_v67, val_main_v66, val_main_v65, val_main_v64, val_main_v63, val_main_v62, val_main_v61, val_main_v60, val_main_v59, val_main_v4, val_main_c_12, val_main_c_13, val_main_cst_10, val_main_cst_11, running3 hr, column3 hr]
  exact mean_less (fun j => x j (128 * 3 + k)) 16 t (by norm_num) (by norm_num) t.isLt (x t (128 * 3 + k))

/-- The centred columns of all groups. -/
theorem stacked (hr : Reads x0 x1 x2 x3 dp x w s) (t : Fin 2048) (g : Fin 4) (k : Fin 128) : val_main_v77 (F := Ideal) x1 (ix4 0 t g k) = ((centred x g t k : ℝ) : EReal) := by
  fin_cases g <;> pointwise [val_main_v77, val_main_v73, val_main_v74, val_main_v75, val_main_v76, centred0 hr, centred1 hr, centred2 hr, centred3 hr]

/-- The centred columns through the map of their group. -/
theorem through (hr : Reads x0 x1 x2 x3 dp x w s) (t : Fin 2048) (g : Fin 4) (l : Fin 128) : val_main_v79 (F := Ideal) x1 x2 (ix4 0 t g l) = ((mapped x w g t l : ℝ) : EReal) := by
  pointwise [val_main_v79, val_main_v78, val_main_v1, stacked hr, hr.w]
  simp only [← EReal.coe_mul]
  rw [sum_coe 128 fun k => w g k l * centred x g t k]
  simp only [mapped, mul_comm]

/-- The gradient at the map's result. -/
theorem pulled (hr : Reads x0 x1 x2 x3 dp x w s) (t : Fin 2048) (g : Fin 4) (l : Fin 128) : val_main_v90 (F := Ideal) x0 x3 (ix4 0 t g l) = ((pull dp s g t l : ℝ) : EReal) := by
  pointwise [val_main_v90, val_main_v88, val_main_v87, val_main_v81, val_main_v2, hr.dp, hr.s]
  rw [← EReal.coe_mul, mul_comm (g : ℕ) 128]; rfl

/-- The gradient at the centred columns. -/
theorem inside (hr : Reads x0 x1 x2 x3 dp x w s) (t : Fin 2048) (g : Fin 4) (k : Fin 128) : val_main_v93 (F := Ideal) x0 x2 x3 (ix4 0 t g k) = ((inner dp w s g t k : ℝ) : EReal) := by
  pointwise [val_main_v93, val_main_v92, val_main_v91, val_main_v1, pulled hr, hr.w]
  simp only [← EReal.coe_mul]
  rw [sum_coe 128 fun l => pull dp s g t l * w g k l]
  rfl

/-- The second result, the gradient at the maps. -/
theorem map (hr : Reads x0 x1 x2 x3 dp x w s) (g : Fin 4) (k l : Fin 128) : val_main_v95 (F := Ideal) x0 x1 x3 (ix3 g k l) = ((gradMap dp x s g k l : ℝ) : EReal) := by
  pointwise [val_main_v95, val_main_v94, val_main_v91, pulled hr, stacked hr]
  rw [Fin.sum_univ_one]
  simp only [stacked hr, ← EReal.coe_mul]
  rw [sum_coe 2048 fun t => pull dp s g t l * centred x g t k]
  simp only [gradMap, mul_comm]

/-- The third result, the gradient at the scales. -/
theorem scale (hr : Reads x0 x1 x2 x3 dp x w s) (b : Fin 512) : val_main_v158 (F := Ideal) x0 x1 x2 (ix2 0 b) = ((gradScale dp x w (b / 128) (b % 128) : ℝ) : EReal) := by
  have e : 128 * ((b : ℕ) / 128) + (b : ℕ) % 128 = b := Nat.div_add_mod _ _
  pointwise [val_main_v158, val_main_v89, val_main_cst_15]
  refine (Cert.Norm.sum_last reducesTo_S1x1x512_S512_d0_1 _ _ b).trans ?_
  rw [zero_add]
  pointwise [val_main_v86, val_main_v85, val_main_v84, val_main_v80, val_main_cst_14, through hr, hr.dp]
  simp only [← EReal.coe_mul]
  rw [sum_coe 2048 fun t => mapped x w (b / 128) t (b % 128) * dp t b]
  simp only [gradScale, e, mul_comm]

/-- The gradient at the means of group 0, over the length of the window. -/
theorem shared0 (hr : Reads x0 x1 x2 x3 dp x w s) (t : Fin 2048) (k : Fin 128) : val_main_v144 (F := Ideal) x0 x2 x3 (ix3 0 t k) = ((inner dp w s 0 t k / count 0 t : ℝ) : EReal) := by
  pointwise [val_main_v144, val_main_v143, val_main_v17, val_main_v16, val_main_v15, val_main_v14, val_main_v13, val_main_v12, val_main_v4, val_main_c, val_main_c_1, val_main_v97, val_main_v96, inside hr]
  rw [count_read 2 t (by norm_num) t.isLt]
  exact div_coe _ _ (count_ne 0 t)

/-- The gradient at the columns of group 0. -/
theorem returned0 (hr : Reads x0 x1 x2 x3 dp x w s) (t : Fin 2048) (k : Fin 128) : val_main_v151 (F := Ideal) x0 x2 x3 (ix3 0 t k) = ((gradIn dp w s 0 t k : ℝ) : EReal) := by
  have h : val_main_v150 (F := Ideal) x0 x2 x3 (ix3 0 t k) = ((back (fun r => inner dp w s 0 r k / count 0 r) (len 0) t : ℝ) : EReal) := by
    rw [← suffix_sub _ _ _ t.isLt, ← Cert.Attn.suffix_sum t t.isLt fun j => inner dp w s 0 j k / count 0 j - if j + len 0 < 2048 then inner dp w s 0 (j + len 0) k / count 0 (j + len 0) else 0]
    refine window_sum 0 2047 _ _ ?_ _ _ t k (fun j => inner dp w s 0 j k / count 0 j - if j + len 0 < 2048 then inner dp w s 0 (j + len 0) k / count 0 (j + len 0) else 0) fun j => ?_
    · intro i
      pointwise [val_main_call7_call0_v0, val_main_call7_call0_cst]
    · pointwise [val_main_v149, val_main_v148, val_main_v147, val_main_v145, val_main_cst_22, shared0 hr]
      exact less_shifted (fun r => inner dp w s 0 r k / count 0 r) 2 2046 j (by norm_num)
  pointwise [val_main_v151, val_main_v142, val_main_v97, val_main_v96, inside hr, h]
  rw [← EReal.coe_neg, ← EReal.coe_add, neg_add_eq_sub]
  rfl

/-- The gradient at the means of group 1, over the length of the window. -/
theorem shared1 (hr : Reads x0 x1 x2 x3 dp x w s) (t : Fin 2048) (k : Fin 128) : val_main_v131 (F := Ideal) x0 x2 x3 (ix3 0 t k) = ((inner dp w s 1 t k / count 1 t : ℝ) : EReal) := by
  pointwise [val_main_v131, val_main_v130, val_main_v34, val_main_v33, val_main_v32, val_main_v31, val_main_v30, val_main_v29, val_main_v4, val_main_c_4, val_main_c_5, val_main_v99, val_main_v98, inside hr]
  rw [count_read 4 t (by norm_num) t.isLt]
  exact div_coe _ _ (count_ne 1 t)

/-- The gradient at the columns of group 1. -/
theorem returned1 (hr : Reads x0 x1 x2 x3 dp x w s) (t : Fin 2048) (k : Fin 128) : val_main_v138 (F := Ideal) x0 x2 x3 (ix3 0 t k) = ((gradIn dp w s 1 t k : ℝ) : EReal) := by
  have h : val_main_v137 (F := Ideal) x0 x2 x3 (ix3 0 t k) = ((back (fun r => inner dp w s 1 r k / count 1 r) (len 1) t : ℝ) : EReal) := by
    rw [← suffix_sub _ _ _ t.isLt, ← Cert.Attn.suffix_sum t t.isLt fun j => inner dp w s 1 j k / count 1 j - if j + len 1 < 2048 then inner dp w s 1 (j + len 1) k / count 1 (j + len 1) else 0]
    refine window_sum 0 2047 _ _ ?_ _ _ t k (fun j => inner dp w s 1 j k / count 1 j - if j + len 1 < 2048 then inner dp w s 1 (j + len 1) k / count 1 (j + len 1) else 0) fun j => ?_
    · intro i
      pointwise [val_main_call6_call0_v0, val_main_call6_call0_cst]
    · pointwise [val_main_v136, val_main_v135, val_main_v134, val_main_v132, val_main_cst_20, shared1 hr]
      exact less_shifted (fun r => inner dp w s 1 r k / count 1 r) 4 2044 j (by norm_num)
  pointwise [val_main_v138, val_main_v129, val_main_v99, val_main_v98, inside hr, h]
  rw [← EReal.coe_neg, ← EReal.coe_add, neg_add_eq_sub]
  rfl

/-- The gradient at the means of group 2, over the length of the window. -/
theorem shared2 (hr : Reads x0 x1 x2 x3 dp x w s) (t : Fin 2048) (k : Fin 128) : val_main_v118 (F := Ideal) x0 x2 x3 (ix3 0 t k) = ((inner dp w s 2 t k / count 2 t : ℝ) : EReal) := by
  pointwise [val_main_v118, val_main_v117, val_main_v51, val_main_v50, val_main_v49, val_main_v48, val_main_v47, val_main_v46, val_main_v4, val_main_c_8, val_main_c_9, val_main_v101, val_main_v100, inside hr]
  rw [count_read 8 t (by norm_num) t.isLt]
  exact div_coe _ _ (count_ne 2 t)

/-- The gradient at the columns of group 2. -/
theorem returned2 (hr : Reads x0 x1 x2 x3 dp x w s) (t : Fin 2048) (k : Fin 128) : val_main_v125 (F := Ideal) x0 x2 x3 (ix3 0 t k) = ((gradIn dp w s 2 t k : ℝ) : EReal) := by
  have h : val_main_v124 (F := Ideal) x0 x2 x3 (ix3 0 t k) = ((back (fun r => inner dp w s 2 r k / count 2 r) (len 2) t : ℝ) : EReal) := by
    rw [← suffix_sub _ _ _ t.isLt, ← Cert.Attn.suffix_sum t t.isLt fun j => inner dp w s 2 j k / count 2 j - if j + len 2 < 2048 then inner dp w s 2 (j + len 2) k / count 2 (j + len 2) else 0]
    refine window_sum 0 2047 _ _ ?_ _ _ t k (fun j => inner dp w s 2 j k / count 2 j - if j + len 2 < 2048 then inner dp w s 2 (j + len 2) k / count 2 (j + len 2) else 0) fun j => ?_
    · intro i
      pointwise [val_main_call5_call0_v0, val_main_call5_call0_cst]
    · pointwise [val_main_v123, val_main_v122, val_main_v121, val_main_v119, val_main_cst_18, shared2 hr]
      exact less_shifted (fun r => inner dp w s 2 r k / count 2 r) 8 2040 j (by norm_num)
  pointwise [val_main_v125, val_main_v116, val_main_v101, val_main_v100, inside hr, h]
  rw [← EReal.coe_neg, ← EReal.coe_add, neg_add_eq_sub]
  rfl

/-- The gradient at the means of group 3, over the length of the window. -/
theorem shared3 (hr : Reads x0 x1 x2 x3 dp x w s) (t : Fin 2048) (k : Fin 128) : val_main_v106 (F := Ideal) x0 x2 x3 (ix3 0 t k) = ((inner dp w s 3 t k / count 3 t : ℝ) : EReal) := by
  pointwise [val_main_v106, val_main_v105, val_main_v68, val_main_v67, val_main_v66, val_main_v65, val_main_v64, val_main_v63, val_main_v4, val_main_c_12, val_main_c_13, val_main_v103, val_main_v102, inside hr]
  rw [count_read 16 t (by norm_num) t.isLt]
  exact div_coe _ _ (count_ne 3 t)

/-- The gradient at the columns of group 3. -/
theorem returned3 (hr : Reads x0 x1 x2 x3 dp x w s) (t : Fin 2048) (k : Fin 128) : val_main_v113 (F := Ideal) x0 x2 x3 (ix3 0 t k) = ((gradIn dp w s 3 t k : ℝ) : EReal) := by
  have h : val_main_v112 (F := Ideal) x0 x2 x3 (ix3 0 t k) = ((back (fun r => inner dp w s 3 r k / count 3 r) (len 3) t : ℝ) : EReal) := by
    rw [← suffix_sub _ _ _ t.isLt, ← Cert.Attn.suffix_sum t t.isLt fun j => inner dp w s 3 j k / count 3 j - if j + len 3 < 2048 then inner dp w s 3 (j + len 3) k / count 3 (j + len 3) else 0]
    refine window_sum 0 2047 _ _ ?_ _ _ t k (fun j => inner dp w s 3 j k / count 3 j - if j + len 3 < 2048 then inner dp w s 3 (j + len 3) k / count 3 (j + len 3) else 0) fun j => ?_
    · intro i
      pointwise [val_main_call4_call0_v0, val_main_call4_call0_cst]
    · pointwise [val_main_v111, val_main_v110, val_main_v109, val_main_v107, val_main_cst_16, shared3 hr]
      exact less_shifted (fun r => inner dp w s 3 r k / count 3 r) 16 2032 j (by norm_num)
  pointwise [val_main_v113, val_main_v104, val_main_v103, val_main_v102, inside hr, h]
  rw [← EReal.coe_neg, ← EReal.coe_add, neg_add_eq_sub]
  rfl

/-- The first result, the gradient at the pooled columns. -/
theorem columns (hr : Reads x0 x1 x2 x3 dp x w s) (t : Fin 2048) (b : Fin 512) :
    val_main_v157 (F := Ideal) x0 x2 x3 (ix2 t b) = ((gradIn dp w s (b / 128) t (b % 128) : ℝ) : EReal) := by
  have key : ∀ (g : Fin 4) (k : Fin 128), val_main_v154 (F := Ideal) x0 x2 x3 (ix4 0 t g k) = ((gradIn dp w s g t k : ℝ) : EReal) := by
    intro g k
    fin_cases g <;> pointwise [val_main_v154, val_main_v153, val_main_v152, val_main_v141, val_main_v140, val_main_v139, val_main_v128, val_main_v127, val_main_v126, val_main_v115, val_main_v114, val_main_cst_17, val_main_cst_19, val_main_cst_21, val_main_cst_23, returned0 hr, returned1 hr, returned2 hr, returned3 hr]
  pointwise [val_main_v157, val_main_v156, val_main_v155, key]

end Cert.PoolReferenceIdeal.Grad

end
-- ==== Proof.Pool.Grid.lean ====
/- The pooling's gradient: what the kernel leaves, and that this is the plain reference's. -/
module

public import proofs.«01_k».proof.Proof.Pool.Steps
public import proofs.«01_k».proof.Proof.Pool.Reference
public import Idealize.ShloMosaic.Lib.Pipeline.ValueKit

@[expose] public section

set_option maxHeartbeats 4000000
set_option maxRecDepth 16384

noncomputable section

namespace Cert.PoolKernelIdeal.Grad

open Idealize.ShloMosaic Idealize.ShloMosaic.TcCoe Idealize.ShloMosaic.Tactic Idealize.SL.Sem
open Cert.PoolKernelIdeal Cert.PoolKernelIdeal.Gen Cert.Pool Cert.PoolReferenceIdeal.Grad

/-- The block of rows each window holds at the only grid point. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0, 0] ∧ win0_6.index t = ![0, 0] :=
  (by decide +kernel : ∀ t : Fin grid0.N, _)

section Blocks

variable (m : (ℓ : Loc nD τ sig) → Buf (Elt Ideal) ℓ) (c : Dev nD)

theorem read0 (t : Fin 2048) (b : Fin 512) : V m c main_v0 (ix2 t b) = m ((c : Thread nD τ).loc main_arg0) (ix3 0 t b) := by
  simp only [V, hostOps0]; entry_read; pointwise
theorem read1 (t : Fin 2048) (b : Fin 4096) : V m c main_v1 (ix2 t b) = m ((c : Thread nD τ).loc main_arg1) (ix3 0 t b) := by
  simp only [V, hostOps0]; entry_read; pointwise
theorem read2 (g : Fin 4) (k l : Fin 128) : V m c main_v2 (ix3 g k l) = m ((c : Thread nD τ).loc main_arg2) (ix4 0 g k l) := by
  simp only [V, hostOps0]; entry_read; pointwise
theorem read3 (b : Fin 512) : V m c main_arg3 (ix2 0 b) = m ((c : Thread nD τ).loc main_arg3) (ix2 0 b) := by
  simp only [V, hostOps0]; entry_read; rfl

theorem blk0 (t : Fin cfg0.N) (r : Fin 2048) (l : Fin 512) : iblk m c 0 t (ix2 r l) = m ((c : Thread nD τ).loc main_arg0) (ix3 0 r l) := by
  blk_simp [iblk]; rw [← read0 m c]; blk_ext [idx t]
theorem blk1 (t : Fin cfg0.N) (r : Fin 2048) (l : Fin 512) : iblk m c 1 t (ix2 r l) = m ((c : Thread nD τ).loc main_arg1) (ix3 0 r (⟨l.val, by omega⟩ : Fin 4096)) := by
  blk_simp [iblk]; rw [← read1 m c]; blk_ext [idx t]
theorem blk2 (t : Fin cfg0.N) (g : Fin 4) (k l : Fin 128) : iblk m c 2 t (ix3 g k l) = m ((c : Thread nD τ).loc main_arg2) (ix4 0 g k l) := by
  blk_simp [iblk]; rw [← read2 m c]; blk_ext [idx t]
theorem blk3 (t : Fin cfg0.N) (l : Fin 512) : iblk m c 3 t (ix2 0 l) = m ((c : Thread nD τ).loc main_arg3) (ix2 0 l) := by
  blk_simp [iblk]; rw [← read3 m c]; blk_ext [idx t]

end Blocks

variable {m : (ℓ : Loc nD τ sig) → Buf (Elt Ideal) ℓ} {c : Dev nD} {dp x : ℕ → ℕ → ℝ} {w : ℕ → ℕ → ℕ → ℝ} {s : ℕ → ℝ}

variable (m c dp x w s) in
/-- The arguments of the program are the reals `dp`, `x`, `w` and `s`. -/
abbrev Args : Prop := Reads (m ((c : Thread nD τ).loc main_arg0)) (m ((c : Thread nD τ).loc main_arg1)) (m ((c : Thread nD τ).loc main_arg2))
  (m ((c : Thread nD τ).loc main_arg3)) dp x w s

/-- The blocks of group 0. -/
theorem parts0 (hr : Args m c dp x w s) (t : Fin cfg0.N) :
    Parts 0 (View.ld (iblk m c 1 t) r0_0) (View.ld (iblk m c 0 t) r0_0) (View.ld (iblk m c 2 t) r0_1) (View.ld (iblk m c 3 t) r0_2) dp x w s where
  x := fun r k => by
    pointwise [blk1]
    have e := hr.x r ⟨k, by omega⟩
    simpa only [Nat.mul_zero, Nat.zero_add] using e
  dp := fun r k => by pointwise [blk0, hr.dp]
  w := fun k l => by pointwise [blk2, hr.w]
  s := fun l => by pointwise [blk3, hr.s]

/-- The blocks of group 1. -/
theorem parts1 (hr : Args m c dp x w s) (t : Fin cfg0.N) :
    Parts 1 (View.ld (iblk m c 1 t) r0_3) (View.ld (iblk m c 0 t) r0_3) (View.ld (iblk m c 2 t) r0_4) (View.ld (iblk m c 3 t) r0_5) dp x w s where
  x := fun r k => by
    pointwise [blk1]
    exact hr.x r ⟨128 * 1 + k, by omega⟩
  dp := fun r k => by pointwise [blk0, hr.dp]
  w := fun k l => by pointwise [blk2, hr.w]
  s := fun l => by pointwise [blk3, hr.s]

/-- The blocks of group 2. -/
theorem parts2 (hr : Args m c dp x w s) (t : Fin cfg0.N) :
    Parts 2 (View.ld (iblk m c 1 t) r0_6) (View.ld (iblk m c 0 t) r0_6) (View.ld (iblk m c 2 t) r0_7) (View.ld (iblk m c 3 t) r0_8) dp x w s where
  x := fun r k => by
    pointwise [blk1]
    exact hr.x r ⟨128 * 2 + k, by omega⟩
  dp := fun r k => by pointwise [blk0, hr.dp]
  w := fun k l => by pointwise [blk2, hr.w]
  s := fun l => by pointwise [blk3, hr.s]

/-- The blocks of group 3. -/
theorem parts3 (hr : Args m c dp x w s) (t : Fin cfg0.N) :
    Parts 3 (View.ld (iblk m c 1 t) r0_9) (View.ld (iblk m c 0 t) r0_9) (View.ld (iblk m c 2 t) r0_10) (View.ld (iblk m c 3 t) r0_11) dp x w s where
  x := fun r k => by
    pointwise [blk1]
    exact hr.x r ⟨128 * 3 + k, by omega⟩
  dp := fun r k => by pointwise [blk0, hr.dp]
  w := fun k l => by pointwise [blk2, hr.w]
  s := fun l => by pointwise [blk3, hr.s]

/-- An entry of the reference's first result, its column given by group and place. -/
theorem column_of (hr : Args m c dp x w s) (g : ℕ) (t : Fin 2048) (k : Fin 128) (b : Fin 512) (hb : (b : ℕ) = 128 * g + k) :
    Cert.PoolReferenceIdeal.Read.val_main_v157 (F := Ideal) (m ((c : Thread nD τ).loc main_arg0)) (m ((c : Thread nD τ).loc main_arg2)) (m ((c : Thread nD τ).loc main_arg3)) (ix2 t b)
      = ((gradIn dp w s g t k : ℝ) : EReal) := by
  rw [columns hr, show (b : ℕ) / 128 = g by omega, show (b : ℕ) % 128 = k by omega]

/-- An entry of the reference's third result, its column given by group and place. -/
theorem scale_of (hr : Args m c dp x w s) (g : ℕ) (k : Fin 128) (b : Fin 512) (hb : (b : ℕ) = 128 * g + k) :
    Cert.PoolReferenceIdeal.Read.val_main_v158 (F := Ideal) (m ((c : Thread nD τ).loc main_arg0)) (m ((c : Thread nD τ).loc main_arg1)) (m ((c : Thread nD τ).loc main_arg2)) (ix2 0 b)
      = ((gradScale dp x w g k : ℝ) : EReal) := by
  rw [scale hr, show (b : ℕ) / 128 = g by omega, show (b : ℕ) % 128 = k by omega]

/-- The first result, the gradient at the columns, is the reference's. -/
theorem columns_eq (hr : Args m c dp x w s) : (dats m 0 c).arrAt 4 (cfgs 0).N
    = Cert.PoolReferenceIdeal.Read.val_main_v157 (F := Ideal) (m ((c : Thread nD τ).loc main_arg0)) (m ((c : Thread nD τ).loc main_arg2)) (m ((c : Thread nD τ).loc main_arg3)) := by
  refine (dats m 0 c).arrAt_eq_of_covers 4 _ (by decide +kernel) fun t hf y => ?_
  blk_simp
  rw [after0_4]
  frame_out
  canon_tiles z h
  all_goals obtain ⟨r, k, rfl⟩ : ∃ (r : Fin 2048) (k : Fin 128), z = ix2 r k := ⟨z 0, z 1, by funext a; fin_cases a <;> rfl⟩
  · exact (congrFun (give3 (View.ld (iblk m c 0 t) r0_9) (View.ld (iblk m c 2 t) r0_10) (View.ld (iblk m c 3 t) r0_11)) _).trans ((give_read (by norm_num) (parts3 hr t) r k).trans
      ((column_of hr 3 r k ⟨128 * 3 + k, by omega⟩ rfl).symm.trans (by blk_ext [idx t, h0, h1])))
  · exact (congrFun (give2 (View.ld (iblk m c 0 t) r0_6) (View.ld (iblk m c 2 t) r0_7) (View.ld (iblk m c 3 t) r0_8)) _).trans ((give_read (by norm_num) (parts2 hr t) r k).trans
      ((column_of hr 2 r k ⟨128 * 2 + k, by omega⟩ rfl).symm.trans (by blk_ext [idx t, h0, h1])))
  · exact (congrFun (give1 (View.ld (iblk m c 0 t) r0_3) (View.ld (iblk m c 2 t) r0_4) (View.ld (iblk m c 3 t) r0_5)) _).trans ((give_read (by norm_num) (parts1 hr t) r k).trans
      ((column_of hr 1 r k ⟨128 * 1 + k, by omega⟩ rfl).symm.trans (by blk_ext [idx t, h0, h1])))
  · exact (congrFun (give0 (View.ld (iblk m c 0 t) r0_0) (View.ld (iblk m c 2 t) r0_1) (View.ld (iblk m c 3 t) r0_2)) _).trans ((give_read (by norm_num) (parts0 hr t) r k).trans
      ((column_of hr 0 r k ⟨128 * 0 + k, by omega⟩ rfl).symm.trans (by blk_ext [idx t, h0, h1])))

/-- The second result, the gradient at the maps, is the reference's. -/
theorem map_eq (hr : Args m c dp x w s) : (dats m 0 c).arrAt 5 (cfgs 0).N
    = Cert.PoolReferenceIdeal.Read.val_main_v95 (F := Ideal) (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp
  rw [after0_5]
  frame_out
  canon_tiles z h
  all_goals obtain ⟨k, l, rfl⟩ : ∃ (k l : Fin 128), z = ix3 0 k l := ⟨z 1, z 2, by funext a; fin_cases a <;> first | rfl | exact Subsingleton.elim (α := Fin 1) _ _⟩
  · exact (map_read (parts3 hr t) (cent_part (by norm_num) (parts3 hr t)) k l).trans ((map hr 3 k l).symm.trans (by blk_ext [idx t, h0, h1, h2]))
  · exact (map_read (parts2 hr t) (cent_part (by norm_num) (parts2 hr t)) k l).trans ((map hr 2 k l).symm.trans (by blk_ext [idx t, h0, h1, h2]))
  · exact (map_read (parts1 hr t) (cent_part (by norm_num) (parts1 hr t)) k l).trans ((map hr 1 k l).symm.trans (by blk_ext [idx t, h0, h1, h2]))
  · exact (map_read (parts0 hr t) (cent_part (by norm_num) (parts0 hr t)) k l).trans ((map hr 0 k l).symm.trans (by blk_ext [idx t, h0, h1, h2]))

/-- The third result, the gradient at the scales, is the reference's. -/
theorem scale_eq (hr : Args m c dp x w s) : (dats m 0 c).arrAt 6 (cfgs 0).N
    = Cert.PoolReferenceIdeal.Read.val_main_v158 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  canon_tiles z h
  all_goals obtain ⟨k, rfl⟩ : ∃ (k : Fin 128), z = ix2 0 k := ⟨z 1, by funext a; fin_cases a <;> first | rfl | exact Subsingleton.elim (α := Fin 1) _ _⟩
  · exact (scale_read (parts3 hr t) (cent_part (by norm_num) (parts3 hr t)) k).trans
      ((scale_of hr 3 k ⟨128 * 3 + k, by omega⟩ rfl).symm.trans (by blk_ext [idx t, h0, h1]))
  · exact (scale_read (parts2 hr t) (cent_part (by norm_num) (parts2 hr t)) k).trans
      ((scale_of hr 2 k ⟨128 * 2 + k, by omega⟩ rfl).symm.trans (by blk_ext [idx t, h0, h1]))
  · exact (scale_read (parts1 hr t) (cent_part (by norm_num) (parts1 hr t)) k).trans
      ((scale_of hr 1 k ⟨128 * 1 + k, by omega⟩ rfl).symm.trans (by blk_ext [idx t, h0, h1]))
  · exact (scale_read (parts0 hr t) (cent_part (by norm_num) (parts0 hr t)) k).trans
      ((scale_of hr 0 k ⟨128 * 0 + k, by omega⟩ rfl).symm.trans (by blk_ext [idx t, h0, h1]))

end Cert.PoolKernelIdeal.Grad

end
-- ==== Proof.Pool.Claim.lean ====
/- The claims about the gradient of the causal pooling: it runs and keeps its arguments at both instances, the plain reference
   runs, and in exact arithmetic the two give the same three results. -/
module

public import proofs.«01_k».proof.Defs
public import proofs.«01_k».proof.Proof.Gen.PoolKernel.Frame
public import proofs.«01_k».proof.Proof.Gen.PoolKernelIdeal.Value
public import proofs.«01_k».proof.Proof.Gen.PoolReferenceIdeal.Run
public import proofs.«01_k».proof.Proof.Gen.PoolReferenceIdeal.Read
public import proofs.«01_k».proof.Proof.Gen.Pre_finite_pool
public import proofs.«01_k».proof.Proof.Pool.Grid
public import proofs.«01_k».proof.Proof.Norm.Real
public import proofs.«01_k».proof.Proof.Attn.Finite
public import Idealize.ShloMosaic.Lib.Claim
public import Idealize.ShloMosaic.Lib.Quiescent

@[expose] public section

set_option maxRecDepth 16384

noncomputable section

namespace Cert.Pool

open Idealize.ShloMosaic Idealize.ShloMosaic.TcCoe Idealize.SL.Sem

local instance : Cert.PoolKernel.Facts := Cert.PoolKernel.Gen.facts
local instance : Cert.PoolKernelIdeal.Facts := Cert.PoolKernelIdeal.Gen.facts
local instance : Cert.PoolReferenceIdeal.Facts := Cert.PoolReferenceIdeal.Gen.facts
local instance : Cert.Pre_finite_pool.Facts := Cert.Pre_finite_pool.Gen.facts

/-- The kernel on machine floats runs, keeps its arguments and leaves every counter at zero. -/
theorem frame_kernel : Cert.quiescent_PoolKernel := fun m ρ _ => Cert.PoolKernel.Gen.frame m ρ

/-- The same at exact arithmetic. -/
theorem frame_ideal : Cert.quiescent_PoolKernelIdeal := fun m ρ _ => Cert.PoolKernelIdeal.Gen.frame m ρ

/-- In particular from finite arguments. -/
theorem frame_ideal_finite : Cert.quiescent_PoolKernelIdeal_pre_finite_pool := fun m ρ _ => Cert.PoolKernelIdeal.Gen.frame m ρ

/-- The reference runs and keeps its arguments. -/
theorem frame_reference : Cert.quiescent_PoolReferenceIdeal := by
  intro m g _
  hlo_run
  · simp
  · exact sem_eq_zero_of_no_sems (sig := Cert.PoolReferenceIdeal.sig) rfl _

/-- In particular from finite arguments. -/
theorem frame_reference_finite : Cert.quiescent_PoolReferenceIdeal_pre_finite_pool := fun m g _ => frame_reference m g trivial

/-- The two programs differ in nothing but the arithmetic they are read at. -/
theorem same_program : Cert.preserves_PoolKernel_PoolKernelIdeal := trivial

/-- Finite arguments are read as real numbers. -/
theorem reals {m : (ℓ : Loc Cert.PoolKernelIdeal.nD Cert.PoolKernelIdeal.τ Cert.PoolKernelIdeal.sig) → Buf (Elt Ideal) ℓ}
    (hp : Cert.Pre_PoolKernelIdeal_finite_pool m) (c : Dev Cert.PoolKernelIdeal.nD) :
    ∃ (dp x : ℕ → ℕ → ℝ) (w : ℕ → ℕ → ℕ → ℝ) (s : ℕ → ℝ), Cert.PoolKernelIdeal.Grad.Args m c dp x w s := by
  obtain ⟨h0, h1, h2, h3⟩ := hp c
  have D : ∀ (t : Fin 2048) (a : Fin 512), ∃ r : ℝ, m ((c.tc : Thread Cert.PoolKernelIdeal.nD Cert.PoolKernelIdeal.τ).loc Cert.PoolKernelIdeal.main_arg0) (ix3 0 t a) = (r : EReal) := by
    intro t a
    have h := congrFun h0 (ix3 0 t a)
    unfold Cert.Pre_finite_pool.fn at h
    pointwise at h
    exact Cert.Finite.real_of_below h
  have X : ∀ (t : Fin 2048) (a : Fin 512), ∃ r : ℝ, m ((c.tc : Thread Cert.PoolKernelIdeal.nD Cert.PoolKernelIdeal.τ).loc Cert.PoolKernelIdeal.main_arg1) (ix3 0 t (⟨a.val, by omega⟩ : Fin 4096)) = (r : EReal) := by
    intro t a
    have h := congrFun h1 (ix3 0 t a)
    unfold Cert.Pre_finite_pool.fn at h
    pointwise at h
    exact Cert.Finite.real_of_below h
  have W : ∀ (g : Fin 4) (k : Fin 128) (l : Fin 128), ∃ r : ℝ, m ((c.tc : Thread Cert.PoolKernelIdeal.nD Cert.PoolKernelIdeal.τ).loc Cert.PoolKernelIdeal.main_arg2) (ix4 0 g k l) = (r : EReal) := by
    intro g k l
    have h := congrFun h2 (ix4 0 g k l)
    unfold Cert.Pre_finite_pool.fn at h
    pointwise at h
    exact Cert.Finite.real_of_below h
  have S : ∀ (a : Fin 512), ∃ r : ℝ, m ((c.tc : Thread Cert.PoolKernelIdeal.nD Cert.PoolKernelIdeal.τ).loc Cert.PoolKernelIdeal.main_arg3) (ix2 0 a) = (r : EReal) := by
    intro a
    have h := congrFun h3 (ix2 0 a)
    unfold Cert.Pre_finite_pool.fn at h
    pointwise at h
    exact Cert.Finite.real_of_below h
  obtain ⟨dp, dh⟩ := Cert.Norm.table_of _ D
  obtain ⟨x, xh⟩ := Cert.Norm.table_of _ X
  choose w wh using W
  obtain ⟨s, sh⟩ := Cert.Norm.row_of _ S
  refine ⟨dp, x, fun g k l => if h : g < 4 ∧ k < 128 ∧ l < 128 then w ⟨g, h.1⟩ ⟨k, h.2.1⟩ ⟨l, h.2.2⟩ else 0, s, dh, xh, fun g k l => ?_, sh⟩
  rw [dif_pos ⟨g.isLt, k.isLt, l.isLt⟩]
  exact wh g k l

/-- In exact arithmetic, from finite arguments, the kernel's results are the reference's. -/
theorem equal : Cert.algebraic_PoolKernelIdeal_PoolReferenceIdeal_pre_finite_pool := by
  pair_intro
  · run_from Cert.PoolKernelIdeal.Value.run_blocks m g
  · run_from Cert.PoolReferenceIdeal.Value.run m' g' <;> obtain ⟨a0, a1, a2, a3⟩ := hagree c <;> obtain ⟨dp, x, w, s, hr⟩ := reals ‹_› c <;>
      try simp only [a0, a1, a2, a3]
    · refine Eq.trans ?_ (Cert.PoolKernelIdeal.Grad.columns_eq hr).symm
      simp only [← a0, ← a1, ← a2, ← a3]
      exact Cert.PoolReferenceIdeal.Read.val_main_v157_eq _
    · refine Eq.trans ?_ (Cert.PoolKernelIdeal.Grad.map_eq hr).symm
      simp only [← a0, ← a1, ← a2, ← a3]
      exact Cert.PoolReferenceIdeal.Read.val_main_v95_eq _
    · refine Eq.trans ?_ (Cert.PoolKernelIdeal.Grad.scale_eq hr).symm
      simp only [← a0, ← a1, ← a2, ← a3]
      exact Cert.PoolReferenceIdeal.Read.val_main_v158_eq _

end Cert.Pool

end
-- ==== Proof.Poolfwd.Reference.lean ====
/- The plain reference of causal pooling, read one element at a time. -/
module

public import proofs.«01_k».proof.Proof.Gen.PoolfwdReferenceIdeal.Read
public import proofs.«01_k».proof.Proof.Pool.Reference

@[expose] public section

set_option maxRecDepth 16384

noncomputable section

namespace Cert.PoolfwdReferenceIdeal.Centre

open Idealize.ShloMosaic Idealize.ShloMosaic.TcCoe Idealize.SL.Sem
open Cert.PoolfwdReferenceIdeal Cert.PoolfwdReferenceIdeal.Gen Cert.PoolfwdReferenceIdeal.Read Cert.Pool

/-- The pooled columns are the reals `x`. -/
def Reads (x0 : FVec Ideal S1x2048x4096 .f32) (x : ℕ → ℕ → ℝ) : Prop :=
  ∀ (t : Fin 2048) (b : Fin 512), x0 (ix3 0 t (⟨b.val, by omega⟩ : Fin 4096)) = ((x t b : ℝ) : EReal)

variable {x0 : FVec Ideal S1x2048x4096 .f32} {x : ℕ → ℕ → ℝ}

/-- The columns of group 0. -/
theorem column0 (hr : Reads x0 x) (t : Fin 2048) (k : Fin 128) : val_main_v6 (F := Ideal) x0 (ix3 0 t k) = ((x t (128 * 0 + k) : ℝ) : EReal) := by
  pointwise [val_main_v6, val_main_v5, val_main_v3, val_main_v0]
  have e := hr t ⟨k, by omega⟩
  simpa only [Nat.mul_zero, Nat.zero_add] using e

/-- The running sums of group 0. -/
theorem running0 (hr : Reads x0 x) (t : Fin 2048) (k : Fin 128) :
    val_main_v7 (F := Ideal) x0 (ix3 0 t k) = ((∑ j ∈ Finset.range (t + 1), x j (128 * 0 + k) : ℝ) : EReal) := by
  rw [← Cert.Attn.prefix_sum t t.isLt fun j => x j (128 * 0 + k)]
  refine Cert.PoolReferenceIdeal.Grad.window_sum 2047 0 _ _ ?_ _ _ t k (fun j => x j (128 * 0 + k)) fun j => column0 hr j k
  intro i
  pointwise [val_main_call0_call0_v0, val_main_call0_call0_cst]

/-- The centred columns of group 0. -/
theorem centred0 (hr : Reads x0 x) (t : Fin 2048) (k : Fin 128) : val_main_v20 (F := Ideal) x0 (ix3 0 t k) = ((centred x 0 t k : ℝ) : EReal) := by
  pointwise [val_main_v20, val_main_v19, val_main_v18, val_main_v17, val_main_v16, val_main_v15, val_main_v14, val_main_v13, val_main_v12, val_main_v11, val_main_v10, val_main_v9, val_main_v8, val_main_c, val_main_c_0, val_main_cst, val_main_v4, column0 hr, running0 hr]
  refine Eq.trans ?_ (mean_less (fun j => x j (128 * 0 + k)) 2 t (by norm_num) (by norm_num) t.isLt (x t (128 * 0 + k)))
  simp only [Nat.mul_zero, Nat.zero_add]

/-- The columns of group 1. -/
theorem column1 (hr : Reads x0 x) (t : Fin 2048) (k : Fin 128) : val_main_v22 (F := Ideal) x0 (ix3 0 t k) = ((x t (128 * 1 + k) : ℝ) : EReal) := by
  pointwise [val_main_v22, val_main_v21, val_main_v3, val_main_v0]
  exact hr t ⟨128 * 1 + k, by omega⟩

/-- The running sums of group 1. -/
theorem running1 (hr : Reads x0 x) (t : Fin 2048) (k : Fin 128) :
    val_main_v23 (F := Ideal) x0 (ix3 0 t k) = ((∑ j ∈ Finset.range (t + 1), x j (128 * 1 + k) : ℝ) : EReal) := by
  rw [← Cert.Attn.prefix_sum t t.isLt fun j => x j (128 * 1 + k)]
  refine Cert.PoolReferenceIdeal.Grad.window_sum 2047 0 _ _ ?_ _ _ t k (fun j => x j (128 * 1 + k)) fun j => column1 hr j k
  intro i
  pointwise [val_main_call1_call0_v0, val_main_call1_call0_cst]

/-- The centred columns of group 1. -/
theorem centred1 (hr : Reads x0 x) (t : Fin 2048) (k : Fin 128) : val_main_v36 (F := Ideal) x0 (ix3 0 t k) = ((centred x 1 t k : ℝ) : EReal) := by
  pointwise [val_main_v36, val_main_v35, val_main_v34, val_main_v33, val_main_v32, val_main_v31, val_main_v30, val_main_v29, val_main_v28, val_main_v27, val_main_v26, val_main_v25, val_main_v24, val_main_c_2, val_main_c_3, val_main_cst_1, val_main_v4, column1 hr, running1 hr]
  exact mean_less (fun j => x j (128 * 1 + k)) 4 t (by norm_num) (by norm_num) t.isLt (x t (128 * 1 + k))

/-- The columns of group 2. -/
theorem column2 (hr : Reads x0 x) (t : Fin 2048) (k : Fin 128) : val_main_v38 (F := Ideal) x0 (ix3 0 t k) = ((x t (128 * 2 + k) : ℝ) : EReal) := by
  pointwise [val_main_v38, val_main_v37, val_main_v3, val_main_v0]
  exact hr t ⟨128 * 2 + k, by omega⟩

/-- The running sums of group 2. -/
theorem running2 (hr : Reads x0 x) (t : Fin 2048) (k : Fin 128) :
    val_main_v39 (F := Ideal) x0 (ix3 0 t k) = ((∑ j ∈ Finset.range (t + 1), x j (128 * 2 + k) : ℝ) : EReal) := by
  rw [← Cert.Attn.prefix_sum t t.isLt fun j => x j (128 * 2 + k)]
  refine Cert.PoolReferenceIdeal.Grad.window_sum 2047 0 _ _ ?_ _ _ t k (fun j => x j (128 * 2 + k)) fun j => column2 hr j k
  intro i
  pointwise [val_main_call2_call0_v0, val_main_call2_call0_cst]

/-- The centred columns of group 2. -/
theorem centred2 (hr : Reads x0 x) (t : Fin 2048) (k : Fin 128) : val_main_v52 (F := Ideal) x0 (ix3 0 t k) = ((centred x 2 t k : ℝ) : EReal) := by
  pointwise [val_main_v52, val_main_v51, val_main_v50, val_main_v49, val_main_v48, val_main_v47, val_main_v46, val_main_v45, val_main_v44, val_main_v43, val_main_v42, val_main_v41, val_main_v40, val_main_c_5, val_main_c_6, val_main_cst_4, val_main_v4, column2 hr, running2 hr]
  exact mean_less (fun j => x j (128 * 2 + k)) 8 t (by norm_num) (by norm_num) t.isLt (x t (128 * 2 + k))

/-- The columns of group 3. -/
theorem column3 (hr : Reads x0 x) (t : Fin 2048) (k : Fin 128) : val_main_v54 (F := Ideal) x0 (ix3 0 t k) = ((x t (128 * 3 + k) : ℝ) : EReal) := by
  pointwise [val_main_v54, val_main_v53, val_main_v3, val_main_v0]
  exact hr t ⟨128 * 3 + k, by omega⟩

/-- The running sums of group 3. -/
theorem running3 (hr : Reads x0 x) (t : Fin 2048) (k : Fin 128) :
    val_main_v55 (F := Ideal) x0 (ix3 0 t k) = ((∑ j ∈ Finset.range (t + 1), x j (128 * 3 + k) : ℝ) : EReal) := by
  rw [← Cert.Attn.prefix_sum t t.isLt fun j => x j (128 * 3 + k)]
  refine Cert.PoolReferenceIdeal.Grad.window_sum 2047 0 _ _ ?_ _ _ t k (fun j => x j (128 * 3 + k)) fun j => column3 hr j k
  intro i
  pointwise [val_main_call3_call0_v0, val_main_call3_call0_cst]

/-- The centred columns of group 3. -/
theorem centred3 (hr : Reads x0 x) (t : Fin 2048) (k : Fin 128) : val_main_v68 (F := Ideal) x0 (ix3 0 t k) = ((centred x 3 t k : ℝ) : EReal) := by
  pointwise [val_main_v68, val_main_v67, val_main_v66, val_main_v65, val_main_v64, val_main_v63, val_main_v62, val_main_v61, val_main_v60, val_main_v59, val_main_v58, val_main_v57, val_main_v56, val_main_c_8, val_main_c_9, val_main_cst_7, val_main_v4, column3 hr, running3 hr]
  exact mean_less (fun j => x j (128 * 3 + k)) 16 t (by norm_num) (by norm_num) t.isLt (x t (128 * 3 + k))

/-- The centred columns of all groups. -/
theorem stacked (hr : Reads x0 x) (t : Fin 2048) (g : Fin 4) (k : Fin 128) : val_main_v73 (F := Ideal) x0 (ix4 0 t g k) = ((centred x g t k : ℝ) : EReal) := by
  fin_cases g <;> pointwise [val_main_v73, val_main_v69, val_main_v70, val_main_v71, val_main_v72, centred0 hr, centred1 hr, centred2 hr, centred3 hr]

/-- The result: the centred columns through the map of their group, times the scale. -/
theorem result (hr : Reads x0 x) (x1 : FVec Ideal S1x4x128x128 .f32) (x2 : FVec Ideal S1x512 .f32) (t : Fin 2048) (g : Fin 4) (l : Fin 128) (b : Fin 512)
    (hb : (b : ℕ) = 128 * g + l) :
    val_main_v80 (F := Ideal) x0 x1 x2 (ix2 t b) = (∑ k : Fin 128, ((centred x g t k : ℝ) : EReal) * x1 (ix4 0 g k l)) * x2 (ix2 0 b) := by
  have e2 : (⟨(b : ℕ) % 128, by omega⟩ : Fin 128) = l := Fin.ext (by show (b : ℕ) % 128 = l; omega)
  pointwise [val_main_v80, val_main_v79, val_main_v78, val_main_v77, val_main_v76, val_main_v75, val_main_v74, val_main_v1, val_main_v2, stacked hr]
  have e3 : (b : ℕ) / 128 = g := by omega
  simp only [e2, e3, mul_comm]

end Cert.PoolfwdReferenceIdeal.Centre

end
-- ==== Proof.Poolfwd.Grid.lean ====
/- Causal pooling: what the kernel leaves, and that this is the plain reference's. -/
module

public import proofs.«01_k».proof.Proof.Gen.PoolfwdKernelIdeal.Value
public import proofs.«01_k».proof.Proof.Pool.Steps
public import proofs.«01_k».proof.Proof.Poolfwd.Reference
public import Idealize.ShloMosaic.Lib.Pipeline.ValueKit

@[expose] public section

set_option maxHeartbeats 4000000
set_option maxRecDepth 16384

noncomputable section

namespace Cert.PoolfwdKernelIdeal.Centre

open Idealize.ShloMosaic Idealize.ShloMosaic.TcCoe Idealize.ShloMosaic.Tactic Idealize.SL.Sem
open Cert.PoolfwdKernelIdeal Cert.PoolfwdKernelIdeal.Gen Cert.Pool Cert.PoolfwdReferenceIdeal.Centre
open Cert.PoolKernelIdeal.Grad (rows cent cent_read Cols same)

/-- The block of rows each window holds at the only grid point. -/
theorem idx : ∀ t : Fin cfg0.N, win0_0.index t = ![0, 0] ∧ win0_1.index t = ![0, 0, 0] ∧ win0_2.index t = ![0, 0] ∧ win0_3.index t = ![0, 0] :=
  (by decide +kernel : ∀ t : Fin grid0.N, _)

/-- The centred columns of one group through its map, times its scales. -/
def through (Y : FVec Ideal S2048x128 .f32) (W : FVec Ideal S1x128x128 .f32) (S : FVec Ideal S1x128 .f32) : FVec Ideal S2048x128 .f32 :=
  mulf (matmul dot_S2048x128_S128x128_S2048x128_1_0_0_1_n_n none (truncf .bf16 Y bitsLt_bf16_f32)
      (truncf .bf16 (shapeCast S128x128 W shapeCasts_S1x128x128_S128x128) bitsLt_bf16_f32) (constant S2048x128 .f32 0x00000000#32))
    (broadcastTo S2048x128 S broadcasts_S1x128_S2048x128)

section Blocks

variable (m : (ℓ : Loc nD τ sig) → Buf (Elt Ideal) ℓ) (c : Dev nD)

theorem read0 (t : Fin 2048) (b : Fin 4096) : V m c main_v0 (ix2 t b) = m ((c : Thread nD τ).loc main_arg0) (ix3 0 t b) := by
  simp only [V, hostOps0]; entry_read; pointwise
theorem read1 (g : Fin 4) (k l : Fin 128) : V m c main_v1 (ix3 g k l) = m ((c : Thread nD τ).loc main_arg1) (ix4 0 g k l) := by
  simp only [V, hostOps0]; entry_read; pointwise
theorem read2 (b : Fin 512) : V m c main_arg2 (ix2 0 b) = m ((c : Thread nD τ).loc main_arg2) (ix2 0 b) := by
  simp only [V, hostOps0]; entry_read; rfl

theorem blk0 (t : Fin cfg0.N) (r : Fin 2048) (l : Fin 512) : iblk m c 0 t (ix2 r l) = m ((c : Thread nD τ).loc main_arg0) (ix3 0 r (⟨l.val, by omega⟩ : Fin 4096)) := by
  blk_simp [iblk]; rw [← read0 m c]; blk_ext [idx t]
theorem blk1 (t : Fin cfg0.N) (g : Fin 4) (k l : Fin 128) : iblk m c 1 t (ix3 g k l) = m ((c : Thread nD τ).loc main_arg1) (ix4 0 g k l) := by
  blk_simp [iblk]; rw [← read1 m c]; blk_ext [idx t]
theorem blk2 (t : Fin cfg0.N) (l : Fin 512) : iblk m c 2 t (ix2 0 l) = m ((c : Thread nD τ).loc main_arg2) (ix2 0 l) := by
  blk_simp [iblk]; rw [← read2 m c]; blk_ext [idx t]

end Blocks

theorem group0 (X : FVec Ideal S2048x128 .f32) (W : FVec Ideal S1x128x128 .f32) (S : FVec Ideal S1x128 .f32) : k0_pay2 (F := Ideal) X W S = through (cent 0 (shapeCast S2048x128 X shapeCasts_S2048x128_S2048x128)) W S := rfl
theorem group1 (X : FVec Ideal S2048x128 .f32) (W : FVec Ideal S1x128x128 .f32) (S : FVec Ideal S1x128 .f32) : k0_pay5 (F := Ideal) rows (k0_pay3 X) k0_pay4 1#32 W S = through (cent 1 (shapeCast S2048x128 X shapeCasts_S2048x128_S2048x128)) W S := rfl
theorem group2 (X : FVec Ideal S2048x128 .f32) (W : FVec Ideal S1x128x128 .f32) (S : FVec Ideal S1x128 .f32) : k0_pay9 (F := Ideal) rows (k0_pay6 X) (k0_pay7 rows) (k0_pay8 rows X) W S = through (cent 2 (shapeCast S2048x128 X shapeCasts_S2048x128_S2048x128)) W S := rfl
theorem group3 (X : FVec Ideal S2048x128 .f32) (W : FVec Ideal S1x128x128 .f32) (S : FVec Ideal S1x128 .f32) : k0_pay1 (F := Ideal) rows (k0_pay10 X) (k0_pay11 rows) (k0_pay12 rows X) W S = through (cent 3 (shapeCast S2048x128 X shapeCasts_S2048x128_S2048x128)) W S := rfl

theorem through_read {W : FVec Ideal S1x128x128 .f32} {S : FVec Ideal S1x128 .f32} {g : ℕ} {Y : FVec Ideal S2048x128 .f32} {x : ℕ → ℕ → ℝ} (h : Cols Y (centred x g)) (t : Fin 2048) (l : Fin 128) :
    through Y W S (ix2 t l) = (∑ k : Fin 128, ((centred x g t k : ℝ) : EReal) * W (ix3 0 k l)) * S (ix2 0 l) := by
  unfold through
  pointwise [h _ _]

variable {m : (ℓ : Loc nD τ sig) → Buf (Elt Ideal) ℓ} {c : Dev nD} {x : ℕ → ℕ → ℝ}

/-- The result is the reference's. -/
theorem result_eq (hr : Reads (m ((c : Thread nD τ).loc main_arg0)) x) : (dats m 0 c).arrAt 3 (cfgs 0).N
    = Cert.PoolfwdReferenceIdeal.Read.val_main_v80 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have c0 : Cols (View.ld (iblk m c 0 t) r0_0) fun t k => x t (128 * 0 + k) := fun r k => by
    pointwise [blk0]
    have e := hr r ⟨k, by omega⟩
    simpa only [Nat.mul_zero, Nat.zero_add] using e
  have c1 : Cols (View.ld (iblk m c 0 t) r0_3) fun t k => x t (128 * 1 + k) := fun r k => by pointwise [blk0]; exact hr r ⟨128 * 1 + k, by omega⟩
  have c2 : Cols (View.ld (iblk m c 0 t) r0_6) fun t k => x t (128 * 2 + k) := fun r k => by pointwise [blk0]; exact hr r ⟨128 * 2 + k, by omega⟩
  have c3 : Cols (View.ld (iblk m c 0 t) r0_9) fun t k => x t (128 * 3 + k) := fun r k => by pointwise [blk0]; exact hr r ⟨128 * 3 + k, by omega⟩
  blk_simp
  rw [after0_3]
  frame_out
  canon_tiles z h
  all_goals obtain ⟨r, k, rfl⟩ : ∃ (r : Fin 2048) (k : Fin 128), z = ix2 r k := ⟨z 0, z 1, by funext a; fin_cases a <;> rfl⟩
  · refine (congrFun (group3 (View.ld (iblk m c 0 t) r0_9) (View.ld (iblk m c 1 t) r0_10) (View.ld (iblk m c 2 t) r0_11)) _).trans ((through_read (cent_read 3 (by norm_num) (same c3)) r k).trans
      (Eq.trans ?_ ((result hr _ _ r 3 k ⟨128 * 3 + k, by omega⟩ rfl).symm.trans (by blk_ext [idx t, h0, h1]))))
    pointwise [blk1, blk2]
  · refine (congrFun (group2 (View.ld (iblk m c 0 t) r0_6) (View.ld (iblk m c 1 t) r0_7) (View.ld (iblk m c 2 t) r0_8)) _).trans ((through_read (cent_read 2 (by norm_num) (same c2)) r k).trans
      (Eq.trans ?_ ((result hr _ _ r 2 k ⟨128 * 2 + k, by omega⟩ rfl).symm.trans (by blk_ext [idx t, h0, h1]))))
    pointwise [blk1, blk2]
  · refine (congrFun (group1 (View.ld (iblk m c 0 t) r0_3) (View.ld (iblk m c 1 t) r0_4) (View.ld (iblk m c 2 t) r0_5)) _).trans ((through_read (cent_read 1 (by norm_num) (same c1)) r k).trans
      (Eq.trans ?_ ((result hr _ _ r 1 k ⟨128 * 1 + k, by omega⟩ rfl).symm.trans (by blk_ext [idx t, h0, h1]))))
    pointwise [blk1, blk2]
  · refine (congrFun (group0 (View.ld (iblk m c 0 t) r0_0) (View.ld (iblk m c 1 t) r0_1) (View.ld (iblk m c 2 t) r0_2)) _).trans ((through_read (cent_read 0 (by norm_num) (same c0)) r k).trans
      (Eq.trans ?_ ((result hr _ _ r 0 k ⟨128 * 0 + k, by omega⟩ rfl).symm.trans (by blk_ext [idx t, h0, h1]))))
    pointwise [blk1, blk2]

end Cert.PoolfwdKernelIdeal.Centre

end
-- ==== Proof.Poolfwd.Claim.lean ====
/- The claims about causal pooling: it runs and keeps its arguments at both instances, the plain reference runs, and in exact
   arithmetic the two give the same result. -/
module

public import proofs.«01_k».proof.Defs
public import proofs.«01_k».proof.Proof.Gen.PoolfwdKernel.Frame
public import proofs.«01_k».proof.Proof.Gen.PoolfwdKernelIdeal.Value
public import proofs.«01_k».proof.Proof.Gen.PoolfwdReferenceIdeal.Run
public import proofs.«01_k».proof.Proof.Gen.PoolfwdReferenceIdeal.Read
public import proofs.«01_k».proof.Proof.Gen.Pre_finite_poolfwd
public import proofs.«01_k».proof.Proof.Poolfwd.Grid
public import proofs.«01_k».proof.Proof.Norm.Real
public import proofs.«01_k».proof.Proof.Attn.Finite
public import Idealize.ShloMosaic.Lib.Claim
public import Idealize.ShloMosaic.Lib.Quiescent

@[expose] public section

set_option maxRecDepth 16384

noncomputable section

namespace Cert.Poolfwd

open Idealize.ShloMosaic Idealize.ShloMosaic.TcCoe Idealize.SL.Sem

local instance : Cert.PoolfwdKernel.Facts := Cert.PoolfwdKernel.Gen.facts
local instance : Cert.PoolfwdKernelIdeal.Facts := Cert.PoolfwdKernelIdeal.Gen.facts
local instance : Cert.PoolfwdReferenceIdeal.Facts := Cert.PoolfwdReferenceIdeal.Gen.facts
local instance : Cert.Pre_finite_poolfwd.Facts := Cert.Pre_finite_poolfwd.Gen.facts

/-- The kernel on machine floats runs, keeps its arguments and leaves every counter at zero. -/
theorem frame_kernel : Cert.quiescent_PoolfwdKernel := fun m ρ _ => Cert.PoolfwdKernel.Gen.frame m ρ

/-- The same at exact arithmetic. -/
theorem frame_ideal : Cert.quiescent_PoolfwdKernelIdeal := fun m ρ _ => Cert.PoolfwdKernelIdeal.Gen.frame m ρ

/-- In particular from finite arguments. -/
theorem frame_ideal_finite : Cert.quiescent_PoolfwdKernelIdeal_pre_finite_poolfwd := fun m ρ _ => Cert.PoolfwdKernelIdeal.Gen.frame m ρ

/-- The reference runs and keeps its arguments. -/
theorem frame_reference : Cert.quiescent_PoolfwdReferenceIdeal := by
  intro m g _
  hlo_run
  · simp
  · exact sem_eq_zero_of_no_sems (sig := Cert.PoolfwdReferenceIdeal.sig) rfl _

/-- In particular from finite arguments. -/
theorem frame_reference_finite : Cert.quiescent_PoolfwdReferenceIdeal_pre_finite_poolfwd := fun m g _ => frame_reference m g trivial

/-- The two programs differ in nothing but the arithmetic they are read at. -/
theorem same_program : Cert.preserves_PoolfwdKernel_PoolfwdKernelIdeal := trivial

/-- Finite pooled columns are read as real numbers. -/
theorem reals {m : (ℓ : Loc Cert.PoolfwdKernelIdeal.nD Cert.PoolfwdKernelIdeal.τ Cert.PoolfwdKernelIdeal.sig) → Buf (Elt Ideal) ℓ}
    (hp : Cert.Pre_PoolfwdKernelIdeal_finite_poolfwd m) (c : Dev Cert.PoolfwdKernelIdeal.nD) :
    ∃ x : ℕ → ℕ → ℝ, Cert.PoolfwdReferenceIdeal.Centre.Reads (m ((c.tc : Thread Cert.PoolfwdKernelIdeal.nD Cert.PoolfwdKernelIdeal.τ).loc Cert.PoolfwdKernelIdeal.main_arg0)) x := by
  have h0 := hp c
  have X : ∀ (t : Fin 2048) (a : Fin 512), ∃ r : ℝ, m ((c.tc : Thread Cert.PoolfwdKernelIdeal.nD Cert.PoolfwdKernelIdeal.τ).loc Cert.PoolfwdKernelIdeal.main_arg0) (ix3 0 t (⟨a.val, by omega⟩ : Fin 4096)) = (r : EReal) := by
    intro t a
    have h := congrFun h0 (ix3 0 t a)
    unfold Cert.Pre_finite_poolfwd.fn at h
    pointwise at h
    exact Cert.Finite.real_of_below h
  obtain ⟨x, xh⟩ := Cert.Norm.table_of _ X
  exact ⟨x, xh⟩

/-- In exact arithmetic the kernel's results are the reference's. -/
theorem equal : Cert.algebraic_PoolfwdKernelIdeal_PoolfwdReferenceIdeal_pre_finite_poolfwd := by
  pair_intro
  · run_from Cert.PoolfwdKernelIdeal.Value.run_blocks m g
  · run_from Cert.PoolfwdReferenceIdeal.Value.run m' g' <;> obtain ⟨a0, a1, a2⟩ := hagree c <;> obtain ⟨x, hr⟩ := reals ‹_› c <;>
      try simp only [a0, a1, a2]
    · refine Eq.trans ?_ (Cert.PoolfwdKernelIdeal.Centre.result_eq hr).symm
      simp only [← a0, ← a1, ← a2]
      exact Cert.PoolfwdReferenceIdeal.Read.val_main_v80_eq _ _

end Cert.Poolfwd

end
-- ==== Proof.Mixfwd.Grid.lean ====
/- The mixing of the two branches: what each block of 512 rows reads, and that the two results are the plain reference's. -/
module

public import proofs.«01_k».proof.Proof.Gen.MixfwdKernelIdeal.Value
public import proofs.«01_k».proof.Proof.Gen.MixfwdReferenceIdeal.Read
public import Idealize.ShloMosaic.Lib.Pipeline.ValueKit
public import Idealize.ShloMosaic.Lib.Pointwise
public import Idealize.ShloMosaic.Lib.Claim

@[expose] public section

set_option maxHeartbeats 4000000
set_option maxRecDepth 16384

noncomputable section

namespace Cert.MixfwdKernelIdeal.Blend

open Idealize.ShloMosaic Idealize.ShloMosaic.TcCoe Idealize.SL.Sem
open Idealize.ShloMosaic.Pipeline (Dat)
open Cert.MixfwdKernelIdeal Cert.MixfwdKernelIdeal.Gen

variable (m : (ℓ : Loc nD τ sig) → Buf (Elt Ideal) ℓ) (c : Dev nD)

/-- The block of each window at each grid point: the rows move, the weights stay. -/
theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- Row `a` of the 512 rows of grid point `t`. -/
def place (t : Fin cfg0.N) (a : Fin 512) : Fin 2048 := ⟨512 * t.val + a.val, by have := lt_of_lt_of_eq t.isLt N_0; omega⟩

theorem place_val (t : Fin cfg0.N) (a : Fin 512) : (place t a : ℕ) = 512 * t.val + a.val := rfl

theorem read0 (a : Fin 2048) (b : Fin 1024) : V m c main_v0 (ix2 a b) = m ((c : Thread nD τ).loc main_arg0) (ix3 0 a b) := by
  simp only [V, hostOps0]; entry_read; pointwise
theorem read1 (a : Fin 2048) (b : Fin 512) : V m c main_v1 (ix2 a b) = m ((c : Thread nD τ).loc main_arg1) (ix3 0 a b) := by
  simp only [V, hostOps0]; entry_read; pointwise
theorem read2 (a : Fin 2048) (b : Fin 512) : V m c main_v2 (ix2 a b) = m ((c : Thread nD τ).loc main_arg2) (ix3 0 a b) := by
  simp only [V, hostOps0]; entry_read; pointwise
theorem read3 (a : Fin 2048) (b : Fin 4096) : V m c main_v3 (ix2 a b) = m ((c : Thread nD τ).loc main_arg3) (ix3 0 a b) := by
  simp only [V, hostOps0]; entry_read; pointwise
theorem read4 (a : Fin 1024) (b : Fin 512) : V m c main_v6 (ix2 a b) = m ((c : Thread nD τ).loc main_arg4) (ix3 0 b a) := by
  simp only [V, hostOps0]; entry_read; pointwise
theorem read5 (a : Fin 1024) (b : Fin 512) : V m c main_v9 (ix2 a b) = m ((c : Thread nD τ).loc main_arg5) (ix3 0 b a) := by
  simp only [V, hostOps0]; entry_read; pointwise
theorem read6 (a : Fin 1024) (b : Fin 1024) : V m c main_v11 (ix2 a b) = m ((c : Thread nD τ).loc main_arg6) (ix3 0 a b) := by
  simp only [V, hostOps0]; entry_read; pointwise

theorem blk0 (t : Fin cfg0.N) (a : Fin 512) (b : Fin 1024) : iblk m c 0 t (ix2 a b) = m ((c : Thread nD τ).loc main_arg0) (ix3 0 (place t a) b) := by
  blk_simp [iblk]; rw [← read0 m c]; blk_ext [idx t, place_val]
theorem blk1 (t : Fin cfg0.N) (a : Fin 512) (b : Fin 512) : iblk m c 1 t (ix2 a b) = m ((c : Thread nD τ).loc main_arg1) (ix3 0 (place t a) b) := by
  blk_simp [iblk]; rw [← read1 m c]; blk_ext [idx t, place_val]
theorem blk2 (t : Fin cfg0.N) (a : Fin 512) (b : Fin 512) : iblk m c 2 t (ix2 a b) = m ((c : Thread nD τ).loc main_arg2) (ix3 0 (place t a) b) := by
  blk_simp [iblk]; rw [← read2 m c]; blk_ext [idx t, place_val]
theorem blk3 (t : Fin cfg0.N) (a : Fin 512) (b : Fin 1024) : iblk m c 3 t (ix2 a b) = m ((c : Thread nD τ).loc main_arg3) (ix3 0 (place t a) (⟨2048 + b.val, by omega⟩ : Fin 4096)) := by
  blk_simp [iblk]; rw [← read3 m c]; blk_ext [idx t, place_val]
theorem blk4 (t : Fin cfg0.N) (a : Fin 512) (b : Fin 1024) : iblk m c 4 t (ix2 a b) = m ((c : Thread nD τ).loc main_arg3) (ix3 0 (place t a) (⟨3072 + b.val, by omega⟩ : Fin 4096)) := by
  blk_simp [iblk]; rw [← read3 m c]; blk_ext [idx t, place_val]
theorem blk5 (t : Fin cfg0.N) (a : Fin 1024) (b : Fin 512) : iblk m c 5 t (ix2 a b) = m ((c : Thread nD τ).loc main_arg4) (ix3 0 b a) := by
  blk_simp [iblk]; rw [← read4 m c]; blk_ext [idx t, place_val]
theorem blk6 (t : Fin cfg0.N) (a : Fin 1024) (b : Fin 512) : iblk m c 6 t (ix2 a b) = m ((c : Thread nD τ).loc main_arg5) (ix3 0 b a) := by
  blk_simp [iblk]; rw [← read5 m c]; blk_ext [idx t, place_val]
theorem blk7 (t : Fin cfg0.N) (a : Fin 1024) (b : Fin 1024) : iblk m c 7 t (ix2 a b) = m ((c : Thread nD τ).loc main_arg6) (ix3 0 a b) := by
  blk_simp [iblk]; rw [← read6 m c]; blk_ext [idx t, place_val]

open Cert.MixfwdReferenceIdeal.Read in
/-- The residual row plus the mixed branches through the output weights. -/
theorem mixed : (dats m 0 c).arrAt 8 (cfgs 0).N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  frame_out
  canon_tiles x h
  all_goals
    open_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, Ideal.logistic, blk0, blk1, blk2, blk3, blk4, blk5, blk6, blk7]
    blk_simp [idx t]
    pointwise [h0, h1]
    blk_point [idx t, place_val]

open Cert.MixfwdReferenceIdeal.Read in
/-- The mixed branches themselves, kept for the backward step. -/
theorem kept : (dats m 0 c).arrAt 9 (cfgs 0).N = val_main_v21 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  frame_out
  canon_tiles x h
  all_goals
    open_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, Ideal.logistic, blk0, blk1, blk2, blk3, blk4, blk5, blk6, blk7]
    blk_simp [idx t]
    pointwise [h0, h1]
    blk_point [idx t, place_val]

end Cert.MixfwdKernelIdeal.Blend

end
-- ==== Proof.Mixfwd.Claim.lean ====
/- The claims about the mixing of the branches: it runs and keeps its arguments at both instances, the plain reference runs, and in
   exact arithmetic the two give the same two results. -/
module

public import proofs.«01_k».proof.Defs
public import proofs.«01_k».proof.Proof.Gen.MixfwdKernel.Frame
public import proofs.«01_k».proof.Proof.Gen.MixfwdKernelIdeal.Value
public import proofs.«01_k».proof.Proof.Gen.MixfwdReferenceIdeal.Run
public import proofs.«01_k».proof.Proof.Gen.MixfwdReferenceIdeal.Read
public import proofs.«01_k».proof.Proof.Mixfwd.Grid
public import Idealize.ShloMosaic.Lib.Claim
public import Idealize.ShloMosaic.Lib.Quiescent

@[expose] public section

set_option maxRecDepth 16384

noncomputable section

namespace Cert.Mixfwd

open Idealize.ShloMosaic Idealize.ShloMosaic.TcCoe Idealize.SL.Sem

local instance : Cert.MixfwdKernel.Facts := Cert.MixfwdKernel.Gen.facts
local instance : Cert.MixfwdKernelIdeal.Facts := Cert.MixfwdKernelIdeal.Gen.facts
local instance : Cert.MixfwdReferenceIdeal.Facts := Cert.MixfwdReferenceIdeal.Gen.facts

/-- The kernel on machine floats runs, keeps its arguments and leaves every counter at zero. -/
theorem frame_kernel : Cert.quiescent_MixfwdKernel := fun m ρ _ => Cert.MixfwdKernel.Gen.frame m ρ

/-- The same at exact arithmetic. -/
theorem frame_ideal : Cert.quiescent_MixfwdKernelIdeal := fun m ρ _ => Cert.MixfwdKernelIdeal.Gen.frame m ρ

/-- The reference runs and keeps its arguments. -/
theorem frame_reference : Cert.quiescent_MixfwdReferenceIdeal := by
  intro m g _
  hlo_run
  · simp
  · exact sem_eq_zero_of_no_sems (sig := Cert.MixfwdReferenceIdeal.sig) rfl _

/-- The two programs differ in nothing but the arithmetic they are read at. -/
theorem same_program : Cert.preserves_MixfwdKernel_MixfwdKernelIdeal := trivial

/-- In exact arithmetic the kernel's results are the reference's. -/
theorem equal : Cert.algebraic_MixfwdKernelIdeal_MixfwdReferenceIdeal := by
  pair_intro
  · run_from Cert.MixfwdKernelIdeal.Value.run_blocks m g
  · run_from Cert.MixfwdReferenceIdeal.Value.run m' g' <;> obtain ⟨a0, a1, a2, a3, a4, a5, a6⟩ := hagree c <;>
      try simp only [a0, a1, a2, a3, a4, a5, a6]
    · refine Eq.trans ?_ (Cert.MixfwdKernelIdeal.Blend.mixed m c).symm
      simp only [← a0, ← a1, ← a2, ← a3, ← a4, ← a5, ← a6]
      exact Cert.MixfwdReferenceIdeal.Read.val_main_v19_eq _ _ _ _ _ _ _
    · refine Eq.trans ?_ (Cert.MixfwdKernelIdeal.Blend.kept m c).symm
      simp only [← a0, ← a1, ← a2, ← a3, ← a4, ← a5, ← a6]
      exact Cert.MixfwdReferenceIdeal.Read.val_main_v21_eq _ _ _ _ _

end Cert.Mixfwd

end
-- ==== Proof.Ffnup.Reference.lean ====
/- The first half of the gated feed-forward layer, with its norm: the plain reference, in extended reals. -/
module

public import proofs.«01_k».proof.Proof.Gen.FfnupReferenceIdeal.Read
public import Idealize.ShloMosaic.Lib.Pointwise

@[expose] public section

set_option maxHeartbeats 4000000
set_option maxRecDepth 16384

noncomputable section

namespace Cert.FfnupReferenceIdeal.Gate

open Idealize.ShloMosaic Idealize.ShloMosaic.TcCoe Idealize.ShloMosaic.Tactic
open Cert.FfnupReferenceIdeal Cert.FfnupReferenceIdeal.Read

variable (X : Vec Ideal S1x2048x1024 .f32) (G : Vec Ideal S1x1024 .f32) (W : Vec Ideal S1x1024x5632 .f32)

/-- Token `t`, normalized and scaled. -/
def normed (t : Fin 2048) (d : Fin 1024) : EReal :=
  X (ix3 0 t d) * Ideal.rsqrt (Ideal.div (∑ e : Fin 1024, X (ix3 0 t e) * X (ix3 0 t e)) (Ideal.ofBits .f32 0x44800000#32)
    + Ideal.ofBits .f32 0x358637BD#32) * G (ix2 0 d)

/-- Where column `c` of the padded layout comes from, in half `h` of the weights. -/
def source (h : Fin 2) (c : Fin 3072) (hc : c.val % 384 < 352) : Fin 5632 :=
  ⟨2816 * h.val + 352 * (c.val / 384) + c.val % 384, by omega⟩

/-- The weights of column `c` of the padded layout: the padding holds zeros. -/
def weight (h : Fin 2) (c : Fin 3072) (d : Fin 1024) : EReal :=
  if hc : c.val % 384 < 352 then W (ix3 0 d (source h c hc)) else 0

/-- The gates (`h = 0`) and the values they open for (`h = 1`). -/
def part (h : Fin 2) (t : Fin 2048) (c : Fin 3072) : EReal := ∑ d : Fin 1024, normed X G t d * weight W h c d

/-- The padding is zero. -/
theorem part_outside (h : Fin 2) (t : Fin 2048) (c : Fin 3072) (hc : ¬c.val % 384 < 352) : part X G W h t c = 0 := by
  unfold part weight
  simp only [dif_neg hc, mul_zero, Finset.sum_const_zero]

theorem part_inside (h : Fin 2) (t : Fin 2048) (c : Fin 3072) (hc : c.val % 384 < 352) :
    part X G W h t c = ∑ d : Fin 1024, normed X G t d * W (ix3 0 d (source h c hc)) := by
  unfold part weight
  simp only [dif_pos hc]

theorem product (t : Fin 2048) (n : Fin 5632) :
    val_main_v15 (F := Ideal) X G W (ix3 0 t n) = ∑ d : Fin 1024, normed X G t d * W (ix3 0 d n) := by
  unfold normed
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1]

theorem zero_word : (FloatOps.sitofp FTy.f32 (0#32 : BitVec 32) : Ideal .f32) = (0 : EReal) := by
  show (((0#32 : BitVec 32).toInt : ℝ) : EReal) = 0
  simp

theorem gates (h : Fin 2) (t : Fin 2048) (c : Fin 3072) :
    val_main_v27 (F := Ideal) X G W (ix3 h t c) = part X G W h t c := by
  pointwise [val_main_v27, val_main_v24, val_main_v23, val_main_v22, val_main_v21, val_main_call1_v0, val_main_c]
  by_cases hc : c.val % 384 < 352
  · rw [part_inside X G W h t c hc, ← product]
    rw [dif_pos ⟨by omega, hc⟩]
    exact congrArg (fun n => val_main_v15 (F := Ideal) X G W (ix3 0 t n)) (Fin.ext (by show h.val * 2816 + c.val / 384 * 352 + c.val % 384 = 2816 * h.val + 352 * (c.val / 384) + c.val % 384; ring))
  · rw [part_outside X G W h t c hc]
    rw [dif_neg fun e => hc e.2]
    exact zero_word

theorem hidden (t : Fin 2048) (c : Fin 3072) :
    val_main_v28 (F := Ideal) X G W (ix2 t c) = part X G W 0 t c * Ideal.logistic (part X G W 0 t c) * part X G W 1 t c := by
  pointwise [val_main_v28, val_main_v26, val_main_v25, val_main_v20, val_main_v19, val_main_v18, val_main_v17, val_main_v16, val_main_call0_v0, val_main_call0_v1, val_main_call0_v2, val_main_call0_v3, val_main_call0_v4, val_main_call0_v5, val_main_call0_cst, val_main_call0_cst_0, val_main_call2_v0, val_main_c_2]
  by_cases hc : c.val % 384 < 352
  · rw [part_inside X G W 0 t c hc, part_inside X G W 1 t c hc, ← product, ← product]
    rw [dif_pos ⟨by omega, hc⟩,
      show (⟨c.val / 384 * 352 + c.val % 384, by omega⟩ : Fin 5632) = source 0 c hc from
        Fin.ext (by show c.val / 384 * 352 + c.val % 384 = 2816 * 0 + 352 * (c.val / 384) + c.val % 384; ring),
      show (⟨2816 + (c.val / 384 * 352 + c.val % 384), by omega⟩ : Fin 5632) = source 1 c hc from
        Fin.ext (by show 2816 + (c.val / 384 * 352 + c.val % 384) = 2816 * 1 + 352 * (c.val / 384) + c.val % 384; ring)]
    rfl
  · rw [part_outside X G W 0 t c hc]
    rw [dif_neg fun e => hc e.2, zero_mul, zero_mul]
    exact zero_word

end Cert.FfnupReferenceIdeal.Gate

end
-- ==== Proof.Ffnup.Grid.lean ====
/- The first half of the gated feed-forward layer, with its norm: what the kernel leaves, and that this is the plain
   reference's. -/
module

public import proofs.«01_k».proof.Proof.Gen.FfnupKernelIdeal.Value
public import proofs.«01_k».proof.Proof.Ffnup.Reference
public import Idealize.ShloMosaic.Lib.Pipeline.ValueKit
public import Idealize.ShloMosaic.Lib.Pipeline.ReadBack

@[expose] public section

set_option maxHeartbeats 4000000
set_option maxRecDepth 16384

noncomputable section

namespace Cert.FfnupKernelIdeal.Gate

open Idealize.ShloMosaic Idealize.ShloMosaic.TcCoe Idealize.ShloMosaic.Tactic Idealize.SL.Sem
open Cert.FfnupKernelIdeal Cert.FfnupKernelIdeal.Gen Cert.FfnupReferenceIdeal.Gate

/-- The block each window holds at a grid point: four blocks of columns for each of the two blocks of tokens. -/
theorem idx : ∀ t : Fin cfg0.N, win0_0.index t = ![t.val / 4, 0] ∧ win0_1.index t = ![0, 0] ∧ win0_2.index t = ![t.val % 4, 0, 0]
    ∧ win0_3.index t = ![t.val % 4 + 4, 0, 0] ∧ win0_4.index t = ![0, t.val / 4, t.val % 4] ∧ win0_5.index t = ![t.val / 4, t.val % 4] :=
  (by decide +kernel : ∀ t : Fin grid0.N, _)

theorem N8 (t : Fin cfg0.N) : t.val < 8 := lt_of_lt_of_eq t.isLt N_0

/-- Token `r` of the block of a grid point, among all tokens. -/
def row (t : Fin cfg0.N) (r : Fin 1024) : Fin 2048 := ⟨1024 * (t.val / 4) + r.val, by have := N8 t; omega⟩

theorem row_val (t : Fin cfg0.N) (r : Fin 1024) : (row t r : ℕ) = 1024 * (t.val / 4) + r.val := rfl

/-- Column `b` of the block of a grid point, among all columns of the padded layout. -/
def col (t : Fin cfg0.N) (b : Fin 768) : Fin 3072 := ⟨768 * (t.val % 4) + b.val, by omega⟩

theorem col_val (t : Fin cfg0.N) (b : Fin 768) : (col t b : ℕ) = 768 * (t.val % 4) + b.val := rfl

variable (m : (ℓ : Loc nD τ sig) → Buf (Elt Ideal) ℓ) (c : Dev nD)

theorem read0 (t : Fin 2048) (d : Fin 1024) : V m c main_v5 (ix2 t d) = m ((c : Thread nD τ).loc main_arg0) (ix3 0 t d) := by
  simp only [V, hostOps0, hostOps0_1, hostOps0_2, List.flatten_cons, List.flatten_nil, List.cons_append, List.nil_append, List.append_nil]; entry_read; pointwise

theorem read1 (d : Fin 1024) : V m c main_arg1 (ix2 0 d) = m ((c : Thread nD τ).loc main_arg1) (ix2 0 d) := by
  simp only [V, hostOps0, hostOps0_1, hostOps0_2, List.flatten_cons, List.flatten_nil, List.cons_append, List.nil_append, List.append_nil]; entry_read; rfl

theorem read2 (h : Fin 2) (b : Fin 4) (r : Fin 768) (d : Fin 1024) :
    V m c main_v6 (ix3 (⟨4 * h.val + b.val, by omega⟩ : Fin 8) r d)
      = weight (m ((c : Thread nD τ).loc main_arg2)) h ⟨768 * b.val + r.val, by omega⟩ d := by
  simp only [V, hostOps0, hostOps0_1, hostOps0_2, List.flatten_cons, List.flatten_nil, List.cons_append, List.nil_append, List.append_nil]; entry_read
  pointwise
  refine Eq.trans (b := pad S16x384x1024 ![0, 0, 0] ![0, 32, 0] ![0, 0, 0]
    (fun i : S16x352x1024.Idx => m (c, Proc.tc.devRef main_arg2) (ix3 0 (i 2) (⟨(i 0).val * 352 + (i 1).val, by have := (i 0).isLt; have := (i 1).isLt; simp at *; omega⟩ : Fin 5632)))
    (sitofp (F := Ideal) .bf16 (constantI S_ 32 0#32)) pads_S16x352x1024_S16x384x1024_000_0320_000 h_S_
    (ix3 (⟨(4 * h.val + b.val) * 2 + r.val / 384, by omega⟩ : Fin 16) (⟨r.val % 384, by omega⟩ : Fin 384) d)) rfl ?_
  pointwise
  unfold weight
  by_cases hc : (768 * b.val + r.val) % 384 < 352
  · rw [dif_pos (⟨by omega, by omega⟩ : (4 * h.val + b.val) * 2 + r.val / 384 < 16 ∧ r.val % 384 < 352), dif_pos (show (⟨768 * b.val + r.val, _⟩ : Fin 3072).val % 384 < 352 from hc)]
    refine congrArg (fun n => m ((c : Thread nD τ).loc main_arg2) (ix3 0 d n)) (Fin.ext ?_)
    show ((4 * h.val + b.val) * 2 + r.val / 384) * 352 + r.val % 384
      = 2816 * h.val + 352 * ((768 * b.val + r.val) / 384) + (768 * b.val + r.val) % 384
    omega
  · rw [dif_neg (fun e => hc (by omega) : ¬((4 * h.val + b.val) * 2 + r.val / 384 < 16 ∧ r.val % 384 < 352)), dif_neg (show ¬(⟨768 * b.val + r.val, _⟩ : Fin 3072).val % 384 < 352 from hc)]
    exact zero_word

theorem blk0 (t : Fin cfg0.N) (r d : Fin 1024) : iblk m c 0 t (ix2 r d) = m ((c : Thread nD τ).loc main_arg0) (ix3 0 (row t r) d) := by
  blk_simp [iblk]; rw [← read0 m c]; blk_ext [idx t, row_val]
theorem blk1 (t : Fin cfg0.N) (d : Fin 1024) : iblk m c 1 t (ix2 0 d) = m ((c : Thread nD τ).loc main_arg1) (ix2 0 d) := by
  blk_simp [iblk]; rw [← read1 m c]; blk_ext [idx t]
theorem blk2 (t : Fin cfg0.N) (b : Fin 768) (d : Fin 1024) : iblk m c 2 t (ix3 0 b d) = weight (m ((c : Thread nD τ).loc main_arg2)) 0 (col t b) d := by
  have e := read2 m c 0 ⟨t.val % 4, by omega⟩ b d
  refine Eq.trans ?_ e
  blk_simp [iblk]; blk_ext [idx t]
theorem blk3 (t : Fin cfg0.N) (b : Fin 768) (d : Fin 1024) : iblk m c 3 t (ix3 0 b d) = weight (m ((c : Thread nD τ).loc main_arg2)) 1 (col t b) d := by
  have e := read2 m c 1 ⟨t.val % 4, by omega⟩ b d
  refine Eq.trans ?_ e
  blk_simp [iblk]; blk_ext [idx t]

/-- What the scratch holds after each grid point: the normalized tokens of the point's block. -/
theorem carried : ∀ (n : ℕ) (hn : n < cfg0.N) (r d : Fin 1024), (outsAt0 m c n hn).2.2 (ix2 r d)
    = normed (m ((c : Thread nD τ).loc main_arg0)) (m ((c : Thread nD τ).loc main_arg1)) (row ⟨n, hn⟩ r) d := by
  have first (t : Fin cfg0.N) (h0 : t.val % 4 = 0) (r d : Fin 1024) : (outsAt0 m c t.val t.isLt).2.2 (ix2 r d)
      = normed (m ((c : Thread nD τ).loc main_arg0)) (m ((c : Thread nD τ).loc main_arg1)) (row t r) d := by
    rw [outsAt0_A m c t h0]
    frame_out
    open_payloads
    unfold normed
    pointwise [blk0, blk1]
  intro n
  induction n with
  | zero => exact fun hn => first ⟨0, hn⟩ rfl
  | succ n ih =>
    intro hn r d
    by_cases h0 : (n + 1) % 4 = 0
    · exact first ⟨n + 1, hn⟩ h0 r d
    · have e := outsAt0_B m c ⟨n + 1, hn⟩ h0
      have e2 : (outsAt0 m c (n + 1) hn).2.2 = (outsAt0 m c n (by omega)).2.2 := (congrArg (·.2.2) e).trans rfl
      rw [e2, ih]
      refine congrArg (fun s => normed _ _ s d) (Fin.ext ?_)
      show 1024 * (n / 4) + r.val = 1024 * ((n + 1) / 4) + r.val
      omega

/-- The normalized tokens are stored at the first of the points that share them. -/
theorem stored (t : Fin cfg0.N) (r d : Fin 1024) : k0_pay4 (F := Ideal) (iblk m c 0 t) (iblk m c 1 t) (ix2 r d)
    = normed (m ((c : Thread nD τ).loc main_arg0)) (m ((c : Thread nD τ).loc main_arg1)) (row t r) d := by
  unfold normed
  pointwise [k0_pay4, blk0, blk1]

/-- A later point reads what the point before left. -/
theorem before (t : Fin cfg0.N) (h0 : ¬t.val % 4 = 0) (hn : t.val - 1 < cfg0.N) (r d : Fin 1024) : (outsAt0 m c (t.val - 1) hn).2.2 (ix2 r d)
    = normed (m ((c : Thread nD τ).loc main_arg0)) (m ((c : Thread nD τ).loc main_arg1)) (row t r) d := by
  rw [carried]
  refine congrArg (fun s => normed _ _ s d) (Fin.ext ?_)
  show 1024 * ((t.val - 1) / 4) + r.val = 1024 * (t.val / 4) + r.val
  omega

variable {m c}

/-- A block of normalized tokens times a block of weights. -/
theorem product_read {X : Vec Ideal S1x2048x1024 .f32} {G : Vec Ideal S1x1024 .f32} {W : Vec Ideal S1x1024x5632 .f32}
    {S : Vec Ideal S1024x1024 .bf16} {B : Vec Ideal S1x768x1024 .bf16} {h : Fin 2} {t : Fin cfg0.N}
    (hS : ∀ r d : Fin 1024, S (ix2 r d) = normed X G (row t r) d) (hB : ∀ (b : Fin 768) (d : Fin 1024), B (ix3 0 b d) = weight W h (col t b) d)
    (A : Vec Ideal S512x1024 .bf16) (o : ℕ) (ho : o + 512 ≤ 1024) (hA : ∀ (r : Fin 512) (d : Fin 1024), A (ix2 r d) = S (ix2 (⟨o + r.val, by omega⟩ : Fin 1024) d))
    (r : Fin 512) (b : Fin 768) : k0_pay7 (F := Ideal) B A (ix2 r b) = part X G W h (row t ⟨o + r.val, by omega⟩) (col t b) := by
  unfold part
  pointwise [k0_pay7, k0_pay5, hA, hS, hB]

/-- The two halves of the tokens. -/
theorem lower (S : Vec Ideal S1024x1024 .bf16) (r : Fin 512) (d : Fin 1024) :
    View.ld S (Rect.unit ![0, 0] ![512, 1024] inb_S1024x1024_S512x1024_0_0) (ix2 r d) = S (ix2 (⟨0 + r.val, by omega⟩ : Fin 1024) d) := by
  pointwise
theorem upper (S : Vec Ideal S1024x1024 .bf16) (r : Fin 512) (d : Fin 1024) :
    View.ld S (Rect.unit ![512, 0] ![512, 1024] inb_S1024x1024_S512x1024_512_0) (ix2 r d) = S (ix2 (⟨512 + r.val, by omega⟩ : Fin 1024) d) := by
  pointwise

section
variable {X : Vec Ideal S1x2048x1024 .f32} {G : Vec Ideal S1x1024 .f32} {W : Vec Ideal S1x1024x5632 .f32}
  {S : Vec Ideal S1024x1024 .bf16} {B B' : Vec Ideal S1x768x1024 .bf16} {h : Fin 2} {t : Fin cfg0.N}
  (hS : ∀ r d : Fin 1024, S (ix2 r d) = normed X G (row t r) d) (hB : ∀ (b : Fin 768) (d : Fin 1024), B (ix3 0 b d) = weight W h (col t b) d)
include hS hB

/-- What is stored for the first half of the tokens. -/
theorem low_read (r : Fin 512) (b : Fin 768) :
    k0_pay11 (F := Ideal) B (View.ld S (Rect.unit ![0, 0] ![512, 1024] inb_S1024x1024_S512x1024_0_0)) (ix3 0 r b)
      = part X G W h (row t ⟨0 + r.val, by omega⟩) (col t b) := by
  refine Eq.trans ?_ (product_read hS hB _ 0 (by norm_num) (lower S) r b)
  pointwise [k0_pay11]

/-- What is stored for the second half of the tokens. -/
theorem up_read (r : Fin 512) (b : Fin 768) :
    k0_pay1 (F := Ideal) (k0_pay9 B (View.ld S (Rect.unit ![512, 0] ![512, 1024] inb_S1024x1024_S512x1024_512_0))) (ix3 0 r b)
      = part X G W h (row t ⟨512 + r.val, by omega⟩) (col t b) := by
  refine Eq.trans ?_ (product_read hS hB _ 512 (by norm_num) (upper S) r b)
  pointwise [k0_pay1, k0_pay9, k0_pay7]

end

section
variable {X : Vec Ideal S1x2048x1024 .f32} {G : Vec Ideal S1x1024 .f32} {W : Vec Ideal S1x1024x5632 .f32}
  {S : Vec Ideal S1024x1024 .bf16} {B B' : Vec Ideal S1x768x1024 .bf16} {t : Fin cfg0.N}
  (hS : ∀ r d : Fin 1024, S (ix2 r d) = normed X G (row t r) d) (hB : ∀ (b : Fin 768) (d : Fin 1024), B (ix3 0 b d) = weight W 0 (col t b) d)
  (hB' : ∀ (b : Fin 768) (d : Fin 1024), B' (ix3 0 b d) = weight W 1 (col t b) d)
include hS hB hB'

/-- The opened values of the first half of the tokens. -/
theorem low_hidden (r : Fin 512) (b : Fin 768) :
    k0_pay13 (F := Ideal) B B' (View.ld S (Rect.unit ![0, 0] ![512, 1024] inb_S1024x1024_S512x1024_0_0)) (View.ld S (Rect.unit ![0, 0] ![512, 1024] inb_S1024x1024_S512x1024_0_0)) (ix2 r b)
      = Cert.FfnupReferenceIdeal.Read.val_main_v28 (F := Ideal) X G W (ix2 (row t ⟨0 + r.val, by omega⟩) (col t b)) := by
  rw [Cert.FfnupReferenceIdeal.Gate.hidden, ← product_read hS hB _ 0 (by norm_num) (lower S) r b, ← product_read hS hB' _ 0 (by norm_num) (lower S) r b]
  rfl

/-- The opened values of the second half of the tokens. -/
theorem up_hidden (r : Fin 512) (b : Fin 768) :
    k0_pay3 (F := Ideal) (k0_pay9 B (View.ld S (Rect.unit ![512, 0] ![512, 1024] inb_S1024x1024_S512x1024_512_0)))
      (k0_pay10 B' (View.ld S (Rect.unit ![512, 0] ![512, 1024] inb_S1024x1024_S512x1024_512_0))) (ix2 r b)
      = Cert.FfnupReferenceIdeal.Read.val_main_v28 (F := Ideal) X G W (ix2 (row t ⟨512 + r.val, by omega⟩) (col t b)) := by
  rw [Cert.FfnupReferenceIdeal.Gate.hidden, ← product_read hS hB _ 512 (by norm_num) (upper S) r b, ← product_read hS hB' _ 512 (by norm_num) (upper S) r b]
  rfl

end

theorem reread (h : (Memref.whole cc0_scratch0).IsWhole) (X : Vec Ideal S1024x1024 .bf16) :
    View.read (Elt Ideal) (View.whole cc0_scratch0) (h.unread X) = X := h.read_unread X

/-- The normalized tokens a grid point multiplies, whether it has just stored them or finds them. -/
theorem tokens (t : Fin cfg0.N) : ∃ S : Vec Ideal S1024x1024 .bf16,
    (∀ r d : Fin 1024, S (ix2 r d) = normed (m ((c : Thread nD τ).loc main_arg0)) (m ((c : Thread nD τ).loc main_arg1)) (row t r) d)
    ∧ (t.val % 4 = 0 → k0_pay4 (F := Ideal) (iblk m c 0 t) (iblk m c 1 t) = S)
    ∧ (¬t.val % 4 = 0 → ∀ hn, (outsAt0 m c (t.val - 1) hn).2.2 = S) := by
  by_cases h0 : t.val % 4 = 0
  · exact ⟨_, stored m c t, fun _ => rfl, fun h => absurd h0 h⟩
  · exact ⟨_, before m c t h0 (by omega), fun h => absurd h h0, fun _ _ => rfl⟩

variable (m c)

/-- The first result is the reference's. -/
theorem gates_eq : (dats m 0 c).arrAt 4 (cfgs 0).N = Cert.FfnupReferenceIdeal.Read.val_main_v27 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨S, hS, hA, hB⟩ := tokens (m := m) (c := c) t
  blk_simp
  rw [after0_4]
  by_cases hc : t.val % 4 = 0
  · rw [outsAt0_A m c t hc]
    frame_out
    canon_tiles z h
    all_goals obtain ⟨u, r, b, rfl⟩ : ∃ (u : Fin 1) (r : Fin 512) (b : Fin 768), z = ix3 u r b := ⟨z 0, z 1, z 2, by funext a; fin_cases a <;> rfl⟩
    all_goals obtain rfl : u = 0 := Subsingleton.elim _ _
    all_goals rw [View.readCov_fill _ _ _ _ _ (by decide), hA hc]
    · refine (up_read hS (blk3 m c t) r b).trans ((gates _ _ _ 1 _ _).symm.trans ?_); blk_ext [idx t, row_val, col_val, h0, h1, h2]
    · refine (up_read hS (blk2 m c t) r b).trans ((gates _ _ _ 0 _ _).symm.trans ?_); blk_ext [idx t, row_val, col_val, h0, h1, h2]
    · refine (low_read hS (blk3 m c t) r b).trans ((gates _ _ _ 1 _ _).symm.trans ?_); blk_ext [idx t, row_val, col_val, h0, h1, h2]
    · refine (low_read hS (blk2 m c t) r b).trans ((gates _ _ _ 0 _ _).symm.trans ?_); blk_ext [idx t, row_val, col_val, h0, h1, h2]
  · rw [outsAt0_B m c t hc]
    frame_out
    canon_tiles z h
    all_goals obtain ⟨u, r, b, rfl⟩ : ∃ (u : Fin 1) (r : Fin 512) (b : Fin 768), z = ix3 u r b := ⟨z 0, z 1, z 2, by funext a; fin_cases a <;> rfl⟩
    all_goals obtain rfl : u = 0 := Subsingleton.elim _ _
    all_goals rw [reread, hB hc]
    · refine (up_read hS (blk3 m c t) r b).trans ((gates _ _ _ 1 _ _).symm.trans ?_); blk_ext [idx t, row_val, col_val, h0, h1, h2]
    · refine (up_read hS (blk2 m c t) r b).trans ((gates _ _ _ 0 _ _).symm.trans ?_); blk_ext [idx t, row_val, col_val, h0, h1, h2]
    · refine (low_read hS (blk3 m c t) r b).trans ((gates _ _ _ 1 _ _).symm.trans ?_); blk_ext [idx t, row_val, col_val, h0, h1, h2]
    · refine (low_read hS (blk2 m c t) r b).trans ((gates _ _ _ 0 _ _).symm.trans ?_); blk_ext [idx t, row_val, col_val, h0, h1, h2]

/-- The second result is the reference's. -/
theorem hidden_eq : (dats m 0 c).arrAt 5 (cfgs 0).N = Cert.FfnupReferenceIdeal.Read.val_main_v28 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨S, hS, hA, hB⟩ := tokens (m := m) (c := c) t
  blk_simp
  rw [after0_5]
  by_cases hc : t.val % 4 = 0
  · rw [outsAt0_A m c t hc]
    frame_out
    canon_tiles z h
    all_goals obtain ⟨r, b, rfl⟩ : ∃ (r : Fin 512) (b : Fin 768), z = ix2 r b := ⟨z 0, z 1, by funext a; fin_cases a <;> rfl⟩
    all_goals rw [View.readCov_fill _ _ _ _ _ (by decide), hA hc]
    · refine (up_hidden hS (blk2 m c t) (blk3 m c t) r b).trans ?_; blk_ext [idx t, row_val, col_val, h0, h1]
    · refine (low_hidden hS (blk2 m c t) (blk3 m c t) r b).trans ?_; blk_ext [idx t, row_val, col_val, h0, h1]
  · rw [outsAt0_B m c t hc]
    frame_out
    canon_tiles z h
    all_goals obtain ⟨r, b, rfl⟩ : ∃ (r : Fin 512) (b : Fin 768), z = ix2 r b := ⟨z 0, z 1, by funext a; fin_cases a <;> rfl⟩
    all_goals rw [reread, hB hc]
    · refine (up_hidden hS (blk2 m c t) (blk3 m c t) r b).trans ?_; blk_ext [idx t, row_val, col_val, h0, h1]
    · refine (low_hidden hS (blk2 m c t) (blk3 m c t) r b).trans ?_; blk_ext [idx t, row_val, col_val, h0, h1]

end Cert.FfnupKernelIdeal.Gate

end
-- ==== Proof.Ffnup.Claim.lean ====
/- The claims about the gates of the feed-forward layer: it runs and keeps its arguments at both instances, the plain reference runs, and in
   exact arithmetic the two give the same two results. -/
module

public import proofs.«01_k».proof.Defs
public import proofs.«01_k».proof.Proof.Gen.FfnupKernel.Frame
public import proofs.«01_k».proof.Proof.Gen.FfnupKernelIdeal.Value
public import proofs.«01_k».proof.Proof.Gen.FfnupReferenceIdeal.Run
public import proofs.«01_k».proof.Proof.Gen.FfnupReferenceIdeal.Read
public import proofs.«01_k».proof.Proof.Ffnup.Grid
public import Idealize.ShloMosaic.Lib.Claim
public import Idealize.ShloMosaic.Lib.Quiescent

@[expose] public section

set_option maxRecDepth 16384

noncomputable section

namespace Cert.Ffnup

open Idealize.ShloMosaic Idealize.ShloMosaic.TcCoe Idealize.SL.Sem

local instance : Cert.FfnupKernel.Facts := Cert.FfnupKernel.Gen.facts
local instance : Cert.FfnupKernelIdeal.Facts := Cert.FfnupKernelIdeal.Gen.facts
local instance : Cert.FfnupReferenceIdeal.Facts := Cert.FfnupReferenceIdeal.Gen.facts

/-- The kernel on machine floats runs, keeps its arguments and leaves every counter at zero. -/
theorem frame_kernel : Cert.quiescent_FfnupKernel := fun m ρ _ => Cert.FfnupKernel.Gen.frame m ρ

/-- The same at exact arithmetic. -/
theorem frame_ideal : Cert.quiescent_FfnupKernelIdeal := fun m ρ _ => Cert.FfnupKernelIdeal.Gen.frame m ρ

/-- The reference runs and keeps its arguments. -/
theorem frame_reference : Cert.quiescent_FfnupReferenceIdeal := by
  intro m g _
  hlo_run
  · simp
  · exact sem_eq_zero_of_no_sems (sig := Cert.FfnupReferenceIdeal.sig) rfl _

/-- The two programs differ in nothing but the arithmetic they are read at. -/
theorem same_program : Cert.preserves_FfnupKernel_FfnupKernelIdeal := trivial

/-- In exact arithmetic the kernel's results are the reference's. -/
theorem equal : Cert.algebraic_FfnupKernelIdeal_FfnupReferenceIdeal := by
  pair_intro
  · run_from Cert.FfnupKernelIdeal.Value.run_blocks m g
  · run_from Cert.FfnupReferenceIdeal.Value.run m' g' <;> obtain ⟨a0, a1, a2⟩ := hagree c <;> try simp only [a0, a1, a2]
    · refine Eq.trans ?_ (Cert.FfnupKernelIdeal.Gate.gates_eq m c).symm
      simp only [← a0, ← a1, ← a2]
      exact Cert.FfnupReferenceIdeal.Read.val_main_v27_eq _ _ _
    · refine Eq.trans ?_ (Cert.FfnupKernelIdeal.Gate.hidden_eq m c).symm
      simp only [← a0, ← a1, ← a2]
      exact Cert.FfnupReferenceIdeal.Read.val_main_v28_eq _ _ _

end Cert.Ffnup

end
-- ==== Proof.Ffndown.Grid.lean ====
/- The second half of the gated feed-forward layer, with the residual: what the kernel leaves, and that this is the plain
   reference's. The kernel multiplies in a layout padded with zeros. -/
module

public import proofs.«01_k».proof.Proof.Gen.FfndownKernelIdeal.Value
public import proofs.«01_k».proof.Proof.Gen.FfndownReferenceIdeal.Read
public import Idealize.ShloMosaic.Lib.Pointwise
public import Idealize.ShloMosaic.Lib.Pipeline.ValueKit

@[expose] public section

set_option maxHeartbeats 4000000
set_option maxRecDepth 16384

noncomputable section

namespace Cert.FfndownKernelIdeal.Sum

open Idealize.ShloMosaic Idealize.ShloMosaic.TcCoe Idealize.ShloMosaic.Tactic Idealize.SL.Sem
open Cert.FfndownKernelIdeal Cert.FfndownKernelIdeal.Gen

/-- Where column `c` of the padded layout comes from. -/
def source (c : Fin 3072) (hc : c.val % 384 < 352) : Fin 2816 := ⟨352 * (c.val / 384) + c.val % 384, by omega⟩

/-- Where a column goes in the padded layout. -/
def target (k : Fin 2816) : Fin 3072 := ⟨384 * (k.val / 352) + k.val % 352, by omega⟩

theorem target_inside (k : Fin 2816) : (target k).val % 384 < 352 := by
  show (384 * (k.val / 352) + k.val % 352) % 384 < 352
  omega

theorem source_target (k : Fin 2816) : source (target k) (target_inside k) = k :=
  Fin.ext (by show 352 * ((384 * (k.val / 352) + k.val % 352) / 384) + (384 * (k.val / 352) + k.val % 352) % 384 = k.val; omega)

theorem target_source (c : Fin 3072) (hc : c.val % 384 < 352) : target (source c hc) = c :=
  Fin.ext (by show 384 * ((352 * (c.val / 384) + c.val % 384) / 352) + (352 * (c.val / 384) + c.val % 384) % 352 = c.val; omega)

/-- A row of the hidden values in the padded layout. -/
def wide (H : Vec Ideal S1x2048x2816 .f32) (t : Fin 2048) (c : Fin 3072) : EReal :=
  if hc : c.val % 384 < 352 then H (ix3 0 t (source c hc)) else 0

/-- A column of the weights in the padded layout. -/
def tall (W : Vec Ideal S1x2816x1024 .f32) (c : Fin 3072) (d : Fin 1024) : EReal :=
  if hc : c.val % 384 < 352 then W (ix3 0 (source c hc) d) else 0

/-- The padding adds nothing to a product. -/
theorem unpad (H : Vec Ideal S1x2048x2816 .f32) (W : Vec Ideal S1x2816x1024 .f32) (t : Fin 2048) (d : Fin 1024) :
    ∑ c : Fin 3072, wide H t c * tall W c d = ∑ k : Fin 2816, H (ix3 0 t k) * W (ix3 0 k d) := by
  refine (Finset.sum_of_injOn target (fun a _ b _ e => ?_) (fun _ _ => Finset.mem_coe.2 (Finset.mem_univ _)) (fun c _ hc => ?_) fun k _ => ?_).symm
  · rw [← source_target a, ← source_target b]
    simp only [e]
  · have : ¬c.val % 384 < 352 := fun h => hc ⟨source c h, Finset.mem_coe.2 (Finset.mem_univ _), target_source c h⟩
    unfold wide
    rw [dif_neg this, zero_mul]
  · unfold wide tall
    rw [dif_pos (target_inside k), dif_pos (target_inside k), source_target]

theorem zero_word : (FloatOps.sitofp FTy.bf16 (0#32 : BitVec 32) : Ideal .bf16) = (0 : EReal) := by
  show (((0#32 : BitVec 32).toInt : ℝ) : EReal) = 0
  simp

/-- Each grid point takes 512 tokens. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem N4 (t : Fin cfg0.N) : t.val < 4 := lt_of_lt_of_eq t.isLt N_0

/-- Token `r` of the block of a grid point, among all tokens. -/
def row (t : Fin cfg0.N) (r : Fin 512) : Fin 2048 := ⟨512 * t.val + r.val, by have := N4 t; omega⟩

theorem row_val (t : Fin cfg0.N) (r : Fin 512) : (row t r : ℕ) = 512 * t.val + r.val := rfl

variable (m : (ℓ : Loc nD τ sig) → Buf (Elt Ideal) ℓ) (c : Dev nD)

theorem read0 (t : Fin 2048) (d : Fin 1024) : V m c main_v8 (ix2 t d) = m ((c : Thread nD τ).loc main_arg0) (ix3 0 t d) := by
  simp only [V, hostOps0, hostOps0_1, hostOps0_2, hostOps0_3, hostOps0_4, List.flatten_cons, List.flatten_nil, List.cons_append, List.nil_append, List.append_nil]; entry_read; pointwise

theorem read1 (t : Fin 2048) (k : Fin 3072) : V m c main_v9 (ix2 t k) = wide (m ((c : Thread nD τ).loc main_arg1)) t k := by
  simp only [V, hostOps0, hostOps0_1, hostOps0_2, hostOps0_3, hostOps0_4, List.flatten_cons, List.flatten_nil, List.cons_append, List.nil_append, List.append_nil]; entry_read
  pointwise
  refine Eq.trans (b := pad S2048x8x384 ![0, 0, 0] ![0, 0, 32] ![0, 0, 0]
    (fun i : S2048x8x352.Idx => m (c, Proc.tc.devRef main_arg1) (ix3 0 (i 0) (⟨(i 1).val * 352 + (i 2).val, by have := (i 1).isLt; have := (i 2).isLt; simp at *; omega⟩ : Fin 2816)))
    (sitofp (F := Ideal) .bf16 (constantI S_ 32 0#32)) pads_S2048x8x352_S2048x8x384_000_000_0320 h_S_
    (ix3 t (⟨k.val / 384, by omega⟩ : Fin 8) (⟨k.val % 384, by omega⟩ : Fin 384))) rfl ?_
  pointwise
  unfold wide
  by_cases hc : k.val % 384 < 352
  · rw [dif_pos (⟨by omega, by omega⟩ : k.val / 384 < 8 ∧ k.val % 384 < 352), dif_pos hc]
    refine congrArg (fun n => m ((c : Thread nD τ).loc main_arg1) (ix3 0 t n)) (Fin.ext ?_)
    show k.val / 384 * 352 + k.val % 384 = 352 * (k.val / 384) + k.val % 384
    omega
  · rw [dif_neg (fun e => hc e.2 : ¬(k.val / 384 < 8 ∧ k.val % 384 < 352)), dif_neg hc]
    exact zero_word

theorem read2 (k : Fin 3072) (d : Fin 1024) : V m c main_v10 (ix2 k d) = tall (m ((c : Thread nD τ).loc main_arg2)) k d := by
  simp only [V, hostOps0, hostOps0_1, hostOps0_2, hostOps0_3, hostOps0_4, List.flatten_cons, List.flatten_nil, List.cons_append, List.nil_append, List.append_nil]; entry_read
  pointwise
  refine Eq.trans (b := pad S8x384x1024 ![0, 0, 0] ![0, 32, 0] ![0, 0, 0]
    (fun i : S8x352x1024.Idx => m (c, Proc.tc.devRef main_arg2) (ix3 0 (⟨(i 0).val * 352 + (i 1).val, by have := (i 0).isLt; have := (i 1).isLt; simp at *; omega⟩ : Fin 2816) (i 2)))
    (sitofp (F := Ideal) .bf16 (constantI S_ 32 0#32)) pads_S8x352x1024_S8x384x1024_000_0320_000 h_S_
    (ix3 (⟨k.val / 384, by omega⟩ : Fin 8) (⟨k.val % 384, by omega⟩ : Fin 384) d)) rfl ?_
  pointwise
  unfold tall
  by_cases hc : k.val % 384 < 352
  · rw [dif_pos (⟨by omega, by omega⟩ : k.val / 384 < 8 ∧ k.val % 384 < 352), dif_pos hc]
    refine congrArg (fun n => m ((c : Thread nD τ).loc main_arg2) (ix3 0 n d)) (Fin.ext ?_)
    show k.val / 384 * 352 + k.val % 384 = 352 * (k.val / 384) + k.val % 384
    omega
  · rw [dif_neg (fun e => hc e.2 : ¬(k.val / 384 < 8 ∧ k.val % 384 < 352)), dif_neg hc]
    exact zero_word

theorem blk0 (t : Fin cfg0.N) (r : Fin 512) (d : Fin 1024) : iblk m c 0 t (ix2 r d) = m ((c : Thread nD τ).loc main_arg0) (ix3 0 (row t r) d) := by
  blk_simp [iblk]; rw [← read0 m c]; blk_ext [idx t, row_val]
theorem blk1 (t : Fin cfg0.N) (r : Fin 512) (k : Fin 3072) : iblk m c 1 t (ix2 r k) = wide (m ((c : Thread nD τ).loc main_arg1)) (row t r) k := by
  blk_simp [iblk]; rw [← read1 m c]; blk_ext [idx t, row_val]
theorem blk2 (t : Fin cfg0.N) (k : Fin 3072) (d : Fin 1024) : iblk m c 2 t (ix2 k d) = tall (m ((c : Thread nD τ).loc main_arg2)) k d := by
  blk_simp [iblk]; rw [← read2 m c]; blk_ext [idx t]

/-- The reference adds half a product over the columns without padding. -/
theorem reference (X : Vec Ideal S1x2048x1024 .f32) (H : Vec Ideal S1x2048x2816 .f32) (W : Vec Ideal S1x2816x1024 .f32) (t : Fin 2048) (d : Fin 1024) :
    Cert.FfndownReferenceIdeal.Read.val_main_v5 (F := Ideal) X H W (ix2 t d)
      = X (ix3 0 t d) + Ideal.ofBits .f32 0x3F000000#32 * ∑ k : Fin 2816, H (ix3 0 t k) * W (ix3 0 k d) := by
  pointwise [Cert.FfndownReferenceIdeal.Read.val_main_v0, Cert.FfndownReferenceIdeal.Read.val_main_v1, Cert.FfndownReferenceIdeal.Read.val_main_v2,
    Cert.FfndownReferenceIdeal.Read.val_main_v3, Cert.FfndownReferenceIdeal.Read.val_main_v4, Cert.FfndownReferenceIdeal.Read.val_main_v5, Cert.FfndownReferenceIdeal.Read.val_main_cst]

/-- What a grid point stores. -/
theorem stored (t : Fin cfg0.N) (r : Fin 512) (d : Fin 1024) : k0_pay1 (F := Ideal) (iblk m c 0 t) (iblk m c 1 t) (iblk m c 2 t) (ix2 r d)
    = Cert.FfndownReferenceIdeal.Read.val_main_v5 (F := Ideal) (m ((c : Thread nD τ).loc main_arg0)) (m ((c : Thread nD τ).loc main_arg1))
      (m ((c : Thread nD τ).loc main_arg2)) (ix2 (row t r) d) := by
  rw [reference, ← unpad]
  pointwise [k0_pay1, blk0, blk1, blk2]

/-- The result is the reference's. -/
theorem summed : (dats m 0 c).arrAt 3 (cfgs 0).N = Cert.FfndownReferenceIdeal.Read.val_main_v5 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, b, rfl⟩ : ∃ (r : Fin 512) (b : Fin 1024), y = ix2 r b := ⟨y 0, y 1, by funext a; fin_cases a <;> rfl⟩
  refine (stored m c t r b).trans ?_
  blk_ext [idx t, row_val]

end Cert.FfndownKernelIdeal.Sum

end
-- ==== Proof.Ffndown.Claim.lean ====
/- The claims about the end of the feed-forward layer: it runs and keeps its arguments at both instances, the plain reference runs, and in
   exact arithmetic the two give the same result. -/
module

public import proofs.«01_k».proof.Defs
public import proofs.«01_k».proof.Proof.Gen.FfndownKernel.Frame
public import proofs.«01_k».proof.Proof.Gen.FfndownKernelIdeal.Value
public import proofs.«01_k».proof.Proof.Gen.FfndownReferenceIdeal.Run
public import proofs.«01_k».proof.Proof.Gen.FfndownReferenceIdeal.Read
public import proofs.«01_k».proof.Proof.Ffndown.Grid
public import Idealize.ShloMosaic.Lib.Claim
public import Idealize.ShloMosaic.Lib.Quiescent

@[expose] public section

set_option maxRecDepth 16384

noncomputable section

namespace Cert.Ffndown

open Idealize.ShloMosaic Idealize.ShloMosaic.TcCoe Idealize.SL.Sem

local instance : Cert.FfndownKernel.Facts := Cert.FfndownKernel.Gen.facts
local instance : Cert.FfndownKernelIdeal.Facts := Cert.FfndownKernelIdeal.Gen.facts
local instance : Cert.FfndownReferenceIdeal.Facts := Cert.FfndownReferenceIdeal.Gen.facts

/-- The kernel on machine floats runs, keeps its arguments and leaves every counter at zero. -/
theorem frame_kernel : Cert.quiescent_FfndownKernel := fun m ρ _ => Cert.FfndownKernel.Gen.frame m ρ

/-- The same at exact arithmetic. -/
theorem frame_ideal : Cert.quiescent_FfndownKernelIdeal := fun m ρ _ => Cert.FfndownKernelIdeal.Gen.frame m ρ

/-- The reference runs and keeps its arguments. -/
theorem frame_reference : Cert.quiescent_FfndownReferenceIdeal := by
  intro m g _
  hlo_run
  · simp
  · exact sem_eq_zero_of_no_sems (sig := Cert.FfndownReferenceIdeal.sig) rfl _

/-- The two programs differ in nothing but the arithmetic they are read at. -/
theorem same_program : Cert.preserves_FfndownKernel_FfndownKernelIdeal := trivial

/-- In exact arithmetic the kernel's result is the reference's. -/
theorem equal : Cert.algebraic_FfndownKernelIdeal_FfndownReferenceIdeal := by
  pair_intro
  · run_from Cert.FfndownKernelIdeal.Value.run_blocks m g
  · run_from Cert.FfndownReferenceIdeal.Value.run m' g' <;> obtain ⟨a0, a1, a2⟩ := hagree c <;> try simp only [a0, a1, a2]
    refine Eq.trans ?_ (Cert.FfndownKernelIdeal.Sum.summed m c).symm
    simp only [← a0, ← a1, ← a2]
    exact Cert.FfndownReferenceIdeal.Read.val_main_v5_eq _ _ _

end Cert.Ffndown

end
-- ==== Proof.Wgradfull.Grid.lean ====
/- The gradient of the output projection's weights, a plain product: what the kernel leaves, and that this is the plain
   reference's. -/
module

public import proofs.«01_k».proof.Proof.Gen.WgradfullKernelIdeal.Value
public import proofs.«01_k».proof.Proof.Gen.WgradfullReferenceIdeal.Read
public import Idealize.ShloMosaic.Lib.Pointwise
public import Idealize.ShloMosaic.Lib.Pipeline.ValueKit
public import Idealize.ShloMosaic.Lib.Pipeline.ReadBack

@[expose] public section

set_option maxHeartbeats 4000000
set_option maxRecDepth 16384

noncomputable section

namespace Cert.WgradfullKernelIdeal.Product

open Idealize.ShloMosaic Idealize.ShloMosaic.TcCoe Idealize.ShloMosaic.Tactic Idealize.SL.Sem
open Cert.WgradfullKernelIdeal Cert.WgradfullKernelIdeal.Gen Cert.WgradfullReferenceIdeal.Read

theorem idx : ∀ t : Fin cfg0.N, win0_0.index t = ![0, 0] ∧ win0_1.index t = ![0, 0] ∧ win0_2.index t = ![0, 0] :=
  (by decide +kernel : ∀ t : Fin grid0.N, _)

variable (m : (ℓ : Loc nD τ sig) → Buf (Elt Ideal) ℓ) (c : Dev nD)

theorem read0 (t : Fin 2048) (d : Fin 1024) : V m c main_v1 (ix2 t d) = m ((c : Thread nD τ).loc main_arg0) (ix3 0 t d) := by
  simp only [V, hostOps0]; entry_read; pointwise
theorem read1 (t : Fin 2048) (d : Fin 1024) : V m c main_v2 (ix2 t d) = m ((c : Thread nD τ).loc main_arg1) (ix3 0 t d) := by
  simp only [V, hostOps0]; entry_read; pointwise
theorem blk0 (t : Fin cfg0.N) (r : Fin 2048) (d : Fin 1024) : iblk m c 0 t (ix2 r d) = m ((c : Thread nD τ).loc main_arg0) (ix3 0 r d) := by
  blk_simp [iblk]; rw [← read0 m c]; blk_ext [idx t]
theorem blk1 (t : Fin cfg0.N) (r : Fin 2048) (d : Fin 1024) : iblk m c 1 t (ix2 r d) = m ((c : Thread nD τ).loc main_arg1) (ix3 0 r d) := by
  blk_simp [iblk]; rw [← read1 m c]; blk_ext [idx t]

/-- The product is the reference's. -/
theorem product : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, d, rfl⟩ : ∃ (r d : Fin 1024), y = ix2 r d := ⟨y 0, y 1, by funext a; fin_cases a <;> rfl⟩
  refine Eq.trans (b := val_main_v4 (F := Ideal) (m ((c : Thread nD τ).loc main_arg0)) (m ((c : Thread nD τ).loc main_arg1)) (ix2 r d)) ?_ (by blk_ext [idx t])
  pointwise [k0_pay1, k0_pay2, k0_pay3, blk0, blk1, val_main_v0, val_main_v1, val_main_v2, val_main_v3, val_main_v4, val_main_cst]
  rw [Fin.sum_univ_one]
  exact Finset.sum_congr rfl fun x _ => mul_comm _ _

end Cert.WgradfullKernelIdeal.Product

end
-- ==== Proof.Wgradfull.Claim.lean ====
/- The claims about a plain product of the weight gradients: it runs and keeps its arguments at both instances, the plain reference runs, and in
   exact arithmetic the two give the same result. -/
module

public import proofs.«01_k».proof.Defs
public import proofs.«01_k».proof.Proof.Gen.WgradfullKernel.Frame
public import proofs.«01_k».proof.Proof.Gen.WgradfullKernelIdeal.Value
public import proofs.«01_k».proof.Proof.Gen.WgradfullReferenceIdeal.Run
public import proofs.«01_k».proof.Proof.Gen.WgradfullReferenceIdeal.Read
public import proofs.«01_k».proof.Proof.Wgradfull.Grid
public import Idealize.ShloMosaic.Lib.Claim
public import Idealize.ShloMosaic.Lib.Quiescent

@[expose] public section

set_option maxRecDepth 16384

noncomputable section

namespace Cert.Wgradfull

open Idealize.ShloMosaic Idealize.ShloMosaic.TcCoe Idealize.SL.Sem

local instance : Cert.WgradfullKernel.Facts := Cert.WgradfullKernel.Gen.facts
local instance : Cert.WgradfullKernelIdeal.Facts := Cert.WgradfullKernelIdeal.Gen.facts
local instance : Cert.WgradfullReferenceIdeal.Facts := Cert.WgradfullReferenceIdeal.Gen.facts

/-- The kernel on machine floats runs, keeps its arguments and leaves every counter at zero. -/
theorem frame_kernel : Cert.quiescent_WgradfullKernel := fun m ρ _ => Cert.WgradfullKernel.Gen.frame m ρ

/-- The same at exact arithmetic. -/
theorem frame_ideal : Cert.quiescent_WgradfullKernelIdeal := fun m ρ _ => Cert.WgradfullKernelIdeal.Gen.frame m ρ

/-- The reference runs and keeps its arguments. -/
theorem frame_reference : Cert.quiescent_WgradfullReferenceIdeal := by
  intro m g _
  hlo_run
  · simp
  · exact sem_eq_zero_of_no_sems (sig := Cert.WgradfullReferenceIdeal.sig) rfl _

/-- The two programs differ in nothing but the arithmetic they are read at. -/
theorem same_program : Cert.preserves_WgradfullKernel_WgradfullKernelIdeal := trivial

/-- In exact arithmetic the kernel's result is the reference's. -/
theorem equal : Cert.algebraic_WgradfullKernelIdeal_WgradfullReferenceIdeal := by
  pair_intro
  · run_from Cert.WgradfullKernelIdeal.Value.run_blocks m g
  · run_from Cert.WgradfullReferenceIdeal.Value.run m' g' <;> obtain ⟨a0, a1⟩ := hagree c <;> try simp only [a0, a1]
    refine Eq.trans ?_ (Cert.WgradfullKernelIdeal.Product.product m c).symm
    simp only [← a0, ← a1]
    exact Cert.WgradfullReferenceIdeal.Read.val_main_v4_eq _ _

end Cert.Wgradfull

end
-- ==== Proof.Wgraddown.Grid.lean ====
/- The gradient of the second product's weights in the feed-forward layer, a plain product in the padded layout: what the
   kernel leaves, and that this is the plain reference's. -/
module

public import proofs.«01_k».proof.Proof.Gen.WgraddownKernelIdeal.Value
public import proofs.«01_k».proof.Proof.Gen.WgraddownReferenceIdeal.Read
public import proofs.«01_k».proof.Proof.Ffndown.Grid
public import Idealize.ShloMosaic.Lib.Pointwise
public import Idealize.ShloMosaic.Lib.Pipeline.ValueKit
public import Idealize.ShloMosaic.Lib.Pipeline.ReadBack

@[expose] public section

set_option maxHeartbeats 4000000
set_option maxRecDepth 16384

noncomputable section

namespace Cert.WgraddownKernelIdeal.Product

open Idealize.ShloMosaic Idealize.ShloMosaic.TcCoe Idealize.ShloMosaic.Tactic Idealize.SL.Sem
open Cert.WgraddownKernelIdeal Cert.WgraddownKernelIdeal.Gen Cert.WgraddownReferenceIdeal.Read
open Cert.FfndownKernelIdeal.Sum (source wide)

theorem idx : ∀ t : Fin cfg0.N, win0_0.index t = ![0, t.val] ∧ win0_1.index t = ![0, 0] ∧ win0_2.index t = ![t.val, 0] :=
  (by decide +kernel : ∀ t : Fin grid0.N, _)

theorem N4 (t : Fin cfg0.N) : t.val < 4 := lt_of_lt_of_eq t.isLt N_0

/-- Column `b` of the block of a grid point, among all columns of the padded layout. -/
def col (t : Fin cfg0.N) (b : Fin 768) : Fin 3072 := ⟨768 * t.val + b.val, by have := N4 t; omega⟩

theorem col_val (t : Fin cfg0.N) (b : Fin 768) : (col t b : ℕ) = 768 * t.val + b.val := rfl

theorem zero_word : (FloatOps.sitofp FTy.f32 (0#32 : BitVec 32) : Ideal .f32) = (0 : EReal) := by
  show (((0#32 : BitVec 32).toInt : ℝ) : EReal) = 0
  simp

variable (m : (ℓ : Loc nD τ sig) → Buf (Elt Ideal) ℓ) (c : Dev nD)

theorem read0 (t : Fin 2048) (k : Fin 3072) : V m c main_v4 (ix2 t k) = wide (m ((c : Thread nD τ).loc main_arg0)) t k := by
  simp only [V, hostOps0, hostOps0_1, hostOps0_2, List.flatten_cons, List.flatten_nil, List.cons_append, List.nil_append, List.append_nil]; entry_read
  pointwise
  refine Eq.trans (b := pad S2048x8x384 ![0, 0, 0] ![0, 0, 32] ![0, 0, 0]
    (fun i : S2048x8x352.Idx => m (c, Proc.tc.devRef main_arg0) (ix3 0 (i 0) (⟨(i 1).val * 352 + (i 2).val, by have := (i 1).isLt; have := (i 2).isLt; simp at *; omega⟩ : Fin 2816)))
    (sitofp (F := Ideal) .bf16 (constantI S_ 32 0#32)) pads_S2048x8x352_S2048x8x384_000_000_0320 h_S_
    (ix3 t (⟨k.val / 384, by omega⟩ : Fin 8) (⟨k.val % 384, by omega⟩ : Fin 384))) rfl ?_
  pointwise
  unfold wide
  by_cases hc : k.val % 384 < 352
  · rw [dif_pos (⟨by omega, by omega⟩ : k.val / 384 < 8 ∧ k.val % 384 < 352), dif_pos hc]
    refine congrArg (fun n => m ((c : Thread nD τ).loc main_arg0) (ix3 0 t n)) (Fin.ext ?_)
    show k.val / 384 * 352 + k.val % 384 = 352 * (k.val / 384) + k.val % 384
    omega
  · rw [dif_neg (fun e => hc e.2 : ¬(k.val / 384 < 8 ∧ k.val % 384 < 352)), dif_neg hc]
    exact Cert.FfndownKernelIdeal.Sum.zero_word

theorem read1 (t : Fin 2048) (d : Fin 1024) : V m c main_v6 (ix2 t d) = m ((c : Thread nD τ).loc main_arg1) (ix3 0 t d) := by
  simp only [V, hostOps0, hostOps0_1, hostOps0_2, List.flatten_cons, List.flatten_nil, List.cons_append, List.nil_append, List.append_nil]; entry_read; pointwise
theorem blk0 (t : Fin cfg0.N) (r : Fin 2048) (b : Fin 768) : iblk m c 0 t (ix2 r b) = wide (m ((c : Thread nD τ).loc main_arg0)) r (col t b) := by
  blk_simp [iblk]; rw [← read0 m c]; blk_ext [idx t, col_val]
theorem blk1 (t : Fin cfg0.N) (r : Fin 2048) (d : Fin 1024) : iblk m c 1 t (ix2 r d) = m ((c : Thread nD τ).loc main_arg1) (ix3 0 r d) := by
  blk_simp [iblk]; rw [← read1 m c]; blk_ext [idx t]

theorem plain (H : Vec Ideal S1x2048x2816 .f32) (D : Vec Ideal S1x2048x1024 .f32) (n : Fin 2816) (d : Fin 1024) :
    val_main_v2 (F := Ideal) H D (ix2 d n) = ∑ x : Fin 2048, H (ix3 0 x n) * D (ix3 0 x d) := by
  pointwise [val_main_v2]
  rw [Fin.sum_univ_one]
  exact Finset.sum_congr rfl fun x _ => mul_comm _ _

/-- The reference in the padded layout. -/
theorem reference (H : Vec Ideal S1x2048x2816 .f32) (D : Vec Ideal S1x2048x1024 .f32) (k : Fin 3072) (d : Fin 1024) :
    val_main_v7 (F := Ideal) H D (ix2 k d) = ∑ x : Fin 2048, wide H x k * D (ix3 0 x d) := by
  pointwise [val_main_v7, val_main_v6, val_main_v5, val_main_v4, val_main_v3, val_main_call0_v0, val_main_c]
  unfold wide
  by_cases hc : k.val % 384 < 352
  · rw [dif_pos ⟨by omega, hc⟩]
    simp only [dif_pos hc]
    rw [← plain]
    refine congrArg (fun n => val_main_v2 (F := Ideal) H D (ix2 d n)) (Fin.ext ?_)
    show k.val / 384 * 352 + k.val % 384 = 352 * (k.val / 384) + k.val % 384
    omega
  · rw [dif_neg fun e => hc e.2]
    simp only [dif_neg hc, zero_mul, Finset.sum_const_zero]
    exact zero_word

/-- The product is the reference's. -/
theorem product : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, d, rfl⟩ : ∃ (r : Fin 768) (d : Fin 1024), y = ix2 r d := ⟨y 0, y 1, by funext a; fin_cases a <;> rfl⟩
  refine Eq.trans (b := val_main_v7 (F := Ideal) (m ((c : Thread nD τ).loc main_arg0)) (m ((c : Thread nD τ).loc main_arg1)) (ix2 (col t r) d)) ?_ (by blk_ext [idx t, col_val])
  rw [reference]
  pointwise [k0_pay1, k0_pay2, k0_pay3, blk0, blk1]

end Cert.WgraddownKernelIdeal.Product

end
-- ==== Proof.Wgraddown.Claim.lean ====
/- The claims about the gradient of the second weights of the feed-forward layer: it runs and keeps its arguments at both instances, the plain reference runs, and in
   exact arithmetic the two give the same result. -/
module

public import proofs.«01_k».proof.Defs
public import proofs.«01_k».proof.Proof.Gen.WgraddownKernel.Frame
public import proofs.«01_k».proof.Proof.Gen.WgraddownKernelIdeal.Value
public import proofs.«01_k».proof.Proof.Gen.WgraddownReferenceIdeal.Run
public import proofs.«01_k».proof.Proof.Gen.WgraddownReferenceIdeal.Read
public import proofs.«01_k».proof.Proof.Wgraddown.Grid
public import Idealize.ShloMosaic.Lib.Claim
public import Idealize.ShloMosaic.Lib.Quiescent

@[expose] public section

set_option maxRecDepth 16384

noncomputable section

namespace Cert.Wgraddown

open Idealize.ShloMosaic Idealize.ShloMosaic.TcCoe Idealize.SL.Sem

local instance : Cert.WgraddownKernel.Facts := Cert.WgraddownKernel.Gen.facts
local instance : Cert.WgraddownKernelIdeal.Facts := Cert.WgraddownKernelIdeal.Gen.facts
local instance : Cert.WgraddownReferenceIdeal.Facts := Cert.WgraddownReferenceIdeal.Gen.facts

/-- The kernel on machine floats runs, keeps its arguments and leaves every counter at zero. -/
theorem frame_kernel : Cert.quiescent_WgraddownKernel := fun m ρ _ => Cert.WgraddownKernel.Gen.frame m ρ

/-- The same at exact arithmetic. -/
theorem frame_ideal : Cert.quiescent_WgraddownKernelIdeal := fun m ρ _ => Cert.WgraddownKernelIdeal.Gen.frame m ρ

/-- The reference runs and keeps its arguments. -/
theorem frame_reference : Cert.quiescent_WgraddownReferenceIdeal := by
  intro m g _
  hlo_run
  · simp
  · exact sem_eq_zero_of_no_sems (sig := Cert.WgraddownReferenceIdeal.sig) rfl _

/-- The two programs differ in nothing but the arithmetic they are read at. -/
theorem same_program : Cert.preserves_WgraddownKernel_WgraddownKernelIdeal := trivial

/-- In exact arithmetic the kernel's result is the reference's. -/
theorem equal : Cert.algebraic_WgraddownKernelIdeal_WgraddownReferenceIdeal := by
  pair_intro
  · run_from Cert.WgraddownKernelIdeal.Value.run_blocks m g
  · run_from Cert.WgraddownReferenceIdeal.Value.run m' g' <;> obtain ⟨a0, a1⟩ := hagree c <;> try simp only [a0, a1]
    refine Eq.trans ?_ (Cert.WgraddownKernelIdeal.Product.product m c).symm
    simp only [← a0, ← a1]
    exact Cert.WgraddownReferenceIdeal.Read.val_main_v7_eq _ _

end Cert.Wgraddown

end
-- ==== Proof.Adamw.Grid.lean ====
/- The optimiser on the packed small leaves: what the kernel leaves, and that this is the plain reference's. -/
module

public import proofs.«01_k».proof.Proof.Gen.AdamwKernelIdeal.Value
public import proofs.«01_k».proof.Proof.Gen.AdamwReferenceIdeal.Read
public import Idealize.ShloMosaic.Lib.Pointwise
public import Idealize.ShloMosaic.Lib.Pipeline.ValueKit
public import Idealize.ShloMosaic.Lib.Pipeline.ReadBack

@[expose] public section

set_option maxHeartbeats 4000000
set_option maxRecDepth 16384

noncomputable section

namespace Cert.AdamwKernelIdeal.Step

open Idealize.ShloMosaic Idealize.ShloMosaic.TcCoe Idealize.ShloMosaic.Tactic Idealize.SL.Sem
open Cert.AdamwKernelIdeal Cert.AdamwKernelIdeal.Gen Cert.AdamwReferenceIdeal.Read

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

theorem blk0 (t : Fin cfg0.N) (r : Fin 552) (l : Fin 128) : iblk m c 0 t (ix2 r l) = m ((c : Thread nD τ).loc main_arg0) (ix2 r l) := by
  blk_simp [iblk]
  refine Eq.trans (b := V m c main_arg0 (ix2 r l)) (by blk_ext [idx t]) ?_
  rfl

theorem blk1 (t : Fin cfg0.N) (r : Fin 552) (l : Fin 128) : iblk m c 1 t (ix2 r l) = m ((c : Thread nD τ).loc main_arg1) (ix2 r l) := by
  blk_simp [iblk]
  refine Eq.trans (b := V m c main_arg1 (ix2 r l)) (by blk_ext [idx t]) ?_
  rfl

theorem blk2 (t : Fin cfg0.N) (r : Fin 552) (l : Fin 128) : iblk m c 2 t (ix2 r l) = m ((c : Thread nD τ).loc main_arg2) (ix2 r l) := by
  blk_simp [iblk]
  refine Eq.trans (b := V m c main_arg2 (ix2 r l)) (by blk_ext [idx t]) ?_
  rfl

theorem blk3 (t : Fin cfg0.N) (r : Fin 552) (l : Fin 128) : iblk m c 3 t (ix2 r l) = m ((c : Thread nD τ).loc main_arg3) (ix2 r l) := by
  blk_simp [iblk]
  refine Eq.trans (b := V m c main_arg3 (ix2 r l)) (by blk_ext [idx t]) ?_
  rfl

/-- The step is the reference's. -/
theorem step : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, l, rfl⟩ : ∃ (r : Fin 552) (l : Fin 128), y = ix2 r l := ⟨y 0, y 1, by funext a; fin_cases a <;> rfl⟩
  refine Eq.trans (b := val_main_v23 (F := Ideal) (m ((c : Thread nD τ).loc main_arg0)) (m ((c : Thread nD τ).loc main_arg1)) (m ((c : Thread nD τ).loc main_arg2)) (m ((c : Thread nD τ).loc main_arg3)) (ix2 r l)) ?_ (by blk_ext [idx t])
  pointwise [k0_pay1, k0_pay2, k0_pay3, blk0, blk1, blk2, blk3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]

/-- The new first moment is the reference's. -/
theorem first : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  obtain ⟨r, l, rfl⟩ : ∃ (r : Fin 552) (l : Fin 128), y = ix2 r l := ⟨y 0, y 1, by funext a; fin_cases a <;> rfl⟩
  refine Eq.trans (b := val_main_v4 (F := Ideal) (m ((c : Thread nD τ).loc main_arg1)) (m ((c : Thread nD τ).loc main_arg2)) (ix2 r l)) ?_ (by blk_ext [idx t])
  pointwise [k0_pay1, k0_pay2, k0_pay3, blk0, blk1, blk2, blk3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]

/-- The new second moment is the reference's. -/
theorem second : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  obtain ⟨r, l, rfl⟩ : ∃ (r : Fin 552) (l : Fin 128), y = ix2 r l := ⟨y 0, y 1, by funext a; fin_cases a <;> rfl⟩
  refine Eq.trans (b := val_main_v10 (F := Ideal) (m ((c : Thread nD τ).loc main_arg1)) (m ((c : Thread nD τ).loc main_arg3)) (ix2 r l)) ?_ (by blk_ext [idx t])
  pointwise [k0_pay1, k0_pay2, k0_pay3, blk0, blk1, blk2, blk3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]

end Cert.AdamwKernelIdeal.Step

end
-- ==== Proof.Adamw.Claim.lean ====
/- The claims about the optimiser's step: it runs and keeps its arguments at both instances, the plain reference runs, and in
   exact arithmetic the two give the same results. -/
module

public import proofs.«01_k».proof.Defs
public import proofs.«01_k».proof.Proof.Gen.AdamwKernel.Frame
public import proofs.«01_k».proof.Proof.Gen.AdamwKernelIdeal.Value
public import proofs.«01_k».proof.Proof.Gen.AdamwReferenceIdeal.Run
public import proofs.«01_k».proof.Proof.Gen.AdamwReferenceIdeal.Read
public import proofs.«01_k».proof.Proof.Adamw.Grid
public import Idealize.ShloMosaic.Lib.Claim
public import Idealize.ShloMosaic.Lib.Quiescent

@[expose] public section

set_option maxRecDepth 16384

noncomputable section

namespace Cert.Adamw

open Idealize.ShloMosaic Idealize.ShloMosaic.TcCoe Idealize.SL.Sem

local instance : Cert.AdamwKernel.Facts := Cert.AdamwKernel.Gen.facts
local instance : Cert.AdamwKernelIdeal.Facts := Cert.AdamwKernelIdeal.Gen.facts
local instance : Cert.AdamwReferenceIdeal.Facts := Cert.AdamwReferenceIdeal.Gen.facts

/-- The kernel on machine floats runs, keeps its arguments and leaves every counter at zero. -/
theorem frame_kernel : Cert.quiescent_AdamwKernel := fun m ρ _ => Cert.AdamwKernel.Gen.frame m ρ

/-- The same at exact arithmetic. -/
theorem frame_ideal : Cert.quiescent_AdamwKernelIdeal := fun m ρ _ => Cert.AdamwKernelIdeal.Gen.frame m ρ

/-- The reference runs and keeps its arguments. -/
theorem frame_reference : Cert.quiescent_AdamwReferenceIdeal := by
  intro m g _
  hlo_run
  · simp
  · exact sem_eq_zero_of_no_sems (sig := Cert.AdamwReferenceIdeal.sig) rfl _

/-- The two programs differ in nothing but the arithmetic they are read at. -/
theorem same_program : Cert.preserves_AdamwKernel_AdamwKernelIdeal := trivial

/-- In exact arithmetic the kernel's results are the reference's. -/
theorem equal : Cert.algebraic_AdamwKernelIdeal_AdamwReferenceIdeal := by
  pair_intro
  · run_from Cert.AdamwKernelIdeal.Value.run_blocks m g
  · run_from Cert.AdamwReferenceIdeal.Value.run m' g' <;> obtain ⟨a0, a1, a2, a3⟩ := hagree c <;> try simp only [a0, a1, a2, a3]
    · refine Eq.trans ?_ (Cert.AdamwKernelIdeal.Step.step m c).symm
      simp only [← a0, ← a1, ← a2, ← a3]
      exact Cert.AdamwReferenceIdeal.Read.val_main_v23_eq _ _ _ _
    · refine Eq.trans ?_ (Cert.AdamwKernelIdeal.Step.first m c).symm
      simp only [← a0, ← a1, ← a2, ← a3]
      exact Cert.AdamwReferenceIdeal.Read.val_main_v4_eq _ _
    · refine Eq.trans ?_ (Cert.AdamwKernelIdeal.Step.second m c).symm
      simp only [← a0, ← a1, ← a2, ← a3]
      exact Cert.AdamwReferenceIdeal.Read.val_main_v10_eq _ _

end Cert.Adamw

end
-- ==== Proof.Wgradin.Grid.lean ====
/- The gradient of the input projection's weights, a plain product: what the kernel leaves, and that this is the plain
   reference's. -/
module

public import proofs.«01_k».proof.Proof.Gen.WgradinKernelIdeal.Value
public import proofs.«01_k».proof.Proof.Gen.WgradinReferenceIdeal.Read
public import Idealize.ShloMosaic.Lib.Pointwise
public import Idealize.ShloMosaic.Lib.Pipeline.ValueKit
public import Idealize.ShloMosaic.Lib.Pipeline.ReadBack

@[expose] public section

set_option maxHeartbeats 4000000
set_option maxRecDepth 16384

noncomputable section

namespace Cert.WgradinKernelIdeal.Product

open Idealize.ShloMosaic Idealize.ShloMosaic.TcCoe Idealize.ShloMosaic.Tactic Idealize.SL.Sem
open Cert.WgradinKernelIdeal Cert.WgradinKernelIdeal.Gen Cert.WgradinReferenceIdeal.Read

theorem idx : ∀ t : Fin cfg0.N, win0_0.index t = ![0, 0] ∧ win0_1.index t = ![0, 0] ∧ win0_2.index t = ![0, 0] ∧ win0_3.index t = ![0, 0]
    ∧ win0_4.index t = ![0, t.val - 4] ∧ win0_5.index t = ![0, 0] ∧ win0_6.index t = ![t.val, 0, 0] :=
  (by decide +kernel : ∀ t : Fin grid0.N, _)

theorem N8 (t : Fin cfg0.N) : t.val < 8 := lt_of_lt_of_eq t.isLt N_0

variable (m : (ℓ : Loc nD τ sig) → Buf (Elt Ideal) ℓ) (c : Dev nD)

theorem read0 (x : Fin 2048) (d : Fin 512) : V m c main_v1 (ix2 x d) = m ((c : Thread nD τ).loc main_arg0) (ix3 0 x d) := by
  simp only [V, hostOps0]; entry_read; pointwise
theorem read1 (x : Fin 2048) (d : Fin 512) : V m c main_v3 (ix2 x d) = m ((c : Thread nD τ).loc main_arg1) (ix3 0 x d) := by
  simp only [V, hostOps0]; entry_read; pointwise
theorem read2 (x : Fin 2048) (d : Fin 512) : V m c main_v5 (ix2 x d) = m ((c : Thread nD τ).loc main_arg2) (ix3 0 x d) := by
  simp only [V, hostOps0]; entry_read; pointwise
theorem read3 (x : Fin 2048) (d : Fin 512) : V m c main_v7 (ix2 x d) = m ((c : Thread nD τ).loc main_arg3) (ix3 0 x d) := by
  simp only [V, hostOps0]; entry_read; pointwise
theorem read4 (x : Fin 2048) (d : Fin 2048) : V m c main_v9 (ix2 x d) = m ((c : Thread nD τ).loc main_arg4) (ix3 0 x d) := by
  simp only [V, hostOps0]; entry_read; pointwise
theorem read5 (x : Fin 2048) (d : Fin 1024) : V m c main_v11 (ix2 x d) = m ((c : Thread nD τ).loc main_arg5) (ix3 0 x d) := by
  simp only [V, hostOps0]; entry_read; pointwise
theorem blk0 (t : Fin cfg0.N) (x : Fin 2048) (d : Fin 512) : iblk m c 0 t (ix2 x d) = m ((c : Thread nD τ).loc main_arg0) (ix3 0 x d) := by
  blk_simp [iblk]; rw [← read0 m c]; blk_ext [idx t]
theorem blk1 (t : Fin cfg0.N) (x : Fin 2048) (d : Fin 512) : iblk m c 1 t (ix2 x d) = m ((c : Thread nD τ).loc main_arg1) (ix3 0 x d) := by
  blk_simp [iblk]; rw [← read1 m c]; blk_ext [idx t]
theorem blk2 (t : Fin cfg0.N) (x : Fin 2048) (d : Fin 512) : iblk m c 2 t (ix2 x d) = m ((c : Thread nD τ).loc main_arg2) (ix3 0 x d) := by
  blk_simp [iblk]; rw [← read2 m c]; blk_ext [idx t]
theorem blk3 (t : Fin cfg0.N) (x : Fin 2048) (d : Fin 512) : iblk m c 3 t (ix2 x d) = m ((c : Thread nD τ).loc main_arg3) (ix3 0 x d) := by
  blk_simp [iblk]; rw [← read3 m c]; blk_ext [idx t]
theorem blk5 (t : Fin cfg0.N) (x : Fin 2048) (d : Fin 1024) : iblk m c 5 t (ix2 x d) = m ((c : Thread nD τ).loc main_arg5) (ix3 0 x d) := by
  blk_simp [iblk]; rw [← read5 m c]; blk_ext [idx t]
theorem blk4 (t : Fin cfg0.N) (x : Fin 2048) (d : Fin 512) :
    iblk m c 4 t (ix2 x d) = m ((c : Thread nD τ).loc main_arg4) (ix3 0 x ⟨512 * (t.val - 4) + d.val, by have := N8 t; omega⟩) := by
  blk_simp [iblk]; rw [← read4 m c]; blk_ext [idx t]

variable (X Q K W : Vec Ideal S1x2048x512 .f32) (L : Vec Ideal S1x2048x2048 .f32) (U : Vec Ideal S1x2048x1024 .f32)

/-- The reference: a product with the columns of all five pieces. -/
theorem reference (t : Fin 8) (b : Fin 512) (d : Fin 1024) : val_main_v7 (F := Ideal) X Q K W L U (ix3 t b d)
    = ∑ x : Fin 2048, val_main_v0 (F := Ideal) X Q K W L (ix3 0 x ⟨512 * t.val + b.val, by omega⟩) * U (ix3 0 x d) := by
  pointwise [val_main_v7, val_main_v6, val_main_v5, val_main_v4, val_main_v3]
  rw [Fin.sum_univ_one]
  refine Finset.sum_congr rfl fun x _ => congrArg (fun n => val_main_v0 (F := Ideal) X Q K W L (ix3 0 x n) * U (ix3 0 x d)) (Fin.ext ?_)
  show t.val * 512 + b.val = 512 * t.val + b.val
  omega

theorem column (t : Fin 8) (b : Fin 512) (x : Fin 2048) : val_main_v0 (F := Ideal) X Q K W L (ix3 0 x ⟨512 * t.val + b.val, by omega⟩)
    = if t.val = 0 then X (ix3 0 x b) else if t.val = 1 then Q (ix3 0 x b) else if t.val = 2 then K (ix3 0 x b)
      else if t.val = 3 then W (ix3 0 x b) else L (ix3 0 x ⟨512 * (t.val - 4) + b.val, by omega⟩) := by
  pointwise [val_main_v0]
  by_cases h0 : t.val = 0
  · rw [dif_pos (by omega), if_pos h0]; blk_ext [h0]
  rw [dif_neg (by omega), if_neg h0]
  by_cases h1 : t.val = 1
  · rw [dif_pos (by omega), if_pos h1]; blk_ext [h1]
  rw [dif_neg (by omega), if_neg h1]
  by_cases h2 : t.val = 2
  · rw [dif_pos (by omega), if_pos h2]; blk_ext [h2]
  rw [dif_neg (by omega), if_neg h2]
  by_cases h3 : t.val = 3
  · rw [dif_pos (by omega), if_pos h3]; blk_ext [h3]
  rw [dif_neg (by omega), if_neg h3]
  refine congrArg (fun n => L (ix3 0 x n)) (Fin.ext ?_)
  show 512 * t.val + b.val - 512 - 512 - 512 - 512 = 512 * (t.val - 4) + b.val
  omega

/-- The reference, column by column of the pieces. -/
theorem reference' (t : Fin 8) (b : Fin 512) (d : Fin 1024) : val_main_v7 (F := Ideal) X Q K W L U (ix3 t b d)
    = ∑ x : Fin 2048, (if t.val = 0 then X (ix3 0 x b) else if t.val = 1 then Q (ix3 0 x b) else if t.val = 2 then K (ix3 0 x b)
      else if t.val = 3 then W (ix3 0 x b) else L (ix3 0 x ⟨512 * (t.val - 4) + b.val, by omega⟩)) * U (ix3 0 x d) := by
  rw [reference]
  exact Finset.sum_congr rfl fun x _ => congrArg (fun a : EReal => a * U (ix3 0 x d)) (column X Q K W L t b x)

/-- The product is the reference's. -/
theorem product : (dats m 0 c).arrAt 6 (cfgs 0).N = val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hN := N8 t
  obtain ⟨u, r, d, rfl⟩ : ∃ (u : Fin 1) (r : Fin 512) (d : Fin 1024), y = ix3 u r d := ⟨y 0, y 1, y 2, by funext a; fin_cases a <;> rfl⟩
  obtain rfl : u = 0 := Subsingleton.elim _ _
  refine Eq.trans (b := val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨t.val, hN⟩ r d)) ?_ (by blk_ext [idx t])
  rw [reference']
  by_cases h0 : t.val = 0
  · rw [outsAt0_A m c t (by omega) (by omega) (by omega) (by omega) (by omega)]
    frame_out
    simp only [if_pos h0]
    pointwise [k0_pay1, blk0, blk5]
  by_cases h1 : t.val = 1
  · rw [outsAt0_B m c t (by omega) (by omega) (by omega) (by omega) (by omega)]
    frame_out
    simp only [if_neg h0, if_pos h1]
    pointwise [k0_pay2, blk1, blk5]
  by_cases h2 : t.val = 2
  · rw [outsAt0_C m c t (by omega) (by omega) (by omega) (by omega) (by omega)]
    frame_out
    simp only [if_neg h0, if_neg h1, if_pos h2]
    pointwise [k0_pay3, blk2, blk5]
  by_cases h3 : t.val = 3
  · rw [outsAt0_D m c t (by omega) (by omega) (by omega) (by omega) (by omega)]
    frame_out
    simp only [if_neg h0, if_neg h1, if_neg h2, if_pos h3]
    pointwise [k0_pay4, blk3, blk5]
  rw [outsAt0_E m c t (by omega) (by omega) (by omega) (by omega) (by omega)]
  frame_out
  simp only [if_neg h0, if_neg h1, if_neg h2, if_neg h3]
  pointwise [k0_pay5, blk4, blk5]

end Cert.WgradinKernelIdeal.Product

end
-- ==== Proof.Wgradin.Claim.lean ====
/- The claims about the gradient of the input projection's weights: it runs and keeps its arguments at both instances, the plain reference runs, and in
   exact arithmetic the two give the same result. -/
module

public import proofs.«01_k».proof.Defs
public import proofs.«01_k».proof.Proof.Gen.WgradinKernel.Frame
public import proofs.«01_k».proof.Proof.Gen.WgradinKernelIdeal.Value
public import proofs.«01_k».proof.Proof.Gen.WgradinReferenceIdeal.Run
public import proofs.«01_k».proof.Proof.Gen.WgradinReferenceIdeal.Read
public import proofs.«01_k».proof.Proof.Wgradin.Grid
public import Idealize.ShloMosaic.Lib.Claim
public import Idealize.ShloMosaic.Lib.Quiescent

@[expose] public section

set_option maxRecDepth 16384

noncomputable section

namespace Cert.Wgradin

open Idealize.ShloMosaic Idealize.ShloMosaic.TcCoe Idealize.SL.Sem

local instance : Cert.WgradinKernel.Facts := Cert.WgradinKernel.Gen.facts
local instance : Cert.WgradinKernelIdeal.Facts := Cert.WgradinKernelIdeal.Gen.facts
local instance : Cert.WgradinReferenceIdeal.Facts := Cert.WgradinReferenceIdeal.Gen.facts

/-- The kernel on machine floats runs, keeps its arguments and leaves every counter at zero. -/
theorem frame_kernel : Cert.quiescent_WgradinKernel := fun m ρ _ => Cert.WgradinKernel.Gen.frame m ρ

/-- The same at exact arithmetic. -/
theorem frame_ideal : Cert.quiescent_WgradinKernelIdeal := fun m ρ _ => Cert.WgradinKernelIdeal.Gen.frame m ρ

/-- The reference runs and keeps its arguments. -/
theorem frame_reference : Cert.quiescent_WgradinReferenceIdeal := by
  intro m g _
  hlo_run
  · simp
  · exact sem_eq_zero_of_no_sems (sig := Cert.WgradinReferenceIdeal.sig) rfl _

/-- The two programs differ in nothing but the arithmetic they are read at. -/
theorem same_program : Cert.preserves_WgradinKernel_WgradinKernelIdeal := trivial

/-- In exact arithmetic the kernel's result is the reference's. -/
theorem equal : Cert.algebraic_WgradinKernelIdeal_WgradinReferenceIdeal := by
  pair_intro
  · run_from Cert.WgradinKernelIdeal.Value.run_blocks m g
  · run_from Cert.WgradinReferenceIdeal.Value.run m' g' <;> obtain ⟨a0, a1, a2, a3, a4, a5⟩ := hagree c <;> try simp only [a0, a1, a2, a3, a4, a5]
    refine Eq.trans ?_ (Cert.WgradinKernelIdeal.Product.product m c).symm
    rw [a4]
    exact Cert.WgradinReferenceIdeal.Read.val_main_v7_eq _ _ _ _ _ _

end Cert.Wgradin

end
-- ==== Proof.Wgradgu.Grid.lean ====
/- The gradient of the first product's weights in the feed-forward layer, a plain product in the padded layout: what the
   kernel leaves, and that this is the plain reference's. -/
module

public import proofs.«01_k».proof.Proof.Gen.WgradguKernelIdeal.Value
public import proofs.«01_k».proof.Proof.Gen.WgradguReferenceIdeal.Read
public import proofs.«01_k».proof.Proof.Ffnup.Reference
public import Idealize.ShloMosaic.Lib.Pointwise
public import Idealize.ShloMosaic.Lib.Pipeline.ValueKit
public import Idealize.ShloMosaic.Lib.Pipeline.ReadBack

@[expose] public section

set_option maxHeartbeats 4000000
set_option maxRecDepth 16384

noncomputable section

namespace Cert.WgradguKernelIdeal.Product

open Idealize.ShloMosaic Idealize.ShloMosaic.TcCoe Idealize.ShloMosaic.Tactic Idealize.SL.Sem
open Cert.WgradguKernelIdeal Cert.WgradguKernelIdeal.Gen Cert.WgradguReferenceIdeal.Read
open Cert.FfnupReferenceIdeal.Gate (source)

theorem idx : ∀ t : Fin cfg0.N, win0_0.index t = ![t.val / 4, 0, t.val % 4] ∧ win0_1.index t = ![0, 0] ∧ win0_2.index t = ![t.val, 0, 0] :=
  (by decide +kernel : ∀ t : Fin grid0.N, _)

theorem N8 (t : Fin cfg0.N) : t.val < 8 := lt_of_lt_of_eq t.isLt N_0

/-- The half of the weights a grid point works on. -/
def half (t : Fin 8) : Fin 2 := ⟨t.val / 4, by omega⟩

/-- Column `b` of the block of a grid point, among all columns of the padded layout of its half. -/
def col (t : Fin 8) (b : Fin 768) : Fin 3072 := ⟨768 * (t.val % 4) + b.val, by omega⟩

theorem half_val (t : Fin 8) : (half t : ℕ) = t.val / 4 := rfl
theorem col_val (t : Fin 8) (b : Fin 768) : (col t b : ℕ) = 768 * (t.val % 4) + b.val := rfl

theorem zero_word : (FloatOps.sitofp FTy.bf16 (0#32 : BitVec 32) : Ideal .bf16) = (0 : EReal) := by
  show (((0#32 : BitVec 32).toInt : ℝ) : EReal) = 0
  simp

/-- A row of the incoming gradient in the padded layout. -/
def wide (G : Vec Ideal S1x2048x5632 .f32) (x : Fin 2048) (h : Fin 2) (k : Fin 3072) : EReal :=
  if hc : k.val % 384 < 352 then G (ix3 0 x (source h k hc)) else 0

variable (m : (ℓ : Loc nD τ sig) → Buf (Elt Ideal) ℓ) (c : Dev nD)

theorem read0 (h : Fin 2) (x : Fin 2048) (k : Fin 3072) : V m c main_v5 (ix3 h x k) = wide (m ((c : Thread nD τ).loc main_arg1)) x h k := by
  simp only [V, hostOps0, hostOps0_1, hostOps0_2, List.flatten_cons, List.flatten_nil, List.cons_append, List.nil_append, List.append_nil]; entry_read
  pointwise
  refine Eq.trans (b := pad S2x2048x8x384 ![0, 0, 0, 0] ![0, 0, 0, 32] ![0, 0, 0, 0]
    (transpose S2x2048x8x352 [1, 0, 2, 3]
      (fun i : S2048x2x8x352.Idx => m (c, Proc.tc.devRef main_arg1) (ix3 0 (i 0) (⟨(i 1).val * 2816 + (i 2).val * 352 + (i 3).val, by have := (i 1).isLt; have := (i 2).isLt; have := (i 3).isLt; simp at *; omega⟩ : Fin 5632)))
      transposes_S2048x2x8x352_S2x2048x8x352_1_0_2_3)
    (sitofp (F := Ideal) .bf16 (constantI S_ 32 0#32)) pads_S2x2048x8x352_S2x2048x8x384_000_000_000_0320 h_S_
    (ix4 h x (⟨k.val / 384, by omega⟩ : Fin 8) (⟨k.val % 384, by omega⟩ : Fin 384))) rfl ?_
  pointwise
  unfold wide
  by_cases hc : k.val % 384 < 352
  · rw [dif_pos (⟨by omega, by omega⟩ : k.val / 384 < 8 ∧ k.val % 384 < 352), dif_pos hc]
    refine congrArg (fun n => m ((c : Thread nD τ).loc main_arg1) (ix3 0 x n)) (Fin.ext ?_)
    show h.val * 2816 + k.val / 384 * 352 + k.val % 384 = 2816 * h.val + 352 * (k.val / 384) + k.val % 384
    omega
  · rw [dif_neg (fun e => hc e.2 : ¬(k.val / 384 < 8 ∧ k.val % 384 < 352)), dif_neg hc]
    exact zero_word

theorem read1 (t : Fin 2048) (d : Fin 1024) : V m c main_v7 (ix2 t d) = m ((c : Thread nD τ).loc main_arg0) (ix3 0 t d) := by
  simp only [V, hostOps0, hostOps0_1, hostOps0_2, List.flatten_cons, List.flatten_nil, List.cons_append, List.nil_append, List.append_nil]; entry_read; pointwise
theorem blk0 (t : Fin cfg0.N) (r : Fin 2048) (b : Fin 768) :
    iblk m c 0 t (ix3 0 r b) = wide (m ((c : Thread nD τ).loc main_arg1)) r (half ⟨t.val, N8 t⟩) (col ⟨t.val, N8 t⟩ b) := by
  simp only [iblk, View.read]
  refine Eq.trans (cast_eq _ _) ?_
  refine Eq.trans ?_ (read0 m c (half ⟨t.val, N8 t⟩) r (col ⟨t.val, N8 t⟩ b))
  refine congrArg (V m c main_v5) (funext fun a => Fin.ext ?_)
  fin_cases a
  · blk_simp; simp [idx t]; rfl
  · blk_simp; simp [idx t]
  · blk_simp; simp [idx t]
    show t.val % 4 * 768 + b.val = 768 * (t.val % 4) + b.val
    omega
theorem blk1 (t : Fin cfg0.N) (r : Fin 2048) (d : Fin 1024) : iblk m c 1 t (ix2 r d) = m ((c : Thread nD τ).loc main_arg0) (ix3 0 r d) := by
  blk_simp [iblk]; rw [← read1 m c]; blk_ext [idx t]

theorem plain (N : Vec Ideal S1x2048x1024 .f32) (G : Vec Ideal S1x2048x5632 .f32) (n : Fin 5632) (d : Fin 1024) :
    val_main_v2 (F := Ideal) N G (ix2 n d) = ∑ x : Fin 2048, G (ix3 0 x n) * N (ix3 0 x d) := by
  pointwise [val_main_v2]
  rw [Fin.sum_univ_one]

/-- The reference in the padded layout. -/
theorem reference (N : Vec Ideal S1x2048x1024 .f32) (G : Vec Ideal S1x2048x5632 .f32) (t : Fin 8) (b : Fin 768) (d : Fin 1024) :
    val_main_v8 (F := Ideal) N G (ix3 t b d) = ∑ x : Fin 2048, wide G x (half t) (col t b) * N (ix3 0 x d) := by
  pointwise [val_main_v8, val_main_v7, val_main_v6, val_main_v5, val_main_v4, val_main_v3, val_main_call0_v0, val_main_c]
  unfold wide
  by_cases hc : b.val % 384 < 352
  · have hd : (col t b).val % 384 < 352 := by rw [col_val]; omega
    rw [dif_pos ⟨by omega, by omega⟩]
    simp only [dif_pos hd]
    rw [← plain]
    refine congrArg (fun n => val_main_v2 (F := Ideal) N G (ix2 n d)) (Fin.ext ?_)
    show (t.val * 2 + b.val / 384) * 352 + b.val % 384 = 2816 * (t.val / 4) + 352 * ((768 * (t.val % 4) + b.val) / 384) + (768 * (t.val % 4) + b.val) % 384
    omega
  · have hd : ¬(col t b).val % 384 < 352 := by rw [col_val]; omega
    rw [dif_neg fun e => hc (by omega)]
    simp only [dif_neg hd, zero_mul, Finset.sum_const_zero]
    exact Cert.FfnupReferenceIdeal.Gate.zero_word

/-- What one grid point stores. -/
theorem stored (A : Vec Ideal S1x2048x768 .bf16) (B : Vec Ideal S2048x1024 .bf16) (r : Fin 768) (d : Fin 1024) :
    k0_pay3 (F := Ideal) (k0_pay2 (k0_pay1 (F := Ideal)) A B) (ix3 0 r d) = ∑ x : Fin 2048, A (ix3 0 x r) * B (ix2 x d) := by
  pointwise [k0_pay1, k0_pay2, k0_pay3]

/-- The product is the reference's. -/
theorem product : (dats m 0 c).arrAt 2 (cfgs 0).N = val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨u, r, d, rfl⟩ : ∃ (u : Fin 1) (r : Fin 768) (d : Fin 1024), y = ix3 u r d := ⟨y 0, y 1, y 2, by funext a; fin_cases a <;> rfl⟩
  obtain rfl : u = 0 := Subsingleton.elim _ _
  refine Eq.trans (b := val_main_v8 (F := Ideal) (m ((c : Thread nD τ).loc main_arg0)) (m ((c : Thread nD τ).loc main_arg1)) (ix3 ⟨t.val, N8 t⟩ r d)) ?_ (by blk_ext [idx t])
  rw [reference]
  refine Eq.trans (stored (iblk m c 0 t) (iblk m c 1 t) r d) (Finset.sum_congr rfl fun x _ => ?_)
  exact congrArg₂ (fun a b : EReal => a * b) (blk0 m c t x r) (blk1 m c t x d)

end Cert.WgradguKernelIdeal.Product

end
-- ==== Proof.Wgradgu.Claim.lean ====
/- The claims about the gradient of the first weights of the feed-forward layer: it runs and keeps its arguments at both instances, the plain reference runs, and in
   exact arithmetic the two give the same result. -/
module

public import proofs.«01_k».proof.Defs
public import proofs.«01_k».proof.Proof.Gen.WgradguKernel.Frame
public import proofs.«01_k».proof.Proof.Gen.WgradguKernelIdeal.Value
public import proofs.«01_k».proof.Proof.Gen.WgradguReferenceIdeal.Run
public import proofs.«01_k».proof.Proof.Gen.WgradguReferenceIdeal.Read
public import proofs.«01_k».proof.Proof.Wgradgu.Grid
public import Idealize.ShloMosaic.Lib.Claim
public import Idealize.ShloMosaic.Lib.Quiescent

@[expose] public section

set_option maxRecDepth 16384

noncomputable section

namespace Cert.Wgradgu

open Idealize.ShloMosaic Idealize.ShloMosaic.TcCoe Idealize.SL.Sem

local instance : Cert.WgradguKernel.Facts := Cert.WgradguKernel.Gen.facts
local instance : Cert.WgradguKernelIdeal.Facts := Cert.WgradguKernelIdeal.Gen.facts
local instance : Cert.WgradguReferenceIdeal.Facts := Cert.WgradguReferenceIdeal.Gen.facts

/-- The kernel on machine floats runs, keeps its arguments and leaves every counter at zero. -/
theorem frame_kernel : Cert.quiescent_WgradguKernel := fun m ρ _ => Cert.WgradguKernel.Gen.frame m ρ

/-- The same at exact arithmetic. -/
theorem frame_ideal : Cert.quiescent_WgradguKernelIdeal := fun m ρ _ => Cert.WgradguKernelIdeal.Gen.frame m ρ

/-- The reference runs and keeps its arguments. -/
theorem frame_reference : Cert.quiescent_WgradguReferenceIdeal := by
  intro m g _
  hlo_run
  · simp
  · exact sem_eq_zero_of_no_sems (sig := Cert.WgradguReferenceIdeal.sig) rfl _

/-- The two programs differ in nothing but the arithmetic they are read at. -/
theorem same_program : Cert.preserves_WgradguKernel_WgradguKernelIdeal := trivial

/-- In exact arithmetic the kernel's result is the reference's. -/
theorem equal : Cert.algebraic_WgradguKernelIdeal_WgradguReferenceIdeal := by
  pair_intro
  · run_from Cert.WgradguKernelIdeal.Value.run_blocks m g
  · run_from Cert.WgradguReferenceIdeal.Value.run m' g' <;> obtain ⟨a0, a1⟩ := hagree c <;> try simp only [a0, a1]
    refine Eq.trans ?_ (Cert.WgradguKernelIdeal.Product.product m c).symm
    simp only [← a0, ← a1]
    exact Cert.WgradguReferenceIdeal.Read.val_main_v8_eq _ _

end Cert.Wgradgu

end
-- ==== Proof.Sumdev.Grid.lean ====
/- The sum of the devices' contributions: what the kernel leaves, and that this is the plain reference's. -/
module

public import proofs.«01_k».proof.Proof.Gen.SumdevKernelIdeal.Value
public import proofs.«01_k».proof.Proof.Gen.SumdevReferenceIdeal.Read
public import Idealize.ShloMosaic.Lib.Pointwise
public import Idealize.ShloMosaic.Lib.Pipeline.ValueKit
public import Idealize.ShloMosaic.Lib.Pipeline.ReadBack

@[expose] public section

set_option maxHeartbeats 4000000
set_option maxRecDepth 16384

noncomputable section

namespace Cert.SumdevKernelIdeal.Total

open Idealize.ShloMosaic Idealize.ShloMosaic.TcCoe Idealize.ShloMosaic.Tactic Idealize.SL.Sem
open Cert.SumdevKernelIdeal Cert.SumdevKernelIdeal.Gen Cert.SumdevReferenceIdeal.Read

theorem idx : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

theorem blk0 (t : Fin cfg0.N) (d : Fin 8) (r : Fin 552) (l : Fin 128) : iblk m c 0 t (ix3 d r l) = m ((c : Thread nD τ).loc main_arg0) (ix3 d r l) := by
  blk_simp [iblk]
  refine Eq.trans (b := V m c main_arg0 (ix3 d r l)) (by blk_ext [idx t]) ?_
  rfl

/-- The sum is the reference's. -/
theorem total : (dats m 0 c).arrAt 1 (cfgs 0).N = val_main_v0 (F := Ideal) (m ((c : Thread nD τ).loc main_arg0)) := by
  refine (dats m 0 c).arrAt_eq_of_covers 1 _ (by decide +kernel) fun t hf y => ?_
  blk_simp
  rw [after0_1]
  unfold outsAt0
  frame_out
  obtain ⟨r, l, rfl⟩ : ∃ (r : Fin 552) (l : Fin 128), y = ix2 r l := ⟨y 0, y 1, by funext a; fin_cases a <;> rfl⟩
  refine Eq.trans (b := val_main_v0 (F := Ideal) (m ((c : Thread nD τ).loc main_arg0)) (ix2 r l)) ?_ (by blk_ext [idx t])
  pointwise [k0_pay1, blk0, val_main_v0, val_main_cst]
  exact (Fin.sum_univ_eight (M := EReal) fun x : Fin 8 => m ((c : Thread nD τ).loc main_arg0) (ix3 x r l)).symm

end Cert.SumdevKernelIdeal.Total

end
-- ==== Proof.Sumdev.Claim.lean ====
/- The claims about the sum over the devices: it runs and keeps its arguments at both instances, the plain reference runs, and in
   exact arithmetic the two give the same result. -/
module

public import proofs.«01_k».proof.Defs
public import proofs.«01_k».proof.Proof.Gen.SumdevKernel.Frame
public import proofs.«01_k».proof.Proof.Gen.SumdevKernelIdeal.Value
public import proofs.«01_k».proof.Proof.Gen.SumdevReferenceIdeal.Run
public import proofs.«01_k».proof.Proof.Gen.SumdevReferenceIdeal.Read
public import proofs.«01_k».proof.Proof.Sumdev.Grid
public import Idealize.ShloMosaic.Lib.Claim
public import Idealize.ShloMosaic.Lib.Quiescent

@[expose] public section

set_option maxRecDepth 16384

noncomputable section

namespace Cert.Sumdev

open Idealize.ShloMosaic Idealize.ShloMosaic.TcCoe Idealize.SL.Sem

local instance : Cert.SumdevKernel.Facts := Cert.SumdevKernel.Gen.facts
local instance : Cert.SumdevKernelIdeal.Facts := Cert.SumdevKernelIdeal.Gen.facts
local instance : Cert.SumdevReferenceIdeal.Facts := Cert.SumdevReferenceIdeal.Gen.facts

/-- The kernel on machine floats runs, keeps its arguments and leaves every counter at zero. -/
theorem frame_kernel : Cert.quiescent_SumdevKernel := fun m ρ _ => Cert.SumdevKernel.Gen.frame m ρ

/-- The same at exact arithmetic. -/
theorem frame_ideal : Cert.quiescent_SumdevKernelIdeal := fun m ρ _ => Cert.SumdevKernelIdeal.Gen.frame m ρ

/-- The reference runs and keeps its arguments. -/
theorem frame_reference : Cert.quiescent_SumdevReferenceIdeal := by
  intro m g _
  hlo_run
  · simp
  · exact sem_eq_zero_of_no_sems (sig := Cert.SumdevReferenceIdeal.sig) rfl _

/-- The two programs differ in nothing but the arithmetic they are read at. -/
theorem same_program : Cert.preserves_SumdevKernel_SumdevKernelIdeal := trivial

/-- In exact arithmetic the kernel's result is the reference's. -/
theorem equal : Cert.algebraic_SumdevKernelIdeal_SumdevReferenceIdeal := by
  intro m g m' g' _ hagree
  refine ⟨fun c => Cert.SumdevReferenceIdeal.Read.val_main_v0 (F := Ideal) (m ((c.tc : Thread Cert.SumdevKernelIdeal.nD Cert.SumdevKernelIdeal.τ).loc Cert.SumdevKernelIdeal.main_arg0)), ?_, ?_⟩
  · exact θ_run_mono (Cert.SumdevKernelIdeal.Value.run_blocks m g) fun r h c =>
      ⟨(h c).1.trans (Cert.SumdevKernelIdeal.Total.total m c), (h c).2.1, (h c).2.2⟩
  · refine θ_run_mono (Cert.SumdevReferenceIdeal.Value.run m' g') fun r h c => ⟨(h c).1.trans ?_, (h c).2.1, (h c).2.2⟩
    rw [Cert.SumdevReferenceIdeal.Read.val_main_v0_eq, (hagree c).1]

end Cert.Sumdev

end
-- ==== Proof.lean ====
/- The certificate: every claim of `Cert.Claim`, each proved in the module of its call. -/
module

public import proofs.«01_k».proof.Defs
public import proofs.«01_k».proof.Proof.Mix.Claim
public import proofs.«01_k».proof.Proof.Attn.Claim
public import proofs.«01_k».proof.Proof.Inproj.Claim
public import proofs.«01_k».proof.Proof.Loss.Claim
public import proofs.«01_k».proof.Proof.Pool.Claim
public import proofs.«01_k».proof.Proof.Poolfwd.Claim
public import proofs.«01_k».proof.Proof.Mixfwd.Claim
public import proofs.«01_k».proof.Proof.Ffnup.Claim
public import proofs.«01_k».proof.Proof.Ffndown.Claim
public import proofs.«01_k».proof.Proof.Wgradfull.Claim
public import proofs.«01_k».proof.Proof.Wgraddown.Claim
public import proofs.«01_k».proof.Proof.Adamw.Claim
public import proofs.«01_k».proof.Proof.Wgradin.Claim
public import proofs.«01_k».proof.Proof.Wgradgu.Claim
public import proofs.«01_k».proof.Proof.Sumdev.Claim

@[expose] public section

noncomputable section

namespace Cert.Proof

theorem claim : Cert.Claim :=
  ⟨Cert.MixKernel.Gen.facts, Cert.MixKernelIdeal.Gen.facts, Cert.MixReferenceIdeal.Gen.facts,
    Cert.AttnKernel.Gen.facts, Cert.AttnKernelIdeal.Gen.facts, Cert.AttnReferenceIdeal.Gen.facts,
    Cert.InprojKernel.Gen.facts, Cert.InprojKernelIdeal.Gen.facts, Cert.InprojReferenceIdeal.Gen.facts,
    Cert.LossKernel.Gen.facts, Cert.LossKernelIdeal.Gen.facts, Cert.LossReferenceIdeal.Gen.facts,
    Cert.PoolKernel.Gen.facts, Cert.PoolKernelIdeal.Gen.facts, Cert.PoolReferenceIdeal.Gen.facts,
    Cert.PoolfwdKernel.Gen.facts, Cert.PoolfwdKernelIdeal.Gen.facts, Cert.PoolfwdReferenceIdeal.Gen.facts,
    Cert.MixfwdKernel.Gen.facts, Cert.MixfwdKernelIdeal.Gen.facts, Cert.MixfwdReferenceIdeal.Gen.facts,
    Cert.FfnupKernel.Gen.facts, Cert.FfnupKernelIdeal.Gen.facts, Cert.FfnupReferenceIdeal.Gen.facts,
    Cert.FfndownKernel.Gen.facts, Cert.FfndownKernelIdeal.Gen.facts, Cert.FfndownReferenceIdeal.Gen.facts,
    Cert.WgradfullKernel.Gen.facts, Cert.WgradfullKernelIdeal.Gen.facts, Cert.WgradfullReferenceIdeal.Gen.facts,
    Cert.WgraddownKernel.Gen.facts, Cert.WgraddownKernelIdeal.Gen.facts, Cert.WgraddownReferenceIdeal.Gen.facts,
    Cert.AdamwKernel.Gen.facts, Cert.AdamwKernelIdeal.Gen.facts, Cert.AdamwReferenceIdeal.Gen.facts,
    Cert.WgradinKernel.Gen.facts, Cert.WgradinKernelIdeal.Gen.facts, Cert.WgradinReferenceIdeal.Gen.facts,
    Cert.WgradguKernel.Gen.facts, Cert.WgradguKernelIdeal.Gen.facts, Cert.WgradguReferenceIdeal.Gen.facts,
    Cert.SumdevKernel.Gen.facts, Cert.SumdevKernelIdeal.Gen.facts, Cert.SumdevReferenceIdeal.Gen.facts,
    Cert.Pre_finite_attn.Gen.facts, Cert.Pre_finite_inproj.Gen.facts, Cert.Pre_finite_loss.Gen.facts, Cert.Pre_finite_pool.Gen.facts, Cert.Pre_finite_poolfwd.Gen.facts,
    Cert.Mix.frame_kernel, Cert.Mix.frame_ideal, Cert.Mix.frame_reference,
    Cert.Attn.frame_kernel, Cert.Attn.frame_ideal, Cert.Attn.frame_ideal_finite, Cert.Attn.frame_reference, Cert.Attn.frame_reference_finite,
    Cert.Inproj.frame_kernel, Cert.Inproj.frame_ideal, Cert.Inproj.frame_ideal_finite, Cert.Inproj.frame_reference, Cert.Inproj.frame_reference_finite,
    Cert.Loss.frame_kernel, Cert.Loss.frame_ideal, Cert.Loss.frame_ideal_finite, Cert.Loss.frame_reference, Cert.Loss.frame_reference_finite,
    Cert.Pool.frame_kernel, Cert.Pool.frame_ideal, Cert.Pool.frame_ideal_finite, Cert.Pool.frame_reference, Cert.Pool.frame_reference_finite,
    Cert.Poolfwd.frame_kernel, Cert.Poolfwd.frame_ideal, Cert.Poolfwd.frame_ideal_finite, Cert.Poolfwd.frame_reference, Cert.Poolfwd.frame_reference_finite,
    Cert.Mixfwd.frame_kernel, Cert.Mixfwd.frame_ideal, Cert.Mixfwd.frame_reference,
    Cert.Ffnup.frame_kernel, Cert.Ffnup.frame_ideal, Cert.Ffnup.frame_reference,
    Cert.Ffndown.frame_kernel, Cert.Ffndown.frame_ideal, Cert.Ffndown.frame_reference,
    Cert.Wgradfull.frame_kernel, Cert.Wgradfull.frame_ideal, Cert.Wgradfull.frame_reference,
    Cert.Wgraddown.frame_kernel, Cert.Wgraddown.frame_ideal, Cert.Wgraddown.frame_reference,
    Cert.Adamw.frame_kernel, Cert.Adamw.frame_ideal, Cert.Adamw.frame_reference,
    Cert.Wgradin.frame_kernel, Cert.Wgradin.frame_ideal, Cert.Wgradin.frame_reference,
    Cert.Wgradgu.frame_kernel, Cert.Wgradgu.frame_ideal, Cert.Wgradgu.frame_reference,
    Cert.Sumdev.frame_kernel, Cert.Sumdev.frame_ideal, Cert.Sumdev.frame_reference,
    Cert.Mix.same_program, Cert.Mix.equal,
    Cert.Attn.same_program, Cert.Attn.equal,
    Cert.Inproj.same_program, Cert.Inproj.equal,
    Cert.Loss.same_program, Cert.Loss.equal,
    Cert.Pool.same_program, Cert.Pool.equal,
    Cert.Poolfwd.same_program, Cert.Poolfwd.equal,
    Cert.Mixfwd.same_program, Cert.Mixfwd.equal,
    Cert.Ffnup.same_program, Cert.Ffnup.equal,
    Cert.Ffndown.same_program, Cert.Ffndown.equal,
    Cert.Wgradfull.same_program, Cert.Wgradfull.equal,
    Cert.Wgraddown.same_program, Cert.Wgraddown.equal,
    Cert.Adamw.same_program, Cert.Adamw.equal,
    Cert.Wgradin.same_program, Cert.Wgradin.equal,
    Cert.Wgradgu.same_program, Cert.Wgradgu.equal,
    Cert.Sumdev.same_program, Cert.Sumdev.equal⟩

end Cert.Proof

end
